-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_NormRef1Ideal (m : (ℓ : Loc Cert.NormRef1Ideal.nD Cert.NormRef1Ideal.τ Cert.NormRef1Ideal.sig) → Buf (Elt Ideal) ℓ) : Prop :=
  True

def Pre_Norm0 (m : (ℓ : Loc Cert.Norm0.nD Cert.Norm0.τ Cert.Norm0.sig) → Buf (Elt Bits) ℓ) : Prop :=
  True

def Pre_Norm0Ideal (m : (ℓ : Loc Cert.Norm0Ideal.nD Cert.Norm0Ideal.τ Cert.Norm0Ideal.sig) → Buf (Elt Ideal) ℓ) : Prop :=
  True

def Pre_NormRef0Ideal (m : (ℓ : Loc Cert.NormRef0Ideal.nD Cert.NormRef0Ideal.τ Cert.NormRef0Ideal.sig) → Buf (Elt Ideal) ℓ) : Prop :=
  True

def Pre_Win1 (m : (ℓ : Loc Cert.Win1.nD Cert.Win1.τ Cert.Win1.sig) → Buf (Elt Bits) ℓ) : Prop :=
  True

def Pre_Win1Ideal (m : (ℓ : Loc Cert.Win1Ideal.nD Cert.Win1Ideal.τ Cert.Win1Ideal.sig) → Buf (Elt Ideal) ℓ) : Prop :=
  True

def Pre_WinRef1Ideal (m : (ℓ : Loc Cert.WinRef1Ideal.nD Cert.WinRef1Ideal.τ Cert.WinRef1Ideal.sig) → Buf (Elt Ideal) ℓ) : Prop :=
  True

def Pre_Win0 (m : (ℓ : Loc Cert.Win0.nD Cert.Win0.τ Cert.Win0.sig) → Buf (Elt Bits) ℓ) : Prop :=
  True

def Pre_Win0Ideal (m : (ℓ : Loc Cert.Win0Ideal.nD Cert.Win0Ideal.τ Cert.Win0Ideal.sig) → Buf (Elt Ideal) ℓ) : Prop :=
  True

def Pre_WinRef0Ideal (m : (ℓ : Loc Cert.WinRef0Ideal.nD Cert.WinRef0Ideal.τ Cert.WinRef0Ideal.sig) → Buf (Elt Ideal) ℓ) : Prop :=
  True

def Pre_Wo (m : (ℓ : Loc Cert.Wo.nD Cert.Wo.τ Cert.Wo.sig) → Buf (Elt Bits) ℓ) : Prop :=
  True

def Pre_WoIdeal (m : (ℓ : Loc Cert.WoIdeal.nD Cert.WoIdeal.τ Cert.WoIdeal.sig) → Buf (Elt Ideal) ℓ) : Prop :=
  True

def Pre_WoRefIdeal (m : (ℓ : Loc Cert.WoRefIdeal.nD Cert.WoRefIdeal.τ Cert.WoRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1)
      ∧ r.2.mem ((c.tc : Thread Cert.Norm1.nD Cert.Norm1.τ).loc Cert.Norm1.main_arg2) = m ((c.tc : Thread Cert.Norm1.nD Cert.Norm1.τ).loc Cert.Norm1.main_arg2)
      ∧ r.2.mem ((c.tc : Thread Cert.Norm1.nD Cert.Norm1.τ).loc Cert.Norm1.main_arg3) = m ((c.tc : Thread Cert.Norm1.nD Cert.Norm1.τ).loc Cert.Norm1.main_arg3)
      ∧ r.2.mem ((c.tc : Thread Cert.Norm1.nD Cert.Norm1.τ).loc Cert.Norm1.main_arg4) = m ((c.tc : Thread Cert.Norm1.nD Cert.Norm1.τ).loc Cert.Norm1.main_arg4)
      ∧ r.2.mem ((c.tc : Thread Cert.Norm1.nD Cert.Norm1.τ).loc Cert.Norm1.main_arg5) = m ((c.tc : Thread Cert.Norm1.nD Cert.Norm1.τ).loc Cert.Norm1.main_arg5))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
      ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
      ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4)
      ∧ r.2.mem ((c.tc : Thread Cert.Norm1Ideal.nD Cert.Norm1Ideal.τ).loc Cert.Norm1Ideal.main_arg5) = m ((c.tc : Thread Cert.Norm1Ideal.nD Cert.Norm1Ideal.τ).loc Cert.Norm1Ideal.main_arg5))
      ∧ r.2.sem = fun _ => 0)

def quiescent_NormRef1Ideal [hNormRef1Ideal : Cert.NormRef1Ideal.Facts] : Prop :=
  ∀ (m : (ℓ : Loc Cert.NormRef1Ideal.nD Cert.NormRef1Ideal.τ Cert.NormRef1Ideal.sig) → Buf (Elt Ideal) ℓ) (g : Dev Cert.NormRef1Ideal.nD → PrngReg), Pre_NormRef1Ideal m →
    θ_run (Cert.NormRef1Ideal.defs (F := Ideal)) (onTc (τ := Cert.NormRef1Ideal.τ) (Cert.NormRef1Ideal.main (F := Ideal))) ⟨m, fun _ => 0, g⟩ (fun r => (∀ c : Dev Cert.NormRef1Ideal.nD,
      r.2.mem ((c.tc : Thread Cert.NormRef1Ideal.nD Cert.NormRef1Ideal.τ).loc Cert.NormRef1Ideal.main_arg0) = m ((c.tc : Thread Cert.NormRef1Ideal.nD Cert.NormRef1Ideal.τ).loc Cert.NormRef1Ideal.main_arg0)
      ∧ r.2.mem ((c.tc : Thread Cert.NormRef1Ideal.nD Cert.NormRef1Ideal.τ).loc Cert.NormRef1Ideal.main_arg1) = m ((c.tc : Thread Cert.NormRef1Ideal.nD Cert.NormRef1Ideal.τ).loc Cert.NormRef1Ideal.main_arg1)
      ∧ r.2.mem ((c.tc : Thread Cert.NormRef1Ideal.nD Cert.NormRef1Ideal.τ).loc Cert.NormRef1Ideal.main_arg2) = m ((c.tc : Thread Cert.NormRef1Ideal.nD Cert.NormRef1Ideal.τ).loc Cert.NormRef1Ideal.main_arg2)
      ∧ r.2.mem ((c.tc : Thread Cert.NormRef1Ideal.nD Cert.NormRef1Ideal.τ).loc Cert.NormRef1Ideal.main_arg3) = m ((c.tc : Thread Cert.NormRef1Ideal.nD Cert.NormRef1Ideal.τ).loc Cert.NormRef1Ideal.main_arg3)
      ∧ r.2.mem ((c.tc : Thread Cert.NormRef1Ideal.nD Cert.NormRef1Ideal.τ).loc Cert.NormRef1Ideal.main_arg4) = m ((c.tc : Thread Cert.NormRef1Ideal.nD Cert.NormRef1Ideal.τ).loc Cert.NormRef1Ideal.main_arg4)
      ∧ r.2.mem ((c.tc : Thread Cert.NormRef1Ideal.nD Cert.NormRef1Ideal.τ).loc Cert.NormRef1Ideal.main_arg5) = m ((c.tc : Thread Cert.NormRef1Ideal.nD Cert.NormRef1Ideal.τ).loc Cert.NormRef1Ideal.main_arg5))
      ∧ r.2.sem = fun _ => 0)

def quiescent_Norm0 [hNorm0 : Cert.Norm0.Facts] : Prop :=
  ∀ (m : (ℓ : Loc Cert.Norm0.nD Cert.Norm0.τ Cert.Norm0.sig) → Buf (Elt Bits) ℓ) (g : Dev Cert.Norm0.nD → PrngReg), Pre_Norm0 m →
    θ_run (Cert.Norm0.defs (F := Bits)) (onTc (τ := Cert.Norm0.τ) (Cert.Norm0.main (F := Bits))) ⟨m, fun _ => 0, g⟩ (fun r => (∀ c : Dev Cert.Norm0.nD,
      r.2.mem ((c.tc : Thread Cert.Norm0.nD Cert.Norm0.τ).loc Cert.Norm0.main_arg0) = m ((c.tc : Thread Cert.Norm0.nD Cert.Norm0.τ).loc Cert.Norm0.main_arg0)
      ∧ r.2.mem ((c.tc : Thread Cert.Norm0.nD Cert.Norm0.τ).loc Cert.Norm0.main_arg1) = m ((c.tc : Thread Cert.Norm0.nD Cert.Norm0.τ).loc Cert.Norm0.main_arg1)
      ∧ r.2.mem ((c.tc : Thread Cert.Norm0.nD Cert.Norm0.τ).loc Cert.Norm0.main_arg2) = m ((c.tc : Thread Cert.Norm0.nD Cert.Norm0.τ).loc Cert.Norm0.main_arg2)
      ∧ r.2.mem ((c.tc : Thread Cert.Norm0.nD Cert.Norm0.τ).loc Cert.Norm0.main_arg3) = m ((c.tc : Thread Cert.Norm0.nD Cert.Norm0.τ).loc Cert.Norm0.main_arg3)
      ∧ r.2.mem ((c.tc : Thread Cert.Norm0.nD Cert.Norm0.τ).loc Cert.Norm0.main_arg4) = m ((c.tc : Thread Cert.Norm0.nD Cert.Norm0.τ).loc Cert.Norm0.main_arg4)
      ∧ r.2.mem ((c.tc : Thread Cert.Norm0.nD Cert.Norm0.τ).loc Cert.Norm0.main_arg5) = m ((c.tc : Thread Cert.Norm0.nD Cert.Norm0.τ).loc Cert.Norm0.main_arg5)
      ∧ r.2.mem ((c.tc : Thread Cert.Norm0.nD Cert.Norm0.τ).loc Cert.Norm0.main_arg6) = m ((c.tc : Thread Cert.Norm0.nD Cert.Norm0.τ).loc Cert.Norm0.main_arg6))
      ∧ r.2.sem = fun _ => 0)

def quiescent_Norm0Ideal [hNorm0Ideal : Cert.Norm0Ideal.Facts] : Prop :=
  ∀ (m : (ℓ : Loc Cert.Norm0Ideal.nD Cert.Norm0Ideal.τ Cert.Norm0Ideal.sig) → Buf (Elt Ideal) ℓ) (g : Dev Cert.Norm0Ideal.nD → PrngReg), Pre_Norm0Ideal m →
    θ_run (Cert.Norm0Ideal.defs (F := Ideal)) (onTc (τ := Cert.Norm0Ideal.τ) (Cert.Norm0Ideal.main (F := Ideal))) ⟨m, fun _ => 0, g⟩ (fun r => (∀ c : Dev Cert.Norm0Ideal.nD,
      r.2.mem ((c.tc : Thread Cert.Norm0Ideal.nD Cert.Norm0Ideal.τ).loc Cert.Norm0Ideal.main_arg0) = m ((c.tc : Thread Cert.Norm0Ideal.nD Cert.Norm0Ideal.τ).loc Cert.Norm0Ideal.main_arg0)
      ∧ r.2.mem ((c.tc : Thread Cert.Norm0Ideal.nD Cert.Norm0Ideal.τ).loc Cert.Norm0Ideal.main_arg1) = m ((c.tc : Thread Cert.Norm0Ideal.nD Cert.Norm0Ideal.τ).loc Cert.Norm0Ideal.main_arg1)
      ∧ r.2.mem ((c.tc : Thread Cert.Norm0Ideal.nD Cert.Norm0Ideal.τ).loc Cert.Norm0Ideal.main_arg2) = m ((c.tc : Thread Cert.Norm0Ideal.nD Cert.Norm0Ideal.τ).loc Cert.Norm0Ideal.main_arg2)
      ∧ r.2.mem ((c.tc : Thread Cert.Norm0Ideal.nD Cert.Norm0Ideal.τ).loc Cert.Norm0Ideal.main_arg3) = m ((c.tc : Thread Cert.Norm0Ideal.nD Cert.Norm0Ideal.τ).loc Cert.Norm0Ideal.main_arg3)
      ∧ r.2.mem ((c.tc : Thread Cert.Norm0Ideal.nD Cert.Norm0Ideal.τ).loc Cert.Norm0Ideal.main_arg4) = m ((c.tc : Thread Cert.Norm0Ideal.nD Cert.Norm0Ideal.τ).loc Cert.Norm0Ideal.main_arg4)
      ∧ r.2.mem ((c.tc : Thread Cert.Norm0Ideal.nD Cert.Norm0Ideal.τ).loc Cert.Norm0Ideal.main_arg5) = m ((c.tc : Thread Cert.Norm0Ideal.nD Cert.Norm0Ideal.τ).loc Cert.Norm0Ideal.main_arg5)
      ∧ r.2.mem ((c.tc : Thread Cert.Norm0Ideal.nD Cert.Norm0Ideal.τ).loc Cert.Norm0Ideal.main_arg6) = m ((c.tc : Thread Cert.Norm0Ideal.nD Cert.Norm0Ideal.τ).loc Cert.Norm0Ideal.main_arg6))
      ∧ r.2.sem = fun _ => 0)

def quiescent_NormRef0Ideal [hNormRef0Ideal : Cert.NormRef0Ideal.Facts] : Prop :=
  ∀ (m : (ℓ : Loc Cert.NormRef0Ideal.nD Cert.NormRef0Ideal.τ Cert.NormRef0Ideal.sig) → Buf (Elt Ideal) ℓ) (g : Dev Cert.NormRef0Ideal.nD → PrngReg), Pre_NormRef0Ideal m →
    θ_run (Cert.NormRef0Ideal.defs (F := Ideal)) (onTc (τ := Cert.NormRef0Ideal.τ) (Cert.NormRef0Ideal.main (F := Ideal))) ⟨m, fun _ => 0, g⟩ (fun r => (∀ c : Dev Cert.NormRef0Ideal.nD,
      r.2.mem ((c.tc : Thread Cert.NormRef0Ideal.nD Cert.NormRef0Ideal.τ).loc Cert.NormRef0Ideal.main_arg0) = m ((c.tc : Thread Cert.NormRef0Ideal.nD Cert.NormRef0Ideal.τ).loc Cert.NormRef0Ideal.main_arg0)
      ∧ r.2.mem ((c.tc : Thread Cert.NormRef0Ideal.nD Cert.NormRef0Ideal.τ).loc Cert.NormRef0Ideal.main_arg1) = m ((c.tc : Thread Cert.NormRef0Ideal.nD Cert.NormRef0Ideal.τ).loc Cert.NormRef0Ideal.main_arg1)
      ∧ r.2.mem ((c.tc : Thread Cert.NormRef0Ideal.nD Cert.NormRef0Ideal.τ).loc Cert.NormRef0Ideal.main_arg2) = m ((c.tc : Thread Cert.NormRef0Ideal.nD Cert.NormRef0Ideal.τ).loc Cert.NormRef0Ideal.main_arg2)
      ∧ r.2.mem ((c.tc : Thread Cert.NormRef0Ideal.nD Cert.NormRef0Ideal.τ).loc Cert.NormRef0Ideal.main_arg3) = m ((c.tc : Thread Cert.NormRef0Ideal.nD Cert.NormRef0Ideal.τ).loc Cert.NormRef0Ideal.main_arg3)
      ∧ r.2.mem ((c.tc : Thread Cert.NormRef0Ideal.nD Cert.NormRef0Ideal.τ).loc Cert.NormRef0Ideal.main_arg4) = m ((c.tc : Thread Cert.NormRef0Ideal.nD Cert.NormRef0Ideal.τ).loc Cert.NormRef0Ideal.main_arg4)
      ∧ r.2.mem ((c.tc : Thread Cert.NormRef0Ideal.nD Cert.NormRef0Ideal.τ).loc Cert.NormRef0Ideal.main_arg5) = m ((c.tc : Thread Cert.NormRef0Ideal.nD Cert.NormRef0Ideal.τ).loc Cert.NormRef0Ideal.main_arg5)
      ∧ r.2.mem ((c.tc : Thread Cert.NormRef0Ideal.nD Cert.NormRef0Ideal.τ).loc Cert.NormRef0Ideal.main_arg6) = m ((c.tc : Thread Cert.NormRef0Ideal.nD Cert.NormRef0Ideal.τ).loc Cert.NormRef0Ideal.main_arg6))
      ∧ r.2.sem = fun _ => 0)

def quiescent_Win1 [hWin1 : Cert.Win1.Facts] : Prop :=
  ∀ (m : (ℓ : Loc Cert.Win1.nD Cert.Win1.τ Cert.Win1.sig) → Buf (Elt Bits) ℓ) (g : Dev Cert.Win1.nD → PrngReg), Pre_Win1 m →
    θ_run (Cert.Win1.defs (F := Bits)) (onTc (τ := Cert.Win1.τ) (Cert.Win1.main (F := Bits))) ⟨m, fun _ => 0, g⟩ (fun r => (∀ c : Dev Cert.Win1.nD,
      r.2.mem ((c.tc : Thread Cert.Win1.nD Cert.Win1.τ).loc Cert.Win1.main_arg0) = m ((c.tc : Thread Cert.Win1.nD Cert.Win1.τ).loc Cert.Win1.main_arg0)
      ∧ r.2.mem ((c.tc : Thread Cert.Win1.nD Cert.Win1.τ).loc Cert.Win1.main_arg1) = m ((c.tc : Thread Cert.Win1.nD Cert.Win1.τ).loc Cert.Win1.main_arg1))
      ∧ r.2.sem = fun _ => 0)

def quiescent_Win1Ideal [hWin1Ideal : Cert.Win1Ideal.Facts] : Prop :=
  ∀ (m : (ℓ : Loc Cert.Win1Ideal.nD Cert.Win1Ideal.τ Cert.Win1Ideal.sig) → Buf (Elt Ideal) ℓ) (g : Dev Cert.Win1Ideal.nD → PrngReg), Pre_Win1Ideal m →
    θ_run (Cert.Win1Ideal.defs (F := Ideal)) (onTc (τ := Cert.Win1Ideal.τ) (Cert.Win1Ideal.main (F := Ideal))) ⟨m, fun _ => 0, g⟩ (fun r => (∀ c : Dev Cert.Win1Ideal.nD,
      r.2.mem ((c.tc : Thread Cert.Win1Ideal.nD Cert.Win1Ideal.τ).loc Cert.Win1Ideal.main_arg0) = m ((c.tc : Thread Cert.Win1Ideal.nD Cert.Win1Ideal.τ).loc Cert.Win1Ideal.main_arg0)
      ∧ r.2.mem ((c.tc : Thread Cert.Win1Ideal.nD Cert.Win1Ideal.τ).loc Cert.Win1Ideal.main_arg1) = m ((c.tc : Thread Cert.Win1Ideal.nD Cert.Win1Ideal.τ).loc Cert.Win1Ideal.main_arg1))
      ∧ r.2.sem = fun _ => 0)

def quiescent_WinRef1Ideal [hWinRef1Ideal : Cert.WinRef1Ideal.Facts] : Prop :=
  ∀ (m : (ℓ : Loc Cert.WinRef1Ideal.nD Cert.WinRef1Ideal.τ Cert.WinRef1Ideal.sig) → Buf (Elt Ideal) ℓ) (g : Dev Cert.WinRef1Ideal.nD → PrngReg), Pre_WinRef1Ideal m →
    θ_run (Cert.WinRef1Ideal.defs (F := Ideal)) (onTc (τ := Cert.WinRef1Ideal.τ) (Cert.WinRef1Ideal.main (F := Ideal))) ⟨m, fun _ => 0, g⟩ (fun r => (∀ c : Dev Cert.WinRef1Ideal.nD,
      r.2.mem ((c.tc : Thread Cert.WinRef1Ideal.nD Cert.WinRef1Ideal.τ).loc Cert.WinRef1Ideal.main_arg0) = m ((c.tc : Thread Cert.WinRef1Ideal.nD Cert.WinRef1Ideal.τ).loc Cert.WinRef1Ideal.main_arg0)
      ∧ r.2.mem ((c.tc : Thread Cert.WinRef1Ideal.nD Cert.WinRef1Ideal.τ).loc Cert.WinRef1Ideal.main_arg1) = m ((c.tc : Thread Cert.WinRef1Ideal.nD Cert.WinRef1Ideal.τ).loc Cert.WinRef1Ideal.main_arg1))
      ∧ r.2.sem = fun _ => 0)

def quiescent_Win0 [hWin0 : Cert.Win0.Facts] : Prop :=
  ∀ (m : (ℓ : Loc Cert.Win0.nD Cert.Win0.τ Cert.Win0.sig) → Buf (Elt Bits) ℓ) (g : Dev Cert.Win0.nD → PrngReg), Pre_Win0 m →
    θ_run (Cert.Win0.defs (F := Bits)) (onTc (τ := Cert.Win0.τ) (Cert.Win0.main (F := Bits))) ⟨m, fun _ => 0, g⟩ (fun r => (∀ c : Dev Cert.Win0.nD,
      r.2.mem ((c.tc : Thread Cert.Win0.nD Cert.Win0.τ).loc Cert.Win0.main_arg0) = m ((c.tc : Thread Cert.Win0.nD Cert.Win0.τ).loc Cert.Win0.main_arg0)
      ∧ r.2.mem ((c.tc : Thread Cert.Win0.nD Cert.Win0.τ).loc Cert.Win0.main_arg1) = m ((c.tc : Thread Cert.Win0.nD Cert.Win0.τ).loc Cert.Win0.main_arg1)
      ∧ r.2.mem ((c.tc : Thread Cert.Win0.nD Cert.Win0.τ).loc Cert.Win0.main_arg2) = m ((c.tc : Thread Cert.Win0.nD Cert.Win0.τ).loc Cert.Win0.main_arg2))
      ∧ r.2.sem = fun _ => 0)

def quiescent_Win0Ideal [hWin0Ideal : Cert.Win0Ideal.Facts] : Prop :=
  ∀ (m : (ℓ : Loc Cert.Win0Ideal.nD Cert.Win0Ideal.τ Cert.Win0Ideal.sig) → Buf (Elt Ideal) ℓ) (g : Dev Cert.Win0Ideal.nD → PrngReg), Pre_Win0Ideal m →
    θ_run (Cert.Win0Ideal.defs (F := Ideal)) (onTc (τ := Cert.Win0Ideal.τ) (Cert.Win0Ideal.main (F := Ideal))) ⟨m, fun _ => 0, g⟩ (fun r => (∀ c : Dev Cert.Win0Ideal.nD,
      r.2.mem ((c.tc : Thread Cert.Win0Ideal.nD Cert.Win0Ideal.τ).loc Cert.Win0Ideal.main_arg0) = m ((c.tc : Thread Cert.Win0Ideal.nD Cert.Win0Ideal.τ).loc Cert.Win0Ideal.main_arg0)
      ∧ r.2.mem ((c.tc : Thread Cert.Win0Ideal.nD Cert.Win0Ideal.τ).loc Cert.Win0Ideal.main_arg1) = m ((c.tc : Thread Cert.Win0Ideal.nD Cert.Win0Ideal.τ).loc Cert.Win0Ideal.main_arg1)
      ∧ r.2.mem ((c.tc : Thread Cert.Win0Ideal.nD Cert.Win0Ideal.τ).loc Cert.Win0Ideal.main_arg2) = m ((c.tc : Thread Cert.Win0Ideal.nD Cert.Win0Ideal.τ).loc Cert.Win0Ideal.main_arg2))
      ∧ r.2.sem = fun _ => 0)

def quiescent_WinRef0Ideal [hWinRef0Ideal : Cert.WinRef0Ideal.Facts] : Prop :=
  ∀ (m : (ℓ : Loc Cert.WinRef0Ideal.nD Cert.WinRef0Ideal.τ Cert.WinRef0Ideal.sig) → Buf (Elt Ideal) ℓ) (g : Dev Cert.WinRef0Ideal.nD → PrngReg), Pre_WinRef0Ideal m →
    θ_run (Cert.WinRef0Ideal.defs (F := Ideal)) (onTc (τ := Cert.WinRef0Ideal.τ) (Cert.WinRef0Ideal.main (F := Ideal))) ⟨m, fun _ => 0, g⟩ (fun r => (∀ c : Dev Cert.WinRef0Ideal.nD,
      r.2.mem ((c.tc : Thread Cert.WinRef0Ideal.nD Cert.WinRef0Ideal.τ).loc Cert.WinRef0Ideal.main_arg0) = m ((c.tc : Thread Cert.WinRef0Ideal.nD Cert.WinRef0Ideal.τ).loc Cert.WinRef0Ideal.main_arg0)
      ∧ r.2.mem ((c.tc : Thread Cert.WinRef0Ideal.nD Cert.WinRef0Ideal.τ).loc Cert.WinRef0Ideal.main_arg1) = m ((c.tc : Thread Cert.WinRef0Ideal.nD Cert.WinRef0Ideal.τ).loc Cert.WinRef0Ideal.main_arg1)
      ∧ r.2.mem ((c.tc : Thread Cert.WinRef0Ideal.nD Cert.WinRef0Ideal.τ).loc Cert.WinRef0Ideal.main_arg2) = m ((c.tc : Thread Cert.WinRef0Ideal.nD Cert.WinRef0Ideal.τ).loc Cert.WinRef0Ideal.main_arg2))
      ∧ r.2.sem = fun _ => 0)

def quiescent_Wo [hWo : Cert.Wo.Facts] : Prop :=
  ∀ (m : (ℓ : Loc Cert.Wo.nD Cert.Wo.τ Cert.Wo.sig) → Buf (Elt Bits) ℓ) (g : Dev Cert.Wo.nD → PrngReg), Pre_Wo m →
    θ_run (Cert.Wo.defs (F := Bits)) (onTc (τ := Cert.Wo.τ) (Cert.Wo.main (F := Bits))) ⟨m, fun _ => 0, g⟩ (fun r => (∀ c : Dev Cert.Wo.nD,
      r.2.mem ((c.tc : Thread Cert.Wo.nD Cert.Wo.τ).loc Cert.Wo.main_arg0) = m ((c.tc : Thread Cert.Wo.nD Cert.Wo.τ).loc Cert.Wo.main_arg0)
      ∧ r.2.mem ((c.tc : Thread Cert.Wo.nD Cert.Wo.τ).loc Cert.Wo.main_arg1) = m ((c.tc : Thread Cert.Wo.nD Cert.Wo.τ).loc Cert.Wo.main_arg1)
      ∧ r.2.mem ((c.tc : Thread Cert.Wo.nD Cert.Wo.τ).loc Cert.Wo.main_arg2) = m ((c.tc : Thread Cert.Wo.nD Cert.Wo.τ).loc Cert.Wo.main_arg2))
      ∧ r.2.sem = fun _ => 0)

def quiescent_WoIdeal [hWoIdeal : Cert.WoIdeal.Facts] : Prop :=
  ∀ (m : (ℓ : Loc Cert.WoIdeal.nD Cert.WoIdeal.τ Cert.WoIdeal.sig) → Buf (Elt Ideal) ℓ) (g : Dev Cert.WoIdeal.nD → PrngReg), Pre_WoIdeal m →
    θ_run (Cert.WoIdeal.defs (F := Ideal)) (onTc (τ := Cert.WoIdeal.τ) (Cert.WoIdeal.main (F := Ideal))) ⟨m, fun _ => 0, g⟩ (fun r => (∀ c : Dev Cert.WoIdeal.nD,
      r.2.mem ((c.tc : Thread Cert.WoIdeal.nD Cert.WoIdeal.τ).loc Cert.WoIdeal.main_arg0) = m ((c.tc : Thread Cert.WoIdeal.nD Cert.WoIdeal.τ).loc Cert.WoIdeal.main_arg0)
      ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
      ∧ r.2.mem ((c.tc : Thread Cert.WoIdeal.nD Cert.WoIdeal.τ).loc Cert.WoIdeal.main_arg2) = m ((c.tc : Thread Cert.WoIdeal.nD Cert.WoIdeal.τ).loc Cert.WoIdeal.main_arg2))
      ∧ r.2.sem = fun _ => 0)

def quiescent_WoRefIdeal [hWoRefIdeal : Cert.WoRefIdeal.Facts] : Prop :=
  ∀ (m : (ℓ : Loc Cert.WoRefIdeal.nD Cert.WoRefIdeal.τ Cert.WoRefIdeal.sig) → Buf (Elt Ideal) ℓ) (g : Dev Cert.WoRefIdeal.nD → PrngReg), Pre_WoRefIdeal m →
    θ_run (Cert.WoRefIdeal.defs (F := Ideal)) (onTc (τ := Cert.WoRefIdeal.τ) (Cert.WoRefIdeal.main (F := Ideal))) ⟨m, fun _ => 0, g⟩ (fun r => (∀ c : Dev Cert.WoRefIdeal.nD,
      r.2.mem ((c.tc : Thread Cert.WoRefIdeal.nD Cert.WoRefIdeal.τ).loc Cert.WoRefIdeal.main_arg0) = m ((c.tc : Thread Cert.WoRefIdeal.nD Cert.WoRefIdeal.τ).loc Cert.WoRefIdeal.main_arg0)
      ∧ r.2.mem ((c.tc : Thread Cert.WoRefIdeal.nD Cert.WoRefIdeal.τ).loc Cert.WoRefIdeal.main_arg1) = m ((c.tc : Thread Cert.WoRefIdeal.nD Cert.WoRefIdeal.τ).loc Cert.WoRefIdeal.main_arg1)
      ∧ r.2.mem ((c.tc : Thread Cert.WoRefIdeal.nD Cert.WoRefIdeal.τ).loc Cert.WoRefIdeal.main_arg2) = m ((c.tc : Thread Cert.WoRefIdeal.nD Cert.WoRefIdeal.τ).loc Cert.WoRefIdeal.main_arg2))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4)
      ∧ r.2.mem ((c.tc : Thread Cert.Fwd.nD Cert.Fwd.τ).loc Cert.Fwd.main_arg5) = m ((c.tc : Thread Cert.Fwd.nD Cert.Fwd.τ).loc Cert.Fwd.main_arg5)
      ∧ r.2.mem ((c.tc : Thread Cert.Fwd.nD Cert.Fwd.τ).loc Cert.Fwd.main_arg6) = m ((c.tc : Thread Cert.Fwd.nD Cert.Fwd.τ).loc Cert.Fwd.main_arg6)
      ∧ r.2.mem ((c.tc : Thread Cert.Fwd.nD Cert.Fwd.τ).loc Cert.Fwd.main_arg7) = m ((c.tc : Thread Cert.Fwd.nD Cert.Fwd.τ).loc Cert.Fwd.main_arg7)
      ∧ r.2.mem ((c.tc : Thread Cert.Fwd.nD Cert.Fwd.τ).loc Cert.Fwd.main_arg8) = m ((c.tc : Thread Cert.Fwd.nD Cert.Fwd.τ).loc Cert.Fwd.main_arg8)
      ∧ r.2.mem ((c.tc : Thread Cert.Fwd.nD Cert.Fwd.τ).loc Cert.Fwd.main_arg9) = m ((c.tc : Thread Cert.Fwd.nD Cert.Fwd.τ).loc Cert.Fwd.main_arg9)
      ∧ r.2.mem ((c.tc : Thread Cert.Fwd.nD Cert.Fwd.τ).loc Cert.Fwd.main_arg10) = m ((c.tc : Thread Cert.Fwd.nD Cert.Fwd.τ).loc Cert.Fwd.main_arg10)
      ∧ r.2.mem ((c.tc : Thread Cert.Fwd.nD Cert.Fwd.τ).loc Cert.Fwd.main_arg11) = m ((c.tc : Thread Cert.Fwd.nD Cert.Fwd.τ).loc Cert.Fwd.main_arg11))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
      ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
      ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8)
      ∧ r.2.mem ((c.tc : Thread Cert.FwdIdeal.nD Cert.FwdIdeal.τ).loc Cert.FwdIdeal.main_arg9) = m ((c.tc : Thread Cert.FwdIdeal.nD Cert.FwdIdeal.τ).loc Cert.FwdIdeal.main_arg9)
      ∧ r.2.mem ((c.tc : Thread Cert.FwdIdeal.nD Cert.FwdIdeal.τ).loc Cert.FwdIdeal.main_arg10) = m ((c.tc : Thread Cert.FwdIdeal.nD Cert.FwdIdeal.τ).loc Cert.FwdIdeal.main_arg10)
      ∧ r.2.mem ((c.tc : Thread Cert.FwdIdeal.nD Cert.FwdIdeal.τ).loc Cert.FwdIdeal.main_arg11) = m ((c.tc : Thread Cert.FwdIdeal.nD Cert.FwdIdeal.τ).loc Cert.FwdIdeal.main_arg11))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5)
      ∧ r.2.mem ((c.tc : Thread Cert.FwdRefIdeal.nD Cert.FwdRefIdeal.τ).loc Cert.FwdRefIdeal.main_arg6) = m ((c.tc : Thread Cert.FwdRefIdeal.nD Cert.FwdRefIdeal.τ).loc Cert.FwdRefIdeal.main_arg6)
      ∧ r.2.mem ((c.tc : Thread Cert.FwdRefIdeal.nD Cert.FwdRefIdeal.τ).loc Cert.FwdRefIdeal.main_arg7) = m ((c.tc : Thread Cert.FwdRefIdeal.nD Cert.FwdRefIdeal.τ).loc Cert.FwdRefIdeal.main_arg7)
      ∧ r.2.mem ((c.tc : Thread Cert.FwdRefIdeal.nD Cert.FwdRefIdeal.τ).loc Cert.FwdRefIdeal.main_arg8) = m ((c.tc : Thread Cert.FwdRefIdeal.nD Cert.FwdRefIdeal.τ).loc Cert.FwdRefIdeal.main_arg8)
      ∧ r.2.mem ((c.tc : Thread Cert.FwdRefIdeal.nD Cert.FwdRefIdeal.τ).loc Cert.FwdRefIdeal.main_arg9) = m ((c.tc : Thread Cert.FwdRefIdeal.nD Cert.FwdRefIdeal.τ).loc Cert.FwdRefIdeal.main_arg9)
      ∧ r.2.mem ((c.tc : Thread Cert.FwdRefIdeal.nD Cert.FwdRefIdeal.τ).loc Cert.FwdRefIdeal.main_arg10) = m ((c.tc : Thread Cert.FwdRefIdeal.nD Cert.FwdRefIdeal.τ).loc Cert.FwdRefIdeal.main_arg10)
      ∧ r.2.mem ((c.tc : Thread Cert.FwdRefIdeal.nD Cert.FwdRefIdeal.τ).loc Cert.FwdRefIdeal.main_arg11) = m ((c.tc : Thread Cert.FwdRefIdeal.nD Cert.FwdRefIdeal.τ).loc Cert.FwdRefIdeal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v93_0)) (v1 : (c : Dev Cert.KernelIdeal.nD) → Buf (Elt Ideal) ((c.tc : Thread Cert.KernelIdeal.nD Cert.KernelIdeal.τ).loc Cert.KernelIdeal.main_v93_1)) (v2 : (c : Dev Cert.KernelIdeal.nD) → Buf (Elt Ideal) ((c.tc : Thread Cert.KernelIdeal.nD Cert.KernelIdeal.τ).loc Cert.KernelIdeal.main_v93_2)) (v3 : (c : Dev Cert.KernelIdeal.nD) → Buf (Elt Ideal) ((c.tc : Thread Cert.KernelIdeal.nD Cert.KernelIdeal.τ).loc Cert.KernelIdeal.main_v93_3)) (v4 : (c : Dev Cert.KernelIdeal.nD) → Buf (Elt Ideal) ((c.tc : Thread Cert.KernelIdeal.nD Cert.KernelIdeal.τ).loc Cert.KernelIdeal.main_v93_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93_0) = v0 c
          ∧ r.2.mem ((c.tc : Thread Cert.KernelIdeal.nD Cert.KernelIdeal.τ).loc Cert.KernelIdeal.main_v93_1) = v1 c
          ∧ r.2.mem ((c.tc : Thread Cert.KernelIdeal.nD Cert.KernelIdeal.τ).loc Cert.KernelIdeal.main_v93_2) = v2 c
          ∧ r.2.mem ((c.tc : Thread Cert.KernelIdeal.nD Cert.KernelIdeal.τ).loc Cert.KernelIdeal.main_v93_3) = v3 c
          ∧ r.2.mem ((c.tc : Thread Cert.KernelIdeal.nD Cert.KernelIdeal.τ).loc Cert.KernelIdeal.main_v93_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_v191) = v1 c
          ∧ r.2.mem ((c.tc : Thread Cert.ReferenceIdeal.nD Cert.ReferenceIdeal.τ).loc Cert.ReferenceIdeal.main_v141) = v2 c
          ∧ r.2.mem ((c.tc : Thread Cert.ReferenceIdeal.nD Cert.ReferenceIdeal.τ).loc Cert.ReferenceIdeal.main_v105) = v3 c
          ∧ r.2.mem ((c.tc : Thread Cert.ReferenceIdeal.nD Cert.ReferenceIdeal.τ).loc Cert.ReferenceIdeal.main_v109) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Norm1_Norm1Ideal : Prop :=
  True

def algebraic_Norm1Ideal_NormRef1Ideal [hNorm1Ideal : Cert.Norm1Ideal.Facts] [hNormRef1Ideal : Cert.NormRef1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.NormRef1Ideal.nD Cert.NormRef1Ideal.τ Cert.NormRef1Ideal.sig) → Buf (Elt Ideal) ℓ) (g' : Dev Cert.NormRef1Ideal.nD → PrngReg), Pre_Norm1Ideal m →
    (∀ c : Dev Cert.Norm1Ideal.nD,
      m' ((c.tc : Thread Cert.NormRef1Ideal.nD Cert.NormRef1Ideal.τ).loc Cert.NormRef1Ideal.main_arg0) = m ((c.tc : Thread Cert.Norm1Ideal.nD Cert.Norm1Ideal.τ).loc Cert.Norm1Ideal.main_arg0)
      ∧ m' ((c.tc : Thread Cert.NormRef1Ideal.nD Cert.NormRef1Ideal.τ).loc Cert.NormRef1Ideal.main_arg1) = m ((c.tc : Thread Cert.Norm1Ideal.nD Cert.Norm1Ideal.τ).loc Cert.Norm1Ideal.main_arg1)
      ∧ m' ((c.tc : Thread Cert.NormRef1Ideal.nD Cert.NormRef1Ideal.τ).loc Cert.NormRef1Ideal.main_arg2) = m ((c.tc : Thread Cert.Norm1Ideal.nD Cert.Norm1Ideal.τ).loc Cert.Norm1Ideal.main_arg2)
      ∧ m' ((c.tc : Thread Cert.NormRef1Ideal.nD Cert.NormRef1Ideal.τ).loc Cert.NormRef1Ideal.main_arg3) = m ((c.tc : Thread Cert.Norm1Ideal.nD Cert.Norm1Ideal.τ).loc Cert.Norm1Ideal.main_arg3)
      ∧ m' ((c.tc : Thread Cert.NormRef1Ideal.nD Cert.NormRef1Ideal.τ).loc Cert.NormRef1Ideal.main_arg4) = m ((c.tc : Thread Cert.Norm1Ideal.nD Cert.Norm1Ideal.τ).loc Cert.Norm1Ideal.main_arg4)
      ∧ m' ((c.tc : Thread Cert.NormRef1Ideal.nD Cert.NormRef1Ideal.τ).loc Cert.NormRef1Ideal.main_arg5) = m ((c.tc : Thread Cert.Norm1Ideal.nD Cert.Norm1Ideal.τ).loc Cert.Norm1Ideal.main_arg5)) →
    ∃ (v0 : (c : Dev Cert.Norm1Ideal.nD) → Buf (Elt Ideal) ((c.tc : Thread Cert.Norm1Ideal.nD Cert.Norm1Ideal.τ).loc Cert.Norm1Ideal.main_v4_0)) (v1 : (c : Dev Cert.Norm1Ideal.nD) → Buf (Elt Ideal) ((c.tc : Thread Cert.Norm1Ideal.nD Cert.Norm1Ideal.τ).loc Cert.Norm1Ideal.main_v4_1)) (v2 : (c : Dev Cert.Norm1Ideal.nD) → Buf (Elt Ideal) ((c.tc : Thread Cert.Norm1Ideal.nD Cert.Norm1Ideal.τ).loc Cert.Norm1Ideal.main_v4_2)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v4_0) = v0 c
          ∧ r.2.mem ((c.tc : Thread Cert.Norm1Ideal.nD Cert.Norm1Ideal.τ).loc Cert.Norm1Ideal.main_v4_1) = v1 c
          ∧ r.2.mem ((c.tc : Thread Cert.Norm1Ideal.nD Cert.Norm1Ideal.τ).loc Cert.Norm1Ideal.main_v4_2) = v2 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
          ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
          ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
          ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4)
          ∧ r.2.mem ((c.tc : Thread Cert.Norm1Ideal.nD Cert.Norm1Ideal.τ).loc Cert.Norm1Ideal.main_arg5) = m ((c.tc : Thread Cert.Norm1Ideal.nD Cert.Norm1Ideal.τ).loc Cert.Norm1Ideal.main_arg5))
      ∧ θ_run (Cert.NormRef1Ideal.defs (F := Ideal)) (onTc (τ := Cert.NormRef1Ideal.τ) (Cert.NormRef1Ideal.main (F := Ideal))) ⟨m', fun _ => 0, g'⟩ (fun r => ∀ c : Dev Cert.NormRef1Ideal.nD,
          r.2.mem ((c.tc : Thread Cert.NormRef1Ideal.nD Cert.NormRef1Ideal.τ).loc Cert.NormRef1Ideal.main_v61) = v0 c
          ∧ r.2.mem ((c.tc : Thread Cert.NormRef1Ideal.nD Cert.NormRef1Ideal.τ).loc Cert.NormRef1Ideal.main_v25) = v1 c
          ∧ r.2.mem ((c.tc : Thread Cert.NormRef1Ideal.nD Cert.NormRef1Ideal.τ).loc Cert.NormRef1Ideal.main_v60) = v2 c
          ∧ r.2.mem ((c.tc : Thread Cert.NormRef1Ideal.nD Cert.NormRef1Ideal.τ).loc Cert.NormRef1Ideal.main_arg0) = m' ((c.tc : Thread Cert.NormRef1Ideal.nD Cert.NormRef1Ideal.τ).loc Cert.NormRef1Ideal.main_arg0)
          ∧ r.2.mem ((c.tc : Thread Cert.NormRef1Ideal.nD Cert.NormRef1Ideal.τ).loc Cert.NormRef1Ideal.main_arg1) = m' ((c.tc : Thread Cert.NormRef1Ideal.nD Cert.NormRef1Ideal.τ).loc Cert.NormRef1Ideal.main_arg1)
          ∧ r.2.mem ((c.tc : Thread Cert.NormRef1Ideal.nD Cert.NormRef1Ideal.τ).loc Cert.NormRef1Ideal.main_arg2) = m' ((c.tc : Thread Cert.NormRef1Ideal.nD Cert.NormRef1Ideal.τ).loc Cert.NormRef1Ideal.main_arg2)
          ∧ r.2.mem ((c.tc : Thread Cert.NormRef1Ideal.nD Cert.NormRef1Ideal.τ).loc Cert.NormRef1Ideal.main_arg3) = m' ((c.tc : Thread Cert.NormRef1Ideal.nD Cert.NormRef1Ideal.τ).loc Cert.NormRef1Ideal.main_arg3)
          ∧ r.2.mem ((c.tc : Thread Cert.NormRef1Ideal.nD Cert.NormRef1Ideal.τ).loc Cert.NormRef1Ideal.main_arg4) = m' ((c.tc : Thread Cert.NormRef1Ideal.nD Cert.NormRef1Ideal.τ).loc Cert.NormRef1Ideal.main_arg4)
          ∧ r.2.mem ((c.tc : Thread Cert.NormRef1Ideal.nD Cert.NormRef1Ideal.τ).loc Cert.NormRef1Ideal.main_arg5) = m' ((c.tc : Thread Cert.NormRef1Ideal.nD Cert.NormRef1Ideal.τ).loc Cert.NormRef1Ideal.main_arg5))

def preserves_Norm0_Norm0Ideal : Prop :=
  True

def algebraic_Norm0Ideal_NormRef0Ideal [hNorm0Ideal : Cert.Norm0Ideal.Facts] [hNormRef0Ideal : Cert.NormRef0Ideal.Facts] : Prop :=
  ∀ (m : (ℓ : Loc Cert.Norm0Ideal.nD Cert.Norm0Ideal.τ Cert.Norm0Ideal.sig) → Buf (Elt Ideal) ℓ) (g : Dev Cert.Norm0Ideal.nD → PrngReg)
    (m' : (ℓ : Loc Cert.NormRef0Ideal.nD Cert.NormRef0Ideal.τ Cert.NormRef0Ideal.sig) → Buf (Elt Ideal) ℓ) (g' : Dev Cert.NormRef0Ideal.nD → PrngReg), Pre_Norm0Ideal m →
    (∀ c : Dev Cert.Norm0Ideal.nD,
      m' ((c.tc : Thread Cert.NormRef0Ideal.nD Cert.NormRef0Ideal.τ).loc Cert.NormRef0Ideal.main_arg0) = m ((c.tc : Thread Cert.Norm0Ideal.nD Cert.Norm0Ideal.τ).loc Cert.Norm0Ideal.main_arg0)
      ∧ m' ((c.tc : Thread Cert.NormRef0Ideal.nD Cert.NormRef0Ideal.τ).loc Cert.NormRef0Ideal.main_arg1) = m ((c.tc : Thread Cert.Norm0Ideal.nD Cert.Norm0Ideal.τ).loc Cert.Norm0Ideal.main_arg1)
      ∧ m' ((c.tc : Thread Cert.NormRef0Ideal.nD Cert.NormRef0Ideal.τ).loc Cert.NormRef0Ideal.main_arg2) = m ((c.tc : Thread Cert.Norm0Ideal.nD Cert.Norm0Ideal.τ).loc Cert.Norm0Ideal.main_arg2)
      ∧ m' ((c.tc : Thread Cert.NormRef0Ideal.nD Cert.NormRef0Ideal.τ).loc Cert.NormRef0Ideal.main_arg3) = m ((c.tc : Thread Cert.Norm0Ideal.nD Cert.Norm0Ideal.τ).loc Cert.Norm0Ideal.main_arg3)
      ∧ m' ((c.tc : Thread Cert.NormRef0Ideal.nD Cert.NormRef0Ideal.τ).loc Cert.NormRef0Ideal.main_arg4) = m ((c.tc : Thread Cert.Norm0Ideal.nD Cert.Norm0Ideal.τ).loc Cert.Norm0Ideal.main_arg4)
      ∧ m' ((c.tc : Thread Cert.NormRef0Ideal.nD Cert.NormRef0Ideal.τ).loc Cert.NormRef0Ideal.main_arg5) = m ((c.tc : Thread Cert.Norm0Ideal.nD Cert.Norm0Ideal.τ).loc Cert.Norm0Ideal.main_arg5)
      ∧ m' ((c.tc : Thread Cert.NormRef0Ideal.nD Cert.NormRef0Ideal.τ).loc Cert.NormRef0Ideal.main_arg6) = m ((c.tc : Thread Cert.Norm0Ideal.nD Cert.Norm0Ideal.τ).loc Cert.Norm0Ideal.main_arg6)) →
    ∃ (v0 : (c : Dev Cert.Norm0Ideal.nD) → Buf (Elt Ideal) ((c.tc : Thread Cert.Norm0Ideal.nD Cert.Norm0Ideal.τ).loc Cert.Norm0Ideal.main_v5_0)) (v1 : (c : Dev Cert.Norm0Ideal.nD) → Buf (Elt Ideal) ((c.tc : Thread Cert.Norm0Ideal.nD Cert.Norm0Ideal.τ).loc Cert.Norm0Ideal.main_v5_1)) (v2 : (c : Dev Cert.Norm0Ideal.nD) → Buf (Elt Ideal) ((c.tc : Thread Cert.Norm0Ideal.nD Cert.Norm0Ideal.τ).loc Cert.Norm0Ideal.main_v5_2)),
      θ_run (Cert.Norm0Ideal.defs (F := Ideal)) (onTc (τ := Cert.Norm0Ideal.τ) (Cert.Norm0Ideal.main (F := Ideal))) ⟨m, fun _ => 0, g⟩ (fun r => ∀ c : Dev Cert.Norm0Ideal.nD,
          r.2.mem ((c.tc : Thread Cert.Norm0Ideal.nD Cert.Norm0Ideal.τ).loc Cert.Norm0Ideal.main_v5_0) = v0 c
          ∧ r.2.mem ((c.tc : Thread Cert.Norm0Ideal.nD Cert.Norm0Ideal.τ).loc Cert.Norm0Ideal.main_v5_1) = v1 c
          ∧ r.2.mem ((c.tc : Thread Cert.Norm0Ideal.nD Cert.Norm0Ideal.τ).loc Cert.Norm0Ideal.main_v5_2) = v2 c
          ∧ r.2.mem ((c.tc : Thread Cert.Norm0Ideal.nD Cert.Norm0Ideal.τ).loc Cert.Norm0Ideal.main_arg0) = m ((c.tc : Thread Cert.Norm0Ideal.nD Cert.Norm0Ideal.τ).loc Cert.Norm0Ideal.main_arg0)
          ∧ r.2.mem ((c.tc : Thread Cert.Norm0Ideal.nD Cert.Norm0Ideal.τ).loc Cert.Norm0Ideal.main_arg1) = m ((c.tc : Thread Cert.Norm0Ideal.nD Cert.Norm0Ideal.τ).loc Cert.Norm0Ideal.main_arg1)
          ∧ r.2.mem ((c.tc : Thread Cert.Norm0Ideal.nD Cert.Norm0Ideal.τ).loc Cert.Norm0Ideal.main_arg2) = m ((c.tc : Thread Cert.Norm0Ideal.nD Cert.Norm0Ideal.τ).loc Cert.Norm0Ideal.main_arg2)
          ∧ r.2.mem ((c.tc : Thread Cert.Norm0Ideal.nD Cert.Norm0Ideal.τ).loc Cert.Norm0Ideal.main_arg3) = m ((c.tc : Thread Cert.Norm0Ideal.nD Cert.Norm0Ideal.τ).loc Cert.Norm0Ideal.main_arg3)
          ∧ r.2.mem ((c.tc : Thread Cert.Norm0Ideal.nD Cert.Norm0Ideal.τ).loc Cert.Norm0Ideal.main_arg4) = m ((c.tc : Thread Cert.Norm0Ideal.nD Cert.Norm0Ideal.τ).loc Cert.Norm0Ideal.main_arg4)
          ∧ r.2.mem ((c.tc : Thread Cert.Norm0Ideal.nD Cert.Norm0Ideal.τ).loc Cert.Norm0Ideal.main_arg5) = m ((c.tc : Thread Cert.Norm0Ideal.nD Cert.Norm0Ideal.τ).loc Cert.Norm0Ideal.main_arg5)
          ∧ r.2.mem ((c.tc : Thread Cert.Norm0Ideal.nD Cert.Norm0Ideal.τ).loc Cert.Norm0Ideal.main_arg6) = m ((c.tc : Thread Cert.Norm0Ideal.nD Cert.Norm0Ideal.τ).loc Cert.Norm0Ideal.main_arg6))
      ∧ θ_run (Cert.NormRef0Ideal.defs (F := Ideal)) (onTc (τ := Cert.NormRef0Ideal.τ) (Cert.NormRef0Ideal.main (F := Ideal))) ⟨m', fun _ => 0, g'⟩ (fun r => ∀ c : Dev Cert.NormRef0Ideal.nD,
          r.2.mem ((c.tc : Thread Cert.NormRef0Ideal.nD Cert.NormRef0Ideal.τ).loc Cert.NormRef0Ideal.main_v61) = v0 c
          ∧ r.2.mem ((c.tc : Thread Cert.NormRef0Ideal.nD Cert.NormRef0Ideal.τ).loc Cert.NormRef0Ideal.main_v25) = v1 c
          ∧ r.2.mem ((c.tc : Thread Cert.NormRef0Ideal.nD Cert.NormRef0Ideal.τ).loc Cert.NormRef0Ideal.main_v60) = v2 c
          ∧ r.2.mem ((c.tc : Thread Cert.NormRef0Ideal.nD Cert.NormRef0Ideal.τ).loc Cert.NormRef0Ideal.main_arg0) = m' ((c.tc : Thread Cert.NormRef0Ideal.nD Cert.NormRef0Ideal.τ).loc Cert.NormRef0Ideal.main_arg0)
          ∧ r.2.mem ((c.tc : Thread Cert.NormRef0Ideal.nD Cert.NormRef0Ideal.τ).loc Cert.NormRef0Ideal.main_arg1) = m' ((c.tc : Thread Cert.NormRef0Ideal.nD Cert.NormRef0Ideal.τ).loc Cert.NormRef0Ideal.main_arg1)
          ∧ r.2.mem ((c.tc : Thread Cert.NormRef0Ideal.nD Cert.NormRef0Ideal.τ).loc Cert.NormRef0Ideal.main_arg2) = m' ((c.tc : Thread Cert.NormRef0Ideal.nD Cert.NormRef0Ideal.τ).loc Cert.NormRef0Ideal.main_arg2)
          ∧ r.2.mem ((c.tc : Thread Cert.NormRef0Ideal.nD Cert.NormRef0Ideal.τ).loc Cert.NormRef0Ideal.main_arg3) = m' ((c.tc : Thread Cert.NormRef0Ideal.nD Cert.NormRef0Ideal.τ).loc Cert.NormRef0Ideal.main_arg3)
          ∧ r.2.mem ((c.tc : Thread Cert.NormRef0Ideal.nD Cert.NormRef0Ideal.τ).loc Cert.NormRef0Ideal.main_arg4) = m' ((c.tc : Thread Cert.NormRef0Ideal.nD Cert.NormRef0Ideal.τ).loc Cert.NormRef0Ideal.main_arg4)
          ∧ r.2.mem ((c.tc : Thread Cert.NormRef0Ideal.nD Cert.NormRef0Ideal.τ).loc Cert.NormRef0Ideal.main_arg5) = m' ((c.tc : Thread Cert.NormRef0Ideal.nD Cert.NormRef0Ideal.τ).loc Cert.NormRef0Ideal.main_arg5)
          ∧ r.2.mem ((c.tc : Thread Cert.NormRef0Ideal.nD Cert.NormRef0Ideal.τ).loc Cert.NormRef0Ideal.main_arg6) = m' ((c.tc : Thread Cert.NormRef0Ideal.nD Cert.NormRef0Ideal.τ).loc Cert.NormRef0Ideal.main_arg6))

def preserves_Win1_Win1Ideal : Prop :=
  True

def algebraic_Win1Ideal_WinRef1Ideal [hWin1Ideal : Cert.Win1Ideal.Facts] [hWinRef1Ideal : Cert.WinRef1Ideal.Facts] : Prop :=
  ∀ (m : (ℓ : Loc Cert.Win1Ideal.nD Cert.Win1Ideal.τ Cert.Win1Ideal.sig) → Buf (Elt Ideal) ℓ) (g : Dev Cert.Win1Ideal.nD → PrngReg)
    (m' : (ℓ : Loc Cert.WinRef1Ideal.nD Cert.WinRef1Ideal.τ Cert.WinRef1Ideal.sig) → Buf (Elt Ideal) ℓ) (g' : Dev Cert.WinRef1Ideal.nD → PrngReg), Pre_Win1Ideal m →
    (∀ c : Dev Cert.Win1Ideal.nD,
      m' ((c.tc : Thread Cert.WinRef1Ideal.nD Cert.WinRef1Ideal.τ).loc Cert.WinRef1Ideal.main_arg0) = m ((c.tc : Thread Cert.Win1Ideal.nD Cert.Win1Ideal.τ).loc Cert.Win1Ideal.main_arg0)
      ∧ m' ((c.tc : Thread Cert.WinRef1Ideal.nD Cert.WinRef1Ideal.τ).loc Cert.WinRef1Ideal.main_arg1) = m ((c.tc : Thread Cert.Win1Ideal.nD Cert.Win1Ideal.τ).loc Cert.Win1Ideal.main_arg1)) →
    ∃ (v0 : (c : Dev Cert.Win1Ideal.nD) → Buf (Elt Ideal) ((c.tc : Thread Cert.Win1Ideal.nD Cert.Win1Ideal.τ).loc Cert.Win1Ideal.main_v2_0)) (v1 : (c : Dev Cert.Win1Ideal.nD) → Buf (Elt Ideal) ((c.tc : Thread Cert.Win1Ideal.nD Cert.Win1Ideal.τ).loc Cert.Win1Ideal.main_v2_1)),
      θ_run (Cert.Win1Ideal.defs (F := Ideal)) (onTc (τ := Cert.Win1Ideal.τ) (Cert.Win1Ideal.main (F := Ideal))) ⟨m, fun _ => 0, g⟩ (fun r => ∀ c : Dev Cert.Win1Ideal.nD,
          r.2.mem ((c.tc : Thread Cert.Win1Ideal.nD Cert.Win1Ideal.τ).loc Cert.Win1Ideal.main_v2_0) = v0 c
          ∧ r.2.mem ((c.tc : Thread Cert.Win1Ideal.nD Cert.Win1Ideal.τ).loc Cert.Win1Ideal.main_v2_1) = v1 c
          ∧ r.2.mem ((c.tc : Thread Cert.Win1Ideal.nD Cert.Win1Ideal.τ).loc Cert.Win1Ideal.main_arg0) = m ((c.tc : Thread Cert.Win1Ideal.nD Cert.Win1Ideal.τ).loc Cert.Win1Ideal.main_arg0)
          ∧ r.2.mem ((c.tc : Thread Cert.Win1Ideal.nD Cert.Win1Ideal.τ).loc Cert.Win1Ideal.main_arg1) = m ((c.tc : Thread Cert.Win1Ideal.nD Cert.Win1Ideal.τ).loc Cert.Win1Ideal.main_arg1))
      ∧ θ_run (Cert.WinRef1Ideal.defs (F := Ideal)) (onTc (τ := Cert.WinRef1Ideal.τ) (Cert.WinRef1Ideal.main (F := Ideal))) ⟨m', fun _ => 0, g'⟩ (fun r => ∀ c : Dev Cert.WinRef1Ideal.nD,
          r.2.mem ((c.tc : Thread Cert.WinRef1Ideal.nD Cert.WinRef1Ideal.τ).loc Cert.WinRef1Ideal.main_v5) = v0 c
          ∧ r.2.mem ((c.tc : Thread Cert.WinRef1Ideal.nD Cert.WinRef1Ideal.τ).loc Cert.WinRef1Ideal.main_v6) = v1 c
          ∧ r.2.mem ((c.tc : Thread Cert.WinRef1Ideal.nD Cert.WinRef1Ideal.τ).loc Cert.WinRef1Ideal.main_arg0) = m' ((c.tc : Thread Cert.WinRef1Ideal.nD Cert.WinRef1Ideal.τ).loc Cert.WinRef1Ideal.main_arg0)
          ∧ r.2.mem ((c.tc : Thread Cert.WinRef1Ideal.nD Cert.WinRef1Ideal.τ).loc Cert.WinRef1Ideal.main_arg1) = m' ((c.tc : Thread Cert.WinRef1Ideal.nD Cert.WinRef1Ideal.τ).loc Cert.WinRef1Ideal.main_arg1))

def preserves_Win0_Win0Ideal : Prop :=
  True

def algebraic_Win0Ideal_WinRef0Ideal [hWin0Ideal : Cert.Win0Ideal.Facts] [hWinRef0Ideal : Cert.WinRef0Ideal.Facts] : Prop :=
  ∀ (m : (ℓ : Loc Cert.Win0Ideal.nD Cert.Win0Ideal.τ Cert.Win0Ideal.sig) → Buf (Elt Ideal) ℓ) (g : Dev Cert.Win0Ideal.nD → PrngReg)
    (m' : (ℓ : Loc Cert.WinRef0Ideal.nD Cert.WinRef0Ideal.τ Cert.WinRef0Ideal.sig) → Buf (Elt Ideal) ℓ) (g' : Dev Cert.WinRef0Ideal.nD → PrngReg), Pre_Win0Ideal m →
    (∀ c : Dev Cert.Win0Ideal.nD,
      m' ((c.tc : Thread Cert.WinRef0Ideal.nD Cert.WinRef0Ideal.τ).loc Cert.WinRef0Ideal.main_arg0) = m ((c.tc : Thread Cert.Win0Ideal.nD Cert.Win0Ideal.τ).loc Cert.Win0Ideal.main_arg0)
      ∧ m' ((c.tc : Thread Cert.WinRef0Ideal.nD Cert.WinRef0Ideal.τ).loc Cert.WinRef0Ideal.main_arg1) = m ((c.tc : Thread Cert.Win0Ideal.nD Cert.Win0Ideal.τ).loc Cert.Win0Ideal.main_arg1)
      ∧ m' ((c.tc : Thread Cert.WinRef0Ideal.nD Cert.WinRef0Ideal.τ).loc Cert.WinRef0Ideal.main_arg2) = m ((c.tc : Thread Cert.Win0Ideal.nD Cert.Win0Ideal.τ).loc Cert.Win0Ideal.main_arg2)) →
    ∃ (v0 : (c : Dev Cert.Win0Ideal.nD) → Buf (Elt Ideal) ((c.tc : Thread Cert.Win0Ideal.nD Cert.Win0Ideal.τ).loc Cert.Win0Ideal.main_v2_0)) (v1 : (c : Dev Cert.Win0Ideal.nD) → Buf (Elt Ideal) ((c.tc : Thread Cert.Win0Ideal.nD Cert.Win0Ideal.τ).loc Cert.Win0Ideal.main_v2_1)),
      θ_run (Cert.Win0Ideal.defs (F := Ideal)) (onTc (τ := Cert.Win0Ideal.τ) (Cert.Win0Ideal.main (F := Ideal))) ⟨m, fun _ => 0, g⟩ (fun r => ∀ c : Dev Cert.Win0Ideal.nD,
          r.2.mem ((c.tc : Thread Cert.Win0Ideal.nD Cert.Win0Ideal.τ).loc Cert.Win0Ideal.main_v2_0) = v0 c
          ∧ r.2.mem ((c.tc : Thread Cert.Win0Ideal.nD Cert.Win0Ideal.τ).loc Cert.Win0Ideal.main_v2_1) = v1 c
          ∧ r.2.mem ((c.tc : Thread Cert.Win0Ideal.nD Cert.Win0Ideal.τ).loc Cert.Win0Ideal.main_arg0) = m ((c.tc : Thread Cert.Win0Ideal.nD Cert.Win0Ideal.τ).loc Cert.Win0Ideal.main_arg0)
          ∧ r.2.mem ((c.tc : Thread Cert.Win0Ideal.nD Cert.Win0Ideal.τ).loc Cert.Win0Ideal.main_arg1) = m ((c.tc : Thread Cert.Win0Ideal.nD Cert.Win0Ideal.τ).loc Cert.Win0Ideal.main_arg1)
          ∧ r.2.mem ((c.tc : Thread Cert.Win0Ideal.nD Cert.Win0Ideal.τ).loc Cert.Win0Ideal.main_arg2) = m ((c.tc : Thread Cert.Win0Ideal.nD Cert.Win0Ideal.τ).loc Cert.Win0Ideal.main_arg2))
      ∧ θ_run (Cert.WinRef0Ideal.defs (F := Ideal)) (onTc (τ := Cert.WinRef0Ideal.τ) (Cert.WinRef0Ideal.main (F := Ideal))) ⟨m', fun _ => 0, g'⟩ (fun r => ∀ c : Dev Cert.WinRef0Ideal.nD,
          r.2.mem ((c.tc : Thread Cert.WinRef0Ideal.nD Cert.WinRef0Ideal.τ).loc Cert.WinRef0Ideal.main_v5) = v0 c
          ∧ r.2.mem ((c.tc : Thread Cert.WinRef0Ideal.nD Cert.WinRef0Ideal.τ).loc Cert.WinRef0Ideal.main_v6) = v1 c
          ∧ r.2.mem ((c.tc : Thread Cert.WinRef0Ideal.nD Cert.WinRef0Ideal.τ).loc Cert.WinRef0Ideal.main_arg0) = m' ((c.tc : Thread Cert.WinRef0Ideal.nD Cert.WinRef0Ideal.τ).loc Cert.WinRef0Ideal.main_arg0)
          ∧ r.2.mem ((c.tc : Thread Cert.WinRef0Ideal.nD Cert.WinRef0Ideal.τ).loc Cert.WinRef0Ideal.main_arg1) = m' ((c.tc : Thread Cert.WinRef0Ideal.nD Cert.WinRef0Ideal.τ).loc Cert.WinRef0Ideal.main_arg1)
          ∧ r.2.mem ((c.tc : Thread Cert.WinRef0Ideal.nD Cert.WinRef0Ideal.τ).loc Cert.WinRef0Ideal.main_arg2) = m' ((c.tc : Thread Cert.WinRef0Ideal.nD Cert.WinRef0Ideal.τ).loc Cert.WinRef0Ideal.main_arg2))

def preserves_Wo_WoIdeal : Prop :=
  True

def algebraic_WoIdeal_WoRefIdeal [hWoIdeal : Cert.WoIdeal.Facts] [hWoRefIdeal : Cert.WoRefIdeal.Facts] : Prop :=
  ∀ (m : (ℓ : Loc Cert.WoIdeal.nD Cert.WoIdeal.τ Cert.WoIdeal.sig) → Buf (Elt Ideal) ℓ) (g : Dev Cert.WoIdeal.nD → PrngReg)
    (m' : (ℓ : Loc Cert.WoRefIdeal.nD Cert.WoRefIdeal.τ Cert.WoRefIdeal.sig) → Buf (Elt Ideal) ℓ) (g' : Dev Cert.WoRefIdeal.nD → PrngReg), Pre_WoIdeal m →
    (∀ c : Dev Cert.WoIdeal.nD,
      m' ((c.tc : Thread Cert.WoRefIdeal.nD Cert.WoRefIdeal.τ).loc Cert.WoRefIdeal.main_arg0) = m ((c.tc : Thread Cert.WoIdeal.nD Cert.WoIdeal.τ).loc Cert.WoIdeal.main_arg0)
      ∧ m' ((c.tc : Thread Cert.WoRefIdeal.nD Cert.WoRefIdeal.τ).loc Cert.WoRefIdeal.main_arg1) = m ((c.tc : Thread Cert.WoIdeal.nD Cert.WoIdeal.τ).loc Cert.WoIdeal.main_arg1)
      ∧ m' ((c.tc : Thread Cert.WoRefIdeal.nD Cert.WoRefIdeal.τ).loc Cert.WoRefIdeal.main_arg2) = m ((c.tc : Thread Cert.WoIdeal.nD Cert.WoIdeal.τ).loc Cert.WoIdeal.main_arg2)) →
    ∃ (v0 : (c : Dev Cert.WoIdeal.nD) → Buf (Elt Ideal) ((c.tc : Thread Cert.WoIdeal.nD Cert.WoIdeal.τ).loc Cert.WoIdeal.main_v2_0)) (v1 : (c : Dev Cert.WoIdeal.nD) → Buf (Elt Ideal) ((c.tc : Thread Cert.WoIdeal.nD Cert.WoIdeal.τ).loc Cert.WoIdeal.main_v2_1)) (v2 : (c : Dev Cert.WoIdeal.nD) → Buf (Elt Ideal) ((c.tc : Thread Cert.WoIdeal.nD Cert.WoIdeal.τ).loc Cert.WoIdeal.main_v2_2)),
      θ_run (Cert.WoIdeal.defs (F := Ideal)) (onTc (τ := Cert.WoIdeal.τ) (Cert.WoIdeal.main (F := Ideal))) ⟨m, fun _ => 0, g⟩ (fun r => ∀ c : Dev Cert.WoIdeal.nD,
          r.2.mem ((c.tc : Thread Cert.WoIdeal.nD Cert.WoIdeal.τ).loc Cert.WoIdeal.main_v2_0) = v0 c
          ∧ r.2.mem ((c.tc : Thread Cert.WoIdeal.nD Cert.WoIdeal.τ).loc Cert.WoIdeal.main_v2_1) = v1 c
          ∧ r.2.mem ((c.tc : Thread Cert.WoIdeal.nD Cert.WoIdeal.τ).loc Cert.WoIdeal.main_v2_2) = v2 c
          ∧ r.2.mem ((c.tc : Thread Cert.WoIdeal.nD Cert.WoIdeal.τ).loc Cert.WoIdeal.main_arg0) = m ((c.tc : Thread Cert.WoIdeal.nD Cert.WoIdeal.τ).loc Cert.WoIdeal.main_arg0)
          ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
          ∧ r.2.mem ((c.tc : Thread Cert.WoIdeal.nD Cert.WoIdeal.τ).loc Cert.WoIdeal.main_arg2) = m ((c.tc : Thread Cert.WoIdeal.nD Cert.WoIdeal.τ).loc Cert.WoIdeal.main_arg2))
      ∧ θ_run (Cert.WoRefIdeal.defs (F := Ideal)) (onTc (τ := Cert.WoRefIdeal.τ) (Cert.WoRefIdeal.main (F := Ideal))) ⟨m', fun _ => 0, g'⟩ (fun r => ∀ c : Dev Cert.WoRefIdeal.nD,
          r.2.mem ((c.tc : Thread Cert.WoRefIdeal.nD Cert.WoRefIdeal.τ).loc Cert.WoRefIdeal.main_v8) = v0 c
          ∧ r.2.mem ((c.tc : Thread Cert.WoRefIdeal.nD Cert.WoRefIdeal.τ).loc Cert.WoRefIdeal.main_v9) = v1 c
          ∧ r.2.mem ((c.tc : Thread Cert.WoRefIdeal.nD Cert.WoRefIdeal.τ).loc Cert.WoRefIdeal.main_v7) = v2 c
          ∧ r.2.mem ((c.tc : Thread Cert.WoRefIdeal.nD Cert.WoRefIdeal.τ).loc Cert.WoRefIdeal.main_arg0) = m' ((c.tc : Thread Cert.WoRefIdeal.nD Cert.WoRefIdeal.τ).loc Cert.WoRefIdeal.main_arg0)
          ∧ r.2.mem ((c.tc : Thread Cert.WoRefIdeal.nD Cert.WoRefIdeal.τ).loc Cert.WoRefIdeal.main_arg1) = m' ((c.tc : Thread Cert.WoRefIdeal.nD Cert.WoRefIdeal.τ).loc Cert.WoRefIdeal.main_arg1)
          ∧ r.2.mem ((c.tc : Thread Cert.WoRefIdeal.nD Cert.WoRefIdeal.τ).loc Cert.WoRefIdeal.main_arg2) = m' ((c.tc : Thread Cert.WoRefIdeal.nD Cert.WoRefIdeal.τ).loc Cert.WoRefIdeal.main_arg2))

def preserves_Fwd_FwdIdeal : Prop :=
  True

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)
      ∧ m' ((c.tc : Thread Cert.FwdRefIdeal.nD Cert.FwdRefIdeal.τ).loc Cert.FwdRefIdeal.main_arg5) = m ((c.tc : Thread Cert.FwdIdeal.nD Cert.FwdIdeal.τ).loc Cert.FwdIdeal.main_arg5)
      ∧ m' ((c.tc : Thread Cert.FwdRefIdeal.nD Cert.FwdRefIdeal.τ).loc Cert.FwdRefIdeal.main_arg6) = m ((c.tc : Thread Cert.FwdIdeal.nD Cert.FwdIdeal.τ).loc Cert.FwdIdeal.main_arg6)
      ∧ m' ((c.tc : Thread Cert.FwdRefIdeal.nD Cert.FwdRefIdeal.τ).loc Cert.FwdRefIdeal.main_arg7) = m ((c.tc : Thread Cert.FwdIdeal.nD Cert.FwdIdeal.τ).loc Cert.FwdIdeal.main_arg7)
      ∧ m' ((c.tc : Thread Cert.FwdRefIdeal.nD Cert.FwdRefIdeal.τ).loc Cert.FwdRefIdeal.main_arg8) = m ((c.tc : Thread Cert.FwdIdeal.nD Cert.FwdIdeal.τ).loc Cert.FwdIdeal.main_arg8)
      ∧ m' ((c.tc : Thread Cert.FwdRefIdeal.nD Cert.FwdRefIdeal.τ).loc Cert.FwdRefIdeal.main_arg9) = m ((c.tc : Thread Cert.FwdIdeal.nD Cert.FwdIdeal.τ).loc Cert.FwdIdeal.main_arg9)
      ∧ m' ((c.tc : Thread Cert.FwdRefIdeal.nD Cert.FwdRefIdeal.τ).loc Cert.FwdRefIdeal.main_arg10) = m ((c.tc : Thread Cert.FwdIdeal.nD Cert.FwdIdeal.τ).loc Cert.FwdIdeal.main_arg10)
      ∧ m' ((c.tc : Thread Cert.FwdRefIdeal.nD Cert.FwdRefIdeal.τ).loc Cert.FwdRefIdeal.main_arg11) = m ((c.tc : Thread Cert.FwdIdeal.nD Cert.FwdIdeal.τ).loc Cert.FwdIdeal.main_arg11)) →
    ∃ (v0 : (c : Dev Cert.FwdIdeal.nD) → Buf (Elt Ideal) ((c.tc : Thread Cert.FwdIdeal.nD Cert.FwdIdeal.τ).loc Cert.FwdIdeal.main_v5_0)) (v1 : (c : Dev Cert.FwdIdeal.nD) → Buf (Elt Ideal) ((c.tc : Thread Cert.FwdIdeal.nD Cert.FwdIdeal.τ).loc Cert.FwdIdeal.main_v5_1)) (v2 : (c : Dev Cert.FwdIdeal.nD) → Buf (Elt Ideal) ((c.tc : Thread Cert.FwdIdeal.nD Cert.FwdIdeal.τ).loc Cert.FwdIdeal.main_v5_2)) (v3 : (c : Dev Cert.FwdIdeal.nD) → Buf (Elt Ideal) ((c.tc : Thread Cert.FwdIdeal.nD Cert.FwdIdeal.τ).loc Cert.FwdIdeal.main_v5_3)) (v4 : (c : Dev Cert.FwdIdeal.nD) → Buf (Elt Ideal) ((c.tc : Thread Cert.FwdIdeal.nD Cert.FwdIdeal.τ).loc Cert.FwdIdeal.main_v5_4)) (v5 : (c : Dev Cert.FwdIdeal.nD) → Buf (Elt Ideal) ((c.tc : Thread Cert.FwdIdeal.nD Cert.FwdIdeal.τ).loc Cert.FwdIdeal.main_v5_5)) (v6 : (c : Dev Cert.FwdIdeal.nD) → Buf (Elt Ideal) ((c.tc : Thread Cert.FwdIdeal.nD Cert.FwdIdeal.τ).loc Cert.FwdIdeal.main_v5_6)) (v7 : (c : Dev Cert.FwdIdeal.nD) → Buf (Elt Ideal) ((c.tc : Thread Cert.FwdIdeal.nD Cert.FwdIdeal.τ).loc Cert.FwdIdeal.main_v5_7)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v5_0) = v0 c
          ∧ r.2.mem ((c.tc : Thread Cert.FwdIdeal.nD Cert.FwdIdeal.τ).loc Cert.FwdIdeal.main_v5_1) = v1 c
          ∧ r.2.mem ((c.tc : Thread Cert.FwdIdeal.nD Cert.FwdIdeal.τ).loc Cert.FwdIdeal.main_v5_2) = v2 c
          ∧ r.2.mem ((c.tc : Thread Cert.FwdIdeal.nD Cert.FwdIdeal.τ).loc Cert.FwdIdeal.main_v5_3) = v3 c
          ∧ r.2.mem ((c.tc : Thread Cert.FwdIdeal.nD Cert.FwdIdeal.τ).loc Cert.FwdIdeal.main_v5_4) = v4 c
          ∧ r.2.mem ((c.tc : Thread Cert.FwdIdeal.nD Cert.FwdIdeal.τ).loc Cert.FwdIdeal.main_v5_5) = v5 c
          ∧ r.2.mem ((c.tc : Thread Cert.FwdIdeal.nD Cert.FwdIdeal.τ).loc Cert.FwdIdeal.main_v5_6) = v6 c
          ∧ r.2.mem ((c.tc : Thread Cert.FwdIdeal.nD Cert.FwdIdeal.τ).loc Cert.FwdIdeal.main_v5_7) = v7 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
          ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
          ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
          ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
          ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8)
          ∧ r.2.mem ((c.tc : Thread Cert.FwdIdeal.nD Cert.FwdIdeal.τ).loc Cert.FwdIdeal.main_arg9) = m ((c.tc : Thread Cert.FwdIdeal.nD Cert.FwdIdeal.τ).loc Cert.FwdIdeal.main_arg9)
          ∧ r.2.mem ((c.tc : Thread Cert.FwdIdeal.nD Cert.FwdIdeal.τ).loc Cert.FwdIdeal.main_arg10) = m ((c.tc : Thread Cert.FwdIdeal.nD Cert.FwdIdeal.τ).loc Cert.FwdIdeal.main_arg10)
          ∧ r.2.mem ((c.tc : Thread Cert.FwdIdeal.nD Cert.FwdIdeal.τ).loc Cert.FwdIdeal.main_arg11) = m ((c.tc : Thread Cert.FwdIdeal.nD Cert.FwdIdeal.τ).loc Cert.FwdIdeal.main_arg11))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v219) = v0 c
          ∧ r.2.mem ((c.tc : Thread Cert.FwdRefIdeal.nD Cert.FwdRefIdeal.τ).loc Cert.FwdRefIdeal.main_v220) = v1 c
          ∧ r.2.mem ((c.tc : Thread Cert.FwdRefIdeal.nD Cert.FwdRefIdeal.τ).loc Cert.FwdRefIdeal.main_v221) = v2 c
          ∧ r.2.mem ((c.tc : Thread Cert.FwdRefIdeal.nD Cert.FwdRefIdeal.τ).loc Cert.FwdRefIdeal.main_v202) = v3 c
          ∧ r.2.mem ((c.tc : Thread Cert.FwdRefIdeal.nD Cert.FwdRefIdeal.τ).loc Cert.FwdRefIdeal.main_v218) = v4 c
          ∧ r.2.mem ((c.tc : Thread Cert.FwdRefIdeal.nD Cert.FwdRefIdeal.τ).loc Cert.FwdRefIdeal.main_v186) = v5 c
          ∧ r.2.mem ((c.tc : Thread Cert.FwdRefIdeal.nD Cert.FwdRefIdeal.τ).loc Cert.FwdRefIdeal.main_v222) = v6 c
          ∧ r.2.mem ((c.tc : Thread Cert.FwdRefIdeal.nD Cert.FwdRefIdeal.τ).loc Cert.FwdRefIdeal.main_v223) = v7 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4)
          ∧ r.2.mem ((c.tc : Thread Cert.FwdRefIdeal.nD Cert.FwdRefIdeal.τ).loc Cert.FwdRefIdeal.main_arg5) = m' ((c.tc : Thread Cert.FwdRefIdeal.nD Cert.FwdRefIdeal.τ).loc Cert.FwdRefIdeal.main_arg5)
          ∧ r.2.mem ((c.tc : Thread Cert.FwdRefIdeal.nD Cert.FwdRefIdeal.τ).loc Cert.FwdRefIdeal.main_arg6) = m' ((c.tc : Thread Cert.FwdRefIdeal.nD Cert.FwdRefIdeal.τ).loc Cert.FwdRefIdeal.main_arg6)
          ∧ r.2.mem ((c.tc : Thread Cert.FwdRefIdeal.nD Cert.FwdRefIdeal.τ).loc Cert.FwdRefIdeal.main_arg7) = m' ((c.tc : Thread Cert.FwdRefIdeal.nD Cert.FwdRefIdeal.τ).loc Cert.FwdRefIdeal.main_arg7)
          ∧ r.2.mem ((c.tc : Thread Cert.FwdRefIdeal.nD Cert.FwdRefIdeal.τ).loc Cert.FwdRefIdeal.main_arg8) = m' ((c.tc : Thread Cert.FwdRefIdeal.nD Cert.FwdRefIdeal.τ).loc Cert.FwdRefIdeal.main_arg8)
          ∧ r.2.mem ((c.tc : Thread Cert.FwdRefIdeal.nD Cert.FwdRefIdeal.τ).loc Cert.FwdRefIdeal.main_arg9) = m' ((c.tc : Thread Cert.FwdRefIdeal.nD Cert.FwdRefIdeal.τ).loc Cert.FwdRefIdeal.main_arg9)
          ∧ r.2.mem ((c.tc : Thread Cert.FwdRefIdeal.nD Cert.FwdRefIdeal.τ).loc Cert.FwdRefIdeal.main_arg10) = m' ((c.tc : Thread Cert.FwdRefIdeal.nD Cert.FwdRefIdeal.τ).loc Cert.FwdRefIdeal.main_arg10)
          ∧ r.2.mem ((c.tc : Thread Cert.FwdRefIdeal.nD Cert.FwdRefIdeal.τ).loc Cert.FwdRefIdeal.main_arg11) = m' ((c.tc : Thread Cert.FwdRefIdeal.nD Cert.FwdRefIdeal.τ).loc Cert.FwdRefIdeal.main_arg11))

def Claim : Prop :=
  ∃ (hKernel : Cert.Kernel.Facts) (hKernelIdeal : Cert.KernelIdeal.Facts) (hReferenceIdeal : Cert.ReferenceIdeal.Facts) (hNorm1 : Cert.Norm1.Facts) (hNorm1Ideal : Cert.Norm1Ideal.Facts) (hNormRef1Ideal : Cert.NormRef1Ideal.Facts) (hNorm0 : Cert.Norm0.Facts) (hNorm0Ideal : Cert.Norm0Ideal.Facts) (hNormRef0Ideal : Cert.NormRef0Ideal.Facts) (hWin1 : Cert.Win1.Facts) (hWin1Ideal : Cert.Win1Ideal.Facts) (hWinRef1Ideal : Cert.WinRef1Ideal.Facts) (hWin0 : Cert.Win0.Facts) (hWin0Ideal : Cert.Win0Ideal.Facts) (hWinRef0Ideal : Cert.WinRef0Ideal.Facts) (hWo : Cert.Wo.Facts) (hWoIdeal : Cert.WoIdeal.Facts) (hWoRefIdeal : Cert.WoRefIdeal.Facts) (hFwd : Cert.Fwd.Facts) (hFwdIdeal : Cert.FwdIdeal.Facts) (hFwdRefIdeal : Cert.FwdRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Norm1 (hNorm1 := hNorm1)
    ∧ quiescent_Norm1Ideal (hNorm1Ideal := hNorm1Ideal)
    ∧ quiescent_NormRef1Ideal (hNormRef1Ideal := hNormRef1Ideal)
    ∧ quiescent_Norm0 (hNorm0 := hNorm0)
    ∧ quiescent_Norm0Ideal (hNorm0Ideal := hNorm0Ideal)
    ∧ quiescent_NormRef0Ideal (hNormRef0Ideal := hNormRef0Ideal)
    ∧ quiescent_Win1 (hWin1 := hWin1)
    ∧ quiescent_Win1Ideal (hWin1Ideal := hWin1Ideal)
    ∧ quiescent_WinRef1Ideal (hWinRef1Ideal := hWinRef1Ideal)
    ∧ quiescent_Win0 (hWin0 := hWin0)
    ∧ quiescent_Win0Ideal (hWin0Ideal := hWin0Ideal)
    ∧ quiescent_WinRef0Ideal (hWinRef0Ideal := hWinRef0Ideal)
    ∧ quiescent_Wo (hWo := hWo)
    ∧ quiescent_WoIdeal (hWoIdeal := hWoIdeal)
    ∧ quiescent_WoRefIdeal (hWoRefIdeal := hWoRefIdeal)
    ∧ quiescent_Fwd (hFwd := hFwd)
    ∧ quiescent_FwdIdeal (hFwdIdeal := hFwdIdeal)
    ∧ quiescent_FwdRefIdeal (hFwdRefIdeal := hFwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Norm1_Norm1Ideal
    ∧ algebraic_Norm1Ideal_NormRef1Ideal (hNorm1Ideal := hNorm1Ideal) (hNormRef1Ideal := hNormRef1Ideal)
    ∧ preserves_Norm0_Norm0Ideal
    ∧ algebraic_Norm0Ideal_NormRef0Ideal (hNorm0Ideal := hNorm0Ideal) (hNormRef0Ideal := hNormRef0Ideal)
    ∧ preserves_Win1_Win1Ideal
    ∧ algebraic_Win1Ideal_WinRef1Ideal (hWin1Ideal := hWin1Ideal) (hWinRef1Ideal := hWinRef1Ideal)
    ∧ preserves_Win0_Win0Ideal
    ∧ algebraic_Win0Ideal_WinRef0Ideal (hWin0Ideal := hWin0Ideal) (hWinRef0Ideal := hWinRef0Ideal)
    ∧ preserves_Wo_WoIdeal
    ∧ algebraic_WoIdeal_WoRefIdeal (hWoIdeal := hWoIdeal) (hWoRefIdeal := hWoRefIdeal)
    ∧ preserves_Fwd_FwdIdeal
    ∧ algebraic_FwdIdeal_FwdRefIdeal (hFwdIdeal := hFwdIdeal) (hFwdRefIdeal := hFwdRefIdeal)
-- ==== Pre_finite.lean ====
abbrev S16384x1024 : Shape := ⟨2, ![16384, 1024]⟩
abbrev S16384x4096 : Shape := ⟨2, ![16384, 4096]⟩
abbrev S1x1024 : Shape := ⟨2, ![1, 1024]⟩
abbrev S4x512x512 : Shape := ⟨3, ![4, 512, 512]⟩
abbrev S1x2048 : Shape := ⟨2, ![1, 2048]⟩
abbrev S2048x1024 : Shape := ⟨2, ![2048, 1024]⟩
abbrev S_ : Shape := ⟨0, ![]⟩

class Facts : Prop where
  bcast_S_S16384x1024 : S_.BroadcastsInDim S16384x1024 (![] : Fin 0 → Fin S16384x1024.rank)
  bcast_S_S16384x4096 : S_.BroadcastsInDim S16384x4096 (![] : Fin 0 → Fin S16384x4096.rank)
  bcast_S_S1x1024 : S_.BroadcastsInDim S1x1024 (![] : Fin 0 → Fin S1x1024.rank)
  bcast_S_S4x512x512 : S_.BroadcastsInDim S4x512x512 (![] : Fin 0 → Fin S4x512x512.rank)
  bcast_S_S1x2048 : S_.BroadcastsInDim S1x2048 (![] : Fin 0 → Fin S1x2048.rank)
  bcast_S_S2048x1024 : S_.BroadcastsInDim S2048x1024 (![] : Fin 0 → Fin S2048x1024.rank)

variable [Facts]

def fn_part1 {F : FTy → Type} [FloatOps F] (main_arg6 : FVec F S2048x1024 .f32) (main_v2 : IVec S16384x1024 1) (main_v5 : IVec S16384x4096 1) (main_v8 : IVec S1x1024 1) (main_v11 : IVec S4x512x512 1) (main_v14 : IVec S1x2048 1) (main_v17 : IVec S1x2048 1) : IVec S16384x1024 1 × IVec S16384x4096 1 × IVec S1x1024 1 × IVec S4x512x512 1 × IVec S1x2048 1 × IVec S1x2048 1 × IVec S2048x1024 1 :=
  let main_v18 : FVec F S2048x1024 .f32 := Host.absf main_arg6
  let main_cst_5 : FVec F S_ .f32 := constant S_ .f32 0x7F800000#32
  let main_v19 : FVec F S2048x1024 .f32 := broadcastInDim S2048x1024 ![] bcast_S_S2048x1024 main_cst_5
  let main_v20 : IVec S2048x1024 1 := cmpf .olt main_v18 main_v19
  (main_v2, main_v5, main_v8, main_v11, main_v14, main_v17, main_v20)

def fn {F : FTy → Type} [FloatOps F] (main_arg0 : FVec F S16384x1024 .f32) (main_arg1 : FVec F S16384x4096 .f32) (main_arg2 : FVec F S1x1024 .f32) (main_arg3 : FVec F S4x512x512 .f32) (main_arg4 : FVec F S1x2048 .f32) (main_arg5 : FVec F S1x2048 .f32) (main_arg6 : FVec F S2048x1024 .f32) : IVec S16384x1024 1 × IVec S16384x4096 1 × IVec S1x1024 1 × IVec S4x512x512 1 × IVec S1x2048 1 × IVec S1x2048 1 × IVec S2048x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x4096 .f32 := Host.absf main_arg1
  let main_cst_0 : FVec F S_ .f32 := constant S_ .f32 0x7F800000#32
  let main_v4 : FVec F S16384x4096 .f32 := broadcastInDim S16384x4096 ![] bcast_S_S16384x4096 main_cst_0
  let main_v5 : IVec S16384x4096 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S4x512x512 .f32 := Host.absf main_arg3
  let main_cst_2 : FVec F S_ .f32 := constant S_ .f32 0x7F800000#32
  let main_v10 : FVec F S4x512x512 .f32 := broadcastInDim S4x512x512 ![] bcast_S_S4x512x512 main_cst_2
  let main_v11 : IVec S4x512x512 1 := cmpf .olt main_v9 main_v10
  let main_v12 : FVec F S1x2048 .f32 := Host.absf main_arg4
  let main_cst_3 : FVec F S_ .f32 := constant S_ .f32 0x7F800000#32
  let main_v13 : FVec F S1x2048 .f32 := broadcastInDim S1x2048 ![] bcast_S_S1x2048 main_cst_3
  let main_v14 : IVec S1x2048 1 := cmpf .olt main_v12 main_v13
  let main_v15 : FVec F S1x2048 .f32 := Host.absf main_arg5
  let main_cst_4 : FVec F S_ .f32 := constant S_ .f32 0x7F800000#32
  let main_v16 : FVec F S1x2048 .f32 := broadcastInDim S1x2048 ![] bcast_S_S1x2048 main_cst_4
  let main_v17 : IVec S1x2048 1 := cmpf .olt main_v15 main_v16
  fn_part1 (F := F) main_arg6 main_v2 main_v5 main_v8 main_v11 main_v14 main_v17
-- ==== Kernel.lean ====
abbrev S16384x1024 : Shape := ⟨2, ![16384, 1024]⟩
abbrev S16384x4096 : Shape := ⟨2, ![16384, 4096]⟩
abbrev S1x1024 : Shape := ⟨2, ![1, 1024]⟩
abbrev S4x512x512 : Shape := ⟨3, ![4, 512, 512]⟩
abbrev S1x2048 : Shape := ⟨2, ![1, 2048]⟩
abbrev S2048x1024 : Shape := ⟨2, ![2048, 1024]⟩
abbrev S16384x2048 : Shape := ⟨2, ![16384, 2048]⟩
abbrev S16384x512 : Shape := ⟨2, ![16384, 512]⟩
abbrev S_ : Shape := ⟨0, ![]⟩
abbrev S2x512 : Shape := ⟨2, ![2, 512]⟩
abbrev S16382x512 : Shape := ⟨2, ![16382, 512]⟩
abbrev S16384 : Shape := ⟨1, ![16384]⟩
abbrev S16384x1 : Shape := ⟨2, ![16384, 1]⟩
abbrev S4x512 : Shape := ⟨2, ![4, 512]⟩
abbrev S16380x512 : Shape := ⟨2, ![16380, 512]⟩
abbrev S8x512 : Shape := ⟨2, ![8, 512]⟩
abbrev S16376x512 : Shape := ⟨2, ![16376, 512]⟩
abbrev S16x512 : Shape := ⟨2, ![16, 512]⟩
abbrev S16368x512 : Shape := ⟨2, ![16368, 512]⟩
abbrev S1x512x512 : Shape := ⟨3, ![1, 512, 512]⟩
abbrev S512x512 : Shape := ⟨2, ![512, 512]⟩
abbrev S4x512x1024 : Shape := ⟨3, ![4, 512, 1024]⟩
abbrev S512x1024 : Shape := ⟨2, ![512, 1024]⟩
abbrev S512x2048 : Shape := ⟨2, ![512, 2048]⟩
abbrev S512x4096 : Shape := ⟨2, ![512, 4096]⟩
abbrev S16x2048 : Shape := ⟨2, ![16, 2048]⟩
abbrev S256x1024 : Shape := ⟨2, ![256, 1024]⟩
abbrev S256x2048 : Shape := ⟨2, ![256, 2048]⟩
abbrev S1x512x1024 : Shape := ⟨3, ![1, 512, 1024]⟩
abbrev S2048 : Shape := ⟨1, ![2048]⟩
abbrev S256x1 : Shape := ⟨2, ![256, 1]⟩
abbrev S256x512 : Shape := ⟨2, ![256, 512]⟩
abbrev S272x2048 : Shape := ⟨2, ![272, 2048]⟩
abbrev S272x512 : Shape := ⟨2, ![272, 512]⟩
abbrev S272x1536 : Shape := ⟨2, ![272, 1536]⟩
abbrev S272x1024 : Shape := ⟨2, ![272, 1024]⟩

abbrev nBuf : Space → Nat
  | .hbm => 133
  | .vmem => 21
  | .smem => 0
  | _ => 0

abbrev hbmTy0_0 (i : Nat) : BufTy := match i % 128 with
  | 0 => ⟨S16384x1024, .f32⟩
  | 1 => ⟨S16384x4096, .f32⟩
  | 2 => ⟨S1x1024, .f32⟩
  | 3 => ⟨S4x512x512, .f32⟩
  | 4 => ⟨S1x2048, .f32⟩
  | 5 => ⟨S1x2048, .f32⟩
  | 6 => ⟨S2048x1024, .f32⟩
  | 7 => ⟨S16384x2048, .f32⟩
  | 8 => ⟨S16384x2048, .f32⟩
  | 9 => ⟨S16384x512, .f32⟩
  | 10 => ⟨S_, .f32⟩
  | 11 => ⟨S_, .f32⟩
  | 12 => ⟨S16384x512, .f32⟩
  | 13 => ⟨S_, .f32⟩
  | 14 => ⟨S2x512, .f32⟩
  | 15 => ⟨S16382x512, .f32⟩
  | 16 => ⟨S16384x512, .f32⟩
  | 17 => ⟨S16384, .i32⟩
  | 18 => ⟨S_, .i32⟩
  | 19 => ⟨S16384, .i32⟩
  | 20 => ⟨S16384, .i32⟩
  | 21 => ⟨S_, .i32⟩
  | 22 => ⟨S16384, .i32⟩
  | 23 => ⟨S16384, .i32⟩
  | 24 => ⟨S16384, .f32⟩
  | 25 => ⟨S16384x1, .f32⟩
  | 26 => ⟨S16384x512, .f32⟩
  | 27 => ⟨S16384x512, .f32⟩
  | 28 => ⟨S16384x512, .f32⟩
  | 29 => ⟨S16384x512, .f32⟩
  | 30 => ⟨S_, .f32⟩
  | 31 => ⟨S_, .f32⟩
  | 32 => ⟨S16384x512, .f32⟩
  | 33 => ⟨S_, .f32⟩
  | 34 => ⟨S4x512, .f32⟩
  | 35 => ⟨S16380x512, .f32⟩
  | 36 => ⟨S16384x512, .f32⟩
  | 37 => ⟨S16384, .i32⟩
  | 38 => ⟨S_, .i32⟩
  | 39 => ⟨S16384, .i32⟩
  | 40 => ⟨S16384, .i32⟩
  | 41 => ⟨S_, .i32⟩
  | 42 => ⟨S16384, .i32⟩
  | 43 => ⟨S16384, .i32⟩
  | 44 => ⟨S16384, .f32⟩
  | 45 => ⟨S16384x1, .f32⟩
  | 46 => ⟨S16384x512, .f32⟩
  | 47 => ⟨S16384x512, .f32⟩
  | 48 => ⟨S16384x512, .f32⟩
  | 49 => ⟨S16384x512, .f32⟩
  | 50 => ⟨S_, .f32⟩
  | 51 => ⟨S_, .f32⟩
  | 52 => ⟨S16384x512, .f32⟩
  | 53 => ⟨S_, .f32⟩
  | 54 => ⟨S8x512, .f32⟩
  | 55 => ⟨S16376x512, .f32⟩
  | 56 => ⟨S16384x512, .f32⟩
  | 57 => ⟨S16384, .i32⟩
  | 58 => ⟨S_, .i32⟩
  | 59 => ⟨S16384, .i32⟩
  | 60 => ⟨S16384, .i32⟩
  | 61 => ⟨S_, .i32⟩
  | 62 => ⟨S16384, .i32⟩
  | 63 => ⟨S16384, .i32⟩
  | 64 => ⟨S16384, .f32⟩
  | 65 => ⟨S16384x1, .f32⟩
  | 66 => ⟨S16384x512, .f32⟩
  | 67 => ⟨S16384x512, .f32⟩
  | 68 => ⟨S16384x512, .f32⟩
  | 69 => ⟨S16384x512, .f32⟩
  | 70 => ⟨S_, .f32⟩
  | 71 => ⟨S_, .f32⟩
  | 72 => ⟨S16384x512, .f32⟩
  | 73 => ⟨S_, .f32⟩
  | 74 => ⟨S16x512, .f32⟩
  | 75 => ⟨S16368x512, .f32⟩
  | 76 => ⟨S16384x512, .f32⟩
  | 77 => ⟨S16384, .i32⟩
  | 78 => ⟨S_, .i32⟩
  | 79 => ⟨S16384, .i32⟩
  | 80 => ⟨S16384, .i32⟩
  | 81 => ⟨S_, .i32⟩
  | 82 => ⟨S16384, .i32⟩
  | 83 => ⟨S16384, .i32⟩
  | 84 => ⟨S16384, .f32⟩
  | 85 => ⟨S16384x1, .f32⟩
  | 86 => ⟨S16384x512, .f32⟩
  | 87 => ⟨S16384x512, .f32⟩
  | 88 => ⟨S16384x512, .f32⟩
  | 89 => ⟨S16384x2048, .f32⟩
  | 90 => ⟨S16384x2048, .f32⟩
  | 91 => ⟨S16384x512, .f32⟩
  | 92 => ⟨S1x512x512, .f32⟩
  | 93 => ⟨S512x512, .f32⟩
  | 94 => ⟨S16384x512, .f32⟩
  | 95 => ⟨S16384x512, .f32⟩
  | 96 => ⟨S1x512x512, .f32⟩
  | 97 => ⟨S512x512, .f32⟩
  | 98 => ⟨S16384x512, .f32⟩
  | 99 => ⟨S16384x512, .f32⟩
  | 100 => ⟨S1x512x512, .f32⟩
  | 101 => ⟨S512x512, .f32⟩
  | 102 => ⟨S16384x512, .f32⟩
  | 103 => ⟨S16384x512, .f32⟩
  | 104 => ⟨S1x512x512, .f32⟩
  | 105 => ⟨S512x512, .f32⟩
  | 106 => ⟨S16384x512, .f32⟩
  | 107 => ⟨S16384x2048, .f32⟩
  | 108 => ⟨S16384x2048, .f32⟩
  | 109 => ⟨S16384x2048, .f32⟩
  | 110 => ⟨S16384x2048, .f32⟩
  | 111 => ⟨S16384x2048, .f32⟩
  | 112 => ⟨S16384x2048, .f32⟩
  | 113 => ⟨S16384x2048, .f32⟩
  | 114 => ⟨S_, .f32⟩
  | 115 => ⟨S16384x2048, .f32⟩
  | 116 => ⟨S16384x2048, .f32⟩
  | 117 => ⟨S_, .f32⟩
  | 118 => ⟨S16384x2048, .f32⟩
  | 119 => ⟨S16384x2048, .f32⟩
  | 120 => ⟨S16384x2048, .f32⟩
  | 121 => ⟨S16384x2048, .f32⟩
  | 122 => ⟨S16384x4096, .bf16⟩
  | 123 => ⟨S16384x2048, .bf16⟩
  | 124 => ⟨S16384x2048, .bf16⟩
  | 125 => ⟨S16384x2048, .bf16⟩
  | 126 => ⟨S4x512x512, .bf16⟩
  | 127 => ⟨S2048x1024, .bf16⟩
  | _ => ⟨S16384x1024, .f32⟩

abbrev hbmTy0_1 (i : Nat) : BufTy := match i % 128 with
  | 0 => ⟨S16384x4096, .bf16⟩
  | 1 => ⟨S4x512x1024, .f32⟩
  | 2 => ⟨S4x512x512, .f32⟩
  | 3 => ⟨S1x2048, .f32⟩
  | 4 => ⟨S1x2048, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S1x1024, .f32⟩
  | .local _ .vmem, ⟨11, _⟩ => ⟨S4x512x512, .bf16⟩
  | .local _ .vmem, ⟨12, _⟩ => ⟨S1x2048, .f32⟩
  | .local _ .vmem, ⟨13, _⟩ => ⟨S2048x1024, .bf16⟩
  | .local _ .vmem, ⟨14, _⟩ => ⟨S512x4096, .bf16⟩
  | .local _ .vmem, ⟨15, _⟩ => ⟨S512x4096, .bf16⟩
  | .local _ .vmem, ⟨16, _⟩ => ⟨S4x512x1024, .f32⟩
  | .local _ .vmem, ⟨17, _⟩ => ⟨S4x512x512, .f32⟩
  | .local _ .vmem, ⟨18, _⟩ => ⟨S1x2048, .f32⟩
  | .local _ .vmem, ⟨19, _⟩ => ⟨S1x2048, .f32⟩
  | .local _ .vmem, ⟨20, _⟩ => ⟨S16x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_call0_cst : Ref sig .tc := ⟨.hbm, 10, rfl⟩
abbrev main_call0_call0_v0 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call1_call0_cst : Ref sig .tc := ⟨.hbm, 30, rfl⟩
abbrev main_call1_call0_v0 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_2 : Ref sig .tc := ⟨.hbm, 38, rfl⟩
abbrev main_v23 : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call2_call0_cst : Ref sig .tc := ⟨.hbm, 50, rfl⟩
abbrev main_call2_call0_v0 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_5 : Ref sig .tc := ⟨.hbm, 58, rfl⟩
abbrev main_v38 : Ref sig .tc := ⟨.hbm, 59, rfl⟩
abbrev main_v39 : Ref sig .tc := ⟨.hbm, 60, rfl⟩
abbrev main_c_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call3_call0_cst : Ref sig .tc := ⟨.hbm, 70, rfl⟩
abbrev main_call3_call0_v0 : Ref sig .tc := ⟨.hbm, 71, rfl⟩
abbrev main_v48 : Ref sig .tc := ⟨.hbm, 72, rfl⟩
abbrev main_cst_7 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_8 : Ref sig .tc := ⟨.hbm, 78, rfl⟩
abbrev main_v53 : Ref sig .tc := ⟨.hbm, 79, rfl⟩
abbrev main_v54 : Ref sig .tc := ⟨.hbm, 80, rfl⟩
abbrev main_c_9 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_call4_v0 : Ref sig .tc := ⟨.hbm, 112, rfl⟩
abbrev main_call4_v1 : Ref sig .tc := ⟨.hbm, 113, rfl⟩
abbrev main_call4_cst : Ref sig .tc := ⟨.hbm, 114, rfl⟩
abbrev main_call4_v2 : Ref sig .tc := ⟨.hbm, 115, rfl⟩
abbrev main_call4_v3 : Ref sig .tc := ⟨.hbm, 116, rfl⟩
abbrev main_call4_cst_0 : Ref sig .tc := ⟨.hbm, 117, rfl⟩
abbrev main_call4_v4 : Ref sig .tc := ⟨.hbm, 118, rfl⟩
abbrev main_call4_v5 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93_0 : Ref sig .tc := ⟨.hbm, 128, rfl⟩
abbrev main_v93_1 : Ref sig .tc := ⟨.hbm, 129, rfl⟩
abbrev main_v93_2 : Ref sig .tc := ⟨.hbm, 130, rfl⟩
abbrev main_v93_3 : Ref sig .tc := ⟨.hbm, 131, rfl⟩
abbrev main_v93_4 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x512x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S16384x1024 : Shape := ⟨2, ![16384, 1024]⟩
abbrev S16384x4096 : Shape := ⟨2, ![16384, 4096]⟩
abbrev S1x1024 : Shape := ⟨2, ![1, 1024]⟩
abbrev S4x512x512 : Shape := ⟨3, ![4, 512, 512]⟩
abbrev S1x2048 : Shape := ⟨2, ![1, 2048]⟩
abbrev S2048x1024 : Shape := ⟨2, ![2048, 1024]⟩
abbrev S16384x2048 : Shape := ⟨2, ![16384, 2048]⟩
abbrev S16384x512 : Shape := ⟨2, ![16384, 512]⟩
abbrev S_ : Shape := ⟨0, ![]⟩
abbrev S2x512 : Shape := ⟨2, ![2, 512]⟩
abbrev S16382x512 : Shape := ⟨2, ![16382, 512]⟩
abbrev S16384 : Shape := ⟨1, ![16384]⟩
abbrev S16384x1 : Shape := ⟨2, ![16384, 1]⟩
abbrev S4x512 : Shape := ⟨2, ![4, 512]⟩
abbrev S16380x512 : Shape := ⟨2, ![16380, 512]⟩
abbrev S8x512 : Shape := ⟨2, ![8, 512]⟩
abbrev S16376x512 : Shape := ⟨2, ![16376, 512]⟩
abbrev S16x512 : Shape := ⟨2, ![16, 512]⟩
abbrev S16368x512 : Shape := ⟨2, ![16368, 512]⟩
abbrev S1x512x512 : Shape := ⟨3, ![1, 512, 512]⟩
abbrev S512x512 : Shape := ⟨2, ![512, 512]⟩
abbrev S1024x2048 : Shape := ⟨2, ![1024, 2048]⟩
abbrev S2048 : Shape := ⟨1, ![2048]⟩
abbrev S4x512x1024 : Shape := ⟨3, ![4, 512, 1024]⟩

abbrev nBuf : Space → Nat
  | .hbm => 264
  | .vmem => 0
  | .smem => 0
  | _ => 0

abbrev hbmTy0_0 (i : Nat) : BufTy := match i % 128 with
  | 0 => ⟨S16384x1024, .f32⟩
  | 1 => ⟨S16384x4096, .f32⟩
  | 2 => ⟨S1x1024, .f32⟩
  | 3 => ⟨S4x512x512, .f32⟩
  | 4 => ⟨S1x2048, .f32⟩
  | 5 => ⟨S1x2048, .f32⟩
  | 6 => ⟨S2048x1024, .f32⟩
  | 7 => ⟨S16384x2048, .f32⟩
  | 8 => ⟨S16384x2048, .f32⟩
  | 9 => ⟨S16384x512, .f32⟩
  | 10 => ⟨S_, .f32⟩
  | 11 => ⟨S_, .f32⟩
  | 12 => ⟨S16384x512, .f32⟩
  | 13 => ⟨S_, .f32⟩
  | 14 => ⟨S2x512, .f32⟩
  | 15 => ⟨S16382x512, .f32⟩
  | 16 => ⟨S16384x512, .f32⟩
  | 17 => ⟨S_, .f32⟩
  | 18 => ⟨S2x512, .f32⟩
  | 19 => ⟨S16384, .i32⟩
  | 20 => ⟨S_, .i32⟩
  | 21 => ⟨S16384, .i32⟩
  | 22 => ⟨S16384, .i32⟩
  | 23 => ⟨S_, .i32⟩
  | 24 => ⟨S16384, .i32⟩
  | 25 => ⟨S16384, .i32⟩
  | 26 => ⟨S16384, .f32⟩
  | 27 => ⟨S16384x1, .f32⟩
  | 28 => ⟨S16384x512, .f32⟩
  | 29 => ⟨S16384x512, .f32⟩
  | 30 => ⟨S16384x512, .f32⟩
  | 31 => ⟨S16384x512, .f32⟩
  | 32 => ⟨S_, .f32⟩
  | 33 => ⟨S_, .f32⟩
  | 34 => ⟨S16384x512, .f32⟩
  | 35 => ⟨S_, .f32⟩
  | 36 => ⟨S4x512, .f32⟩
  | 37 => ⟨S16380x512, .f32⟩
  | 38 => ⟨S16384x512, .f32⟩
  | 39 => ⟨S_, .f32⟩
  | 40 => ⟨S4x512, .f32⟩
  | 41 => ⟨S16384, .i32⟩
  | 42 => ⟨S_, .i32⟩
  | 43 => ⟨S16384, .i32⟩
  | 44 => ⟨S16384, .i32⟩
  | 45 => ⟨S_, .i32⟩
  | 46 => ⟨S16384, .i32⟩
  | 47 => ⟨S16384, .i32⟩
  | 48 => ⟨S16384, .f32⟩
  | 49 => ⟨S16384x1, .f32⟩
  | 50 => ⟨S16384x512, .f32⟩
  | 51 => ⟨S16384x512, .f32⟩
  | 52 => ⟨S16384x512, .f32⟩
  | 53 => ⟨S16384x512, .f32⟩
  | 54 => ⟨S_, .f32⟩
  | 55 => ⟨S_, .f32⟩
  | 56 => ⟨S16384x512, .f32⟩
  | 57 => ⟨S_, .f32⟩
  | 58 => ⟨S8x512, .f32⟩
  | 59 => ⟨S16376x512, .f32⟩
  | 60 => ⟨S16384x512, .f32⟩
  | 61 => ⟨S_, .f32⟩
  | 62 => ⟨S8x512, .f32⟩
  | 63 => ⟨S16384, .i32⟩
  | 64 => ⟨S_, .i32⟩
  | 65 => ⟨S16384, .i32⟩
  | 66 => ⟨S16384, .i32⟩
  | 67 => ⟨S_, .i32⟩
  | 68 => ⟨S16384, .i32⟩
  | 69 => ⟨S16384, .i32⟩
  | 70 => ⟨S16384, .f32⟩
  | 71 => ⟨S16384x1, .f32⟩
  | 72 => ⟨S16384x512, .f32⟩
  | 73 => ⟨S16384x512, .f32⟩
  | 74 => ⟨S16384x512, .f32⟩
  | 75 => ⟨S16384x512, .f32⟩
  | 76 => ⟨S_, .f32⟩
  | 77 => ⟨S_, .f32⟩
  | 78 => ⟨S16384x512, .f32⟩
  | 79 => ⟨S_, .f32⟩
  | 80 => ⟨S16x512, .f32⟩
  | 81 => ⟨S16368x512, .f32⟩
  | 82 => ⟨S16384x512, .f32⟩
  | 83 => ⟨S_, .f32⟩
  | 84 => ⟨S16x512, .f32⟩
  | 85 => ⟨S16384, .i32⟩
  | 86 => ⟨S_, .i32⟩
  | 87 => ⟨S16384, .i32⟩
  | 88 => ⟨S16384, .i32⟩
  | 89 => ⟨S_, .i32⟩
  | 90 => ⟨S16384, .i32⟩
  | 91 => ⟨S16384, .i32⟩
  | 92 => ⟨S16384, .f32⟩
  | 93 => ⟨S16384x1, .f32⟩
  | 94 => ⟨S16384x512, .f32⟩
  | 95 => ⟨S16384x512, .f32⟩
  | 96 => ⟨S16384x512, .f32⟩
  | 97 => ⟨S16384x2048, .f32⟩
  | 98 => ⟨S16384x2048, .f32⟩
  | 99 => ⟨S16384x512, .f32⟩
  | 100 => ⟨S1x512x512, .f32⟩
  | 101 => ⟨S512x512, .f32⟩
  | 102 => ⟨S16384x512, .f32⟩
  | 103 => ⟨S16384x512, .f32⟩
  | 104 => ⟨S1x512x512, .f32⟩
  | 105 => ⟨S512x512, .f32⟩
  | 106 => ⟨S16384x512, .f32⟩
  | 107 => ⟨S16384x512, .f32⟩
  | 108 => ⟨S1x512x512, .f32⟩
  | 109 => ⟨S512x512, .f32⟩
  | 110 => ⟨S16384x512, .f32⟩
  | 111 => ⟨S16384x512, .f32⟩
  | 112 => ⟨S1x512x512, .f32⟩
  | 113 => ⟨S512x512, .f32⟩
  | 114 => ⟨S16384x512, .f32⟩
  | 115 => ⟨S16384x2048, .f32⟩
  | 116 => ⟨S16384x2048, .f32⟩
  | 117 => ⟨S16384x2048, .f32⟩
  | 118 => ⟨S16384x2048, .f32⟩
  | 119 => ⟨S16384x2048, .f32⟩
  | 120 => ⟨S16384x2048, .f32⟩
  | 121 => ⟨S16384x2048, .f32⟩
  | 122 => ⟨S_, .f32⟩
  | 123 => ⟨S16384x2048, .f32⟩
  | 124 => ⟨S16384x2048, .f32⟩
  | 125 => ⟨S_, .f32⟩
  | 126 => ⟨S16384x2048, .f32⟩
  | 127 => ⟨S16384x2048, .f32⟩
  | _ => ⟨S16384x1024, .f32⟩

abbrev hbmTy0_1 (i : Nat) : BufTy := match i % 128 with
  | 0 => ⟨S_, .f32⟩
  | 1 => ⟨S16384x2048, .f32⟩
  | 2 => ⟨S16384x2048, .f32⟩
  | 3 => ⟨S16384x2048, .f32⟩
  | 4 => ⟨S16384x2048, .f32⟩
  | 5 => ⟨S16384x2048, .f32⟩
  | 6 => ⟨S16384x1024, .f32⟩
  | 7 => ⟨S16384x1024, .f32⟩
  | 8 => ⟨S16384x1024, .f32⟩
  | 9 => ⟨S16384x1024, .f32⟩
  | 10 => ⟨S16384x1024, .f32⟩
  | 11 => ⟨S16384x1024, .f32⟩
  | 12 => ⟨S16384x2048, .f32⟩
  | 13 => ⟨S1024x2048, .f32⟩
  | 14 => ⟨S2048x1024, .f32⟩
  | 15 => ⟨S16384x2048, .f32⟩
  | 16 => ⟨S16384x2048, .f32⟩
  | 17 => ⟨S16384x2048, .f32⟩
  | 18 => ⟨S16384x2048, .f32⟩
  | 19 => ⟨S16384x2048, .f32⟩
  | 20 => ⟨S16384x2048, .f32⟩
  | 21 => ⟨S16384x2048, .f32⟩
  | 22 => ⟨S_, .f32⟩
  | 23 => ⟨S2048, .f32⟩
  | 24 => ⟨S1x2048, .f32⟩
  | 25 => ⟨S16384x2048, .f32⟩
  | 26 => ⟨S16384x2048, .f32⟩
  | 27 => ⟨S_, .f32⟩
  | 28 => ⟨S2048, .f32⟩
  | 29 => ⟨S1x2048, .f32⟩
  | 30 => ⟨S16384x512, .f32⟩
  | 31 => ⟨S16384x512, .f32⟩
  | 32 => ⟨S16384x512, .f32⟩
  | 33 => ⟨S16384x512, .f32⟩
  | 34 => ⟨S512x512, .f32⟩
  | 35 => ⟨S512x512, .f32⟩
  | 36 => ⟨S16384x512, .f32⟩
  | 37 => ⟨S1x512x512, .f32⟩
  | 38 => ⟨S_, .f32⟩
  | 39 => ⟨S4x512x512, .f32⟩
  | 40 => ⟨S_, .f32⟩
  | 41 => ⟨S16384x2048, .f32⟩
  | 42 => ⟨S512x512, .f32⟩
  | 43 => ⟨S512x512, .f32⟩
  | 44 => ⟨S16384x512, .f32⟩
  | 45 => ⟨S1x512x512, .f32⟩
  | 46 => ⟨S_, .f32⟩
  | 47 => ⟨S4x512x512, .f32⟩
  | 48 => ⟨S4x512x512, .f32⟩
  | 49 => ⟨S_, .f32⟩
  | 50 => ⟨S16384x2048, .f32⟩
  | 51 => ⟨S16384x2048, .f32⟩
  | 52 => ⟨S512x512, .f32⟩
  | 53 => ⟨S512x512, .f32⟩
  | 54 => ⟨S16384x512, .f32⟩
  | 55 => ⟨S1x512x512, .f32⟩
  | 56 => ⟨S_, .f32⟩
  | 57 => ⟨S4x512x512, .f32⟩
  | 58 => ⟨S4x512x512, .f32⟩
  | 59 => ⟨S_, .f32⟩
  | 60 => ⟨S16384x2048, .f32⟩
  | 61 => ⟨S16384x2048, .f32⟩
  | 62 => ⟨S512x512, .f32⟩
  | 63 => ⟨S512x512, .f32⟩
  | 64 => ⟨S16384x512, .f32⟩
  | 65 => ⟨S1x512x512, .f32⟩
  | 66 => ⟨S_, .f32⟩
  | 67 => ⟨S4x512x512, .f32⟩
  | 68 => ⟨S4x512x512, .f32⟩
  | 69 => ⟨S_, .f32⟩
  | 70 => ⟨S16384x2048, .f32⟩
  | 71 => ⟨S16384x2048, .f32⟩
  | 72 => ⟨S16384x2048, .f32⟩
  | 73 => ⟨S16384x512, .f32⟩
  | 74 => ⟨S16384x512, .f32⟩
  | 75 => ⟨S16384x512, .f32⟩
  | 76 => ⟨S16384x512, .f32⟩
  | 77 => ⟨S16384x512, .f32⟩
  | 78 => ⟨S16384x512, .f32⟩
  | 79 => ⟨S16384x512, .f32⟩
  | 80 => ⟨S16x512, .f32⟩
  | 81 => ⟨S16368x512, .f32⟩
  | 82 => ⟨S_, .f32⟩
  | 83 => ⟨S16384x512, .f32⟩
  | 84 => ⟨S16384x512, .f32⟩
  | 85 => ⟨S_, .f32⟩
  | 86 => ⟨S_, .f32⟩
  | 87 => ⟨S16384x512, .f32⟩
  | 88 => ⟨S_, .f32⟩
  | 89 => ⟨S16384x2048, .f32⟩
  | 90 => ⟨S16384x2048, .f32⟩
  | 91 => ⟨S16384x512, .f32⟩
  | 92 => ⟨S16384x512, .f32⟩
  | 93 => ⟨S16384x512, .f32⟩
  | 94 => ⟨S8x512, .f32⟩
  | 95 => ⟨S16376x512, .f32⟩
  | 96 => ⟨S_, .f32⟩
  | 97 => ⟨S16384x512, .f32⟩
  | 98 => ⟨S16384x512, .f32⟩
  | 99 => ⟨S_, .f32⟩
  | 100 => ⟨S_, .f32⟩
  | 101 => ⟨S16384x512, .f32⟩
  | 102 => ⟨S_, .f32⟩
  | 103 => ⟨S16384x2048, .f32⟩
  | 104 => ⟨S16384x2048, .f32⟩
  | 105 => ⟨S16384x512, .f32⟩
  | 106 => ⟨S16384x512, .f32⟩
  | 107 => ⟨S16384x512, .f32⟩
  | 108 => ⟨S4x512, .f32⟩
  | 109 => ⟨S16380x512, .f32⟩
  | 110 => ⟨S_, .f32⟩
  | 111 => ⟨S16384x512, .f32⟩
  | 112 => ⟨S16384x512, .f32⟩
  | 113 => ⟨S_, .f32⟩
  | 114 => ⟨S_, .f32⟩
  | 115 => ⟨S16384x512, .f32⟩
  | 116 => ⟨S_, .f32⟩
  | 117 => ⟨S16384x2048, .f32⟩
  | 118 => ⟨S16384x2048, .f32⟩
  | 119 => ⟨S16384x512, .f32⟩
  | 120 => ⟨S16384x512, .f32⟩
  | 121 => ⟨S16384x512, .f32⟩
  | 122 => ⟨S2x512, .f32⟩
  | 123 => ⟨S16382x512, .f32⟩
  | 124 => ⟨S_, .f32⟩
  | 125 => ⟨S16384x512, .f32⟩
  | 126 => ⟨S16384x512, .f32⟩
  | 127 => ⟨S_, .f32⟩
  | _ => ⟨S16384x1024, .f32⟩

abbrev hbmTy0_2 (i : Nat) : BufTy := match i % 128 with
  | 0 => ⟨S_, .f32⟩
  | 1 => ⟨S16384x512, .f32⟩
  | 2 => ⟨S_, .f32⟩
  | 3 => ⟨S16384x2048, .f32⟩
  | 4 => ⟨S16384x2048, .f32⟩
  | 5 => ⟨S16384x4096, .f32⟩
  | 6 => ⟨S16384x4096, .bf16⟩
  | 7 => ⟨S4x512x1024, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_call0_cst : Ref sig .tc := ⟨.hbm, 10, rfl⟩
abbrev main_call0_call0_v0 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call1_call0_cst : Ref sig .tc := ⟨.hbm, 32, rfl⟩
abbrev main_call1_call0_v0 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call2_call0_cst : Ref sig .tc := ⟨.hbm, 54, rfl⟩
abbrev main_call2_call0_v0 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_c_8 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call3_call0_cst : Ref sig .tc := ⟨.hbm, 76, rfl⟩
abbrev main_call3_call0_v0 : Ref sig .tc := ⟨.hbm, 77, rfl⟩
abbrev main_v51 : Ref sig .tc := ⟨.hbm, 78, rfl⟩
abbrev main_cst_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_v56 : Ref sig .tc := ⟨.hbm, 85, rfl⟩
abbrev main_c_12 : Ref sig .tc := ⟨.hbm, 86, rfl⟩
abbrev main_v57 : Ref sig .tc := ⟨.hbm, 87, rfl⟩
abbrev main_v58 : Ref sig .tc := ⟨.hbm, 88, rfl⟩
abbrev main_c_13 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_call4_v0 : Ref sig .tc := ⟨.hbm, 120, rfl⟩
abbrev main_call4_v1 : Ref sig .tc := ⟨.hbm, 121, rfl⟩
abbrev main_call4_cst : Ref sig .tc := ⟨.hbm, 122, rfl⟩
abbrev main_call4_v2 : Ref sig .tc := ⟨.hbm, 123, rfl⟩
abbrev main_call4_v3 : Ref sig .tc := ⟨.hbm, 124, rfl⟩
abbrev main_call4_cst_0 : Ref sig .tc := ⟨.hbm, 125, rfl⟩
abbrev main_call4_v4 : Ref sig .tc := ⟨.hbm, 126, rfl⟩
abbrev main_v89_2 : Ref sig .tc := ⟨.hbm, 127, rfl⟩
abbrev main_call4_cst_1 : Ref sig .tc := ⟨.hbm, 128, rfl⟩
abbrev main_call4_v6 : Ref sig .tc := ⟨.hbm, 129, rfl⟩
abbrev main_call4_v7 : Ref sig .tc := ⟨.hbm, 130, rfl⟩
abbrev main_v89_1 : Ref sig .tc := ⟨.hbm, 131, rfl⟩
abbrev main_v89_0 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_call5_v0 : Ref sig .tc := ⟨.hbm, 145, rfl⟩
abbrev main_call5_v1 : Ref sig .tc := ⟨.hbm, 146, rfl⟩
abbrev main_call5_v2 : Ref sig .tc := ⟨.hbm, 147, rfl⟩
abbrev main_v102 : Ref sig .tc := ⟨.hbm, 148, rfl⟩
abbrev main_v103 : Ref sig .tc := ⟨.hbm, 149, rfl⟩
abbrev main_cst_14 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_cst_15 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_cst_16 : Ref sig .tc := ⟨.hbm, 166, rfl⟩
abbrev main_v118 : Ref sig .tc := ⟨.hbm, 167, rfl⟩
abbrev main_cst_17 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_cst_18 : Ref sig .tc := ⟨.hbm, 174, rfl⟩
abbrev main_v124 : Ref sig .tc := ⟨.hbm, 175, rfl⟩
abbrev main_v125 : Ref sig .tc := ⟨.hbm, 176, rfl⟩
abbrev main_cst_19 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_cst_20 : Ref sig .tc := ⟨.hbm, 184, rfl⟩
abbrev main_v132 : Ref sig .tc := ⟨.hbm, 185, rfl⟩
abbrev main_v133 : Ref sig .tc := ⟨.hbm, 186, rfl⟩
abbrev main_cst_21 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_cst_22 : Ref sig .tc := ⟨.hbm, 194, rfl⟩
abbrev main_v140 : Ref sig .tc := ⟨.hbm, 195, rfl⟩
abbrev main_v141 : Ref sig .tc := ⟨.hbm, 196, rfl⟩
abbrev main_cst_23 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_cst_24 : Ref sig .tc := ⟨.hbm, 210, rfl⟩
abbrev main_v154 : Ref sig .tc := ⟨.hbm, 211, rfl⟩
abbrev main_v155 : Ref sig .tc := ⟨.hbm, 212, rfl⟩
abbrev main_call6_call0_cst : Ref sig .tc := ⟨.hbm, 213, rfl⟩
abbrev main_call6_call0_v0 : Ref sig .tc := ⟨.hbm, 214, rfl⟩
abbrev main_v156 : Ref sig .tc := ⟨.hbm, 215, rfl⟩
abbrev main_cst_25 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_cst_26 : Ref sig .tc := ⟨.hbm, 224, rfl⟩
abbrev main_v164 : Ref sig .tc := ⟨.hbm, 225, rfl⟩
abbrev main_v165 : Ref sig .tc := ⟨.hbm, 226, rfl⟩
abbrev main_call7_call0_cst : Ref sig .tc := ⟨.hbm, 227, rfl⟩
abbrev main_call7_call0_v0 : Ref sig .tc := ⟨.hbm, 228, rfl⟩
abbrev main_v166 : Ref sig .tc := ⟨.hbm, 229, rfl⟩
abbrev main_cst_27 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_cst_28 : Ref sig .tc := ⟨.hbm, 238, rfl⟩
abbrev main_v174 : Ref sig .tc := ⟨.hbm, 239, rfl⟩
abbrev main_v175 : Ref sig .tc := ⟨.hbm, 240, rfl⟩
abbrev main_call8_call0_cst : Ref sig .tc := ⟨.hbm, 241, rfl⟩
abbrev main_call8_call0_v0 : Ref sig .tc := ⟨.hbm, 242, rfl⟩
abbrev main_v176 : Ref sig .tc := ⟨.hbm, 243, rfl⟩
abbrev main_cst_29 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_cst_30 : Ref sig .tc := ⟨.hbm, 252, rfl⟩
abbrev main_v184 : Ref sig .tc := ⟨.hbm, 253, rfl⟩
abbrev main_v185 : Ref sig .tc := ⟨.hbm, 254, rfl⟩
abbrev main_call9_call0_cst : Ref sig .tc := ⟨.hbm, 255, rfl⟩
abbrev main_call9_call0_v0 : Ref sig .tc := ⟨.hbm, 256, rfl⟩
abbrev main_v186 : Ref sig .tc := ⟨.hbm, 257, rfl⟩
abbrev main_cst_31 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩

abbrev nD : Nat := 1
abbrev τ : Topo := Topo.v7x

variable {F : FTy → Type} [FloatOps F]
-- ==== Norm1.lean ====
abbrev S16384x4096 : Shape := ⟨2, ![16384, 4096]⟩
abbrev S1024x4096 : Shape := ⟨2, ![1024, 4096]⟩
abbrev S16384x1024 : Shape := ⟨2, ![16384, 1024]⟩
abbrev S1x1024 : Shape := ⟨2, ![1, 1024]⟩
abbrev S1024x4x1024 : Shape := ⟨3, ![1024, 4, 1024]⟩
abbrev S4x1024x1024 : Shape := ⟨3, ![4, 1024, 1024]⟩
abbrev S512x4096 : Shape := ⟨2, ![512, 4096]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 13
  | .smem => 0
  | _ => 0

abbrev bufTy : (tb : Table) → Fin (tcTables nBuf tb) → BufTy
  | .hbm, ⟨0, _⟩ => ⟨S16384x4096, .f32⟩
  | .hbm, ⟨1, _⟩ => ⟨S1024x4096, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S16384x4096, .bf16⟩
  | .hbm, ⟨7, _⟩ => ⟨S1024x4x1024, .f32⟩
  | .hbm, ⟨8, _⟩ => ⟨S4x1024x1024, .f32⟩
  | .hbm, ⟨9, _⟩ => ⟨S4x1024x1024, .bf16⟩
  | .hbm, ⟨10, _⟩ => ⟨S16384x1024, .f32⟩
  | .hbm, ⟨11, _⟩ => ⟨S1x1024, .f32⟩
  | .hbm, ⟨12, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormRef1Ideal.lean ====
abbrev S16384x4096 : Shape := ⟨2, ![16384, 4096]⟩
abbrev S1024x4096 : Shape := ⟨2, ![1024, 4096]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 82
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1024x4096, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x4096, .f32⟩
  | .hbm, ⟨35, _⟩ => ⟨S16384x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S16384x1, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x4096, .f32⟩
  | .hbm, ⟨76, _⟩ => ⟨S16384x1024, .f32⟩
  | .hbm, ⟨77, _⟩ => ⟨S16384x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S16384x1024, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_12 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== Norm0.lean ====
abbrev S16384x6144 : Shape := ⟨2, ![16384, 6144]⟩
abbrev S1024x6144 : Shape := ⟨2, ![1024, 6144]⟩
abbrev S16384x1024 : Shape := ⟨2, ![16384, 1024]⟩
abbrev S1x1024 : Shape := ⟨2, ![1, 1024]⟩
abbrev S4x1024x1536 : Shape := ⟨3, ![4, 1024, 1536]⟩
abbrev S1024x4x1536 : Shape := ⟨3, ![1024, 4, 1536]⟩
abbrev S512x6144 : Shape := ⟨2, ![512, 6144]⟩
abbrev S512x1024 : Shape := ⟨2, ![512, 1024]⟩
abbrev S512x1536 : Shape := ⟨2, ![512, 1536]⟩
abbrev S1x1024x1536 : Shape := ⟨3, ![1, 1024, 1536]⟩
abbrev S1024x1536 : Shape := ⟨2, ![1024, 1536]⟩
abbrev S512 : Shape := ⟨1, ![512]⟩
abbrev S512x1 : Shape := ⟨2, ![512, 1]⟩
abbrev S1024 : Shape := ⟨1, ![1024]⟩

abbrev nBuf : Space → Nat
  | .hbm => 15
  | .vmem => 13
  | .smem => 0
  | _ => 0

abbrev bufTy : (tb : Table) → Fin (tcTables nBuf tb) → BufTy
  | .hbm, ⟨0, _⟩ => ⟨S16384x6144, .f32⟩
  | .hbm, ⟨1, _⟩ => ⟨S1024x6144, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S4x1024x1536, .f32⟩
  | .hbm, ⟨7, _⟩ => ⟨S16384x6144, .bf16⟩
  | .hbm, ⟨8, _⟩ => ⟨S1024x4x1536, .f32⟩
  | .hbm, ⟨9, _⟩ => ⟨S4x1024x1536, .f32⟩
  | .hbm, ⟨10, _⟩ => ⟨S4x1024x1536, .bf16⟩
  | .hbm, ⟨11, _⟩ => ⟨S4x1024x1536, .bf16⟩
  | .hbm, ⟨12, _⟩ => ⟨S16384x1024, .f32⟩
  | .hbm, ⟨13, _⟩ => ⟨S1x1024, .f32⟩
  | .hbm, ⟨14, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S4x1024x1536, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormRef0Ideal.lean ====
abbrev S16384x6144 : Shape := ⟨2, ![16384, 6144]⟩
abbrev S1024x6144 : Shape := ⟨2, ![1024, 6144]⟩
abbrev S16384x1024 : Shape := ⟨2, ![16384, 1024]⟩
abbrev S1x1024 : Shape := ⟨2, ![1, 1024]⟩
abbrev S4x1024x1536 : Shape := ⟨3, ![4, 1024, 1536]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 83
  | .vmem => 0
  | .smem => 0
  | _ => 0

abbrev bufTy : (tb : Table) → Fin (tcTables nBuf tb) → BufTy
  | .hbm, ⟨0, _⟩ => ⟨S16384x6144, .f32⟩
  | .hbm, ⟨1, _⟩ => ⟨S1024x6144, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S4x1024x1536, .f32⟩
  | .hbm, ⟨7, _⟩ => ⟨S_, .f32⟩
  | .hbm, ⟨8, _⟩ => ⟨S1x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x6144, .f32⟩
  | .hbm, ⟨36, _⟩ => ⟨S16384x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S16384x1024, .f32⟩
  | .hbm, ⟨49, _⟩ => ⟨S16384x1024, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S16384, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S16384x1, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x6144, .f32⟩
  | .hbm, ⟨77, _⟩ => ⟨S16384x1024, .f32⟩
  | .hbm, ⟨78, _⟩ => ⟨S16384x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S16384x1024, .f32⟩
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== Win1.lean ====
abbrev S16384x1024 : Shape := ⟨2, ![16384, 1024]⟩
abbrev S16384x4096 : Shape := ⟨2, ![16384, 4096]⟩
abbrev S4x1024x1024 : Shape := ⟨3, ![4, 1024, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x4096, .f32⟩
  | .hbm, ⟨2, _⟩ => ⟨S16384x1024, .bf16⟩
  | .hbm, ⟨3, _⟩ => ⟨S16384x4096, .bf16⟩
  | .hbm, ⟨4, _⟩ => ⟨S4x1024x1024, .f32⟩
  | .hbm, ⟨5, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .bf16⟩
  | .local _ .vmem, ⟨7, _⟩ => ⟨S1x1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== WinRef1Ideal.lean ====
abbrev S16384x1024 : Shape := ⟨2, ![16384, 1024]⟩
abbrev S16384x4096 : Shape := ⟨2, ![16384, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x4096, .f32⟩
  | .hbm, ⟨2, _⟩ => ⟨S_, .f32⟩
  | .hbm, ⟨3, _⟩ => ⟨S1024x4096, .f32⟩
  | .hbm, ⟨4, _⟩ => ⟨S16384x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | .hbm, ⟨9, _⟩ => ⟨S4x1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Win0.lean ====
abbrev S16384x1024 : Shape := ⟨2, ![16384, 1024]⟩
abbrev S16384x6144 : Shape := ⟨2, ![16384, 6144]⟩
abbrev S512x1024 : Shape := ⟨2, ![512, 1024]⟩
abbrev S4x1024x1536 : Shape := ⟨3, ![4, 1024, 1536]⟩
abbrev S2048x1024 : Shape := ⟨2, ![2048, 1024]⟩
abbrev S2048x1536 : Shape := ⟨2, ![2048, 1536]⟩
abbrev S1x1024x1536 : Shape := ⟨3, ![1, 1024, 1536]⟩
abbrev S1024x1536 : Shape := ⟨2, ![1024, 1536]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x6144, .f32⟩
  | .hbm, ⟨2, _⟩ => ⟨S512x1024, .f32⟩
  | .hbm, ⟨3, _⟩ => ⟨S16384x1024, .bf16⟩
  | .hbm, ⟨4, _⟩ => ⟨S16384x6144, .bf16⟩
  | .hbm, ⟨5, _⟩ => ⟨S4x1024x1536, .f32⟩
  | .hbm, ⟨6, _⟩ => ⟨S4x1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1x1024x1536, .f32⟩
  | .local _ .vmem, ⟨5, _⟩ => ⟨S1x1024x1536, .f32⟩
  | .local _ .vmem, ⟨6, _⟩ => ⟨S1x1024x1536, .bf16⟩
  | .local _ .vmem, ⟨7, _⟩ => ⟨S1x1024x1536, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== WinRef0Ideal.lean ====
abbrev S16384x1024 : Shape := ⟨2, ![16384, 1024]⟩
abbrev S16384x6144 : Shape := ⟨2, ![16384, 6144]⟩
abbrev S512x1024 : Shape := ⟨2, ![512, 1024]⟩
abbrev S_ : Shape := ⟨0, ![]⟩
abbrev S1024x6144 : Shape := ⟨2, ![1024, 6144]⟩
abbrev S6144x1024 : Shape := ⟨2, ![6144, 1024]⟩
abbrev S1024x4x1536 : Shape := ⟨3, ![1024, 4, 1536]⟩
abbrev S4x1024x1536 : Shape := ⟨3, ![4, 1024, 1536]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x6144, .f32⟩
  | .hbm, ⟨2, _⟩ => ⟨S512x1024, .f32⟩
  | .hbm, ⟨3, _⟩ => ⟨S_, .f32⟩
  | .hbm, ⟨4, _⟩ => ⟨S1024x6144, .f32⟩
  | .hbm, ⟨5, _⟩ => ⟨S16384x6144, .f32⟩
  | .hbm, ⟨6, _⟩ => ⟨S6144x1024, .f32⟩
  | .hbm, ⟨7, _⟩ => ⟨S1024x6144, .f32⟩
  | .hbm, ⟨8, _⟩ => ⟨S1024x4x1536, .f32⟩
  | .hbm, ⟨9, _⟩ => ⟨S4x1024x1536, .f32⟩
  | .hbm, ⟨10, _⟩ => ⟨S4x1024x1536, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Wo.lean ====
abbrev S4x512x1024 : Shape := ⟨3, ![4, 512, 1024]⟩
abbrev S2048x1024 : Shape := ⟨2, ![2048, 1024]⟩
abbrev S1x1024 : Shape := ⟨2, ![1, 1024]⟩
abbrev S1x512x1024 : Shape := ⟨3, ![1, 512, 1024]⟩
abbrev S512x1024 : Shape := ⟨2, ![512, 1024]⟩
abbrev S1024 : Shape := ⟨1, ![1024]⟩

abbrev nBuf : Space → Nat
  | .hbm => 8
  | .vmem => 10
  | .smem => 0
  | _ => 0

abbrev bufTy : (tb : Table) → Fin (tcTables nBuf tb) → BufTy
  | .hbm, ⟨0, _⟩ => ⟨S4x512x1024, .f32⟩
  | .hbm, ⟨1, _⟩ => ⟨S2048x1024, .f32⟩
  | .hbm, ⟨2, _⟩ => ⟨S1x1024, .f32⟩
  | .hbm, ⟨3, _⟩ => ⟨S2048x1024, .bf16⟩
  | .hbm, ⟨4, _⟩ => ⟨S4x512x1024, .bf16⟩
  | .hbm, ⟨5, _⟩ => ⟨S4x512x1024, .f32⟩
  | .hbm, ⟨6, _⟩ => ⟨S4x512x1024, .bf16⟩
  | .hbm, ⟨7, _⟩ => ⟨S1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .bf16⟩
  | .local _ .vmem, ⟨8, _⟩ => ⟨S1x512x1024, .bf16⟩
  | .local _ .vmem, ⟨9, _⟩ => ⟨S1x1024, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== WoRefIdeal.lean ====
abbrev S4x512x1024 : Shape := ⟨3, ![4, 512, 1024]⟩
abbrev S2048x1024 : Shape := ⟨2, ![2048, 1024]⟩
abbrev S1x1024 : Shape := ⟨2, ![1, 1024]⟩
abbrev S_ : Shape := ⟨0, ![]⟩
abbrev S1024 : Shape := ⟨1, ![1024]⟩

abbrev nBuf : Space → Nat
  | .hbm => 14
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S4x512x1024, .f32⟩
  | .hbm, ⟨13, _⟩ => ⟨S4x512x1024, .bf16⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Fwd.lean ====
abbrev S16384x1024 : Shape := ⟨2, ![16384, 1024]⟩
abbrev S1x1024 : Shape := ⟨2, ![1, 1024]⟩
abbrev S1024x4096 : Shape := ⟨2, ![1024, 4096]⟩
abbrev S4x512x512 : Shape := ⟨3, ![4, 512, 512]⟩
abbrev S1x2048 : Shape := ⟨2, ![1, 2048]⟩
abbrev S2048x1024 : Shape := ⟨2, ![2048, 1024]⟩
abbrev S1024x4x1024 : Shape := ⟨3, ![1024, 4, 1024]⟩
abbrev S4x1024x1024 : Shape := ⟨3, ![4, 1024, 1024]⟩
abbrev S16384x2048 : Shape := ⟨2, ![16384, 2048]⟩
abbrev S16384x4096 : Shape := ⟨2, ![16384, 4096]⟩
abbrev S256x1024 : Shape := ⟨2, ![256, 1024]⟩
abbrev S256x2048 : Shape := ⟨2, ![256, 2048]⟩
abbrev S256x4096 : Shape := ⟨2, ![256, 4096]⟩
abbrev S16x2048 : Shape := ⟨2, ![16, 2048]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩
abbrev S272x2048 : Shape := ⟨2, ![272, 2048]⟩
abbrev S272x512 : Shape := ⟨2, ![272, 512]⟩
abbrev S272x1536 : Shape := ⟨2, ![272, 1536]⟩
abbrev S272x1024 : Shape := ⟨2, ![272, 1024]⟩
abbrev S256x512 : Shape := ⟨2, ![256, 512]⟩
abbrev S1x512x512 : Shape := ⟨3, ![1, 512, 512]⟩
abbrev S512x512 : Shape := ⟨2, ![512, 512]⟩
abbrev S1024 : Shape := ⟨1, ![1024]⟩

abbrev nBuf : Space → Nat
  | .hbm => 25
  | .vmem => 33
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x4096, .f32⟩
  | .hbm, ⟨5, _⟩ => ⟨S16384x1024, .f32⟩
  | .hbm, ⟨6, _⟩ => ⟨S1x1024, .f32⟩
  | .hbm, ⟨7, _⟩ => ⟨S4x512x512, .f32⟩
  | .hbm, ⟨8, _⟩ => ⟨S1x2048, .f32⟩
  | .hbm, ⟨9, _⟩ => ⟨S1x2048, .f32⟩
  | .hbm, ⟨10, _⟩ => ⟨S2048x1024, .f32⟩
  | .hbm, ⟨11, _⟩ => ⟨S1x1024, .f32⟩
  | .hbm, ⟨12, _⟩ => ⟨S1024x4x1024, .f32⟩
  | .hbm, ⟨13, _⟩ => ⟨S4x1024x1024, .f32⟩
  | .hbm, ⟨14, _⟩ => ⟨S4x1024x1024, .bf16⟩
  | .hbm, ⟨15, _⟩ => ⟨S4x512x512, .bf16⟩
  | .hbm, ⟨16, _⟩ => ⟨S2048x1024, .bf16⟩
  | .hbm, ⟨17, _⟩ => ⟨S16384x2048, .bf16⟩
  | .hbm, ⟨18, _⟩ => ⟨S16384x2048, .bf16⟩
  | .hbm, ⟨19, _⟩ => ⟨S16384x2048, .bf16⟩
  | .hbm, ⟨20, _⟩ => ⟨S16384x1024, .f32⟩
  | .hbm, ⟨21, _⟩ => ⟨S1x1024, .f32⟩
  | .hbm, ⟨22, _⟩ => ⟨S1x1024, .f32⟩
  | .hbm, ⟨23, _⟩ => ⟨S16384x1024, .bf16⟩
  | .hbm, ⟨24, _⟩ => ⟨S16384x4096, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S4x1024x1024, .bf16⟩
  | .local _ .vmem, ⟨10, _⟩ => ⟨S1x1024, .f32⟩
  | .local _ .vmem, ⟨11, _⟩ => ⟨S4x512x512, .bf16⟩
  | .local _ .vmem, ⟨12, _⟩ => ⟨S1x2048, .f32⟩
  | .local _ .vmem, ⟨13, _⟩ => ⟨S1x2048, .f32⟩
  | .local _ .vmem, ⟨14, _⟩ => ⟨S2048x1024, .bf16⟩
  | .local _ .vmem, ⟨15, _⟩ => ⟨S1x1024, .f32⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S256x1024, .f32⟩
  | .local _ .vmem, ⟨23, _⟩ => ⟨S256x1024, .f32⟩
  | .local _ .vmem, ⟨24, _⟩ => ⟨S1x1024, .f32⟩
  | .local _ .vmem, ⟨25, _⟩ => ⟨S1x1024, .f32⟩
  | .local _ .vmem, ⟨26, _⟩ => ⟨S256x1024, .bf16⟩
  | .local _ .vmem, ⟨27, _⟩ => ⟨S256x1024, .bf16⟩
  | .local _ .vmem, ⟨28, _⟩ => ⟨S256x4096, .bf16⟩
  | .local _ .vmem, ⟨29, _⟩ => ⟨S256x4096, .bf16⟩
  | .local _ .vmem, ⟨30, _⟩ => ⟨S256x4096, .bf16⟩
  | .local _ .vmem, ⟨31, _⟩ => ⟨S256x4096, .bf16⟩
  | .local _ .vmem, ⟨32, _⟩ => ⟨S16x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev main_v5_4 : Ref sig .tc := ⟨.hbm, 21, rfl⟩
abbrev main_v5_5 : Ref sig .tc := ⟨.hbm, 22, rfl⟩
abbrev main_v5_6 : Ref sig .tc := ⟨.hbm, 23, rfl⟩
abbrev main_v5_7 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem18_0 : DmaSem sig := 25
abbrev cc0_sem19_0 : DmaSem sig := 26
abbrev cc0_sem19_1 : DmaSem sig := 27
abbrev cc0_sem20_0 : DmaSem sig := 28
abbrev cc0_sem20_1 : DmaSem sig := 29

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_16 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x4096 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== FwdRefIdeal.lean ====
abbrev S16384x1024 : Shape := ⟨2, ![16384, 1024]⟩
abbrev S1x1024 : Shape := ⟨2, ![1, 1024]⟩
abbrev S1024x4096 : Shape := ⟨2, ![1024, 4096]⟩
abbrev S4x512x512 : Shape := ⟨3, ![4, 512, 512]⟩
abbrev S1x2048 : Shape := ⟨2, ![1, 2048]⟩
abbrev S2048x1024 : Shape := ⟨2, ![2048, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩
abbrev S16384x2048 : Shape := ⟨2, ![16384, 2048]⟩
abbrev S16384x512 : Shape := ⟨2, ![16384, 512]⟩
abbrev S1x16384 : Shape := ⟨2, ![1, 16384]⟩
abbrev S16384x16384 : Shape := ⟨2, ![16384, 16384]⟩
abbrev S1x512x512 : Shape := ⟨3, ![1, 512, 512]⟩
abbrev S512x512 : Shape := ⟨2, ![512, 512]⟩
abbrev S1024 : Shape := ⟨1, ![1024]⟩

abbrev nBuf : Space → Nat
  | .hbm => 280
  | .vmem => 0
  | .smem => 0
  | _ => 0

abbrev hbmTy0_0 (i : Nat) : BufTy := match i % 128 with
  | 0 => ⟨S16384x1024, .f32⟩
  | 1 => ⟨S1x1024, .f32⟩
  | 2 => ⟨S1x1024, .f32⟩
  | 3 => ⟨S1x1024, .f32⟩
  | 4 => ⟨S1024x4096, .f32⟩
  | 5 => ⟨S16384x1024, .f32⟩
  | 6 => ⟨S1x1024, .f32⟩
  | 7 => ⟨S4x512x512, .f32⟩
  | 8 => ⟨S1x2048, .f32⟩
  | 9 => ⟨S1x2048, .f32⟩
  | 10 => ⟨S2048x1024, .f32⟩
  | 11 => ⟨S1x1024, .f32⟩
  | 12 => ⟨S16384x1024, .f32⟩
  | 13 => ⟨S_, .f32⟩
  | 14 => ⟨S16384, .f32⟩
  | 15 => ⟨S16384x1, .f32⟩
  | 16 => ⟨S_, .f32⟩
  | 17 => ⟨S16384x1, .f32⟩
  | 18 => ⟨S16384x1, .f32⟩
  | 19 => ⟨S_, .f32⟩
  | 20 => ⟨S16384x1, .f32⟩
  | 21 => ⟨S16384x1, .f32⟩
  | 22 => ⟨S16384x1, .f32⟩
  | 23 => ⟨S16384x1024, .f32⟩
  | 24 => ⟨S16384x1024, .f32⟩
  | 25 => ⟨S16384x1024, .f32⟩
  | 26 => ⟨S16384x1024, .f32⟩
  | 27 => ⟨S_, .f32⟩
  | 28 => ⟨S1x1024, .f32⟩
  | 29 => ⟨S1x1024, .f32⟩
  | 30 => ⟨S16384x1024, .f32⟩
  | 31 => ⟨S16384x1024, .f32⟩
  | 32 => ⟨S16384x1024, .f32⟩
  | 33 => ⟨S16384x1024, .f32⟩
  | 34 => ⟨S16384x4096, .f32⟩
  | 35 => ⟨S16384x2048, .f32⟩
  | 36 => ⟨S16384x2048, .f32⟩
  | 37 => ⟨S16384x512, .f32⟩
  | 38 => ⟨S16384, .i32⟩
  | 39 => ⟨S1x16384, .i32⟩
  | 40 => ⟨S16384x1, .i32⟩
  | 41 => ⟨S16384x16384, .i32⟩
  | 42 => ⟨S16384x16384, .i32⟩
  | 43 => ⟨S16384x16384, .i1⟩
  | 44 => ⟨S16384x1, .i32⟩
  | 45 => ⟨S1x16384, .i32⟩
  | 46 => ⟨S16384x16384, .i32⟩
  | 47 => ⟨S16384x16384, .i32⟩
  | 48 => ⟨S16384x16384, .i32⟩
  | 49 => ⟨S_, .i32⟩
  | 50 => ⟨S16384x16384, .i32⟩
  | 51 => ⟨S16384x16384, .i1⟩
  | 52 => ⟨S16384x16384, .i1⟩
  | 53 => ⟨S16384, .i32⟩
  | 54 => ⟨S_, .i32⟩
  | 55 => ⟨S16384, .i32⟩
  | 56 => ⟨S16384, .i32⟩
  | 57 => ⟨S_, .i32⟩
  | 58 => ⟨S16384, .i32⟩
  | 59 => ⟨S16384, .i32⟩
  | 60 => ⟨S16384, .f32⟩
  | 61 => ⟨S16384x1, .f32⟩
  | 62 => ⟨S16384x16384, .f32⟩
  | 63 => ⟨S16384x512, .f32⟩
  | 64 => ⟨S16384x512, .f32⟩
  | 65 => ⟨S16384x512, .f32⟩
  | 66 => ⟨S16384x512, .f32⟩
  | 67 => ⟨S16384, .i32⟩
  | 68 => ⟨S1x16384, .i32⟩
  | 69 => ⟨S16384x1, .i32⟩
  | 70 => ⟨S16384x16384, .i32⟩
  | 71 => ⟨S16384x16384, .i32⟩
  | 72 => ⟨S16384x16384, .i1⟩
  | 73 => ⟨S16384x1, .i32⟩
  | 74 => ⟨S1x16384, .i32⟩
  | 75 => ⟨S16384x16384, .i32⟩
  | 76 => ⟨S16384x16384, .i32⟩
  | 77 => ⟨S16384x16384, .i32⟩
  | 78 => ⟨S_, .i32⟩
  | 79 => ⟨S16384x16384, .i32⟩
  | 80 => ⟨S16384x16384, .i1⟩
  | 81 => ⟨S16384x16384, .i1⟩
  | 82 => ⟨S16384, .i32⟩
  | 83 => ⟨S_, .i32⟩
  | 84 => ⟨S16384, .i32⟩
  | 85 => ⟨S16384, .i32⟩
  | 86 => ⟨S_, .i32⟩
  | 87 => ⟨S16384, .i32⟩
  | 88 => ⟨S16384, .i32⟩
  | 89 => ⟨S16384, .f32⟩
  | 90 => ⟨S16384x1, .f32⟩
  | 91 => ⟨S16384x16384, .f32⟩
  | 92 => ⟨S16384x512, .f32⟩
  | 93 => ⟨S16384x512, .f32⟩
  | 94 => ⟨S16384x512, .f32⟩
  | 95 => ⟨S16384x512, .f32⟩
  | 96 => ⟨S16384, .i32⟩
  | 97 => ⟨S1x16384, .i32⟩
  | 98 => ⟨S16384x1, .i32⟩
  | 99 => ⟨S16384x16384, .i32⟩
  | 100 => ⟨S16384x16384, .i32⟩
  | 101 => ⟨S16384x16384, .i1⟩
  | 102 => ⟨S16384x1, .i32⟩
  | 103 => ⟨S1x16384, .i32⟩
  | 104 => ⟨S16384x16384, .i32⟩
  | 105 => ⟨S16384x16384, .i32⟩
  | 106 => ⟨S16384x16384, .i32⟩
  | 107 => ⟨S_, .i32⟩
  | 108 => ⟨S16384x16384, .i32⟩
  | 109 => ⟨S16384x16384, .i1⟩
  | 110 => ⟨S16384x16384, .i1⟩
  | 111 => ⟨S16384, .i32⟩
  | 112 => ⟨S_, .i32⟩
  | 113 => ⟨S16384, .i32⟩
  | 114 => ⟨S16384, .i32⟩
  | 115 => ⟨S_, .i32⟩
  | 116 => ⟨S16384, .i32⟩
  | 117 => ⟨S16384, .i32⟩
  | 118 => ⟨S16384, .f32⟩
  | 119 => ⟨S16384x1, .f32⟩
  | 120 => ⟨S16384x16384, .f32⟩
  | 121 => ⟨S16384x512, .f32⟩
  | 122 => ⟨S16384x512, .f32⟩
  | 123 => ⟨S16384x512, .f32⟩
  | 124 => ⟨S16384x512, .f32⟩
  | 125 => ⟨S16384, .i32⟩
  | 126 => ⟨S1x16384, .i32⟩
  | 127 => ⟨S16384x1, .i32⟩
  | _ => ⟨S16384x1024, .f32⟩

abbrev hbmTy0_1 (i : Nat) : BufTy := match i % 128 with
  | 0 => ⟨S16384x16384, .i32⟩
  | 1 => ⟨S16384x16384, .i32⟩
  | 2 => ⟨S16384x16384, .i1⟩
  | 3 => ⟨S16384x1, .i32⟩
  | 4 => ⟨S1x16384, .i32⟩
  | 5 => ⟨S16384x16384, .i32⟩
  | 6 => ⟨S16384x16384, .i32⟩
  | 7 => ⟨S16384x16384, .i32⟩
  | 8 => ⟨S_, .i32⟩
  | 9 => ⟨S16384x16384, .i32⟩
  | 10 => ⟨S16384x16384, .i1⟩
  | 11 => ⟨S16384x16384, .i1⟩
  | 12 => ⟨S16384, .i32⟩
  | 13 => ⟨S_, .i32⟩
  | 14 => ⟨S16384, .i32⟩
  | 15 => ⟨S16384, .i32⟩
  | 16 => ⟨S_, .i32⟩
  | 17 => ⟨S16384, .i32⟩
  | 18 => ⟨S16384, .i32⟩
  | 19 => ⟨S16384, .f32⟩
  | 20 => ⟨S16384x1, .f32⟩
  | 21 => ⟨S16384x16384, .f32⟩
  | 22 => ⟨S16384x512, .f32⟩
  | 23 => ⟨S16384x512, .f32⟩
  | 24 => ⟨S16384x512, .f32⟩
  | 25 => ⟨S16384x2048, .f32⟩
  | 26 => ⟨S16384x2048, .f32⟩
  | 27 => ⟨S16384x512, .f32⟩
  | 28 => ⟨S1x512x512, .f32⟩
  | 29 => ⟨S512x512, .f32⟩
  | 30 => ⟨S16384x512, .f32⟩
  | 31 => ⟨S16384x512, .f32⟩
  | 32 => ⟨S1x512x512, .f32⟩
  | 33 => ⟨S512x512, .f32⟩
  | 34 => ⟨S16384x512, .f32⟩
  | 35 => ⟨S16384x512, .f32⟩
  | 36 => ⟨S1x512x512, .f32⟩
  | 37 => ⟨S512x512, .f32⟩
  | 38 => ⟨S16384x512, .f32⟩
  | 39 => ⟨S16384x512, .f32⟩
  | 40 => ⟨S1x512x512, .f32⟩
  | 41 => ⟨S512x512, .f32⟩
  | 42 => ⟨S16384x512, .f32⟩
  | 43 => ⟨S16384x2048, .f32⟩
  | 44 => ⟨S16384x2048, .f32⟩
  | 45 => ⟨S16384x2048, .f32⟩
  | 46 => ⟨S16384x2048, .f32⟩
  | 47 => ⟨S16384x2048, .f32⟩
  | 48 => ⟨S16384x2048, .f32⟩
  | 49 => ⟨S16384x2048, .f32⟩
  | 50 => ⟨S_, .f32⟩
  | 51 => ⟨S16384x2048, .f32⟩
  | 52 => ⟨S16384x2048, .f32⟩
  | 53 => ⟨S_, .f32⟩
  | 54 => ⟨S16384x2048, .f32⟩
  | 55 => ⟨S16384x2048, .f32⟩
  | 56 => ⟨S16384x2048, .f32⟩
  | 57 => ⟨S16384x2048, .f32⟩
  | 58 => ⟨S16384x1024, .f32⟩
  | 59 => ⟨S16384x1024, .f32⟩
  | 60 => ⟨S16384x1024, .f32⟩
  | 61 => ⟨S16384x1024, .f32⟩
  | 62 => ⟨S16384x1024, .f32⟩
  | 63 => ⟨S_, .f32⟩
  | 64 => ⟨S16384, .f32⟩
  | 65 => ⟨S16384x1, .f32⟩
  | 66 => ⟨S_, .f32⟩
  | 67 => ⟨S16384x1, .f32⟩
  | 68 => ⟨S16384x1, .f32⟩
  | 69 => ⟨S_, .f32⟩
  | 70 => ⟨S16384x1, .f32⟩
  | 71 => ⟨S16384x1, .f32⟩
  | 72 => ⟨S16384x1, .f32⟩
  | 73 => ⟨S16384x1, .f32⟩
  | 74 => ⟨S_, .f32⟩
  | 75 => ⟨S16384x1, .f32⟩
  | 76 => ⟨S16384x1, .f32⟩
  | 77 => ⟨S16384x1024, .f32⟩
  | 78 => ⟨S16384x1024, .f32⟩
  | 79 => ⟨S16384x1024, .f32⟩
  | 80 => ⟨S16384x1024, .f32⟩
  | 81 => ⟨S16384x1024, .f32⟩
  | 82 => ⟨S16384x1024, .f32⟩
  | 83 => ⟨S_, .f32⟩
  | 84 => ⟨S16384x1024, .f32⟩
  | 85 => ⟨S16384x1024, .f32⟩
  | 86 => ⟨S_, .f32⟩
  | 87 => ⟨S16384, .f32⟩
  | 88 => ⟨S_, .f32⟩
  | 89 => ⟨S16384, .f32⟩
  | 90 => ⟨S16384, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S16384, .f32⟩
  | 99 => ⟨S_, .f32⟩
  | 100 => ⟨S16384, .f32⟩
  | 101 => ⟨S16384, .f32⟩
  | 102 => ⟨S16384x1024, .f32⟩
  | 103 => ⟨S16384x1024, .f32⟩
  | 104 => ⟨S16384x1024, .f32⟩
  | 105 => ⟨S_, .f32⟩
  | 106 => ⟨S1024, .f32⟩
  | 107 => ⟨S1x1024, .f32⟩
  | 108 => ⟨S16384x1024, .f32⟩
  | 109 => ⟨S16384x1024, .f32⟩
  | 110 => ⟨S16384x1024, .f32⟩
  | 111 => ⟨S_, .f32⟩
  | 112 => ⟨S16384, .f32⟩
  | 113 => ⟨S16384x1, .f32⟩
  | 114 => ⟨S16384x1024, .f32⟩
  | 115 => ⟨S16384x1024, .f32⟩
  | 116 => ⟨S16384x1, .f32⟩
  | 117 => ⟨S_, .f32⟩
  | 118 => ⟨S16384x1, .f32⟩
  | 119 => ⟨S16384x1, .f32⟩
  | 120 => ⟨S_, .f32⟩
  | 121 => ⟨S16384, .f32⟩
  | 122 => ⟨S16384x1024, .f32⟩
  | 123 => ⟨S16384x1024, .f32⟩
  | 124 => ⟨S16384x1024, .f32⟩
  | 125 => ⟨S16384x1024, .f32⟩
  | 126 => ⟨S16384x1024, .f32⟩
  | 127 => ⟨S16384x1024, .f32⟩
  | _ => ⟨S16384x1024, .f32⟩

abbrev hbmTy0_2 (i : Nat) : BufTy := match i % 128 with
  | 0 => ⟨S_, .f32⟩
  | 1 => ⟨S16384, .f32⟩
  | 2 => ⟨S16384x1, .f32⟩
  | 3 => ⟨S_, .f32⟩
  | 4 => ⟨S16384x1, .f32⟩
  | 5 => ⟨S16384x1, .f32⟩
  | 6 => ⟨S_, .f32⟩
  | 7 => ⟨S16384x1, .f32⟩
  | 8 => ⟨S16384x1, .f32⟩
  | 9 => ⟨S16384x1, .f32⟩
  | 10 => ⟨S16384x1024, .f32⟩
  | 11 => ⟨S16384x1024, .f32⟩
  | 12 => ⟨S16384x1024, .f32⟩
  | 13 => ⟨S16384x1024, .f32⟩
  | 14 => ⟨S16384x1024, .f32⟩
  | 15 => ⟨S16384x1024, .f32⟩
  | 16 => ⟨S_, .f32⟩
  | 17 => ⟨S1024, .f32⟩
  | 18 => ⟨S1x1024, .f32⟩
  | 19 => ⟨S16384x2048, .bf16⟩
  | 20 => ⟨S16384x2048, .bf16⟩
  | 21 => ⟨S16384x2048, .bf16⟩
  | 22 => ⟨S16384x1024, .bf16⟩
  | 23 => ⟨S16384x4096, .bf16⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_3 : Ref sig .tc := ⟨.hbm, 54, rfl⟩
abbrev main_v37 : Ref sig .tc := ⟨.hbm, 55, rfl⟩
abbrev main_v38 : Ref sig .tc := ⟨.hbm, 56, rfl⟩
abbrev main_c_4 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_5 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_6 : Ref sig .tc := ⟨.hbm, 83, rfl⟩
abbrev main_v63 : Ref sig .tc := ⟨.hbm, 84, rfl⟩
abbrev main_v64 : Ref sig .tc := ⟨.hbm, 85, rfl⟩
abbrev main_c_7 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_c_8 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_c_9 : Ref sig .tc := ⟨.hbm, 112, rfl⟩
abbrev main_v89 : Ref sig .tc := ⟨.hbm, 113, rfl⟩
abbrev main_v90 : Ref sig .tc := ⟨.hbm, 114, rfl⟩
abbrev main_c_10 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_c_11 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_c_12 : Ref sig .tc := ⟨.hbm, 141, rfl⟩
abbrev main_v115 : Ref sig .tc := ⟨.hbm, 142, rfl⟩
abbrev main_v116 : Ref sig .tc := ⟨.hbm, 143, rfl⟩
abbrev main_c_13 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_call0_v0 : Ref sig .tc := ⟨.hbm, 176, rfl⟩
abbrev main_call0_v1 : Ref sig .tc := ⟨.hbm, 177, rfl⟩
abbrev main_call0_cst : Ref sig .tc := ⟨.hbm, 178, rfl⟩
abbrev main_call0_v2 : Ref sig .tc := ⟨.hbm, 179, rfl⟩
abbrev main_call0_v3 : Ref sig .tc := ⟨.hbm, 180, rfl⟩
abbrev main_call0_cst_0 : Ref sig .tc := ⟨.hbm, 181, rfl⟩
abbrev main_call0_v4 : Ref sig .tc := ⟨.hbm, 182, rfl⟩
abbrev main_call0_v5 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_cst_14 : Ref sig .tc := ⟨.hbm, 191, rfl⟩
abbrev main_v155 : Ref sig .tc := ⟨.hbm, 192, rfl⟩
abbrev main_v156 : Ref sig .tc := ⟨.hbm, 193, rfl⟩
abbrev main_cst_15 : Ref sig .tc := ⟨.hbm, 194, rfl⟩
abbrev main_v157 : Ref sig .tc := ⟨.hbm, 195, rfl⟩
abbrev main_v158 : Ref sig .tc := ⟨.hbm, 196, rfl⟩
abbrev main_cst_16 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_cst_17 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_cst_18 : Ref sig .tc := ⟨.hbm, 211, rfl⟩
abbrev main_v171 : Ref sig .tc := ⟨.hbm, 212, rfl⟩
abbrev main_v172 : Ref sig .tc := ⟨.hbm, 213, rfl⟩
abbrev main_cst_19 : Ref sig .tc := ⟨.hbm, 214, rfl⟩
abbrev main_v173 : Ref sig .tc := ⟨.hbm, 215, rfl⟩
abbrev main_cst_20 : Ref sig .tc := ⟨.hbm, 216, rfl⟩
abbrev main_v174 : Ref sig .tc := ⟨.hbm, 217, rfl⟩
abbrev main_v175 : Ref sig .tc := ⟨.hbm, 218, rfl⟩
abbrev main_cst_21 : Ref sig .tc := ⟨.hbm, 219, rfl⟩
abbrev main_v176 : Ref sig .tc := ⟨.hbm, 220, rfl⟩
abbrev main_cst_22 : Ref sig .tc := ⟨.hbm, 221, rfl⟩
abbrev main_v177 : Ref sig .tc := ⟨.hbm, 222, rfl⟩
abbrev main_cst_23 : Ref sig .tc := ⟨.hbm, 223, rfl⟩
abbrev main_cst_24 : Ref sig .tc := ⟨.hbm, 224, rfl⟩
abbrev main_v178 : Ref sig .tc := ⟨.hbm, 225, rfl⟩
abbrev main_v179 : Ref sig .tc := ⟨.hbm, 226, rfl⟩
abbrev main_cst_25 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_cst_26 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_cst_27 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_cst_28 : Ref sig .tc := ⟨.hbm, 245, rfl⟩
abbrev main_v195 : Ref sig .tc := ⟨.hbm, 246, rfl⟩
abbrev main_v196 : Ref sig .tc := ⟨.hbm, 247, rfl⟩
abbrev main_cst_29 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_cst_30 : Ref sig .tc := ⟨.hbm, 256, rfl⟩
abbrev main_v204 : Ref sig .tc := ⟨.hbm, 257, rfl⟩
abbrev main_v205 : Ref sig .tc := ⟨.hbm, 258, rfl⟩
abbrev main_cst_31 : Ref sig .tc := ⟨.hbm, 259, rfl⟩
abbrev main_v206 : Ref sig .tc := ⟨.hbm, 260, rfl⟩
abbrev main_v207 : Ref sig .tc := ⟨.hbm, 261, rfl⟩
abbrev main_cst_32 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_cst_33 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩

abbrev nD : Nat := 1
abbrev τ : Topo := Topo.v7x

variable {F : FTy → Type} [FloatOps F]
-- ==== Proof.Formula.lean ====
/-
  What the backward pass of the pooling mixer computes, in plain formulas over the extended reals. `n` is the number of
  tokens (a whole sequence, or the rows of one block); a token is `s`, a column `c`, and column `c` of the 2048 belongs
  to group `k` of the four at position `m`: `c = col k m`.
-/
module

public import Idealize.ShloMosaic.PureOps.Ideal
public import Idealize.ShloMosaic.PureOps.Ideal.Laws

@[expose] public section

noncomputable section

namespace Cert.Mixer

open Idealize.ShloMosaic
open scoped BigOperators

/-- Column `m` of group `k`. -/
def col (k : Fin 4) (m : Fin 512) : Fin 2048 := ⟨512 * k.val + m.val, by omega⟩

theorem exists_col (c : Fin 2048) : ∃ k m, c = col k m :=
  ⟨⟨c.val / 512, by omega⟩, ⟨c.val % 512, by omega⟩, Fin.ext (by simp only [col]; omega)⟩

/-- The sigmoid by way of `tanh`. -/
def sig (z : EReal) : EReal :=
  Ideal.ofBits .f32 0x3F000000#32 * Ideal.tanh (Ideal.ofBits .f32 0x3F000000#32 * z) + Ideal.ofBits .f32 0x3F000000#32

/-- The pooling window of group `k`: 2, 4, 8 or 16 tokens. -/
def window (k : Fin 4) : ℕ := 2 ^ (k.val + 1)

/-- One over the number of tokens in the window that ends at the `p`-th token. -/
def inv (p : ℕ) (k : Fin 4) : EReal := Ideal.div 1 (min ((p : ℝ) : EReal) ((window k : ℝ) : EReal))

variable {n : ℕ}

section
variable (dx : Fin n → Fin 1024 → EReal) (g mx : Fin n → Fin 2048 → EReal) (gate : Fin 1024 → EReal)
  (wg : Fin 4 → Fin 512 → Fin 512 → EReal) (sc : Fin 2048 → EReal) (wo : Fin 2048 → Fin 1024 → EReal)

/-- The gradient of the mixer's output `y`. -/
def dy (s : Fin n) (c : Fin 2048) : EReal := ∑ d, gate d * dx s d * wo c d

/-- The gradient of the group product `mixed`. -/
def dm (s : Fin n) (c : Fin 2048) : EReal := dy dx gate wo s c * sc c * (g s c * sig (g s c))

/-- A token's part of the gradient of `scale`. -/
def ds (s : Fin n) (c : Fin 2048) : EReal := dy dx gate wo s c * mx s c * (g s c * sig (g s c))

/-- The gradient of the gate half of `proj`. -/
def dg (s : Fin n) (c : Fin 2048) : EReal :=
  dy dx gate wo s c * mx s c * sc c * (sig (g s c) + g s c * sig (g s c) * (1 - sig (g s c)))

/-- The gradient of the pooled difference. -/
def dd (s : Fin n) (k : Fin 4) (m : Fin 512) : EReal := ∑ j, dm dx g gate sc wo s (col k j) * wg k m j

/-- That gradient over the number of tokens in the window that ends at `s`. -/
def dq (s : Fin n) (k : Fin 4) (m : Fin 512) : EReal := dd dx g gate wg sc wo s k m * inv (s.val + 1) k

/-- The same, zero past the last token. -/
def dqz (t : ℕ) (k : Fin 4) (m : Fin 512) : EReal := if h : t < n then dq dx g gate wg sc wo ⟨t, h⟩ k m else 0

/-- The gradient of the pooled half of `proj`. -/
def dv (s : Fin n) (k : Fin 4) (m : Fin 512) : EReal :=
  (∑ j ∈ Finset.range (window k), dqz dx g gate wg sc wo (s.val + j) k m) - dd dx g gate wg sc wo s k m

/-- The gradient of `w_out` without the gate. -/
def mt (y : Fin n → Fin 2048 → EReal) (k : Fin 4) (r : Fin 512) (d : Fin 1024) : EReal := ∑ s, y s (col k r) * dx s d

/-- The gradient of the group weights. -/
def dw (dp : Fin n → Fin 2048 → EReal) (k : Fin 4) (a b : Fin 512) : EReal :=
  ∑ s, dp s (col k a) * dm dx g gate sc wo s (col k b)

end

end Cert.Mixer

end
-- ==== Proof.Windows.lean ====
/-
  The window sums of the kernel: 272 rows (256 of the sub-block, 16 of the block after it) are added to themselves
  moved up by 1, 2, 4 and 8 rows, a group of columns leaving after each step with its 2, 4, 8 or 16 rows summed.
-/
module

public import proofs.«01_k».proof.Proof.Gen.KernelIdeal.Skeleton
public import proofs.«01_k».proof.Proof.Formula
public import Idealize.ShloMosaic.Lib.Pointwise

@[expose] public section

set_option maxRecDepth 16384

noncomputable section

namespace Cert.KernelIdeal.Point

open Idealize.ShloMosaic Idealize.ShloMosaic.TcCoe Idealize.SL.Sem Cert.KernelIdeal Cert.KernelIdeal.Gen Cert.Mixer
open scoped BigOperators

/-- Rows added to the rows one below. -/
def up1 (X : FVec Ideal S272x2048 .f32) : FVec Ideal S272x2048 .f32 := addf X (dynamicRotate 0 271#32 none X rotates_S272x2048_d0)

/-- Groups 1 to 3 of `up1`, added to the rows two below. -/
def up2 (X : FVec Ideal S272x2048 .f32) : FVec Ideal S272x1536 .f32 :=
  addf (extractStridedSlice S272x1536 ![0, 512] (up1 X) slices_S272x2048_o0_512_S272x1536)
    (dynamicRotate 0 270#32 none (extractStridedSlice S272x1536 ![0, 512] (up1 X) slices_S272x2048_o0_512_S272x1536) rotates_S272x1536_d0)

/-- Groups 2 and 3 of `up2`, added to the rows four below. -/
def up4 (X : FVec Ideal S272x2048 .f32) : FVec Ideal S272x1024 .f32 :=
  addf (extractStridedSlice S272x1024 ![0, 512] (up2 X) slices_S272x1536_o0_512_S272x1024)
    (dynamicRotate 0 268#32 none (extractStridedSlice S272x1024 ![0, 512] (up2 X) slices_S272x1536_o0_512_S272x1024) rotates_S272x1024_d0)

/-- Group 3 of `up4`, added to the rows eight below. -/
def up8 (X : FVec Ideal S272x2048 .f32) : FVec Ideal S272x512 .f32 :=
  addf (extractStridedSlice S272x512 ![0, 512] (up4 X) slices_S272x1024_o0_512_S272x512)
    (dynamicRotate 0 264#32 none (extractStridedSlice S272x512 ![0, 512] (up4 X) slices_S272x1024_o0_512_S272x512) rotates_S272x512_d0)

theorem up1_apply (X : FVec Ideal S272x2048 .f32) (r : Fin 272) (h : r.val + 1 < 272) (c : Fin 2048) :
    up1 X (ix2 r c) = X (ix2 r c) + X (ix2 ⟨r.val + 1, h⟩ c) := by
  pointwise [up1]
  congr 4
  omega

theorem up2_apply (X : FVec Ideal S272x2048 .f32) (r : Fin 272) (h : r.val + 2 < 272) (c : Fin 1536) :
    up2 X (ix2 r c) = up1 X (ix2 r ⟨512 + c.val, by omega⟩) + up1 X (ix2 ⟨r.val + 2, h⟩ ⟨512 + c.val, by omega⟩) := by
  pointwise [up2]
  congr 4
  omega

theorem up4_apply (X : FVec Ideal S272x2048 .f32) (r : Fin 272) (h : r.val + 4 < 272) (c : Fin 1024) :
    up4 X (ix2 r c) = up2 X (ix2 r ⟨512 + c.val, by omega⟩) + up2 X (ix2 ⟨r.val + 4, h⟩ ⟨512 + c.val, by omega⟩) := by
  pointwise [up4]
  congr 4
  omega

theorem up8_apply (X : FVec Ideal S272x2048 .f32) (r : Fin 272) (h : r.val + 8 < 272) (c : Fin 512) :
    up8 X (ix2 r c) = up4 X (ix2 r ⟨512 + c.val, by omega⟩) + up4 X (ix2 ⟨r.val + 8, h⟩ ⟨512 + c.val, by omega⟩) := by
  pointwise [up8]
  congr 4
  omega

/-- The sum over `2 w` rows from the sums over `w`. -/
theorem double (f : ℕ → EReal) (w r : ℕ) :
    (∑ j ∈ Finset.range w, f (r + j)) + (∑ j ∈ Finset.range w, f (r + w + j)) = ∑ j ∈ Finset.range (w + w), f (r + j) := by
  rw [Finset.sum_range_add]
  simp only [Nat.add_assoc]

section
variable (X : FVec Ideal S272x2048 .f32) (e : ℕ → Fin 2048 → EReal) (hX : ∀ (r : Fin 272) (c : Fin 2048), X (ix2 r c) = e r.val c)
include hX

theorem up1_sum (r : Fin 272) (h : r.val + 1 < 272) (c : Fin 2048) : up1 X (ix2 r c) = ∑ j ∈ Finset.range 2, e (r.val + j) c := by
  rw [up1_apply X r h c, hX, hX, Finset.sum_range_succ, Finset.sum_range_one]; rfl

theorem up2_sum (r : Fin 272) (h : r.val + 3 < 272) (c : Fin 1536) :
    up2 X (ix2 r c) = ∑ j ∈ Finset.range 4, e (r.val + j) ⟨512 + c.val, by omega⟩ := by
  rw [up2_apply X r (by omega) c, up1_sum X e hX r (by omega), up1_sum X e hX _ (by dsimp only; omega)]
  exact double (fun t => e t ⟨512 + c.val, by omega⟩) 2 r.val

theorem up4_sum (r : Fin 272) (h : r.val + 7 < 272) (c : Fin 1024) :
    up4 X (ix2 r c) = ∑ j ∈ Finset.range 8, e (r.val + j) ⟨1024 + c.val, by omega⟩ := by
  rw [up4_apply X r (by omega) c, up2_sum X e hX r (by omega), up2_sum X e hX _ (by dsimp only; omega)]
  refine (double (fun t => e t ⟨512 + (512 + c.val), by omega⟩) 4 r.val).trans (Finset.sum_congr rfl fun j _ => congrArg _ (Fin.ext ?_))
  dsimp only; omega

theorem up8_sum (r : Fin 272) (h : r.val + 15 < 272) (c : Fin 512) :
    up8 X (ix2 r c) = ∑ j ∈ Finset.range 16, e (r.val + j) ⟨1536 + c.val, by omega⟩ := by
  rw [up8_apply X r (by omega) c, up4_sum X e hX r (by omega), up4_sum X e hX _ (by dsimp only; omega)]
  refine (double (fun t => e t ⟨1024 + (512 + c.val), by omega⟩) 8 r.val).trans (Finset.sum_congr rfl fun j _ => congrArg _ (Fin.ext ?_))
  dsimp only; omega

end

/-- What a chain stores in the pooled half, from its extended rows `X` and its products `d`: group by group the window's
    sum less the product. -/
def pooled (X : FVec Ideal S272x2048 .f32) (d0 d1 d2 d3 : FVec Ideal S256x512 .f32) : FVec Ideal S256x2048 .bf16 :=
  k0_pay1
    (subf (extractStridedSlice S256x512 ![0, 0] (extractStridedSlice S272x512 ![0, 0] (up1 X) slices_S272x2048_o0_0_S272x512) slices_S272x512_o0_0_S256x512) d0)
    (subf (extractStridedSlice S256x512 ![0, 0] (extractStridedSlice S272x512 ![0, 0] (up2 X) slices_S272x1536_o0_0_S272x512) slices_S272x512_o0_0_S256x512) d1)
    (subf (extractStridedSlice S256x512 ![0, 0] (extractStridedSlice S272x512 ![0, 0] (up4 X) slices_S272x1024_o0_0_S272x512) slices_S272x512_o0_0_S256x512) d2)
    (subf (extractStridedSlice S256x512 ![0, 0] (up8 X) slices_S272x512_o0_0_S256x512) d3)

theorem val_col (k : Fin 4) (m : Fin 512) : (col k m).val = 512 * k.val + m.val := rfl

/-- Four groups side by side, read at a column of group `k`. -/
theorem groups_apply (p : Fin 4 → FVec Ideal S256x512 .f32) (r : Fin 256) (k : Fin 4) (m : Fin 512) :
    concatenate S256x2048 1 [⟨S256x512, p 0⟩, ⟨S256x512, p 1⟩, ⟨S256x512, p 2⟩, ⟨S256x512, p 3⟩]
      concatenates_S256x512_S256x512_S256x512_S256x512_S256x2048_d1 (ix2 r (col k m)) = p k (ix2 r m) := by
  have hm := m.isLt
  have hc := val_col k m
  generalize col k m = c at hc
  pointwise
  match k with
  | 0 =>
    simp only [Fin.val_zero] at hc
    rw [dif_pos (by omega)]
    exact congrArg (fun x => p 0 (ix2 r x)) (Fin.ext (by dsimp only; omega))
  | 1 =>
    simp only [Fin.val_one] at hc
    rw [dif_neg (by omega), dif_pos (by omega)]
    exact congrArg (fun x => p 1 (ix2 r x)) (Fin.ext (by dsimp only; omega))
  | 2 =>
    simp only [Fin.val_two] at hc
    rw [dif_neg (by omega), dif_neg (by omega), dif_pos (by omega)]
    exact congrArg (fun x => p 2 (ix2 r x)) (Fin.ext (by dsimp only; omega))
  | 3 =>
    have h3 : (3 : Fin 4).val = 3 := rfl
    rw [h3] at hc
    rw [dif_neg (by omega), dif_neg (by omega), dif_neg (by omega)]
    exact congrArg (fun x => p 3 (ix2 r x)) (Fin.ext (by dsimp only; omega))

theorem pooled_apply (X : FVec Ideal S272x2048 .f32) (d : Fin 4 → FVec Ideal S256x512 .f32) (e : ℕ → Fin 2048 → EReal)
    (hX : ∀ (r : Fin 272) (c : Fin 2048), X (ix2 r c) = e r.val c) (r : Fin 256) (k : Fin 4) (m : Fin 512) :
    pooled X (d 0) (d 1) (d 2) (d 3) (ix2 r (col k m)) = (∑ j ∈ Finset.range (window k), e (r.val + j) (col k m)) - d k (ix2 r m) := by
  have hr := r.isLt
  refine (groups_apply ![_, _, _, _] r k m).trans ?_
  match k with
  | 0 =>
    show subf _ (d 0) (ix2 r m) = _
    pointwise
    rw [up1_sum X e hX _ (by dsimp only; omega)]
    exact congrArg (· - d 0 (ix2 r m)) (Finset.sum_congr rfl fun j _ => congrArg (e (r.val + j)) (Fin.ext (by simp [val_col])))
  | 1 =>
    show subf _ (d 1) (ix2 r m) = _
    pointwise
    rw [up2_sum X e hX _ (by dsimp only; omega)]
    exact congrArg (· - d 1 (ix2 r m)) (Finset.sum_congr rfl fun j _ => congrArg (e (r.val + j)) (Fin.ext (by simp [val_col])))
  | 2 =>
    show subf _ (d 2) (ix2 r m) = _
    pointwise
    rw [up4_sum X e hX _ (by dsimp only; omega)]
    exact congrArg (· - d 2 (ix2 r m)) (Finset.sum_congr rfl fun j _ => congrArg (e (r.val + j)) (Fin.ext (by simp [val_col])))
  | 3 =>
    show subf _ (d 3) (ix2 r m) = _
    pointwise
    rw [up8_sum X e hX _ (by dsimp only; omega)]
    exact congrArg (· - d 3 (ix2 r m)) (Finset.sum_congr rfl fun j _ => congrArg (e (r.val + j)) (Fin.ext (by simp [val_col])))

end Cert.KernelIdeal.Point

end
-- ==== Proof.Chain.lean ====
/-
  One chain of the kernel's body: what it computes on a sub-block of 256 rows, row `r` of the sub-block being token
  `ρ r` of the sequence. The two chains of a point are the same operations.
-/
module

public import proofs.«01_k».proof.Proof.Windows

@[expose] public section

set_option maxRecDepth 16384

noncomputable section

namespace Cert.KernelIdeal.Point

open Idealize.ShloMosaic Idealize.ShloMosaic.TcCoe Idealize.SL.Sem Cert.KernelIdeal Cert.KernelIdeal.Gen Cert.Mixer
open scoped BigOperators

variable {n : ℕ} (dx : Fin n → Fin 1024 → EReal) (g mx : Fin n → Fin 2048 → EReal) (gate : Fin 1024 → EReal)
  (wg : Fin 4 → Fin 512 → Fin 512 → EReal) (sc : Fin 2048 → EReal) (wo : Fin 2048 → Fin 1024 → EReal) (ρ : Fin 256 → Fin n)

theorem dy_chain (v5 : Vec Ideal S256x1024 .f32) (v6 : Vec Ideal S1x1024 .f32) (v10 : Vec Ideal S2048x1024 .bf16)
    (h5 : ∀ r d, v5 (ix2 r d) = dx (ρ r) d) (h6 : ∀ d, v6 (ix2 0 d) = gate d) (h10 : ∀ c d, v10 (ix2 c d) = wo c d)
    (r : Fin 256) (c : Fin 2048) : k0_pay11 v5 v6 v10 (ix2 r c) = dy dx gate wo (ρ r) c := by
  pointwise [k0_pay11]
  simp only [h5, h6, h10]
  rfl

section
variable (v20 : FVec Ideal S256x2048 .f32) (v73 v76 : Vec Ideal S256x2048 .bf16) (v88 : Vec Ideal S1x2048 .f32)
  (h20 : ∀ r c, v20 (ix2 r c) = dy dx gate wo (ρ r) c) (h73 : ∀ r c, v73 (ix2 r c) = g (ρ r) c)
  (h76 : ∀ r c, v76 (ix2 r c) = mx (ρ r) c) (h88 : ∀ c, v88 (ix2 0 c) = sc c)

include h20 h73 h88 in
theorem dm_chain (r : Fin 256) (c : Fin 2048) : k0_pay27 v20 v73 v88 (ix2 r c) = dm dx g gate sc wo (ρ r) c := by
  pointwise [k0_pay27, k0_pay25, k0_pay24, k0_pay23]
  simp only [h20, h73, h88]
  rfl

include h20 h73 h88 in
theorem db_chain (v99 : Vec Ideal S1x2048 .f32) (c : Fin 2048) :
    k0_pay29 v20 v73 v88 v99 (ix2 0 c) = v99 (ix2 0 c) + ∑ r, dm dx g gate sc wo (ρ r) c := by
  pointwise [k0_pay29]
  simp only [dm_chain dx g gate sc wo ρ v20 v73 v88 h20 h73 h88]

include h20 h73 h76 in
theorem ds_chain (v92 : Vec Ideal S1x2048 .f32) (c : Fin 2048) :
    k0_pay28 v20 v73 v76 v92 (ix2 0 c) = v92 (ix2 0 c) + ∑ r, ds dx g mx gate wo (ρ r) c := by
  pointwise [k0_pay28, k0_pay26, k0_pay25, k0_pay24, k0_pay23]
  simp only [h20, h73, h76]
  rfl

include h20 h73 h76 h88 in
theorem dg_chain (r : Fin 256) (c : Fin 2048) :
    k0_pay31 (k0_pay24 v73) (k0_pay25 v73) (k0_pay26 v20 v76) v88 (ix2 r c) = dg dx g mx gate sc wo (ρ r) c := by
  pointwise [k0_pay31, k0_pay26, k0_pay25, k0_pay24, k0_pay23]
  simp only [h20, h73, h76, h88]
  rfl

end

section
variable (v105 : FVec Ideal S256x2048 .bf16) (h105 : ∀ r c, v105 (ix2 r c) = dm dx g gate sc wo (ρ r) c)
  (w : Fin 4 → Vec Ideal S1x512x512 .bf16) (hw : ∀ k a b, w k (ix3 0 a b) = wg k a b)

/-- The four products of a chain. -/
def products (v105 : FVec Ideal S256x2048 .bf16) (w : Fin 4 → Vec Ideal S1x512x512 .bf16) : Fin 4 → FVec Ideal S256x512 .f32 :=
  ![k0_pay57 (k0_pay56 v105) (w 0), k0_pay58 v105 (w 1), k0_pay59 v105 (w 2), k0_pay60 v105 (w 3)]

include h105 hw in
theorem dd_chain (r : Fin 256) (k : Fin 4) (m : Fin 512) : products v105 w k (ix2 r m) = dd dx g gate wg sc wo (ρ r) k m := by
  match k with
  | 0 =>
    show k0_pay57 (k0_pay56 v105) (w 0) (ix2 r m) = _
    pointwise [k0_pay57, k0_pay56]
    simp only [hw, h105, dd]
    exact Finset.sum_congr rfl fun j _ => congrArg (dm dx g gate sc wo (ρ r) · * _) (Fin.ext (by simp [val_col]))
  | 1 =>
    show k0_pay58 v105 (w 1) (ix2 r m) = _
    pointwise [k0_pay58]
    simp only [hw, h105, dd]
    exact Finset.sum_congr rfl fun j _ => congrArg (dm dx g gate sc wo (ρ r) · * _) (Fin.ext (by simp [val_col]))
  | 2 =>
    show k0_pay59 v105 (w 2) (ix2 r m) = _
    pointwise [k0_pay59]
    simp only [hw, h105, dd]
    exact Finset.sum_congr rfl fun j _ => congrArg (dm dx g gate sc wo (ρ r) · * _) (Fin.ext (by simp [val_col]))
  | 3 =>
    show k0_pay60 v105 (w 3) (ix2 r m) = _
    pointwise [k0_pay60]
    simp only [hw, h105, dd]
    exact Finset.sum_congr rfl fun j _ => congrArg (dm dx g gate sc wo (ρ r) · * _) (Fin.ext (by simp [val_col]))

variable (c : Fin 4 → FVec Ideal S256x1 .f32) (hc : ∀ k r, c k (ix2 r 0) = inv ((ρ r).val + 1) k)

include h105 hw hc in
theorem dq_chain (r : Fin 256) (k : Fin 4) (m : Fin 512) :
    k0_pay61 v105 (c 0) (c 1) (c 2) (c 3) (k0_pay56 v105) (w 0) (w 1) (w 2) (w 3) (ix2 r (col k m)) = dq dx g gate wg sc wo (ρ r) k m := by
  refine (groups_apply (fun k => mulf (products v105 w k) (broadcastTo S256x512 (c k) broadcasts_S256x1_S256x512)) r k m).trans ?_
  pointwise
  rw [hc, dd_chain dx g gate wg sc wo ρ v105 h105 w hw]
  rfl

end

/-- A chain's 256 rows and the 16 rows behind them, as 272 rows. -/
theorem behind_apply (q : FVec Ideal S256x2048 .f32) (b : FVec Ideal S16x2048 .f32) (r : Fin 272) (c : Fin 2048) :
    concatenate S272x2048 0 [⟨S256x2048, q⟩, ⟨S16x2048, b⟩] concatenates_S256x2048_S16x2048_S272x2048_d0 (ix2 r c)
      = if h : r.val < 256 then q (ix2 ⟨r.val, h⟩ c) else b (ix2 ⟨r.val - 256, by omega⟩ c) := by
  pointwise

/-- The count of a row's window, from its position in the sequence as the kernel computes it. -/
theorem position (i : Fin 32) (o : BitVec 32) (ho : o.toNat ≤ 256) (r : Fin 256) :
    (FloatOps.sitofp .f32 (IntOp.addi (IntOp.addi (Scalar.addi (Scalar.muli (Scalar.subi 31#32 (BitVec.ofNat 32 i.val)) 512#32) o) (BitVec.ofNat 32 r.val)) 1#32) : Ideal .f32)
      = (((512 * (31 - i.val) + o.toNat + r.val + 1 : ℕ) : ℝ) : EReal) := by
  have hi := i.isLt
  have hr := r.isLt
  have hb : (IntOp.addi (IntOp.addi (Scalar.addi (Scalar.muli (Scalar.subi 31#32 (BitVec.ofNat 32 i.val)) 512#32) o) (BitVec.ofNat 32 r.val)) 1#32 : BitVec 32)
      = BitVec.ofNat 32 (512 * (31 - i.val) + o.toNat + r.val + 1) := by
    apply BitVec.eq_of_toNat_eq
    simp only [IntOp.addi, Scalar.addi, Scalar.muli, Scalar.subi, IntOp.muli, IntOp.subi, BitVec.toNat_add, BitVec.toNat_mul, BitVec.toNat_sub, BitVec.toNat_ofNat]
    omega
  rw [hb]
  show ((((BitVec.ofNat 32 _).toInt : ℝ)) : EReal) = _
  rw [BitVec.toInt_eq_toNat_of_lt (by rw [BitVec.toNat_ofNat]; omega), BitVec.toNat_ofNat, Nat.mod_eq_of_lt (by omega)]
  rfl

theorem two_bits : Ideal.ofBits .f32 0x40000000#32 = ((window 0 : ℝ) : EReal) := by
  simp [Ideal.ofBits, Ideal.ieee, -EReal.coe_mul, window]
  norm_num

theorem four_bits : Ideal.ofBits .f32 0x40800000#32 = ((window 1 : ℝ) : EReal) := by
  simp [Ideal.ofBits, Ideal.ieee, -EReal.coe_mul, window]
  norm_num

theorem eight_bits : Ideal.ofBits .f32 0x41000000#32 = ((window 2 : ℝ) : EReal) := by
  simp [Ideal.ofBits, Ideal.ieee, -EReal.coe_mul, window]
  norm_num

theorem sixteen_bits : Ideal.ofBits .f32 0x41800000#32 = ((window 3 : ℝ) : EReal) := by
  simp [Ideal.ofBits, Ideal.ieee, -EReal.coe_mul, window]
  norm_num

/-- The reciprocals of the counts of the first chain's rows, as a column per window. -/
def counts1 (i : Fin 32) : Fin 4 → FVec Ideal S256x1 .f32 :=
  ![k0_pay39 (BitVec.ofNat 32 i.val), k0_pay40 (BitVec.ofNat 32 i.val), k0_pay41 (BitVec.ofNat 32 i.val), k0_pay42 (BitVec.ofNat 32 i.val)]

/-- The reciprocals of the counts of the second chain's rows. -/
def counts0 (i : Fin 32) : Fin 4 → FVec Ideal S256x1 .f32 :=
  ![k0_pay52 (BitVec.ofNat 32 i.val), k0_pay53 (BitVec.ofNat 32 i.val), k0_pay54 (BitVec.ofNat 32 i.val), k0_pay55 (BitVec.ofNat 32 i.val)]

theorem counts1_apply (i : Fin 32) (k : Fin 4) (r : Fin 256) : counts1 i k (ix2 r 0) = inv (512 * (31 - i.val) + 256 + r.val + 1) k := by
  have h := position i 256#32 (by decide) r
  match k with
  | 0 =>
    show k0_pay39 (BitVec.ofNat 32 i.val) (ix2 r 0) = _
    pointwise [k0_pay39, k0_pay38]
    rw [h, two_bits]
    rfl
  | 1 =>
    show k0_pay40 (BitVec.ofNat 32 i.val) (ix2 r 0) = _
    pointwise [k0_pay40, k0_pay38]
    rw [h, four_bits]
    rfl
  | 2 =>
    show k0_pay41 (BitVec.ofNat 32 i.val) (ix2 r 0) = _
    pointwise [k0_pay41, k0_pay38]
    rw [h, eight_bits]
    rfl
  | 3 =>
    show k0_pay42 (BitVec.ofNat 32 i.val) (ix2 r 0) = _
    pointwise [k0_pay42, k0_pay38]
    rw [h, sixteen_bits]
    rfl

theorem counts0_apply (i : Fin 32) (k : Fin 4) (r : Fin 256) : counts0 i k (ix2 r 0) = inv (512 * (31 - i.val) + r.val + 1) k := by
  have h := position i 0#32 (by decide) r
  match k with
  | 0 =>
    show k0_pay52 (BitVec.ofNat 32 i.val) (ix2 r 0) = _
    pointwise [k0_pay52, k0_pay51]
    rw [h, two_bits]
    rfl
  | 1 =>
    show k0_pay53 (BitVec.ofNat 32 i.val) (ix2 r 0) = _
    pointwise [k0_pay53, k0_pay51]
    rw [h, four_bits]
    rfl
  | 2 =>
    show k0_pay54 (BitVec.ofNat 32 i.val) (ix2 r 0) = _
    pointwise [k0_pay54, k0_pay51]
    rw [h, eight_bits]
    rfl
  | 3 =>
    show k0_pay55 (BitVec.ofNat 32 i.val) (ix2 r 0) = _
    pointwise [k0_pay55, k0_pay51]
    rw [h, sixteen_bits]
    rfl

end Cert.KernelIdeal.Point

end
-- ==== Proof.Slabs.lean ====
/-
  Arrays written in pieces: four slabs along the leading axis, and the four quarters of a matrix.
-/
module

public import Idealize.ShloMosaic.Lib.Pointwise
public import Idealize.ShloMosaic.Lib.Pipeline.ReadBack

@[expose] public section

noncomputable section

namespace Cert.Mixer

open Idealize.ShloMosaic

/-- The place of an element of slab `k`. -/
theorem slab_emb {b d : ℕ} (k : Fin 4) (inb) (r : Fin b) (m : Fin d) :
    (Rect.unit (s := ⟨3, ![4, b, d]⟩) ![k.val, 0, 0] ![1, b, d] inb).emb (ix3 (0 : Fin 1) r m) = ix3 k r m := by
  funext a
  match a with
  | ⟨0, _⟩ => exact Fin.ext (show k.val + 1 * 0 = k.val by omega)
  | ⟨1, _⟩ => exact Fin.ext (show 0 + 1 * r.val = r.val by omega)
  | ⟨2, _⟩ => exact Fin.ext (show 0 + 1 * m.val = m.val by omega)

/-- The place of an element of the quarter that begins at row `p` and column `q`. -/
theorem quarter_emb {n m a b p q : ℕ} (inb) (r : Fin a) (c : Fin b) (hp : p + r.val < n) (hq : q + c.val < m) :
    (Rect.unit (s := ⟨2, ![n, m]⟩) ![p, q] ![a, b] inb).emb (ix2 r c) = ix2 ⟨p + r.val, hp⟩ ⟨q + c.val, hq⟩ := by
  funext x
  match x with
  | ⟨0, _⟩ => exact Fin.ext (show p + 1 * r.val = p + r.val by omega)
  | ⟨1, _⟩ => exact Fin.ext (show q + 1 * c.val = q + c.val by omega)

variable {e : EltTy}

/-- Four slabs written, whatever was written before them. -/
theorem canon_slabs {b d : ℕ} (G : Vec Ideal ⟨3, ![4, b, d]⟩ e) (w0 w1 w2 w3 : Vec Ideal ⟨3, ![1, b, d]⟩ e) (i0 i1 i2 i3)
    (L' : List (View.Piece (Elt Ideal) ⟨3, ![4, b, d]⟩ e))
    (h0 : ∀ r m, w0 (ix3 0 r m) = G (ix3 0 r m)) (h1 : ∀ r m, w1 (ix3 0 r m) = G (ix3 1 r m))
    (h2 : ∀ r m, w2 (ix3 0 r m) = G (ix3 2 r m)) (h3 : ∀ r m, w3 (ix3 0 r m) = G (ix3 3 r m)) :
    View.canon ([⟨Rect.unit ![3, 0, 0] ![1, b, d] i3, w3⟩, ⟨Rect.unit ![2, 0, 0] ![1, b, d] i2, w2⟩,
      ⟨Rect.unit ![1, 0, 0] ![1, b, d] i1, w1⟩, ⟨Rect.unit ![0, 0, 0] ![1, b, d] i0, w0⟩] ++ L') = G := by
  have key : ∀ (k : Fin 4) (inb) (w : Vec Ideal ⟨3, ![1, b, d]⟩ e), (∀ r m, w (ix3 0 r m) = G (ix3 k r m)) →
      ∀ x, w x = G ((Rect.unit (s := ⟨3, ![4, b, d]⟩) ![k.val, 0, 0] ![1, b, d] inb).emb x) := by
    intro k inb w hw x
    obtain ⟨u, r, m, rfl⟩ : ∃ (u : Fin 1) (r : Fin b) (m : Fin d), x = ix3 u r m := ⟨x 0, x 1, x 2, eq_ix3 x⟩
    obtain rfl : u = 0 := Subsingleton.elim _ _
    exact (hw r m).trans (congrArg G (slab_emb k inb r m).symm)
  funext y
  refine View.canon_append_of_piecesOf G L' [_, _, _, _] ⟨key 3 i3 w3 h3, key 2 i2 w2 h2, key 1 i1 w1 h1, key 0 i0 w0 h0, trivial⟩ y ?_
  obtain ⟨k, r, m, rfl⟩ : ∃ (k : Fin 4) (r : Fin b) (m : Fin d), y = ix3 k r m := ⟨y 0, y 1, y 2, eq_ix3 y⟩
  have cov : ∀ (k : Fin 4) (inb), ix3 k r m ∈ (Rect.unit (s := ⟨3, ![4, b, d]⟩) ![k.val, 0, 0] ![1, b, d] inb).set := by
    intro k inb
    rw [← slab_emb k inb]
    exact LoadRect.idx_mem _ _
  match k with
  | 0 => exact ⟨_, .tail _ (.tail _ (.tail _ (.head _))), cov 0 i0⟩
  | 1 => exact ⟨_, .tail _ (.tail _ (.head _)), cov 1 i1⟩
  | 2 => exact ⟨_, .tail _ (.head _), cov 2 i2⟩
  | 3 => exact ⟨_, .head _, cov 3 i3⟩

/-- The four quarters of a matrix of 512 rows and 4096 columns: `l`/`u` the upper and lower rows, `p`/`g` the left and right columns. -/
theorem canon_quarters (G : Vec Ideal ⟨2, ![512, 4096]⟩ e) (up ug lp lg : Vec Ideal ⟨2, ![256, 2048]⟩ e) (i0 i1 i2 i3)
    (hup : ∀ (r : Fin 256) (c : Fin 2048), up (ix2 r c) = G (ix2 ⟨256 + r.val, by omega⟩ ⟨c.val, by omega⟩))
    (hug : ∀ (r : Fin 256) (c : Fin 2048), ug (ix2 r c) = G (ix2 ⟨256 + r.val, by omega⟩ ⟨2048 + c.val, by omega⟩))
    (hlp : ∀ (r : Fin 256) (c : Fin 2048), lp (ix2 r c) = G (ix2 ⟨r.val, by omega⟩ ⟨c.val, by omega⟩))
    (hlg : ∀ (r : Fin 256) (c : Fin 2048), lg (ix2 r c) = G (ix2 ⟨r.val, by omega⟩ ⟨2048 + c.val, by omega⟩)) :
    View.canon [⟨Rect.unit ![0, 0] ![256, 2048] i0, lp⟩, ⟨Rect.unit ![256, 0] ![256, 2048] i1, up⟩,
      ⟨Rect.unit ![0, 2048] ![256, 2048] i2, lg⟩, ⟨Rect.unit ![256, 2048] ![256, 2048] i3, ug⟩] = G := by
  have key : ∀ (p q : ℕ) (hp : p ≤ 256) (hq : q ≤ 2048) (inb) (w : Vec Ideal ⟨2, ![256, 2048]⟩ e),
      (∀ (r : Fin 256) (c : Fin 2048), w (ix2 r c) = G (ix2 ⟨p + r.val, by omega⟩ ⟨q + c.val, by omega⟩)) →
      ∀ x, w x = G ((Rect.unit (s := ⟨2, ![512, 4096]⟩) ![p, q] ![256, 2048] inb).emb x) := by
    intro p q hp hq inb w hw x
    obtain ⟨r, c, rfl⟩ : ∃ (r : Fin 256) (c : Fin 2048), x = ix2 r c := ⟨x 0, x 1, eq_ix2 x⟩
    exact (hw r c).trans (congrArg G (quarter_emb inb r c (by omega) (by omega)).symm)
  funext y
  refine View.canon_append_of_piecesOf G [] [_, _, _, _] ⟨key 0 0 (by omega) (by omega) i0 lp (by simpa using hlp), key 256 0 (by omega) (by omega) i1 up (by simpa using hup),
    key 0 2048 (by omega) (by omega) i2 lg (by simpa using hlg), key 256 2048 (by omega) (by omega) i3 ug hug, trivial⟩ y ?_
  have h0 : (y 0).val < 512 := (y 0).isLt
  have h1 : (y 1).val < 4096 := (y 1).isLt
  have cov : ∀ (p q : ℕ) (inb), p ≤ (y 0).val → (y 0).val < p + 256 → q ≤ (y 1).val → (y 1).val < q + 2048 →
      y ∈ (Rect.unit (s := ⟨2, ![512, 4096]⟩) ![p, q] ![256, 2048] inb).set := by
    intro p q inb a b c d
    rw [Rect.mem_set_unit]
    intro x
    match x with
    | ⟨0, _⟩ => exact ⟨a, b⟩
    | ⟨1, _⟩ => exact ⟨c, d⟩
  by_cases a : (y 0).val < 256 <;> by_cases b : (y 1).val < 2048
  · exact ⟨_, .head _, cov 0 0 i0 (by omega) (by omega) (by omega) (by omega)⟩
  · exact ⟨_, .tail _ (.tail _ (.head _)), cov 0 2048 i2 (by omega) (by omega) (by omega) (by omega)⟩
  · exact ⟨_, .tail _ (.head _), cov 256 0 i1 (by omega) (by omega) (by omega) (by omega)⟩
  · exact ⟨_, .tail _ (.tail _ (.tail _ (.head _))), cov 256 2048 i3 (by omega) (by omega) (by omega) (by omega)⟩

end Cert.Mixer

end
-- ==== Proof.Step.lean ====
/-
  What one grid point computes, from the blocks it loads: the accumulators' increments and the block of the gradient
  of `proj`, as the formulas over the whole sequence.
-/
module

public import proofs.«01_k».proof.Proof.Chain
public import proofs.«01_k».proof.Proof.Slabs

@[expose] public section

set_option maxRecDepth 16384

noncomputable section

namespace Cert.KernelIdeal.Point

open Idealize.ShloMosaic Idealize.ShloMosaic.TcCoe Idealize.SL.Sem Cert.KernelIdeal Cert.KernelIdeal.Gen Cert.Mixer
open scoped BigOperators

/-- Row `r` of the block of point `i`; the points go through the blocks from the last to the first. -/
def row (i : Fin 32) (r : Fin 512) : Fin 16384 := ⟨512 * (31 - i.val) + r.val, by omega⟩

/-- Row `r` of the upper half (the later tokens) of that block. -/
def upper (i : Fin 32) (r : Fin 256) : Fin 16384 := row i ⟨256 + r.val, by omega⟩

/-- Row `r` of its lower half. -/
def lower (i : Fin 32) (r : Fin 256) : Fin 16384 := row i ⟨r.val, by omega⟩

theorem sum_rows (f : Fin 16384 → EReal) (i : Fin 32) : ∑ s, f (row i s) = (∑ r, f (lower i r)) + ∑ r, f (upper i r) := by
  rw [show (∑ s : Fin 512, f (row i s)) = ∑ s : Fin (256 + 256), f (row i s) from rfl, Fin.sum_univ_add]
  rfl

/-- The blocks of point `i` hold these arrays' rows. -/
structure Blocks (i : Fin 32) (x0 : Vec Ideal S512x1024 .f32) (x1 x2 x3 x4 : Vec Ideal S512x2048 .bf16) (x5 : Vec Ideal S1x1024 .f32)
    (x6 : Vec Ideal S4x512x512 .bf16) (x7 : Vec Ideal S1x2048 .f32) (x8 : Vec Ideal S2048x1024 .bf16)
    (dx : Fin 16384 → Fin 1024 → EReal) (g mx y dp : Fin 16384 → Fin 2048 → EReal) (gate : Fin 1024 → EReal)
    (wg : Fin 4 → Fin 512 → Fin 512 → EReal) (sc : Fin 2048 → EReal) (wo : Fin 2048 → Fin 1024 → EReal) : Prop where
  dx_eq : ∀ r d, x0 (ix2 r d) = dx (row i r) d
  g_eq : ∀ r c, x1 (ix2 r c) = g (row i r) c
  mx_eq : ∀ r c, x2 (ix2 r c) = mx (row i r) c
  y_eq : ∀ r c, x3 (ix2 r c) = y (row i r) c
  dp_eq : ∀ r c, x4 (ix2 r c) = dp (row i r) c
  gate_eq : ∀ d, x5 (ix2 0 d) = gate d
  wg_eq : ∀ k a b, x6 (ix3 k a b) = wg k a b
  sc_eq : ∀ c, x7 (ix2 0 c) = sc c
  wo_eq : ∀ c d, x8 (ix2 c d) = wo c d

/-- Loads of whole blocks. -/
theorem ld_rows (x : Vec Ideal S512x1024 .f32) : View.ld x (Rect.unit ![0, 0] ![512, 1024] inb_S512x1024_S512x1024_0_0) = x := by
  funext j; idx_vars j; pointwise

@[inherit_doc ld_rows]
theorem ld_gate (x : Vec Ideal S1x1024 .f32) : View.ld x (Rect.unit ![0, 0] ![1, 1024] inb_S1x1024_S1x1024_0_0) = x := by
  funext j; idx_vars j; pointwise
  exact congrArg (fun a => x (ix2 a _)) (Subsingleton.elim _ _)

@[inherit_doc ld_rows]
theorem ld_scale (x : Vec Ideal S1x2048 .f32) : View.ld x (Rect.unit ![0, 0] ![1, 2048] inb_S1x2048_S1x2048_0_0) = x := by
  funext j; idx_vars j; pointwise
  exact congrArg (fun a => x (ix2 a _)) (Subsingleton.elim _ _)

@[inherit_doc ld_rows]
theorem ld_wo (x : Vec Ideal S2048x1024 .bf16) : View.ld x (Rect.unit ![0, 0] ![2048, 1024] inb_S2048x1024_S2048x1024_0_0) = x := by
  funext j; idx_vars j; pointwise

@[inherit_doc ld_rows]
theorem ld_carry (x : Vec Ideal S16x2048 .f32) : View.ld x (Rect.unit ![0, 0] ![16, 2048] inb_S16x2048_S16x2048_0_0) = x := by
  funext j; idx_vars j; pointwise

/-- The load of slab `k`. -/
theorem ld_slab {b d : ℕ} {e : EltTy} (o : Vec Ideal ⟨3, ![4, b, d]⟩ e) (k : Fin 4) (inb) (r : Fin b) (m : Fin d) :
    View.ld o (Rect.unit (s := ⟨3, ![4, b, d]⟩) ![k.val, 0, 0] ![1, b, d] inb) (ix3 (0 : Fin 1) r m) = o (ix3 k r m) :=
  congrArg o (slab_emb k inb r m)

theorem col_0 (a : Fin 512) : col 0 a = ⟨a.val, by omega⟩ := Fin.ext (by simp [val_col])
theorem col_1 (a : Fin 512) : col 1 a = ⟨512 + a.val, by omega⟩ := Fin.ext (by simp [val_col])
theorem col_2 (a : Fin 512) : col 2 a = ⟨1024 + a.val, by omega⟩ := Fin.ext (by simp [val_col])
theorem col_3 (a : Fin 512) : col 3 a = ⟨1536 + a.val, by omega⟩ := Fin.ext (by simp [val_col])

/-- The gradient of `w_out`: one slab. -/
theorem mt_slab (x0 : Vec Ideal S512x1024 .f32) (x3 : Vec Ideal S512x2048 .bf16) (v : Vec Ideal S1x512x1024 .f32) (r : Fin 512) (d : Fin 1024) :
    k0_pay12 x0 v (View.ld x3 (Rect.unit ![0, 0] ![512, 512] inb_S512x2048_S512x512_0_0)) (ix3 0 r d)
        = v (ix3 0 r d) + ∑ s, x3 (ix2 s (col 0 r)) * x0 (ix2 s d)
    ∧ k0_pay32 (k0_pay9 x0) v (View.ld x3 (Rect.unit ![0, 512] ![512, 512] inb_S512x2048_S512x512_0_512)) (ix3 0 r d)
        = v (ix3 0 r d) + ∑ s, x3 (ix2 s (col 1 r)) * x0 (ix2 s d)
    ∧ k0_pay63 (k0_pay9 x0) v (View.ld x3 (Rect.unit ![0, 1024] ![512, 512] inb_S512x2048_S512x512_0_1024)) (ix3 0 r d)
        = v (ix3 0 r d) + ∑ s, x3 (ix2 s (col 2 r)) * x0 (ix2 s d)
    ∧ k0_pay2 (k0_pay9 x0) v (View.ld x3 (Rect.unit ![0, 1536] ![512, 512] inb_S512x2048_S512x512_0_1536)) (ix3 0 r d)
        = v (ix3 0 r d) + ∑ s, x3 (ix2 s (col 3 r)) * x0 (ix2 s d) := by
  refine ⟨?_, ?_, ?_, ?_⟩ <;> pointwise [k0_pay12, k0_pay32, k0_pay63, k0_pay2, k0_pay9] <;>
    simp only [col_0, col_1, col_2, col_3]

/-- The gradient of the group weights: one slab, `l` and `u` the gradients of `mixed` on the two halves of the rows. -/
theorem dw_slab (x4 : Vec Ideal S512x2048 .bf16) (u : FVec Ideal S256x2048 .bf16) (l : FVec Ideal S256x2048 .f32) (v : Vec Ideal S1x512x512 .f32) (a b : Fin 512) :
    k0_pay34 u l v (View.ld x4 (Rect.unit ![0, 0] ![512, 512] inb_S512x2048_S512x512_0_0)) (ix3 0 a b)
        = v (ix3 0 a b) + ((∑ r : Fin 256, x4 (ix2 ⟨r.val, by omega⟩ (col 0 a)) * l (ix2 r (col 0 b))) + ∑ r : Fin 256, x4 (ix2 ⟨256 + r.val, by omega⟩ (col 0 a)) * u (ix2 r (col 0 b)))
    ∧ k0_pay35 (k0_pay33 u l) v (View.ld x4 (Rect.unit ![0, 512] ![512, 512] inb_S512x2048_S512x512_0_512)) (ix3 0 a b)
        = v (ix3 0 a b) + ((∑ r : Fin 256, x4 (ix2 ⟨r.val, by omega⟩ (col 1 a)) * l (ix2 r (col 1 b))) + ∑ r : Fin 256, x4 (ix2 ⟨256 + r.val, by omega⟩ (col 1 a)) * u (ix2 r (col 1 b)))
    ∧ k0_pay36 (k0_pay33 u l) v (View.ld x4 (Rect.unit ![0, 1024] ![512, 512] inb_S512x2048_S512x512_0_1024)) (ix3 0 a b)
        = v (ix3 0 a b) + ((∑ r : Fin 256, x4 (ix2 ⟨r.val, by omega⟩ (col 2 a)) * l (ix2 r (col 2 b))) + ∑ r : Fin 256, x4 (ix2 ⟨256 + r.val, by omega⟩ (col 2 a)) * u (ix2 r (col 2 b)))
    ∧ k0_pay37 (k0_pay33 u l) v (View.ld x4 (Rect.unit ![0, 1536] ![512, 512] inb_S512x2048_S512x512_0_1536)) (ix3 0 a b)
        = v (ix3 0 a b) + ((∑ r : Fin 256, x4 (ix2 ⟨r.val, by omega⟩ (col 3 a)) * l (ix2 r (col 3 b))) + ∑ r : Fin 256, x4 (ix2 ⟨256 + r.val, by omega⟩ (col 3 a)) * u (ix2 r (col 3 b))) := by
  refine ⟨?_, ?_, ?_, ?_⟩ <;> pointwise [k0_pay34, k0_pay35, k0_pay36, k0_pay37, k0_pay33, k0_pay30] <;>
    simp only [col_0, col_1, col_2, col_3]

section
variable {i : Fin 32} {x0 : Vec Ideal S512x1024 .f32} {x1 x2 x3 x4 : Vec Ideal S512x2048 .bf16} {x5 : Vec Ideal S1x1024 .f32}
    {x6 : Vec Ideal S4x512x512 .bf16} {x7 : Vec Ideal S1x2048 .f32} {x8 : Vec Ideal S2048x1024 .bf16}
    {dx : Fin 16384 → Fin 1024 → EReal} {g mx y dp : Fin 16384 → Fin 2048 → EReal} {gate : Fin 1024 → EReal}
    {wg : Fin 4 → Fin 512 → Fin 512 → EReal} {sc : Fin 2048 → EReal} {wo : Fin 2048 → Fin 1024 → EReal}
  (H : Blocks i x0 x1 x2 x3 x4 x5 x6 x7 x8 dx g mx y dp gate wg sc wo)
include H

/-! The gradient of `y` and of `mixed` on the two halves of the rows. -/

theorem dy_upper (r : Fin 256) (c : Fin 2048) :
    k0_pay11 (View.ld x0 (Rect.unit ![256, 0] ![256, 1024] inb_S512x1024_S256x1024_256_0)) x5 x8 (ix2 r c) = dy dx gate wo (upper i r) c :=
  dy_chain dx gate wo (upper i) _ _ _ (fun r d => by pointwise; rw [H.dx_eq]; rfl) H.gate_eq H.wo_eq r c

theorem dy_lower (r : Fin 256) (c : Fin 2048) :
    k0_pay11 (View.ld x0 (Rect.unit ![0, 0] ![256, 1024] inb_S512x1024_S256x1024_0_0)) x5 x8 (ix2 r c) = dy dx gate wo (lower i r) c :=
  dy_chain dx gate wo (lower i) _ _ _ (fun r d => by pointwise; rw [H.dx_eq]; rfl) H.gate_eq H.wo_eq r c

theorem g_upper (r : Fin 256) (c : Fin 2048) : View.ld x1 (Rect.unit ![256, 0] ![256, 2048] inb_S512x2048_S256x2048_256_0) (ix2 r c) = g (upper i r) c := by
  pointwise
  exact H.g_eq _ _

theorem g_lower (r : Fin 256) (c : Fin 2048) : View.ld x1 (Rect.unit ![0, 0] ![256, 2048] inb_S512x2048_S256x2048_0_0) (ix2 r c) = g (lower i r) c := by
  pointwise
  exact H.g_eq _ _

theorem mx_upper (r : Fin 256) (c : Fin 2048) : View.ld x2 (Rect.unit ![256, 0] ![256, 2048] inb_S512x2048_S256x2048_256_0) (ix2 r c) = mx (upper i r) c := by
  pointwise
  exact H.mx_eq _ _

theorem mx_lower (r : Fin 256) (c : Fin 2048) : View.ld x2 (Rect.unit ![0, 0] ![256, 2048] inb_S512x2048_S256x2048_0_0) (ix2 r c) = mx (lower i r) c := by
  pointwise
  exact H.mx_eq _ _

end

/-- The gradient of `mixed` on the upper rows, as the kernel computes it. -/
def dmUpper (x0 : Vec Ideal S512x1024 .f32) (x1 : Vec Ideal S512x2048 .bf16) (x5 : Vec Ideal S1x1024 .f32) (x7 : Vec Ideal S1x2048 .f32)
    (x8 : Vec Ideal S2048x1024 .bf16) : FVec Ideal S256x2048 .bf16 :=
  k0_pay20 (k0_pay10 (View.ld x0 (Rect.unit ![256, 0] ![256, 1024] inb_S512x1024_S256x1024_256_0)) x5 x8)
    (View.ld x1 (Rect.unit ![256, 0] ![256, 2048] inb_S512x2048_S256x2048_256_0)) x7

/-- The same on the lower rows. -/
def dmLower (x0 : Vec Ideal S512x1024 .f32) (x1 : Vec Ideal S512x2048 .bf16) (x5 : Vec Ideal S1x1024 .f32) (x7 : Vec Ideal S1x2048 .f32)
    (x8 : Vec Ideal S2048x1024 .bf16) : FVec Ideal S256x2048 .f32 :=
  k0_pay27 (k0_pay11 (View.ld x0 (Rect.unit ![0, 0] ![256, 1024] inb_S512x1024_S256x1024_0_0)) x5 x8)
    (View.ld x1 (Rect.unit ![0, 0] ![256, 2048] inb_S512x2048_S256x2048_0_0)) x7

section
variable {i : Fin 32} {x0 : Vec Ideal S512x1024 .f32} {x1 x2 x3 x4 : Vec Ideal S512x2048 .bf16} {x5 : Vec Ideal S1x1024 .f32}
    {x6 : Vec Ideal S4x512x512 .bf16} {x7 : Vec Ideal S1x2048 .f32} {x8 : Vec Ideal S2048x1024 .bf16}
    {dx : Fin 16384 → Fin 1024 → EReal} {g mx y dp : Fin 16384 → Fin 2048 → EReal} {gate : Fin 1024 → EReal}
    {wg : Fin 4 → Fin 512 → Fin 512 → EReal} {sc : Fin 2048 → EReal} {wo : Fin 2048 → Fin 1024 → EReal}
  (H : Blocks i x0 x1 x2 x3 x4 x5 x6 x7 x8 dx g mx y dp gate wg sc wo)
include H

theorem dm_upper (r : Fin 256) (c : Fin 2048) : dmUpper x0 x1 x5 x7 x8 (ix2 r c) = dm dx g gate sc wo (upper i r) c :=
  dm_chain dx g gate sc wo (upper i) _ _ _ (dy_upper H) (g_upper H) H.sc_eq r c

theorem dm_lower (r : Fin 256) (c : Fin 2048) : dmLower x0 x1 x5 x7 x8 (ix2 r c) = dm dx g gate sc wo (lower i r) c :=
  dm_chain dx g gate sc wo (lower i) _ _ _ (dy_lower H) (g_lower H) H.sc_eq r c

/-- The gradient of `w_out` after the point, `o` before it. -/
theorem mt_pieces (o : Vec Ideal S4x512x1024 .f32) (L' : List (View.Piece (Elt Ideal) S4x512x1024 .f32)) :
    View.canon ([⟨Rect.unit ![3, 0, 0] ![1, 512, 1024] inb_S4x512x1024_S1x512x1024_3_0_0,
          k0_pay2 (k0_pay9 x0) (View.ld o (Rect.unit ![3, 0, 0] ![1, 512, 1024] inb_S4x512x1024_S1x512x1024_3_0_0))
            (View.ld x3 (Rect.unit ![0, 1536] ![512, 512] inb_S512x2048_S512x512_0_1536))⟩,
        ⟨Rect.unit ![2, 0, 0] ![1, 512, 1024] inb_S4x512x1024_S1x512x1024_2_0_0,
          k0_pay63 (k0_pay9 x0) (View.ld o (Rect.unit ![2, 0, 0] ![1, 512, 1024] inb_S4x512x1024_S1x512x1024_2_0_0))
            (View.ld x3 (Rect.unit ![0, 1024] ![512, 512] inb_S512x2048_S512x512_0_1024))⟩,
        ⟨Rect.unit ![1, 0, 0] ![1, 512, 1024] inb_S4x512x1024_S1x512x1024_1_0_0,
          k0_pay32 (k0_pay9 x0) (View.ld o (Rect.unit ![1, 0, 0] ![1, 512, 1024] inb_S4x512x1024_S1x512x1024_1_0_0))
            (View.ld x3 (Rect.unit ![0, 512] ![512, 512] inb_S512x2048_S512x512_0_512))⟩,
        ⟨Rect.unit ![0, 0, 0] ![1, 512, 1024] inb_S4x512x1024_S1x512x1024_0_0_0,
          k0_pay12 x0 (View.ld o (Rect.unit ![0, 0, 0] ![1, 512, 1024] inb_S4x512x1024_S1x512x1024_0_0_0))
            (View.ld x3 (Rect.unit ![0, 0] ![512, 512] inb_S512x2048_S512x512_0_0))⟩] ++ L')
      = fun j => o j + ∑ s, y (row i s) (col (j 0) (j 1)) * dx (row i s) (j 2) := by
  have e : ∀ s r d, x3 (ix2 s r) * x0 (ix2 s d) = y (row i s) r * dx (row i s) d := fun s r d => by rw [H.y_eq, H.dx_eq]
  refine canon_slabs _ _ _ _ _ _ _ _ _ L' (fun r d => ?_) (fun r d => ?_) (fun r d => ?_) (fun r d => ?_)
  · exact (mt_slab x0 x3 _ r d).1.trans (congrArg₂ (· + ·) (ld_slab o 0 _ r d) (Finset.sum_congr rfl fun s _ => e s _ d))
  · exact (mt_slab x0 x3 _ r d).2.1.trans (congrArg₂ (· + ·) (ld_slab o 1 _ r d) (Finset.sum_congr rfl fun s _ => e s _ d))
  · exact (mt_slab x0 x3 _ r d).2.2.1.trans (congrArg₂ (· + ·) (ld_slab o 2 _ r d) (Finset.sum_congr rfl fun s _ => e s _ d))
  · exact (mt_slab x0 x3 _ r d).2.2.2.trans (congrArg₂ (· + ·) (ld_slab o 3 _ r d) (Finset.sum_congr rfl fun s _ => e s _ d))

/-- The gradient of the group weights after the point, `o` before it. -/
theorem dw_pieces (o : Vec Ideal S4x512x512 .f32) (L' : List (View.Piece (Elt Ideal) S4x512x512 .f32)) :
    View.canon ([⟨Rect.unit ![3, 0, 0] ![1, 512, 512] inb_S4x512x512_S1x512x512_3_0_0,
          k0_pay37 (k0_pay33 (dmUpper x0 x1 x5 x7 x8) (dmLower x0 x1 x5 x7 x8)) (View.ld o (Rect.unit ![3, 0, 0] ![1, 512, 512] inb_S4x512x512_S1x512x512_3_0_0))
            (View.ld x4 (Rect.unit ![0, 1536] ![512, 512] inb_S512x2048_S512x512_0_1536))⟩,
        ⟨Rect.unit ![2, 0, 0] ![1, 512, 512] inb_S4x512x512_S1x512x512_2_0_0,
          k0_pay36 (k0_pay33 (dmUpper x0 x1 x5 x7 x8) (dmLower x0 x1 x5 x7 x8)) (View.ld o (Rect.unit ![2, 0, 0] ![1, 512, 512] inb_S4x512x512_S1x512x512_2_0_0))
            (View.ld x4 (Rect.unit ![0, 1024] ![512, 512] inb_S512x2048_S512x512_0_1024))⟩,
        ⟨Rect.unit ![1, 0, 0] ![1, 512, 512] inb_S4x512x512_S1x512x512_1_0_0,
          k0_pay35 (k0_pay33 (dmUpper x0 x1 x5 x7 x8) (dmLower x0 x1 x5 x7 x8)) (View.ld o (Rect.unit ![1, 0, 0] ![1, 512, 512] inb_S4x512x512_S1x512x512_1_0_0))
            (View.ld x4 (Rect.unit ![0, 512] ![512, 512] inb_S512x2048_S512x512_0_512))⟩,
        ⟨Rect.unit ![0, 0, 0] ![1, 512, 512] inb_S4x512x512_S1x512x512_0_0_0,
          k0_pay34 (dmUpper x0 x1 x5 x7 x8) (dmLower x0 x1 x5 x7 x8) (View.ld o (Rect.unit ![0, 0, 0] ![1, 512, 512] inb_S4x512x512_S1x512x512_0_0_0))
            (View.ld x4 (Rect.unit ![0, 0] ![512, 512] inb_S512x2048_S512x512_0_0))⟩] ++ L')
      = fun j => o j + ∑ s, dp (row i s) (col (j 0) (j 1)) * dm dx g gate sc wo (row i s) (col (j 0) (j 2)) := by
  have e : ∀ a b, (∑ r : Fin 256, x4 (ix2 ⟨r.val, by omega⟩ a) * dmLower x0 x1 x5 x7 x8 (ix2 r b))
      + (∑ r : Fin 256, x4 (ix2 ⟨256 + r.val, by omega⟩ a) * dmUpper x0 x1 x5 x7 x8 (ix2 r b))
      = ∑ s, dp (row i s) a * dm dx g gate sc wo (row i s) b := fun a b => by
    rw [sum_rows fun t => dp t a * dm dx g gate sc wo t b]
    simp only [H.dp_eq, dm_lower H, dm_upper H]
    rfl
  refine canon_slabs _ _ _ _ _ _ _ _ _ L' (fun a b => ?_) (fun a b => ?_) (fun a b => ?_) (fun a b => ?_)
  · exact (dw_slab x4 _ _ _ a b).1.trans (congrArg₂ (· + ·) (ld_slab o 0 _ a b) (e _ _))
  · exact (dw_slab x4 _ _ _ a b).2.1.trans (congrArg₂ (· + ·) (ld_slab o 1 _ a b) (e _ _))
  · exact (dw_slab x4 _ _ _ a b).2.2.1.trans (congrArg₂ (· + ·) (ld_slab o 2 _ a b) (e _ _))
  · exact (dw_slab x4 _ _ _ a b).2.2.2.trans (congrArg₂ (· + ·) (ld_slab o 3 _ a b) (e _ _))

/-- The gradient of `scale` after the point. -/
theorem ds_point (o : Vec Ideal S1x2048 .f32) (c : Fin 2048) :
    k0_pay28 (k0_pay11 (View.ld x0 (Rect.unit ![0, 0] ![256, 1024] inb_S512x1024_S256x1024_0_0)) x5 x8)
      (View.ld x1 (Rect.unit ![0, 0] ![256, 2048] inb_S512x2048_S256x2048_0_0)) (View.ld x2 (Rect.unit ![0, 0] ![256, 2048] inb_S512x2048_S256x2048_0_0))
      (k0_pay18 (k0_pay10 (View.ld x0 (Rect.unit ![256, 0] ![256, 1024] inb_S512x1024_S256x1024_256_0)) x5 x8)
        (View.ld x1 (Rect.unit ![256, 0] ![256, 2048] inb_S512x2048_S256x2048_256_0)) (View.ld x2 (Rect.unit ![256, 0] ![256, 2048] inb_S512x2048_S256x2048_256_0)) o)
      (ix2 0 c) = o (ix2 0 c) + ∑ s, ds dx g mx gate wo (row i s) c := by
  refine (ds_chain dx g mx gate wo (lower i) _ _ _ (dy_lower H) (g_lower H) (mx_lower H) _ c).trans ?_
  rw [sum_rows fun t => ds dx g mx gate wo t c, add_comm (∑ r, ds dx g mx gate wo (lower i r) c), ← add_assoc]
  exact congrArg (· + _) (ds_chain dx g mx gate wo (upper i) _ _ _ (dy_upper H) (g_upper H) (mx_upper H) o c)

/-- The gradient of the group bias after the point. -/
theorem db_point (o : Vec Ideal S1x2048 .f32) (c : Fin 2048) :
    k0_pay29 (k0_pay11 (View.ld x0 (Rect.unit ![0, 0] ![256, 1024] inb_S512x1024_S256x1024_0_0)) x5 x8)
      (View.ld x1 (Rect.unit ![0, 0] ![256, 2048] inb_S512x2048_S256x2048_0_0)) x7
      (k0_pay19 (k0_pay10 (View.ld x0 (Rect.unit ![256, 0] ![256, 1024] inb_S512x1024_S256x1024_256_0)) x5 x8)
        (View.ld x1 (Rect.unit ![256, 0] ![256, 2048] inb_S512x2048_S256x2048_256_0)) x7 o)
      (ix2 0 c) = o (ix2 0 c) + ∑ s, dm dx g gate sc wo (row i s) c := by
  refine (db_chain dx g gate sc wo (lower i) _ _ _ (dy_lower H) (g_lower H) H.sc_eq _ c).trans ?_
  rw [sum_rows fun t => dm dx g gate sc wo t c, add_comm (∑ r, dm dx g gate sc wo (lower i r) c), ← add_assoc]
  exact congrArg (· + _) (db_chain dx g gate sc wo (upper i) _ _ _ (dy_upper H) (g_upper H) H.sc_eq o c)

end

end Cert.KernelIdeal.Point

end
-- ==== Proof.Pool.lean ====
/-
  The gradient of `proj` at one grid point, and the sixteen rows the point hands to the next one.
-/
module

public import proofs.«01_k».proof.Proof.Step

@[expose] public section

set_option maxRecDepth 16384

noncomputable section

namespace Cert.KernelIdeal.Point

open Idealize.ShloMosaic Idealize.ShloMosaic.TcCoe Idealize.SL.Sem Cert.KernelIdeal Cert.KernelIdeal.Gen Cert.Mixer
open scoped BigOperators

/-- The slabs of the group weights. -/
def slabs (x6 : Vec Ideal S4x512x512 .bf16) : Fin 4 → Vec Ideal S1x512x512 .bf16 :=
  ![View.ld x6 (Rect.unit ![0, 0, 0] ![1, 512, 512] inb_S4x512x512_S1x512x512_0_0_0), View.ld x6 (Rect.unit ![1, 0, 0] ![1, 512, 512] inb_S4x512x512_S1x512x512_1_0_0),
    View.ld x6 (Rect.unit ![2, 0, 0] ![1, 512, 512] inb_S4x512x512_S1x512x512_2_0_0), View.ld x6 (Rect.unit ![3, 0, 0] ![1, 512, 512] inb_S4x512x512_S1x512x512_3_0_0)]

/-- A chain's gradients of the pooled differences over the counts. -/
def over (v : FVec Ideal S256x2048 .bf16) (c : Fin 4 → FVec Ideal S256x1 .f32) (w : Fin 4 → Vec Ideal S1x512x512 .bf16) : FVec Ideal S256x2048 .f32 :=
  k0_pay61 v (c 0) (c 1) (c 2) (c 3) (k0_pay56 v) (w 0) (w 1) (w 2) (w 3)

/-- Its first sixteen rows. -/
def ahead (q : FVec Ideal S256x2048 .f32) : FVec Ideal S16x2048 .f32 := extractStridedSlice S16x2048 ![0, 0] q slices_S256x2048_o0_0_S16x2048

/-- A chain's rows and the sixteen rows behind them. -/
def behind (q : FVec Ideal S256x2048 .f32) (b : FVec Ideal S16x2048 .f32) : FVec Ideal S272x2048 .f32 :=
  concatenate S272x2048 0 [⟨S256x2048, q⟩, ⟨S16x2048, b⟩] concatenates_S256x2048_S16x2048_S272x2048_d0

/-- A chain's part of the pooled half, `b` the rows behind it. -/
def pool (v : FVec Ideal S256x2048 .bf16) (c : Fin 4 → FVec Ideal S256x1 .f32) (w : Fin 4 → Vec Ideal S1x512x512 .bf16) (b : FVec Ideal S16x2048 .f32) :
    FVec Ideal S256x2048 .bf16 :=
  pooled (behind (over v c w) b) (products v w 0) (products v w 1) (products v w 2) (products v w 3)

section
variable {n : ℕ} (dx : Fin n → Fin 1024 → EReal) (g : Fin n → Fin 2048 → EReal) (gate : Fin 1024 → EReal)
  (wg : Fin 4 → Fin 512 → Fin 512 → EReal) (sc : Fin 2048 → EReal) (wo : Fin 2048 → Fin 1024 → EReal)

/-- `dqz` by the column's number. -/
def dqc (t : ℕ) (c : Fin 2048) : EReal := dqz dx g gate wg sc wo t ⟨c.val / 512, by omega⟩ ⟨c.val % 512, by omega⟩

theorem dqc_col (t : ℕ) (k : Fin 4) (m : Fin 512) : dqc dx g gate wg sc wo t (col k m) = dqz dx g gate wg sc wo t k m :=
  congrArg₂ (dqz dx g gate wg sc wo t) (Fin.ext (show (512 * k.val + m.val) / 512 = k.val by omega)) (Fin.ext (show (512 * k.val + m.val) % 512 = m.val by omega))

theorem dqz_of_lt (s : Fin n) (k : Fin 4) (m : Fin 512) : dqz dx g gate wg sc wo s.val k m = dq dx g gate wg sc wo s k m := dif_pos s.isLt

variable (ρ : Fin 256 → Fin n) (p : ℕ) (hρ : ∀ r, (ρ r).val = p + r.val)
  (v : FVec Ideal S256x2048 .bf16) (hv : ∀ r c, v (ix2 r c) = dm dx g gate sc wo (ρ r) c)
  (w : Fin 4 → Vec Ideal S1x512x512 .bf16) (hw : ∀ k a b, w k (ix3 0 a b) = wg k a b)
  (c : Fin 4 → FVec Ideal S256x1 .f32) (hc : ∀ k r, c k (ix2 r 0) = inv (p + r.val + 1) k)

include hρ hv hw hc

theorem over_apply (r : Fin 256) (x : Fin 2048) : over v c w (ix2 r x) = dqc dx g gate wg sc wo (p + r.val) x := by
  obtain ⟨k, m, rfl⟩ := exists_col x
  rw [dqc_col, ← hρ, dqz_of_lt]
  exact dq_chain dx g gate wg sc wo ρ v hv w hw c (fun k r => by rw [hc, hρ]) r k m

theorem pool_apply (b : FVec Ideal S16x2048 .f32) (hb : ∀ r x, b (ix2 r x) = dqc dx g gate wg sc wo (p + 256 + r.val) x) (r : Fin 256) (k : Fin 4) (m : Fin 512) :
    pool v c w b (ix2 r (col k m)) = dv dx g gate wg sc wo (ρ r) k m := by
  refine (pooled_apply _ (products v w) (fun t => dqc dx g gate wg sc wo (p + t)) (fun r x => ?_) r k m).trans ?_
  · rw [behind, behind_apply]
    split
    · exact over_apply dx g gate wg sc wo ρ p hρ v hv w hw c hc _ x
    · rw [hb]
      exact congrArg (dqc dx g gate wg sc wo · x) (by simp only []; omega)
  · rw [dd_chain dx g gate wg sc wo ρ v hv w hw, dv, hρ]
    simp only [dqc_col, add_assoc]

end

theorem ahead_apply (q : FVec Ideal S256x2048 .f32) (r : Fin 16) (x : Fin 2048) : ahead q (ix2 r x) = q (ix2 ⟨r.val, by omega⟩ x) := by
  pointwise [ahead]

theorem pay3_apply (q : FVec Ideal S16x2048 .f32) (r : Fin 16) (x : Fin 2048) : k0_pay3 q (ix2 r x) = q (ix2 r x) := by
  pointwise [k0_pay3]

section
variable {i : Fin 32} {x0 : Vec Ideal S512x1024 .f32} {x1 x2 x3 x4 : Vec Ideal S512x2048 .bf16} {x5 : Vec Ideal S1x1024 .f32}
    {x6 : Vec Ideal S4x512x512 .bf16} {x7 : Vec Ideal S1x2048 .f32} {x8 : Vec Ideal S2048x1024 .bf16}
    {dx : Fin 16384 → Fin 1024 → EReal} {g mx y dp : Fin 16384 → Fin 2048 → EReal} {gate : Fin 1024 → EReal}
    {wg : Fin 4 → Fin 512 → Fin 512 → EReal} {sc : Fin 2048 → EReal} {wo : Fin 2048 → Fin 1024 → EReal}
  (H : Blocks i x0 x1 x2 x3 x4 x5 x6 x7 x8 dx g mx y dp gate wg sc wo)
include H

theorem slabs_eq (k : Fin 4) (a b : Fin 512) : slabs x6 k (ix3 0 a b) = wg k a b := by
  match k with
  | 0 => exact (ld_slab x6 0 _ a b).trans (H.wg_eq 0 a b)
  | 1 => exact (ld_slab x6 1 _ a b).trans (H.wg_eq 1 a b)
  | 2 => exact (ld_slab x6 2 _ a b).trans (H.wg_eq 2 a b)
  | 3 => exact (ld_slab x6 3 _ a b).trans (H.wg_eq 3 a b)

theorem over_lower (r : Fin 256) (x : Fin 2048) :
    over (k0_pay30 (dmLower x0 x1 x5 x7 x8)) (counts0 i) (slabs x6) (ix2 r x) = dqc dx g gate wg sc wo (512 * (31 - i.val) + r.val) x :=
  over_apply dx g gate wg sc wo (lower i) (512 * (31 - i.val)) (fun r => rfl) _ (dm_lower H) _ (slabs_eq H) _ (counts0_apply i) r x

theorem over_upper (r : Fin 256) (x : Fin 2048) :
    over (dmUpper x0 x1 x5 x7 x8) (counts1 i) (slabs x6) (ix2 r x) = dqc dx g gate wg sc wo (512 * (31 - i.val) + 256 + r.val) x :=
  over_apply dx g gate wg sc wo (upper i) (512 * (31 - i.val) + 256) (fun r => by simp [upper, row]; omega) _ (dm_upper H) _ (slabs_eq H) _ (counts1_apply i) r x

/-- The rows handed on. -/
theorem carry_point (r : Fin 16) (x : Fin 2048) :
    k0_pay3 (ahead (over (k0_pay30 (dmLower x0 x1 x5 x7 x8)) (counts0 i) (slabs x6))) (ix2 r x) = dqc dx g gate wg sc wo (512 * (31 - i.val) + r.val) x := by
  exact (pay3_apply _ r x).trans ((ahead_apply _ r x).trans (over_lower H ⟨r.val, by omega⟩ x))

/-- The pooled half of the lower rows. -/
theorem pool_lower (r : Fin 256) (k : Fin 4) (m : Fin 512) :
    pool (k0_pay30 (dmLower x0 x1 x5 x7 x8)) (counts0 i) (slabs x6) (ahead (over (dmUpper x0 x1 x5 x7 x8) (counts1 i) (slabs x6))) (ix2 r (col k m))
      = dv dx g gate wg sc wo (lower i r) k m :=
  pool_apply dx g gate wg sc wo (lower i) (512 * (31 - i.val)) (fun r => rfl) _ (dm_lower H) _ (slabs_eq H) _ (counts0_apply i) _
    (fun r x => (ahead_apply _ r x).trans (over_upper H _ x)) r k m

/-- The pooled half of the upper rows, `cq` the rows handed over by the point before. -/
theorem pool_upper (cq : Vec Ideal S16x2048 .f32) (hcq : ∀ r x, cq (ix2 r x) = dqc dx g gate wg sc wo (512 * (32 - i.val) + r.val) x) (r : Fin 256) (k : Fin 4) (m : Fin 512) :
    pool (dmUpper x0 x1 x5 x7 x8) (counts1 i) (slabs x6) cq (ix2 r (col k m)) = dv dx g gate wg sc wo (upper i r) k m :=
  pool_apply dx g gate wg sc wo (upper i) (512 * (31 - i.val) + 256) (fun r => by simp [upper, row]; omega) _ (dm_upper H) _ (slabs_eq H) _ (counts1_apply i) _
    (fun r x => (hcq r x).trans (congrArg (dqc dx g gate wg sc wo · x) (by omega))) r k m

/-- The gate half of the lower rows. -/
theorem gate_lower (r : Fin 256) (c : Fin 2048) :
    k0_pay31 (k0_pay24 (View.ld x1 (Rect.unit ![0, 0] ![256, 2048] inb_S512x2048_S256x2048_0_0))) (k0_pay25 (View.ld x1 (Rect.unit ![0, 0] ![256, 2048] inb_S512x2048_S256x2048_0_0)))
      (k0_pay26 (k0_pay11 (View.ld x0 (Rect.unit ![0, 0] ![256, 1024] inb_S512x1024_S256x1024_0_0)) x5 x8) (View.ld x2 (Rect.unit ![0, 0] ![256, 2048] inb_S512x2048_S256x2048_0_0))) x7
      (ix2 r c) = dg dx g mx gate sc wo (lower i r) c :=
  dg_chain dx g mx gate sc wo (lower i) _ _ _ _ (dy_lower H) (g_lower H) (mx_lower H) H.sc_eq r c

/-- The gate half of the upper rows. -/
theorem gate_upper (r : Fin 256) (c : Fin 2048) :
    k0_pay31 (k0_pay24 (View.ld x1 (Rect.unit ![256, 0] ![256, 2048] inb_S512x2048_S256x2048_256_0))) (k0_pay25 (View.ld x1 (Rect.unit ![256, 0] ![256, 2048] inb_S512x2048_S256x2048_256_0)))
      (k0_pay26 (k0_pay11 (View.ld x0 (Rect.unit ![256, 0] ![256, 1024] inb_S512x1024_S256x1024_256_0)) x5 x8) (View.ld x2 (Rect.unit ![256, 0] ![256, 2048] inb_S512x2048_S256x2048_256_0))) x7
      (ix2 r c) = dg dx g mx gate sc wo (upper i r) c :=
  dg_chain dx g mx gate sc wo (upper i) _ _ _ _ (dy_upper H) (g_upper H) (mx_upper H) H.sc_eq r c

end

section
variable {n : ℕ} (dx : Fin n → Fin 1024 → EReal) (g mx : Fin n → Fin 2048 → EReal) (gate : Fin 1024 → EReal)
  (wg : Fin 4 → Fin 512 → Fin 512 → EReal) (sc : Fin 2048 → EReal) (wo : Fin 2048 → Fin 1024 → EReal)

/-- The gradient of `proj`: the pooled half, then the gate half. -/
def dproj (s : Fin n) (c : Fin 4096) : EReal :=
  if h : c.val < 2048 then dv dx g gate wg sc wo s ⟨c.val / 512, by omega⟩ ⟨c.val % 512, by omega⟩ else dg dx g mx gate sc wo s ⟨c.val - 2048, by omega⟩

theorem dproj_col (s : Fin n) (c : Fin 2048) (k : Fin 4) (m : Fin 512) (h : c = col k m) : dproj dx g mx gate wg sc wo s ⟨c.val, by omega⟩ = dv dx g gate wg sc wo s k m := by
  subst h
  exact (dif_pos (col k m).isLt).trans (congrArg₂ (dv dx g gate wg sc wo s) (Fin.ext (show (512 * k.val + m.val) / 512 = k.val by omega)) (Fin.ext (show (512 * k.val + m.val) % 512 = m.val by omega)))

theorem dproj_gate (s : Fin n) (c : Fin 2048) : dproj dx g mx gate wg sc wo s ⟨2048 + c.val, by omega⟩ = dg dx g mx gate sc wo s c :=
  (dif_neg (show ¬ 2048 + c.val < 2048 by omega)).trans (congrArg (dg dx g mx gate sc wo s) (Fin.ext (show 2048 + c.val - 2048 = c.val by omega)))

end

end Cert.KernelIdeal.Point

end
-- ==== Proof.Outs.lean ====
/-
  What the run leaves in each output after one grid point, from the blocks of the point and what stood there before.
-/
module

public import proofs.«01_k».proof.Proof.Gen.KernelIdeal.Value
public import proofs.«01_k».proof.Proof.Pool

@[expose] public section

set_option maxRecDepth 16384

noncomputable section

namespace Cert.KernelIdeal.Point

open Idealize.ShloMosaic Idealize.ShloMosaic.TcCoe Idealize.SL.Sem Cert.KernelIdeal Cert.KernelIdeal.Gen Cert.Mixer
open scoped BigOperators

theorem hz2 : (![0, 0] : Fin 2 → Nat) = fun _ => 0 := funext fun a => by fin_cases a <;> rfl

section
variable (c : Dev nD) (i : grid0.Coords) (a1 : Memref sig .tc .vmem S512x1024 .f32) (h1 : a1.IsWhole) (a2 : Memref sig .tc .vmem S512x2048 .bf16) (h2 : a2.IsWhole) (a3 : Memref sig .tc .vmem S512x2048 .bf16) (h3 : a3.IsWhole) (a4 : Memref sig .tc .vmem S512x2048 .bf16) (h4 : a4.IsWhole) (a5 : Memref sig .tc .vmem S512x2048 .bf16) (h5 : a5.IsWhole) (a6 : Memref sig .tc .vmem S1x1024 .f32) (h6 : a6.IsWhole) (a7 : Memref sig .tc .vmem S4x512x512 .bf16) (h7 : a7.IsWhole) (a8 : Memref sig .tc .vmem S1x2048 .f32) (h8 : a8.IsWhole) (a9 : Memref sig .tc .vmem S2048x1024 .bf16) (h9 : a9.IsWhole) (a10 : Memref sig .tc .vmem S512x4096 .bf16) (h10 : a10.IsWhole) (a11 : Memref sig .tc .vmem S4x512x1024 .f32) (h11 : a11.IsWhole) (a12 : Memref sig .tc .vmem S4x512x512 .f32) (h12 : a12.IsWhole) (a13 : Memref sig .tc .vmem S1x2048 .f32) (h13 : a13.IsWhole) (a14 : Memref sig .tc .vmem S1x2048 .f32) (h14 : a14.IsWhole) (a15 : Memref sig .tc .vmem S16x2048 .f32) (h15 : a15.IsWhole)
  (x0 : Vec Ideal S512x1024 .f32) (x1 : Vec Ideal S512x2048 .bf16) (x2 : Vec Ideal S512x2048 .bf16) (x3 : Vec Ideal S512x2048 .bf16) (x4 : Vec Ideal S512x2048 .bf16) (x5 : Vec Ideal S1x1024 .f32) (x6 : Vec Ideal S4x512x512 .bf16) (x7 : Vec Ideal S1x2048 .f32) (x8 : Vec Ideal S2048x1024 .bf16) (o10 : Vec Ideal S4x512x1024 .f32) (o11 : Vec Ideal S4x512x512 .f32) (o12 o13 : Vec Ideal S1x2048 .f32) (cq : Vec Ideal S16x2048 .f32)
  {dx : Fin 16384 → Fin 1024 → EReal} {g mx y dp : Fin 16384 → Fin 2048 → EReal} {gate : Fin 1024 → EReal}
  {wg : Fin 4 → Fin 512 → Fin 512 → EReal} {sc : Fin 2048 → EReal} {wo : Fin 2048 → Fin 1024 → EReal}
  (H : Blocks (i 0) x0 x1 x2 x3 x4 x5 x6 x7 x8 dx g mx y dp gate wg sc wo)
include H

/-- The gradient of `w_out`, at the first point. -/
theorem mt_first (hc : cond0_0 i) : out0_A_10 c i a1 h1 a2 h2 a3 h3 a4 h4 a5 h5 a6 h6 a7 h7 a8 h8 a9 h9 a10 h10 a11 h11 a12 h12 a13 h13 a14 h14 a15 h15 hc x0 x1 x2 x3 x4 x5 x6 x7 x8 = fun j => (k0_pay7 (F := Ideal)) j + ∑ s, y (row (i 0) s) (col (j 0) (j 1)) * dx (row (i 0) s) (j 2) := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 hc x0 x1 x2 x3 x4 x5 x6 x7 x8)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread]
  simp (disch := decide) only [↓ View.readCov_skip, ↓ View.readCov_cons_toLoadRect, ↓ View.readCov_fill]
  simp only [ld_rows, ld_gate, ld_scale, ld_wo, ld_carry]
  exact mt_pieces H (k0_pay7 (F := Ideal)) [_]

/-- The gradient of the group weights, at the first point. -/
theorem dw_first (hc : cond0_0 i) : out0_A_11 c i a1 h1 a2 h2 a3 h3 a4 h4 a5 h5 a6 h6 a7 h7 a8 h8 a9 h9 a10 h10 a11 h11 a12 h12 a13 h13 a14 h14 a15 h15 hc x0 x1 x2 x3 x4 x5 x6 x7 x8 = fun j => (k0_pay8 (F := Ideal)) j + ∑ s, dp (row (i 0) s) (col (j 0) (j 1)) * dm dx g gate sc wo (row (i 0) s) (col (j 0) (j 2)) := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 hc x0 x1 x2 x3 x4 x5 x6 x7 x8)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread]
  simp (disch := decide) only [↓ View.readCov_skip, ↓ View.readCov_cons_toLoadRect, ↓ View.readCov_fill]
  simp only [ld_rows, ld_gate, ld_scale, ld_wo, ld_carry]
  exact dw_pieces H (k0_pay8 (F := Ideal)) [_]

/-- The gradient of `scale`, at the first point. -/
theorem ds_first (hc : cond0_0 i) : out0_A_12 c i a1 h1 a2 h2 a3 h3 a4 h4 a5 h5 a6 h6 a7 h7 a8 h8 a9 h9 a10 h10 a11 h11 a12 h12 a13 h13 a14 h14 a15 h15 hc x0 x1 x2 x3 x4 x5 x6 x7 x8 = fun j => (k0_pay5 (F := Ideal)) (ix2 0 (j 1)) + ∑ s, ds dx g mx gate wo (row (i 0) s) (j 1) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 hc x0 x1 x2 x3 x4 x5 x6 x7 x8)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread]
  simp (disch := decide) only [↓ View.readCov_skip, ↓ View.readCov_cons_toLoadRect, ↓ View.readCov_fill]
  simp only [ld_rows, ld_gate, ld_scale, ld_wo, ld_carry]
  refine (View.canon_cons_unit_zero hz2 _ _ _).trans (funext fun j => ?_)
  obtain ⟨u, b, rfl⟩ : ∃ (u : Fin 1) (b : Fin 2048), j = ix2 u b := ⟨j 0, j 1, eq_ix2 j⟩
  obtain rfl : u = 0 := Subsingleton.elim _ _
  exact ds_point H (k0_pay5 (F := Ideal)) b

/-- The gradient of the group bias, at the first point. -/
theorem db_first (hc : cond0_0 i) : out0_A_13 c i a1 h1 a2 h2 a3 h3 a4 h4 a5 h5 a6 h6 a7 h7 a8 h8 a9 h9 a10 h10 a11 h11 a12 h12 a13 h13 a14 h14 a15 h15 hc x0 x1 x2 x3 x4 x5 x6 x7 x8 = fun j => (k0_pay6 (F := Ideal)) (ix2 0 (j 1)) + ∑ s, dm dx g gate sc wo (row (i 0) s) (j 1) := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 hc x0 x1 x2 x3 x4 x5 x6 x7 x8)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread]
  simp (disch := decide) only [↓ View.readCov_skip, ↓ View.readCov_cons_toLoadRect, ↓ View.readCov_fill]
  simp only [ld_rows, ld_gate, ld_scale, ld_wo, ld_carry]
  refine (View.canon_cons_unit_zero hz2 _ _ _).trans (funext fun j => ?_)
  obtain ⟨u, b, rfl⟩ : ∃ (u : Fin 1) (b : Fin 2048), j = ix2 u b := ⟨j 0, j 1, eq_ix2 j⟩
  obtain rfl : u = 0 := Subsingleton.elim _ _
  exact db_point H (k0_pay6 (F := Ideal)) b

/-- The rows handed on, at the first point. -/
theorem carry_first (hc : cond0_0 i) : sout0_A_0 c i a1 h1 a2 h2 a3 h3 a4 h4 a5 h5 a6 h6 a7 h7 a8 h8 a9 h9 a10 h10 a11 h11 a12 h12 a13 h13 a14 h14 a15 h15 hc x0 x1 x2 x3 x4 x5 x6 x7 x8 = fun j => dqc dx g gate wg sc wo (512 * (31 - (i 0).val) + (j 0).val) (j 1) := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 a15 h15 hc x0 x1 x2 x3 x4 x5 x6 x7 x8)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread]
  simp only [ld_rows, ld_gate, ld_scale, ld_wo, ld_carry]
  refine (View.canon_cons_unit_zero hz2 _ _ _).trans (funext fun j => ?_)
  obtain ⟨u, b, rfl⟩ : ∃ (u : Fin 16) (b : Fin 2048), j = ix2 u b := ⟨j 0, j 1, eq_ix2 j⟩
  exact carry_point H u b

/-- The gradient of `proj`, at the first point. -/
theorem dproj_first (hc : cond0_0 i) (hcq : ∀ r x, k0_pay4 (F := Ideal) (ix2 r x) = dqc dx g gate wg sc wo (512 * (32 - (i 0).val) + r.val) x) : out0_A_9 c i a1 h1 a2 h2 a3 h3 a4 h4 a5 h5 a6 h6 a7 h7 a8 h8 a9 h9 a10 h10 a11 h11 a12 h12 a13 h13 a14 h14 a15 h15 hc x0 x1 x2 x3 x4 x5 x6 x7 x8 = fun j => dproj dx g mx gate wg sc wo (row (i 0) (j 0)) (j 1) := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 a15 h15 hc x0 x1 x2 x3 x4 x5 x6 x7 x8)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread]
  simp (disch := decide) only [↓ View.readCov_skip, ↓ View.readCov_cons_toLoadRect, ↓ View.readCov_fill]
  simp only [ld_rows, ld_gate, ld_scale, ld_wo, ld_carry]
  refine canon_quarters _ _ _ _ _ _ _ _ _ (fun r b => ?_) (fun r b => ?_) (fun r b => ?_) (fun r b => ?_)
  · obtain ⟨k, m, rfl⟩ := exists_col b
    exact (pool_upper H (k0_pay4 (F := Ideal)) hcq r k m).trans (dproj_col dx g mx gate wg sc wo (upper (i 0) r) _ k m rfl).symm
  · exact (gate_upper H r b).trans (dproj_gate dx g mx gate wg sc wo (upper (i 0) r) b).symm
  · obtain ⟨k, m, rfl⟩ := exists_col b
    exact (pool_lower H r k m).trans (dproj_col dx g mx gate wg sc wo (lower (i 0) r) _ k m rfl).symm
  · exact (gate_lower H r b).trans (dproj_gate dx g mx gate wg sc wo (lower (i 0) r) b).symm

/-- The gradient of `w_out`, at a later point. -/
theorem mt_next (hc : ¬cond0_0 i) : out0_B_10 c i a1 h1 a2 h2 a3 h3 a4 h4 a5 h5 a6 h6 a7 h7 a8 h8 a9 h9 a10 h10 a11 h11 a12 h12 a13 h13 a14 h14 a15 h15 hc x0 x1 x2 x3 x4 x5 x6 x7 x8 o10 o11 o12 o13 cq = fun j => o10 j + ∑ s, y (row (i 0) s) (col (j 0) (j 1)) * dx (row (i 0) s) (j 2) := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 a15 h15 hc x0 x1 x2 x3 x4 x5 x6 x7 x8 o10 o11 o12 o13 cq)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread]
  simp only [ld_rows, ld_gate, ld_scale, ld_wo, ld_carry]
  exact mt_pieces H o10 []

/-- The gradient of the group weights, at a later point. -/
theorem dw_next (hc : ¬cond0_0 i) : out0_B_11 c i a1 h1 a2 h2 a3 h3 a4 h4 a5 h5 a6 h6 a7 h7 a8 h8 a9 h9 a10 h10 a11 h11 a12 h12 a13 h13 a14 h14 a15 h15 hc x0 x1 x2 x3 x4 x5 x6 x7 x8 o10 o11 o12 o13 cq = fun j => o11 j + ∑ s, dp (row (i 0) s) (col (j 0) (j 1)) * dm dx g gate sc wo (row (i 0) s) (col (j 0) (j 2)) := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 hc x0 x1 x2 x3 x4 x5 x6 x7 x8 o10 o11 o12 o13 cq)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread]
  simp only [ld_rows, ld_gate, ld_scale, ld_wo, ld_carry]
  exact dw_pieces H o11 []

/-- The gradient of `scale`, at a later point. -/
theorem ds_next (hc : ¬cond0_0 i) : out0_B_12 c i a1 h1 a2 h2 a3 h3 a4 h4 a5 h5 a6 h6 a7 h7 a8 h8 a9 h9 a10 h10 a11 h11 a12 h12 a13 h13 a14 h14 a15 h15 hc x0 x1 x2 x3 x4 x5 x6 x7 x8 o10 o11 o12 o13 cq = fun j => o12 (ix2 0 (j 1)) + ∑ s, ds dx g mx gate wo (row (i 0) s) (j 1) := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 hc x0 x1 x2 x3 x4 x5 x6 x7 x8 o10 o11 o12 o13 cq)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread]
  simp (disch := decide) only [↓ View.readCov_skip, ↓ View.readCov_cons_toLoadRect, ↓ View.readCov_fill]
  simp only [ld_rows, ld_gate, ld_scale, ld_wo, ld_carry]
  refine (View.canon_cons_unit_zero hz2 _ _ _).trans (funext fun j => ?_)
  obtain ⟨u, b, rfl⟩ : ∃ (u : Fin 1) (b : Fin 2048), j = ix2 u b := ⟨j 0, j 1, eq_ix2 j⟩
  obtain rfl : u = 0 := Subsingleton.elim _ _
  exact ds_point H o12 b

/-- The gradient of the group bias, at a later point. -/
theorem db_next (hc : ¬cond0_0 i) : out0_B_13 c i a1 h1 a2 h2 a3 h3 a4 h4 a5 h5 a6 h6 a7 h7 a8 h8 a9 h9 a10 h10 a11 h11 a12 h12 a13 h13 a14 h14 a15 h15 hc x0 x1 x2 x3 x4 x5 x6 x7 x8 o10 o11 o12 o13 cq = fun j => o13 (ix2 0 (j 1)) + ∑ s, dm dx g gate sc wo (row (i 0) s) (j 1) := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 hc x0 x1 x2 x3 x4 x5 x6 x7 x8 o10 o11 o12 o13 cq)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread]
  simp (disch := decide) only [↓ View.readCov_skip, ↓ View.readCov_cons_toLoadRect, ↓ View.readCov_fill]
  simp only [ld_rows, ld_gate, ld_scale, ld_wo, ld_carry]
  refine (View.canon_cons_unit_zero hz2 _ _ _).trans (funext fun j => ?_)
  obtain ⟨u, b, rfl⟩ : ∃ (u : Fin 1) (b : Fin 2048), j = ix2 u b := ⟨j 0, j 1, eq_ix2 j⟩
  obtain rfl : u = 0 := Subsingleton.elim _ _
  exact db_point H o13 b

/-- The rows handed on, at a later point. -/
theorem carry_next (hc : ¬cond0_0 i) : sout0_B_0 c i a1 h1 a2 h2 a3 h3 a4 h4 a5 h5 a6 h6 a7 h7 a8 h8 a9 h9 a10 h10 a11 h11 a12 h12 a13 h13 a14 h14 a15 h15 hc x0 x1 x2 x3 x4 x5 x6 x7 x8 o10 o11 o12 o13 cq = fun j => dqc dx g gate wg sc wo (512 * (31 - (i 0).val) + (j 0).val) (j 1) := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 a14 h14 a15 h15 hc x0 x1 x2 x3 x4 x5 x6 x7 x8 o10 o11 o12 o13 cq)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread]
  simp only [ld_rows, ld_gate, ld_scale, ld_wo, ld_carry]
  refine (View.canon_cons_unit_zero hz2 _ _ _).trans (funext fun j => ?_)
  obtain ⟨u, b, rfl⟩ : ∃ (u : Fin 16) (b : Fin 2048), j = ix2 u b := ⟨j 0, j 1, eq_ix2 j⟩
  exact carry_point H u b

/-- The gradient of `proj`, at a later point. -/
theorem dproj_next (hc : ¬cond0_0 i) (hcq : ∀ r x, cq (ix2 r x) = dqc dx g gate wg sc wo (512 * (32 - (i 0).val) + r.val) x) : out0_B_9 c i a1 h1 a2 h2 a3 h3 a4 h4 a5 h5 a6 h6 a7 h7 a8 h8 a9 h9 a10 h10 a11 h11 a12 h12 a13 h13 a14 h14 a15 h15 hc x0 x1 x2 x3 x4 x5 x6 x7 x8 o10 o11 o12 o13 cq = fun j => dproj dx g mx gate wg sc wo (row (i 0) (j 0)) (j 1) := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 a14 h14 a15 h15 hc x0 x1 x2 x3 x4 x5 x6 x7 x8 o10 o11 o12 o13 cq)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread]
  simp only [ld_rows, ld_gate, ld_scale, ld_wo, ld_carry]
  refine canon_quarters _ _ _ _ _ _ _ _ _ (fun r b => ?_) (fun r b => ?_) (fun r b => ?_) (fun r b => ?_)
  · obtain ⟨k, m, rfl⟩ := exists_col b
    exact (pool_upper H cq hcq r k m).trans (dproj_col dx g mx gate wg sc wo (upper (i 0) r) _ k m rfl).symm
  · exact (gate_upper H r b).trans (dproj_gate dx g mx gate wg sc wo (upper (i 0) r) b).symm
  · obtain ⟨k, m, rfl⟩ := exists_col b
    exact (pool_lower H r k m).trans (dproj_col dx g mx gate wg sc wo (lower (i 0) r) _ k m rfl).symm
  · exact (gate_lower H r b).trans (dproj_gate dx g mx gate wg sc wo (lower (i 0) r) b).symm

end

end Cert.KernelIdeal.Point

end
-- ==== Proof.Grid.lean ====
/-
  What the run leaves in each output array: the formulas over the whole sequence, by induction over the grid's points.
-/
module

public import proofs.«01_k».proof.Proof.Outs

@[expose] public section

set_option maxRecDepth 16384

noncomputable section

namespace Cert.KernelIdeal.Point

open Idealize.ShloMosaic Idealize.ShloMosaic.TcCoe Idealize.SL.Sem Cert.KernelIdeal Cert.KernelIdeal.Gen Cert.Mixer
open Idealize.ShloMosaic.Pipeline (Dat)
open scoped BigOperators

/-! ## Sums over the points -/

/-- The sum over the points up to `n`. -/
def upto (f : Fin 32 → EReal) : (n : ℕ) → n < 32 → EReal
  | 0, h => f ⟨0, h⟩
  | n + 1, h => upto f n (Nat.lt_of_succ_lt h) + f ⟨n + 1, h⟩

theorem upto_eq (f : Fin 32 → EReal) : ∀ (n : ℕ) (h : n < 32), upto f n h = ∑ t ∈ Finset.range (n + 1), (if ht : t < 32 then f ⟨t, ht⟩ else 0)
  | 0, h => by simp [upto]
  | n + 1, h => by rw [Finset.sum_range_succ, upto, upto_eq f n, dif_pos h]

theorem upto_last (f : Fin 32 → EReal) (h : 31 < 32) : upto f 31 h = ∑ t, f t := by
  rw [upto_eq, Finset.sum_range]
  exact Finset.sum_congr rfl fun t _ => dif_pos t.isLt

/-- The points' blocks are the rows of the sequence, each once. -/
theorem row_bijective : Function.Bijective fun p : Fin 32 × Fin 512 => row p.1 p.2 := by
  constructor
  · rintro ⟨t, r⟩ ⟨t', r'⟩ h
    have h' : 512 * (31 - t.val) + r.val = 512 * (31 - t'.val) + r'.val := congrArg Fin.val h
    refine Prod.ext (Fin.ext ?_) (Fin.ext ?_) <;> dsimp only <;> omega
  · intro s
    exact ⟨(⟨31 - s.val / 512, by omega⟩, ⟨s.val % 512, by omega⟩), Fin.ext (by simp only [row]; omega)⟩

theorem upto_rows (f : Fin 16384 → EReal) (h : 31 < 32) : upto (fun t => ∑ r, f (row t r)) 31 h = ∑ s, f s := by
  rw [upto_last, ← Fintype.sum_prod_type' fun t r => f (row t r)]
  exact (Equiv.ofBijective _ row_bijective).sum_comp f

/-! ## The points' blocks -/

variable (m : (ℓ : Loc nD τ sig) → Buf (Elt Ideal) ℓ)

def vdx (c : Dev nD) (s : Fin 16384) (d : Fin 1024) : EReal := V m c main_arg0 (ix2 s d)
def vg (c : Dev nD) (s : Fin 16384) (x : Fin 2048) : EReal := V m c main_v87 (ix2 s ⟨2048 + x.val, by omega⟩)
def vmx (c : Dev nD) (s : Fin 16384) (x : Fin 2048) : EReal := V m c main_v88 (ix2 s x)
def vy (c : Dev nD) (s : Fin 16384) (x : Fin 2048) : EReal := V m c main_v89 (ix2 s x)
def vdp (c : Dev nD) (s : Fin 16384) (x : Fin 2048) : EReal := V m c main_v90 (ix2 s x)
def vgate (c : Dev nD) (d : Fin 1024) : EReal := V m c main_arg2 (ix2 0 d)
def vwg (c : Dev nD) (k : Fin 4) (a b : Fin 512) : EReal := V m c main_v91 (ix3 k a b)
def vsc (c : Dev nD) (x : Fin 2048) : EReal := V m c main_arg5 (ix2 0 x)
def vwo (c : Dev nD) (x : Fin 2048) (d : Fin 1024) : EReal := V m c main_v92 (ix2 x d)

theorem coord : ∀ t : Fin cfg0.N, (grid0.coords t 0).val = t.val :=
  (by decide +kernel : ∀ t : Fin grid0.N, (grid0.coords t 0).val = t.val)

theorem index0 : ∀ t : Fin cfg0.N, win0_0.index t 0 = 31 - t.val ∧ win0_0.index t 1 = 0 :=
  (by decide +kernel : ∀ t : Fin grid0.N, win0_0.index t 0 = 31 - t.val ∧ win0_0.index t 1 = 0)
theorem index1 : ∀ t : Fin cfg0.N, win0_1.index t 0 = 31 - t.val ∧ win0_1.index t 1 = 1 :=
  (by decide +kernel : ∀ t : Fin grid0.N, win0_1.index t 0 = 31 - t.val ∧ win0_1.index t 1 = 1)
theorem index2 : ∀ t : Fin cfg0.N, win0_2.index t 0 = 31 - t.val ∧ win0_2.index t 1 = 0 :=
  (by decide +kernel : ∀ t : Fin grid0.N, win0_2.index t 0 = 31 - t.val ∧ win0_2.index t 1 = 0)
theorem index3 : ∀ t : Fin cfg0.N, win0_3.index t 0 = 31 - t.val ∧ win0_3.index t 1 = 0 :=
  (by decide +kernel : ∀ t : Fin grid0.N, win0_3.index t 0 = 31 - t.val ∧ win0_3.index t 1 = 0)
theorem index4 : ∀ t : Fin cfg0.N, win0_4.index t 0 = 31 - t.val ∧ win0_4.index t 1 = 0 :=
  (by decide +kernel : ∀ t : Fin grid0.N, win0_4.index t 0 = 31 - t.val ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = 0 ∧ win0_8.index t 1 = 0 :=
  (by decide +kernel : ∀ t : Fin grid0.N, win0_8.index t 0 = 0 ∧ win0_8.index t 1 = 0)

/-! Each window read at one entry of its block, of any array. -/

theorem read_dx (t : Fin cfg0.N) (A : Vec Ideal S16384x1024 .f32) (r : Fin 512) (x : Fin 1024) : (((cfg0.win 0).blk t).view.read (Elt Ideal) A) (ix2 r x) = A (ix2 (row (grid0.coords t 0) r) x) := by
  rw [View.read_apply]
  refine congrArg A (funext fun a => Fin.ext ?_)
  match a with
  | ⟨0, _⟩ => show win0_0.index t 0 * 512 + 1 * r.val = 512 * (31 - (grid0.coords t 0).val) + r.val; rw [(index0 t).1, coord]; omega
  | ⟨1, _⟩ => show win0_0.index t 1 * 1024 + 1 * x.val = x.val; rw [(index0 t).2]; omega

theorem read_g (t : Fin cfg0.N) (A : Vec Ideal S16384x4096 .f32) (r : Fin 512) (x : Fin 2048) : (((cfg0.win 1).blk t).view.read (Elt Ideal) A) (ix2 r x) = A (ix2 (row (grid0.coords t 0) r) ⟨2048 + x.val, by omega⟩) := by
  rw [View.read_apply]
  refine congrArg A (funext fun a => Fin.ext ?_)
  match a with
  | ⟨0, _⟩ => show win0_1.index t 0 * 512 + 1 * r.val = 512 * (31 - (grid0.coords t 0).val) + r.val; rw [(index1 t).1, coord]; omega
  | ⟨1, _⟩ => show win0_1.index t 1 * 2048 + 1 * x.val = 2048 + x.val; rw [(index1 t).2]; omega

theorem read_mx (t : Fin cfg0.N) (A : Vec Ideal S16384x2048 .f32) (r : Fin 512) (x : Fin 2048) : (((cfg0.win 2).blk t).view.read (Elt Ideal) A) (ix2 r x) = A (ix2 (row (grid0.coords t 0) r) x) := by
  rw [View.read_apply]
  refine congrArg A (funext fun a => Fin.ext ?_)
  match a with
  | ⟨0, _⟩ => show win0_2.index t 0 * 512 + 1 * r.val = 512 * (31 - (grid0.coords t 0).val) + r.val; rw [(index2 t).1, coord]; omega
  | ⟨1, _⟩ => show win0_2.index t 1 * 2048 + 1 * x.val = x.val; rw [(index2 t).2]; omega

theorem read_y (t : Fin cfg0.N) (A : Vec Ideal S16384x2048 .f32) (r : Fin 512) (x : Fin 2048) : (((cfg0.win 3).blk t).view.read (Elt Ideal) A) (ix2 r x) = A (ix2 (row (grid0.coords t 0) r) x) := by
  rw [View.read_apply]
  refine congrArg A (funext fun a => Fin.ext ?_)
  match a with
  | ⟨0, _⟩ => show win0_3.index t 0 * 512 + 1 * r.val = 512 * (31 - (grid0.coords t 0).val) + r.val; rw [(index3 t).1, coord]; omega
  | ⟨1, _⟩ => show win0_3.index t 1 * 2048 + 1 * x.val = x.val; rw [(index3 t).2]; omega

theorem read_dp (t : Fin cfg0.N) (A : Vec Ideal S16384x2048 .f32) (r : Fin 512) (x : Fin 2048) : (((cfg0.win 4).blk t).view.read (Elt Ideal) A) (ix2 r x) = A (ix2 (row (grid0.coords t 0) r) x) := by
  rw [View.read_apply]
  refine congrArg A (funext fun a => Fin.ext ?_)
  match a with
  | ⟨0, _⟩ => show win0_4.index t 0 * 512 + 1 * r.val = 512 * (31 - (grid0.coords t 0).val) + r.val; rw [(index4 t).1, coord]; omega
  | ⟨1, _⟩ => show win0_4.index t 1 * 2048 + 1 * x.val = x.val; rw [(index4 t).2]; omega

theorem read_gate (t : Fin cfg0.N) (A : Vec Ideal S1x1024 .f32) (x : Fin 1024) : (((cfg0.win 5).blk t).view.read (Elt Ideal) A) (ix2 0 x) = A (ix2 0 x) := by
  rw [View.read_apply]
  refine congrArg A (funext fun a => Fin.ext ?_)
  match a with
  | ⟨0, _⟩ => show win0_5.index t 0 * 1 + 1 * 0 = 0; rw [(index5 t).1]
  | ⟨1, _⟩ => show win0_5.index t 1 * 1024 + 1 * x.val = x.val; rw [(index5 t).2]; omega

theorem read_wg (t : Fin cfg0.N) (A : Vec Ideal S4x512x512 .f32) (k : Fin 4) (a b : Fin 512) : (((cfg0.win 6).blk t).view.read (Elt Ideal) A) (ix3 k a b) = A (ix3 k a b) := by
  rw [View.read_apply]
  refine congrArg A (funext fun z => Fin.ext ?_)
  match z with
  | ⟨0, _⟩ => show win0_6.index t 0 * 4 + 1 * k.val = k.val; rw [(index6 t).1]; omega
  | ⟨1, _⟩ => show win0_6.index t 1 * 512 + 1 * a.val = a.val; rw [(index6 t).2.1]; omega
  | ⟨2, _⟩ => show win0_6.index t 2 * 512 + 1 * b.val = b.val; rw [(index6 t).2.2]; omega

theorem read_sc (t : Fin cfg0.N) (A : Vec Ideal S1x2048 .f32) (x : Fin 2048) : (((cfg0.win 7).blk t).view.read (Elt Ideal) A) (ix2 0 x) = A (ix2 0 x) := by
  rw [View.read_apply]
  refine congrArg A (funext fun a => Fin.ext ?_)
  match a with
  | ⟨0, _⟩ => show win0_7.index t 0 * 1 + 1 * 0 = 0; rw [(index7 t).1]
  | ⟨1, _⟩ => show win0_7.index t 1 * 2048 + 1 * x.val = x.val; rw [(index7 t).2]; omega

theorem read_wo (t : Fin cfg0.N) (A : Vec Ideal S2048x1024 .f32) (x : Fin 2048) (d : Fin 1024) : (((cfg0.win 8).blk t).view.read (Elt Ideal) A) (ix2 x d) = A (ix2 x d) := by
  rw [View.read_apply]
  refine congrArg A (funext fun a => Fin.ext ?_)
  match a with
  | ⟨0, _⟩ => show win0_8.index t 0 * 2048 + 1 * x.val = x.val; rw [(index8 t).1]; omega
  | ⟨1, _⟩ => show win0_8.index t 1 * 1024 + 1 * d.val = d.val; rw [(index8 t).2]; omega

theorem blocks (c : Dev nD) (t : Fin cfg0.N) : Blocks (grid0.coords t 0) (iblk m c 0 t) (iblk m c 1 t) (iblk m c 2 t) (iblk m c 3 t) (iblk m c 4 t)
    (iblk m c 5 t) (iblk m c 6 t) (iblk m c 7 t) (iblk m c 8 t) (vdx m c) (vg m c) (vmx m c) (vy m c) (vdp m c) (vgate m c) (vwg m c) (vsc m c) (vwo m c) where
  dx_eq := read_dx t (V m c main_arg0)
  g_eq := read_g t (V m c main_v87)
  mx_eq := read_mx t (V m c main_v88)
  y_eq := read_y t (V m c main_v89)
  dp_eq := read_dp t (V m c main_v90)
  gate_eq := read_gate t (V m c main_arg2)
  wg_eq := read_wg t (V m c main_v91)
  sc_eq := read_sc t (V m c main_arg5)
  wo_eq := read_wo t (V m c main_v92)

/-! ## What a point leaves -/

/-- A point's term of each sum over the rows. -/
def tmt (c : Dev nD) (k : Fin 4) (r : Fin 512) (d : Fin 1024) (s : Fin 16384) : EReal := vy m c s (col k r) * vdx m c s d
def tdw (c : Dev nD) (k : Fin 4) (a b : Fin 512) (s : Fin 16384) : EReal :=
  vdp m c s (col k a) * dm (vdx m c) (vg m c) (vgate m c) (vsc m c) (vwo m c) s (col k b)
def tds (c : Dev nD) (x : Fin 2048) (s : Fin 16384) : EReal := ds (vdx m c) (vg m c) (vmx m c) (vgate m c) (vwo m c) s x
def tdb (c : Dev nD) (x : Fin 2048) (s : Fin 16384) : EReal := dm (vdx m c) (vg m c) (vgate m c) (vsc m c) (vwo m c) s x

/-- The rows of the points up to `n`. -/
def rows (f : Fin 16384 → EReal) (n : ℕ) (h : n < 32) : EReal := upto (fun t => ∑ r, f (row t r)) n h

def projAt (c : Dev nD) (n : ℕ) (h : n < 32) : Vec Ideal S512x4096 .bf16 := fun j =>
  dproj (vdx m c) (vg m c) (vmx m c) (vgate m c) (vwg m c) (vsc m c) (vwo m c) (row ⟨n, h⟩ (j 0)) (j 1)
def mtAt (c : Dev nD) (n : ℕ) (h : n < 32) : Vec Ideal S4x512x1024 .f32 := fun j => rows (tmt m c (j 0) (j 1) (j 2)) n h
def dwAt (c : Dev nD) (n : ℕ) (h : n < 32) : Vec Ideal S4x512x512 .f32 := fun j => rows (tdw m c (j 0) (j 1) (j 2)) n h
def dsAt (c : Dev nD) (n : ℕ) (h : n < 32) : Vec Ideal S1x2048 .f32 := fun j => rows (tds m c (j 1)) n h
def dbAt (c : Dev nD) (n : ℕ) (h : n < 32) : Vec Ideal S1x2048 .f32 := fun j => rows (tdb m c (j 1)) n h
def carryAt (c : Dev nD) (n : ℕ) : Vec Ideal S16x2048 .f32 := fun j =>
  dqc (vdx m c) (vg m c) (vgate m c) (vwg m c) (vsc m c) (vwo m c) (512 * (31 - n) + (j 0).val) (j 1)

theorem zero4 (j) : k0_pay4 (F := Ideal) j = 0 := by
  obtain ⟨r, x, rfl⟩ : ∃ (r : Fin 16) (x : Fin 2048), j = ix2 r x := ⟨j 0, j 1, eq_ix2 j⟩
  pointwise [k0_pay4]
theorem zero5 (j) : k0_pay5 (F := Ideal) j = 0 := by
  obtain ⟨r, x, rfl⟩ : ∃ (r : Fin 1) (x : Fin 2048), j = ix2 r x := ⟨j 0, j 1, eq_ix2 j⟩
  pointwise [k0_pay5]
theorem zero6 (j) : k0_pay6 (F := Ideal) j = 0 := by
  obtain ⟨r, x, rfl⟩ : ∃ (r : Fin 1) (x : Fin 2048), j = ix2 r x := ⟨j 0, j 1, eq_ix2 j⟩
  pointwise [k0_pay6]
theorem zero7 (j) : k0_pay7 (F := Ideal) j = 0 := by
  obtain ⟨k, r, x, rfl⟩ : ∃ (k : Fin 4) (r : Fin 512) (x : Fin 1024), j = ix3 k r x := ⟨j 0, j 1, j 2, eq_ix3 j⟩
  pointwise [k0_pay7]
theorem zero8 (j) : k0_pay8 (F := Ideal) j = 0 := by
  obtain ⟨k, r, x, rfl⟩ : ∃ (k : Fin 4) (r : Fin 512) (x : Fin 512), j = ix3 k r x := ⟨j 0, j 1, j 2, eq_ix3 j⟩
  pointwise [k0_pay8]

/-- The point's coordinate is the point. -/
theorem coord_eq (t : Fin cfg0.N) (n : ℕ) (h : n < 32) (ht : t.val = n) : grid0.coords t 0 = (⟨n, h⟩ : Fin 32) := Fin.ext ((coord t).trans ht)

theorem sum_coord (t : Fin cfg0.N) (n : ℕ) (h : n < 32) (ht : t.val = n) (f : Fin 16384 → EReal) :
    ∑ r, f (row (grid0.coords t 0) r) = ∑ r, f (row ⟨n, h⟩ r) := by rw [coord_eq t n h ht]

/-- No row of the sequence is behind the last: the first point carries zeros in. -/
theorem carry_zero (c : Dev nD) (t : Fin cfg0.N) (ht : t.val = 0) (r : Fin 16) (x : Fin 2048) : k0_pay4 (F := Ideal) (ix2 r x) =
    dqc (vdx m c) (vg m c) (vgate m c) (vwg m c) (vsc m c) (vwo m c) (512 * (32 - (grid0.coords t 0).val) + r.val) x := by
  rw [zero4, coord, ht]
  unfold dqc dqz
  rw [dif_neg (by omega)]

theorem left_zero (c : Dev nD) (t : Fin cfg0.N) (ht : t.val = 0) (h : 0 < 32) :
    outsAt0 m c t.val t.isLt = (projAt m c 0 h, mtAt m c 0 h, dwAt m c 0 h, dsAt m c 0 h, dbAt m c 0 h, carryAt m c 0) := by
  refine (outsAt0_A m c t (by rw [ht])).trans ?_
  refine congrArg₂ Prod.mk ?_ (congrArg₂ Prod.mk ?_ (congrArg₂ Prod.mk ?_ (congrArg₂ Prod.mk ?_ (congrArg₂ Prod.mk ?_ ?_))))
  · refine (dproj_first (H := blocks m c t) (hcq := carry_zero m c t ht) ..).trans (funext fun j => ?_)
    unfold projAt
    rw [coord_eq t 0 h ht]
  · refine (mt_first (H := blocks m c t) ..).trans (funext fun j => ?_)
    exact (congrArg₂ (· + ·) (zero7 j) (sum_coord t 0 h ht (tmt m c (j 0) (j 1) (j 2)))).trans (zero_add _)
  · refine (dw_first (H := blocks m c t) ..).trans (funext fun j => ?_)
    exact (congrArg₂ (· + ·) (zero8 j) (sum_coord t 0 h ht (tdw m c (j 0) (j 1) (j 2)))).trans (zero_add _)
  · refine (ds_first (H := blocks m c t) ..).trans (funext fun j => ?_)
    exact (congrArg₂ (· + ·) (zero5 _) (sum_coord t 0 h ht (tds m c (j 1)))).trans (zero_add _)
  · refine (db_first (H := blocks m c t) ..).trans (funext fun j => ?_)
    exact (congrArg₂ (· + ·) (zero6 _) (sum_coord t 0 h ht (tdb m c (j 1)))).trans (zero_add _)
  · refine (carry_first (H := blocks m c t) ..).trans (funext fun j => ?_)
    unfold carryAt
    rw [coord, ht]

theorem left_succ (c : Dev nD) (t : Fin cfg0.N) (n : ℕ) (ht : t.val = n + 1) (h : n + 1 < 32)
    (ih : outsAt0 m c (t.val - 1) (Nat.lt_of_le_of_lt (Nat.sub_le _ _) t.isLt) =
      (projAt m c n (Nat.lt_of_succ_lt h), mtAt m c n (Nat.lt_of_succ_lt h), dwAt m c n (Nat.lt_of_succ_lt h), dsAt m c n (Nat.lt_of_succ_lt h),
        dbAt m c n (Nat.lt_of_succ_lt h), carryAt m c n)) :
    outsAt0 m c t.val t.isLt = (projAt m c (n + 1) h, mtAt m c (n + 1) h, dwAt m c (n + 1) h, dsAt m c (n + 1) h, dbAt m c (n + 1) h, carryAt m c (n + 1)) := by
  refine (outsAt0_B m c t (by rw [ht]; omega)).trans ?_
  rw [ih]
  dsimp only
  refine congrArg₂ Prod.mk ?_ (congrArg₂ Prod.mk ?_ (congrArg₂ Prod.mk ?_ (congrArg₂ Prod.mk ?_ (congrArg₂ Prod.mk ?_ ?_))))
  · refine (dproj_next (H := blocks m c t) (hcq := fun r x => ?_) ..).trans (funext fun j => ?_)
    · unfold carryAt
      refine congrArg (dqc (vdx m c) (vg m c) (vgate m c) (vwg m c) (vsc m c) (vwo m c) · x) ?_
      show 512 * (31 - n) + r.val = 512 * (32 - (grid0.coords t 0).val) + r.val
      rw [coord, ht]
      omega
    · unfold projAt
      rw [coord_eq t (n + 1) h ht]
  · refine (mt_next (H := blocks m c t) ..).trans (funext fun j => ?_)
    exact congrArg (mtAt m c n (Nat.lt_of_succ_lt h) j + ·) (sum_coord t (n + 1) h ht (tmt m c (j 0) (j 1) (j 2)))
  · refine (dw_next (H := blocks m c t) ..).trans (funext fun j => ?_)
    exact congrArg (dwAt m c n (Nat.lt_of_succ_lt h) j + ·) (sum_coord t (n + 1) h ht (tdw m c (j 0) (j 1) (j 2)))
  · refine (ds_next (H := blocks m c t) ..).trans (funext fun j => ?_)
    exact congrArg (dsAt m c n (Nat.lt_of_succ_lt h) (ix2 0 (j 1)) + ·) (sum_coord t (n + 1) h ht (tds m c (j 1)))
  · refine (db_next (H := blocks m c t) ..).trans (funext fun j => ?_)
    exact congrArg (dbAt m c n (Nat.lt_of_succ_lt h) (ix2 0 (j 1)) + ·) (sum_coord t (n + 1) h ht (tdb m c (j 1)))
  · refine (carry_next (H := blocks m c t) ..).trans (funext fun j => ?_)
    unfold carryAt
    rw [coord, ht]

theorem left_eq (c : Dev nD) : ∀ (n : ℕ) (hn : n < cfg0.N) (h : n < 32),
    outsAt0 m c n hn = (projAt m c n h, mtAt m c n h, dwAt m c n h, dsAt m c n h, dbAt m c n h, carryAt m c n)
  | 0, hn, h => left_zero m c ⟨0, hn⟩ rfl h
  | n + 1, hn, h => left_succ m c ⟨n + 1, hn⟩ n rfl h (left_eq c n (Nat.lt_of_succ_lt hn) (Nat.lt_of_succ_lt h))

end Cert.KernelIdeal.Point

end
-- ==== Proof.Final.lean ====
/-
  The output arrays the run ends with.
-/
module

public import proofs.«01_k».proof.Proof.Grid
public import proofs.«01_k».proof.Proof.Gen.KernelIdeal.Value

@[expose] public section

set_option maxRecDepth 16384

noncomputable section

namespace Cert.KernelIdeal.Point

open Idealize.ShloMosaic Idealize.ShloMosaic.TcCoe Idealize.SL.Sem Cert.KernelIdeal Cert.KernelIdeal.Gen Cert.Mixer
open Idealize.ShloMosaic.Pipeline (Dat)
open scoped BigOperators

variable (m : (ℓ : Loc nD τ sig) → Buf (Elt Ideal) ℓ)

def endProj (c : Dev nD) : Vec Ideal S16384x4096 .bf16 := fun j =>
  dproj (vdx m c) (vg m c) (vmx m c) (vgate m c) (vwg m c) (vsc m c) (vwo m c) (j 0) (j 1)
def endMt (c : Dev nD) : Vec Ideal S4x512x1024 .f32 := fun j => ∑ s, tmt m c (j 0) (j 1) (j 2) s
def endDw (c : Dev nD) : Vec Ideal S4x512x512 .f32 := fun j => ∑ s, tdw m c (j 0) (j 1) (j 2) s
def endDs (c : Dev nD) : Vec Ideal S1x2048 .f32 := fun j => ∑ s, tds m c (j 1) s
def endDb (c : Dev nD) : Vec Ideal S1x2048 .f32 := fun j => ∑ s, tdb m c (j 1) s

theorem lt32 (t : Fin cfg0.N) : t.val < 32 := Nat.lt_of_lt_of_eq t.isLt N_0
def t31 : Fin cfg0.N := ⟨31, Nat.lt_of_lt_of_eq (by decide) N_0.symm⟩

theorem index9 : ∀ t : Fin cfg0.N, win0_9.index t 0 = 31 - t.val ∧ win0_9.index t 1 = 0 :=
  (by decide +kernel : ∀ t : Fin grid0.N, win0_9.index t 0 = 31 - t.val ∧ win0_9.index t 1 = 0)
theorem xsize9 : ∀ t : Fin cfg0.N, win0_9.xsize (grid0.coords t) 0 = 512 ∧ win0_9.xsize (grid0.coords t) 1 = 4096 :=
  (by decide +kernel : ∀ t : Fin grid0.N, win0_9.xsize (grid0.coords t) 0 = 512 ∧ win0_9.xsize (grid0.coords t) 1 = 4096)

theorem read_proj (t : Fin cfg0.N) (A : Vec Ideal S16384x4096 .bf16) (r : Fin 512) (x : Fin 4096) :
    (((cfg0.win 9).blk t).view.read (Elt Ideal) A) (ix2 r x) = A (ix2 (row ⟨t.val, lt32 t⟩ r) x) := by
  rw [View.read_apply]
  refine congrArg A (funext fun a => Fin.ext ?_)
  match a with
  | ⟨0, _⟩ => show win0_9.index t 0 * 512 + 1 * r.val = 512 * (31 - t.val) + r.val; rw [(index9 t).1]; omega
  | ⟨1, _⟩ => show win0_9.index t 1 * 4096 + 1 * x.val = x.val; rw [(index9 t).2]; omega

theorem flushed_proj (c : Dev nD) (t : Fin cfg0.N) (hf : (cfg0.win 9).flush t = true) :
    (dats m 0 c).flushed 9 t = ((cfg0.win 9).blk t).view.read (Elt Ideal) (endProj m c) := by
  show (cfg0.win 9).cut (grid0.coords t) ((dats m 0 c).after 9 t) = _
  rw [after0_9, left_eq m c t.val t.isLt (lt32 t)]
  funext j
  obtain ⟨r, x, rfl⟩ : ∃ (r : Fin 512) (x : Fin 4096), j = ix2 r x := ⟨j 0, j 1, eq_ix2 j⟩
  exact (read_proj t (endProj m c) r x).symm

theorem final_proj (c : Dev nD) : (dats m 0 c).arrAt 9 cfg0.N = endProj m c :=
  (dats m 0 c).arrAt_eq_of_cover 9 (endProj m c) (flushed_proj m c) fun i => by
    have h0 : (i 0 : Nat) < 16384 := (i 0).isLt
    have h1 : (i 1 : Nat) < 4096 := (i 1).isLt
    refine ⟨⟨31 - (i 0 : Nat) / 512, Nat.lt_of_lt_of_eq (by omega : 31 - (i 0 : Nat) / 512 < 32) N_0.symm⟩, flush0_9 _, ?_⟩
    generalize ht : (⟨31 - (i 0 : Nat) / 512, _⟩ : Fin cfg0.N) = t
    have hv : t.val = 31 - (i 0 : Nat) / 512 := by rw [← ht]
    show i ∈ ((View.whole main_v93_0).slice (win0_9.rect t)).set
    rw [View.set_slice_whole, Rect.mem_set_unit]
    intro a
    match a with
    | ⟨0, _⟩ => show win0_9.index t 0 * 512 ≤ (i 0 : Nat) ∧ (i 0 : Nat) < win0_9.index t 0 * 512 + win0_9.xsize (grid0.coords t) 0
                rw [(index9 t).1, (xsize9 t).1]; omega
    | ⟨1, _⟩ => show win0_9.index t 1 * 4096 ≤ (i 1 : Nat) ∧ (i 1 : Nat) < win0_9.index t 1 * 4096 + win0_9.xsize (grid0.coords t) 1
                rw [(index9 t).2, (xsize9 t).2]; omega

theorem flushed_mt (c : Dev nD) (t : Fin cfg0.N) (hf : (cfg0.win 10).flush t = true) :
    (dats m 0 c).flushed 10 t = ((cfg0.win 10).blk t).view.read (Elt Ideal) (endMt m c) := by
  have h3 : t.val = 31 := by have := (flush0_10 t).mp hf; have := lt32 t; omega
  obtain rfl : t = t31 := Fin.ext h3
  show (cfg0.win 10).cut (grid0.coords t31) ((dats m 0 c).after 10 t31) = _
  rw [after0_10, left_eq m c t31.val t31.isLt (lt32 t31)]
  have e : mtAt m c t31.val (lt32 t31) = endMt m c := funext fun j => upto_rows (tmt m c (j 0) (j 1) (j 2)) (by decide)
  dsimp only
  rw [e]
  have hz : (fun a => win0_10.index t31 a * main_v93_1.ty.shape.size a) = fun _ => 0 := funext fun a => by fin_cases a <;> decide +kernel
  exact (Memref.read_access_unit_zero (Elt Ideal) main_v93_1 hz (fun a => by rw [congrFun hz a]; simp) (endMt m c)).symm

theorem final_mt (c : Dev nD) : (dats m 0 c).arrAt 10 cfg0.N = endMt m c :=
  (dats m 0 c).arrAt_eq_of_cover 10 (endMt m c) (flushed_mt m c) fun i =>
    ⟨t31, (flush0_10 t31).mpr (by decide), by
      show i ∈ ((View.whole main_v93_1).slice (win0_10.rect t31)).set
      rw [View.set_slice_whole, Rect.mem_set_unit]
      intro a
      have h0 : (i 0 : Nat) < 4 := (i 0).isLt
      have h1 : (i 1 : Nat) < 512 := (i 1).isLt
      have h2 : (i 2 : Nat) < 1024 := (i 2).isLt
      match a with
      | ⟨0, _⟩ => show win0_10.index t31 0 * 4 ≤ (i 0 : Nat) ∧ (i 0 : Nat) < win0_10.index t31 0 * 4 + win0_10.xsize (grid0.coords t31) 0
                  rw [show win0_10.index t31 0 = 0 from by decide +kernel, show win0_10.xsize (grid0.coords t31) 0 = 4 from by decide +kernel]; omega
      | ⟨1, _⟩ => show win0_10.index t31 1 * 512 ≤ (i 1 : Nat) ∧ (i 1 : Nat) < win0_10.index t31 1 * 512 + win0_10.xsize (grid0.coords t31) 1
                  rw [show win0_10.index t31 1 = 0 from by decide +kernel, show win0_10.xsize (grid0.coords t31) 1 = 512 from by decide +kernel]; omega
      | ⟨2, _⟩ => show win0_10.index t31 2 * 1024 ≤ (i 2 : Nat) ∧ (i 2 : Nat) < win0_10.index t31 2 * 1024 + win0_10.xsize (grid0.coords t31) 2
                  rw [show win0_10.index t31 2 = 0 from by decide +kernel, show win0_10.xsize (grid0.coords t31) 2 = 1024 from by decide +kernel]; omega⟩

theorem flushed_dw (c : Dev nD) (t : Fin cfg0.N) (hf : (cfg0.win 11).flush t = true) :
    (dats m 0 c).flushed 11 t = ((cfg0.win 11).blk t).view.read (Elt Ideal) (endDw m c) := by
  have h3 : t.val = 31 := by have := (flush0_11 t).mp hf; have := lt32 t; omega
  obtain rfl : t = t31 := Fin.ext h3
  show (cfg0.win 11).cut (grid0.coords t31) ((dats m 0 c).after 11 t31) = _
  rw [after0_11, left_eq m c t31.val t31.isLt (lt32 t31)]
  have e : dwAt m c t31.val (lt32 t31) = endDw m c := funext fun j => upto_rows (tdw m c (j 0) (j 1) (j 2)) (by decide)
  dsimp only
  rw [e]
  have hz : (fun a => win0_11.index t31 a * main_v93_2.ty.shape.size a) = fun _ => 0 := funext fun a => by fin_cases a <;> decide +kernel
  exact (Memref.read_access_unit_zero (Elt Ideal) main_v93_2 hz (fun a => by rw [congrFun hz a]; simp) (endDw m c)).symm

theorem final_dw (c : Dev nD) : (dats m 0 c).arrAt 11 cfg0.N = endDw m c :=
  (dats m 0 c).arrAt_eq_of_cover 11 (endDw m c) (flushed_dw m c) fun i =>
    ⟨t31, (flush0_11 t31).mpr (by decide), by
      show i ∈ ((View.whole main_v93_2).slice (win0_11.rect t31)).set
      rw [View.set_slice_whole, Rect.mem_set_unit]
      intro a
      have h0 : (i 0 : Nat) < 4 := (i 0).isLt
      have h1 : (i 1 : Nat) < 512 := (i 1).isLt
      have h2 : (i 2 : Nat) < 512 := (i 2).isLt
      match a with
      | ⟨0, _⟩ => show win0_11.index t31 0 * 4 ≤ (i 0 : Nat) ∧ (i 0 : Nat) < win0_11.index t31 0 * 4 + win0_11.xsize (grid0.coords t31) 0
                  rw [show win0_11.index t31 0 = 0 from by decide +kernel, show win0_11.xsize (grid0.coords t31) 0 = 4 from by decide +kernel]; omega
      | ⟨1, _⟩ => show win0_11.index t31 1 * 512 ≤ (i 1 : Nat) ∧ (i 1 : Nat) < win0_11.index t31 1 * 512 + win0_11.xsize (grid0.coords t31) 1
                  rw [show win0_11.index t31 1 = 0 from by decide +kernel, show win0_11.xsize (grid0.coords t31) 1 = 512 from by decide +kernel]; omega
      | ⟨2, _⟩ => show win0_11.index t31 2 * 512 ≤ (i 2 : Nat) ∧ (i 2 : Nat) < win0_11.index t31 2 * 512 + win0_11.xsize (grid0.coords t31) 2
                  rw [show win0_11.index t31 2 = 0 from by decide +kernel, show win0_11.xsize (grid0.coords t31) 2 = 512 from by decide +kernel]; omega⟩

theorem flushed_ds (c : Dev nD) (t : Fin cfg0.N) (hf : (cfg0.win 12).flush t = true) :
    (dats m 0 c).flushed 12 t = ((cfg0.win 12).blk t).view.read (Elt Ideal) (endDs m c) := by
  have h3 : t.val = 31 := by have := (flush0_12 t).mp hf; have := lt32 t; omega
  obtain rfl : t = t31 := Fin.ext h3
  show (cfg0.win 12).cut (grid0.coords t31) ((dats m 0 c).after 12 t31) = _
  rw [after0_12, left_eq m c t31.val t31.isLt (lt32 t31)]
  have e : dsAt m c t31.val (lt32 t31) = endDs m c := funext fun j => upto_rows (tds m c (j 1)) (by decide)
  dsimp only
  rw [e]
  have hz : (fun a => win0_12.index t31 a * main_v93_3.ty.shape.size a) = fun _ => 0 := funext fun a => by fin_cases a <;> decide +kernel
  exact (Memref.read_access_unit_zero (Elt Ideal) main_v93_3 hz (fun a => by rw [congrFun hz a]; simp) (endDs m c)).symm

theorem final_ds (c : Dev nD) : (dats m 0 c).arrAt 12 cfg0.N = endDs m c :=
  (dats m 0 c).arrAt_eq_of_cover 12 (endDs m c) (flushed_ds m c) fun i =>
    ⟨t31, (flush0_12 t31).mpr (by decide), by
      show i ∈ ((View.whole main_v93_3).slice (win0_12.rect t31)).set
      rw [View.set_slice_whole, Rect.mem_set_unit]
      intro a
      have h0 : (i 0 : Nat) < 1 := (i 0).isLt
      have h1 : (i 1 : Nat) < 2048 := (i 1).isLt
      match a with
      | ⟨0, _⟩ => show win0_12.index t31 0 * 1 ≤ (i 0 : Nat) ∧ (i 0 : Nat) < win0_12.index t31 0 * 1 + win0_12.xsize (grid0.coords t31) 0
                  rw [show win0_12.index t31 0 = 0 from by decide +kernel, show win0_12.xsize (grid0.coords t31) 0 = 1 from by decide +kernel]; omega
      | ⟨1, _⟩ => show win0_12.index t31 1 * 2048 ≤ (i 1 : Nat) ∧ (i 1 : Nat) < win0_12.index t31 1 * 2048 + win0_12.xsize (grid0.coords t31) 1
                  rw [show win0_12.index t31 1 = 0 from by decide +kernel, show win0_12.xsize (grid0.coords t31) 1 = 2048 from by decide +kernel]; omega⟩

theorem flushed_db (c : Dev nD) (t : Fin cfg0.N) (hf : (cfg0.win 13).flush t = true) :
    (dats m 0 c).flushed 13 t = ((cfg0.win 13).blk t).view.read (Elt Ideal) (endDb m c) := by
  have h3 : t.val = 31 := by have := (flush0_13 t).mp hf; have := lt32 t; omega
  obtain rfl : t = t31 := Fin.ext h3
  show (cfg0.win 13).cut (grid0.coords t31) ((dats m 0 c).after 13 t31) = _
  rw [after0_13, left_eq m c t31.val t31.isLt (lt32 t31)]
  have e : dbAt m c t31.val (lt32 t31) = endDb m c := funext fun j => upto_rows (tdb m c (j 1)) (by decide)
  dsimp only
  rw [e]
  have hz : (fun a => win0_13.index t31 a * main_v93_4.ty.shape.size a) = fun _ => 0 := funext fun a => by fin_cases a <;> decide +kernel
  exact (Memref.read_access_unit_zero (Elt Ideal) main_v93_4 hz (fun a => by rw [congrFun hz a]; simp) (endDb m c)).symm

theorem final_db (c : Dev nD) : (dats m 0 c).arrAt 13 cfg0.N = endDb m c :=
  (dats m 0 c).arrAt_eq_of_cover 13 (endDb m c) (flushed_db m c) fun i =>
    ⟨t31, (flush0_13 t31).mpr (by decide), by
      show i ∈ ((View.whole main_v93_4).slice (win0_13.rect t31)).set
      rw [View.set_slice_whole, Rect.mem_set_unit]
      intro a
      have h0 : (i 0 : Nat) < 1 := (i 0).isLt
      have h1 : (i 1 : Nat) < 2048 := (i 1).isLt
      match a with
      | ⟨0, _⟩ => show win0_13.index t31 0 * 1 ≤ (i 0 : Nat) ∧ (i 0 : Nat) < win0_13.index t31 0 * 1 + win0_13.xsize (grid0.coords t31) 0
                  rw [show win0_13.index t31 0 = 0 from by decide +kernel, show win0_13.xsize (grid0.coords t31) 0 = 1 from by decide +kernel]; omega
      | ⟨1, _⟩ => show win0_13.index t31 1 * 2048 ≤ (i 1 : Nat) ∧ (i 1 : Nat) < win0_13.index t31 1 * 2048 + win0_13.xsize (grid0.coords t31) 1
                  rw [show win0_13.index t31 1 = 0 from by decide +kernel, show win0_13.xsize (grid0.coords t31) 1 = 2048 from by decide +kernel]; omega⟩

/-- The run: each output array at its formula, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v93_0) = endProj m c
      ∧ r.2.mem ((c : Thread nD τ).loc main_v93_1) = endMt m c
      ∧ r.2.mem ((c : Thread nD τ).loc main_v93_2) = endDw m c
      ∧ r.2.mem ((c : Thread nD τ).loc main_v93_3) = endDs m c
      ∧ r.2.mem ((c : Thread nD τ).loc main_v93_4) = endDb m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final_proj m c), (h c).2.1.trans (final_mt m c), (h c).2.2.1.trans (final_dw m c),
    (h c).2.2.2.1.trans (final_ds m c), (h c).2.2.2.2.1.trans (final_db m c), (h c).2.2.2.2.2⟩) (Value.run_blocks m ρ)

end Cert.KernelIdeal.Point

end
-- ==== Proof.Host.lean ====
/-
  What the host lines hand the call: the arguments, and the reference's forward values.
-/
module

public import proofs.«01_k».proof.Proof.Gen.KernelIdeal.Frame
public import proofs.«01_k».proof.Proof.Gen.ReferenceIdeal.Read
public import Idealize.ShloMosaic.Lib.StableHlo.RunRead
public import Idealize.ShloMosaic.Lib.Claim

@[expose] public section

set_option maxRecDepth 16384

noncomputable section

namespace Cert.KernelIdeal.Point

open Idealize.ShloMosaic Idealize.ShloMosaic.TcCoe Idealize.SL.Sem Cert.KernelIdeal Cert.KernelIdeal.Gen

variable (m : (ℓ : Loc nD τ sig) → Buf (Elt Ideal) ℓ) (c : Dev nD)

theorem v87_eq : V m c main_v87 = (truncf .bf16 ((m ((c : Thread nD τ).loc main_arg1)) : FVec Ideal S16384x4096 .f32) bitsLt_bf16_f32 : FVec Ideal S16384x4096 .bf16) := by
  unfold_abbrev_sides
  after_reads_simp

theorem v91_eq : V m c main_v91 = (truncf .bf16 ((m ((c : Thread nD τ).loc main_arg3)) : FVec Ideal S4x512x512 .f32) bitsLt_bf16_f32 : FVec Ideal S4x512x512 .bf16) := by
  unfold_abbrev_sides
  after_reads_simp

theorem v92_eq : V m c main_v92 = (truncf .bf16 ((m ((c : Thread nD τ).loc main_arg6)) : FVec Ideal S2048x1024 .f32) bitsLt_bf16_f32 : FVec Ideal S2048x1024 .bf16) := by
  unfold_abbrev_sides
  after_reads_simp

theorem cat4 {a a' b b' d d' e e' : FVec Ideal S16384x512 .f32} (ha : a = a') (hb : b = b') (hd : d = d') (he : e = e') :
    concatenate S16384x2048 1 [⟨S16384x512, a⟩, ⟨S16384x512, b⟩, ⟨S16384x512, d⟩, ⟨S16384x512, e⟩] concatenates_S16384x512_S16384x512_S16384x512_S16384x512_S16384x2048_d1
      = concatenate S16384x2048 1 [⟨S16384x512, a'⟩, ⟨S16384x512, b'⟩, ⟨S16384x512, d'⟩, ⟨S16384x512, e'⟩] concatenates_S16384x512_S16384x512_S16384x512_S16384x512_S16384x2048_d1 := by
  subst ha hb hd he; rfl

theorem cat2_2 {a a' : FVec Ideal S2x512 .f32} {b b' : FVec Ideal S16382x512 .f32} (ha : a = a') (hb : b = b') :
    concatenate S16384x512 0 [⟨S2x512, a⟩, ⟨S16382x512, b⟩] concatenates_S2x512_S16382x512_S16384x512_d0 = concatenate S16384x512 0 [⟨S2x512, a'⟩, ⟨S16382x512, b'⟩] concatenates_S2x512_S16382x512_S16384x512_d0 := by
  subst ha hb; rfl

theorem cat2_4 {a a' : FVec Ideal S4x512 .f32} {b b' : FVec Ideal S16380x512 .f32} (ha : a = a') (hb : b = b') :
    concatenate S16384x512 0 [⟨S4x512, a⟩, ⟨S16380x512, b⟩] concatenates_S4x512_S16380x512_S16384x512_d0 = concatenate S16384x512 0 [⟨S4x512, a'⟩, ⟨S16380x512, b'⟩] concatenates_S4x512_S16380x512_S16384x512_d0 := by
  subst ha hb; rfl

theorem cat2_8 {a a' : FVec Ideal S8x512 .f32} {b b' : FVec Ideal S16376x512 .f32} (ha : a = a') (hb : b = b') :
    concatenate S16384x512 0 [⟨S8x512, a⟩, ⟨S16376x512, b⟩] concatenates_S8x512_S16376x512_S16384x512_d0 = concatenate S16384x512 0 [⟨S8x512, a'⟩, ⟨S16376x512, b'⟩] concatenates_S8x512_S16376x512_S16384x512_d0 := by
  subst ha hb; rfl

theorem cat2_16 {a a' : FVec Ideal S16x512 .f32} {b b' : FVec Ideal S16368x512 .f32} (ha : a = a') (hb : b = b') :
    concatenate S16384x512 0 [⟨S16x512, a⟩, ⟨S16368x512, b⟩] concatenates_S16x512_S16368x512_S16384x512_d0 = concatenate S16384x512 0 [⟨S16x512, a'⟩, ⟨S16368x512, b'⟩] concatenates_S16x512_S16368x512_S16384x512_d0 := by
  subst ha hb; rfl

/-- The host's operations before the call, in order. -/
abbrev line : List (HloOp τ sig (Elt Ideal)) := List.flatten [hostOps0, hostOps0_1, hostOps0_2, hostOps0_3, hostOps0_4, hostOps0_5, hostOps0_6, hostOps0_7, hostOps0_8, hostOps0_9, hostOps0_10]

/-- The window mean of 2 rows. -/
theorem mean_2 : StableHlo.upto line (fun b => m (c, b)) 82 (Proc.devRef .tc main_v16) = Cert.ReferenceIdeal.Read.val_main_v17 (F := Ideal) (m ((c : Thread nD τ).loc main_arg1)) := by
  after_reads_simp
  unfold Cert.ReferenceIdeal.Read.val_main_v17 Cert.ReferenceIdeal.Read.val_main_v15 Cert.ReferenceIdeal.Read.val_main_v6
  refine congrArg₂ (fun (a b : FVec Ideal S16384x512 .f32) => Host.divf a b) ?_ ?_
  rotate_left
  · rfl
  refine congrArg₂ (fun (a b : FVec Ideal S16384x512 .f32) => subf a b) ?_ ?_
  · rfl
  have ha : StableHlo.upto line (fun b => m (c, b)) 9 (Proc.devRef .tc main_v4) = Cert.ReferenceIdeal.Read.val_main_v4 (F := Ideal) := by
    after_reads_simp
    rfl
  have hb : StableHlo.upto line (fun b => m (c, b)) 9 (Proc.devRef .tc main_v5) = Cert.ReferenceIdeal.Read.val_main_v5 (F := Ideal) (m ((c : Thread nD τ).loc main_arg1)) := by
    after_reads_simp
    unfold Cert.ReferenceIdeal.Read.val_main_v5
    rfl
  exact cat2_2 ha hb

/-- The window mean of 4 rows. -/
theorem mean_4 : StableHlo.upto line (fun b => m (c, b)) 82 (Proc.devRef .tc main_v31) = Cert.ReferenceIdeal.Read.val_main_v33 (F := Ideal) (m ((c : Thread nD τ).loc main_arg1)) := by
  after_reads_simp
  unfold Cert.ReferenceIdeal.Read.val_main_v33 Cert.ReferenceIdeal.Read.val_main_v31 Cert.ReferenceIdeal.Read.val_main_v22
  refine congrArg₂ (fun (a b : FVec Ideal S16384x512 .f32) => Host.divf a b) ?_ ?_
  rotate_left
  · rfl
  refine congrArg₂ (fun (a b : FVec Ideal S16384x512 .f32) => subf a b) ?_ ?_
  · rfl
  have ha : StableHlo.upto line (fun b => m (c, b)) 29 (Proc.devRef .tc main_v19) = Cert.ReferenceIdeal.Read.val_main_v20 (F := Ideal) := by
    after_reads_simp
    rfl
  have hb : StableHlo.upto line (fun b => m (c, b)) 29 (Proc.devRef .tc main_v20) = Cert.ReferenceIdeal.Read.val_main_v21 (F := Ideal) (m ((c : Thread nD τ).loc main_arg1)) := by
    after_reads_simp
    unfold Cert.ReferenceIdeal.Read.val_main_v21
    rfl
  exact cat2_4 ha hb

/-- The window mean of 8 rows. -/
theorem mean_8 : StableHlo.upto line (fun b => m (c, b)) 82 (Proc.devRef .tc main_v46) = Cert.ReferenceIdeal.Read.val_main_v49 (F := Ideal) (m ((c : Thread nD τ).loc main_arg1)) := by
  after_reads_simp
  unfold Cert.ReferenceIdeal.Read.val_main_v49 Cert.ReferenceIdeal.Read.val_main_v47 Cert.ReferenceIdeal.Read.val_main_v38
  refine congrArg₂ (fun (a b : FVec Ideal S16384x512 .f32) => Host.divf a b) ?_ ?_
  rotate_left
  · rfl
  refine congrArg₂ (fun (a b : FVec Ideal S16384x512 .f32) => subf a b) ?_ ?_
  · rfl
  have ha : StableHlo.upto line (fun b => m (c, b)) 49 (Proc.devRef .tc main_v34) = Cert.ReferenceIdeal.Read.val_main_v36 (F := Ideal) := by
    after_reads_simp
    rfl
  have hb : StableHlo.upto line (fun b => m (c, b)) 49 (Proc.devRef .tc main_v35) = Cert.ReferenceIdeal.Read.val_main_v37 (F := Ideal) (m ((c : Thread nD τ).loc main_arg1)) := by
    after_reads_simp
    unfold Cert.ReferenceIdeal.Read.val_main_v37
    rfl
  exact cat2_8 ha hb

/-- The window mean of 16 rows. -/
theorem mean_16 : StableHlo.upto line (fun b => m (c, b)) 82 (Proc.devRef .tc main_v61) = Cert.ReferenceIdeal.Read.val_main_v65 (F := Ideal) (m ((c : Thread nD τ).loc main_arg1)) := by
  after_reads_simp
  unfold Cert.ReferenceIdeal.Read.val_main_v65 Cert.ReferenceIdeal.Read.val_main_v63 Cert.ReferenceIdeal.Read.val_main_v54
  refine congrArg₂ (fun (a b : FVec Ideal S16384x512 .f32) => Host.divf a b) ?_ ?_
  rotate_left
  · rfl
  refine congrArg₂ (fun (a b : FVec Ideal S16384x512 .f32) => subf a b) ?_ ?_
  · rfl
  have ha : StableHlo.upto line (fun b => m (c, b)) 69 (Proc.devRef .tc main_v49) = Cert.ReferenceIdeal.Read.val_main_v52 (F := Ideal) := by
    after_reads_simp
    rfl
  have hb : StableHlo.upto line (fun b => m (c, b)) 69 (Proc.devRef .tc main_v50) = Cert.ReferenceIdeal.Read.val_main_v53 (F := Ideal) (m ((c : Thread nD τ).loc main_arg1)) := by
    after_reads_simp
    unfold Cert.ReferenceIdeal.Read.val_main_v53
    rfl
  exact cat2_16 ha hb

theorem v90_eq : V m c main_v90 = (truncf .bf16 (Cert.ReferenceIdeal.Read.val_main_v67 (F := Ideal) (m ((c : Thread nD τ).loc main_arg1)) : FVec Ideal S16384x2048 .f32) bitsLt_bf16_f32 : FVec Ideal S16384x2048 .bf16) := by
  unfold_abbrev_sides
  after_reads_simp
  refine congrArg (fun z : FVec Ideal S16384x2048 .f32 => truncf .bf16 z bitsLt_bf16_f32) ?_
  exact congrArg₂ subf (cat4 (mean_2 m c) (mean_4 m c) (mean_8 m c) (mean_16 m c)) rfl

theorem v88_eq : V m c main_v88 = (truncf .bf16 (Cert.ReferenceIdeal.Read.val_main_v86 (F := Ideal) (m ((c : Thread nD τ).loc main_arg1)) (m ((c : Thread nD τ).loc main_arg3)) (m ((c : Thread nD τ).loc main_arg4)) : FVec Ideal S16384x2048 .f32) bitsLt_bf16_f32 : FVec Ideal S16384x2048 .bf16) := by
  unfold_abbrev_sides
  after_reads_simp
  refine congrArg (fun z : FVec Ideal S16384x2048 .f32 => truncf .bf16 z bitsLt_bf16_f32) ?_
  refine congrArg₂ addf (cat4 ?_ ?_ ?_ ?_) rfl
  · show StableHlo.upto _ _ _ (Proc.devRef .tc main_v67) = _
    after_reads_simp
    unfold Cert.ReferenceIdeal.Read.val_main_v71 Cert.ReferenceIdeal.Read.val_main_v68
    refine congrArg₂ (fun (a : FVec Ideal S16384x512 .f32) (b : FVec Ideal S512x512 .f32) => Host.dotGeneral dot_S16384x512_S512x512_S16384x512_1_0_0_1_n_n none a b) (congrArg (fun z : FVec Ideal S16384x2048 .f32 => extractStridedSlice S16384x512 ![0, 0] z slices_S16384x2048_S16384x512_0_0) ?_) ?_
    · exact congrArg₂ subf (cat4 (mean_2 m c) (mean_4 m c) (mean_8 m c) (mean_16 m c)) rfl
    · rfl
  · show StableHlo.upto _ _ _ (Proc.devRef .tc main_v71) = _
    after_reads_simp
    unfold Cert.ReferenceIdeal.Read.val_main_v75 Cert.ReferenceIdeal.Read.val_main_v72
    refine congrArg₂ (fun (a : FVec Ideal S16384x512 .f32) (b : FVec Ideal S512x512 .f32) => Host.dotGeneral dot_S16384x512_S512x512_S16384x512_1_0_0_1_n_n none a b) (congrArg (fun z : FVec Ideal S16384x2048 .f32 => extractStridedSlice S16384x512 ![0, 512] z slices_S16384x2048_S16384x512_0_512) ?_) ?_
    · exact congrArg₂ subf (cat4 (mean_2 m c) (mean_4 m c) (mean_8 m c) (mean_16 m c)) rfl
    · rfl
  · show StableHlo.upto _ _ _ (Proc.devRef .tc main_v75) = _
    after_reads_simp
    unfold Cert.ReferenceIdeal.Read.val_main_v79 Cert.ReferenceIdeal.Read.val_main_v76
    refine congrArg₂ (fun (a : FVec Ideal S16384x512 .f32) (b : FVec Ideal S512x512 .f32) => Host.dotGeneral dot_S16384x512_S512x512_S16384x512_1_0_0_1_n_n none a b) (congrArg (fun z : FVec Ideal S16384x2048 .f32 => extractStridedSlice S16384x512 ![0, 1024] z slices_S16384x2048_S16384x512_0_1024) ?_) ?_
    · exact congrArg₂ subf (cat4 (mean_2 m c) (mean_4 m c) (mean_8 m c) (mean_16 m c)) rfl
    · rfl
  · show StableHlo.upto _ _ _ (Proc.devRef .tc main_v79) = _
    after_reads_simp
    unfold Cert.ReferenceIdeal.Read.val_main_v83 Cert.ReferenceIdeal.Read.val_main_v80
    refine congrArg₂ (fun (a : FVec Ideal S16384x512 .f32) (b : FVec Ideal S512x512 .f32) => Host.dotGeneral dot_S16384x512_S512x512_S16384x512_1_0_0_1_n_n none a b) (congrArg (fun z : FVec Ideal S16384x2048 .f32 => extractStridedSlice S16384x512 ![0, 1536] z slices_S16384x2048_S16384x512_0_1536) ?_) ?_
    · exact congrArg₂ subf (cat4 (mean_2 m c) (mean_4 m c) (mean_8 m c) (mean_16 m c)) rfl
    · rfl

theorem v89_eq : V m c main_v89 = (truncf .bf16 (Cert.ReferenceIdeal.Read.val_main_v90 (F := Ideal) (m ((c : Thread nD τ).loc main_arg1)) (m ((c : Thread nD τ).loc main_arg3)) (m ((c : Thread nD τ).loc main_arg4)) (m ((c : Thread nD τ).loc main_arg5)) : FVec Ideal S16384x2048 .f32) bitsLt_bf16_f32 : FVec Ideal S16384x2048 .bf16) := by
  unfold_abbrev_sides
  after_reads_simp
  refine congrArg (fun z : FVec Ideal S16384x2048 .f32 => truncf .bf16 z bitsLt_bf16_f32) ?_
  unfold Cert.ReferenceIdeal.Read.val_main_v90 Cert.ReferenceIdeal.Read.val_main_v88
  refine congrArg₂ mulf (congrArg₂ mulf (congrArg₂ addf (cat4 ?_ ?_ ?_ ?_) rfl) rfl) ?_
  · show StableHlo.upto _ _ _ (Proc.devRef .tc main_v67) = _
    after_reads_simp
    unfold Cert.ReferenceIdeal.Read.val_main_v71 Cert.ReferenceIdeal.Read.val_main_v68
    refine congrArg₂ (fun (a : FVec Ideal S16384x512 .f32) (b : FVec Ideal S512x512 .f32) => Host.dotGeneral dot_S16384x512_S512x512_S16384x512_1_0_0_1_n_n none a b) (congrArg (fun z : FVec Ideal S16384x2048 .f32 => extractStridedSlice S16384x512 ![0, 0] z slices_S16384x2048_S16384x512_0_0) ?_) ?_
    · exact congrArg₂ subf (cat4 (mean_2 m c) (mean_4 m c) (mean_8 m c) (mean_16 m c)) rfl
    · rfl
  · show StableHlo.upto _ _ _ (Proc.devRef .tc main_v71) = _
    after_reads_simp
    unfold Cert.ReferenceIdeal.Read.val_main_v75 Cert.ReferenceIdeal.Read.val_main_v72
    refine congrArg₂ (fun (a : FVec Ideal S16384x512 .f32) (b : FVec Ideal S512x512 .f32) => Host.dotGeneral dot_S16384x512_S512x512_S16384x512_1_0_0_1_n_n none a b) (congrArg (fun z : FVec Ideal S16384x2048 .f32 => extractStridedSlice S16384x512 ![0, 512] z slices_S16384x2048_S16384x512_0_512) ?_) ?_
    · exact congrArg₂ subf (cat4 (mean_2 m c) (mean_4 m c) (mean_8 m c) (mean_16 m c)) rfl
    · rfl
  · show StableHlo.upto _ _ _ (Proc.devRef .tc main_v75) = _
    after_reads_simp
    unfold Cert.ReferenceIdeal.Read.val_main_v79 Cert.ReferenceIdeal.Read.val_main_v76
    refine congrArg₂ (fun (a : FVec Ideal S16384x512 .f32) (b : FVec Ideal S512x512 .f32) => Host.dotGeneral dot_S16384x512_S512x512_S16384x512_1_0_0_1_n_n none a b) (congrArg (fun z : FVec Ideal S16384x2048 .f32 => extractStridedSlice S16384x512 ![0, 1024] z slices_S16384x2048_S16384x512_0_1024) ?_) ?_
    · exact congrArg₂ subf (cat4 (mean_2 m c) (mean_4 m c) (mean_8 m c) (mean_16 m c)) rfl
    · rfl
  · show StableHlo.upto _ _ _ (Proc.devRef .tc main_v79) = _
    after_reads_simp
    unfold Cert.ReferenceIdeal.Read.val_main_v83 Cert.ReferenceIdeal.Read.val_main_v80
    refine congrArg₂ (fun (a : FVec Ideal S16384x512 .f32) (b : FVec Ideal S512x512 .f32) => Host.dotGeneral dot_S16384x512_S512x512_S16384x512_1_0_0_1_n_n none a b) (congrArg (fun z : FVec Ideal S16384x2048 .f32 => extractStridedSlice S16384x512 ![0, 1536] z slices_S16384x2048_S16384x512_0_1536) ?_) ?_
    · exact congrArg₂ subf (cat4 (mean_2 m c) (mean_4 m c) (mean_8 m c) (mean_16 m c)) rfl
    · rfl
  · rfl

end Cert.KernelIdeal.Point

end
-- ==== Proof.Reals.lean ====
/-
  The extended reals that are real numbers, and the facts about the mixer's formulas that need them: the window sum as the
  difference of two tail sums, the gate's derivative in its two arrangements, and the two spellings of the sigmoid.
-/
module

public import proofs.«01_k».proof.Proof.Formula
public import Idealize.ShloMosaic.Lib.Pointwise
public import Mathlib.Analysis.SpecialFunctions.Trigonometric.DerivHyp

@[expose] public section

noncomputable section

namespace Cert.Mixer

open Idealize.ShloMosaic
open scoped BigOperators

/-- The value is a real number. -/
def Real' (x : EReal) : Prop := ∃ r : ℝ, x = (r : EReal)

namespace Real'

theorem coe (r : ℝ) : Real' (r : EReal) := ⟨r, rfl⟩

theorem zero : Real' 0 := ⟨0, EReal.coe_zero.symm⟩

theorem one : Real' 1 := ⟨1, EReal.coe_one.symm⟩

theorem add {x y : EReal} : Real' x → Real' y → Real' (x + y)
  | ⟨a, ha⟩, ⟨b, hb⟩ => ⟨a + b, by rw [ha, hb, EReal.coe_add]⟩

theorem neg {x : EReal} : Real' x → Real' (-x)
  | ⟨a, ha⟩ => ⟨-a, by rw [ha, EReal.coe_neg]⟩

theorem sub {x y : EReal} : Real' x → Real' y → Real' (x - y)
  | ⟨a, ha⟩, ⟨b, hb⟩ => ⟨a - b, by rw [ha, hb, EReal.coe_sub]⟩

theorem mul {x y : EReal} : Real' x → Real' y → Real' (x * y)
  | ⟨a, ha⟩, ⟨b, hb⟩ => ⟨a * b, by rw [ha, hb, EReal.coe_mul]⟩

theorem sum {ι : Type} (t : Finset ι) {f : ι → EReal} (h : ∀ i, Real' (f i)) : Real' (∑ i ∈ t, f i) :=
  Finset.sum_induction f Real' (fun _ _ => add) zero fun i _ => h i

theorem foldl {ι : Type} (l : List ι) {f : ι → EReal} (h : ∀ i, Real' (f i)) (v : EReal) (hv : Real' v) :
    Real' (l.foldl (fun r i => r + f i) v) := by
  induction l generalizing v with
  | nil => exact hv
  | cons a l ih => exact ih _ (hv.add (h a))

theorem div {x : EReal} (hx : Real' x) {y : ℝ} (hy : y ≠ 0) : Real' (Ideal.div x (y : EReal)) := by
  rw [Ideal.div_coe hy]
  exact hx.mul (coe _)

theorem of_abs_lt {x : EReal} (h : max x (-x) < ⊤) : Real' x := by
  induction x with
  | bot => simp at h
  | top => simp at h
  | coe r => exact ⟨r, rfl⟩

end Real'

theorem half_bits : Ideal.ofBits .f32 0x3F000000#32 = ((1 / 2 : ℝ) : EReal) := by
  simp [Ideal.ofBits, Ideal.ieee, -EReal.coe_mul]
  norm_num

theorem sigmoid_real (r : ℝ) : (1 + Real.exp (-r))⁻¹ = 1 / 2 * Real.tanh (1 / 2 * r) + 1 / 2 := by
  have h : Real.exp (-r) = Real.exp (-(1 / 2 * r)) * Real.exp (-(1 / 2 * r)) := by rw [← Real.exp_add]; congr 1; ring
  have e : Real.exp (1 / 2 * r) * Real.exp (-(1 / 2 * r)) = 1 := by rw [← Real.exp_add, add_neg_cancel, Real.exp_zero]
  have p1 := Real.exp_pos (1 / 2 * r)
  have p2 := Real.exp_pos (-(1 / 2 * r))
  rw [Real.tanh_eq_sinh_div_cosh, Real.sinh_eq, Real.cosh_eq, h]
  generalize Real.exp (1 / 2 * r) = a at *
  generalize Real.exp (-(1 / 2 * r)) = b at *
  have hb : 1 + b * b ≠ 0 := by positivity
  have hc : a + b ≠ 0 := by positivity
  field_simp
  linear_combination (-2 * b) * e

theorem sigmoid_eq (z : EReal) : Ideal.div 1 (1 + Ideal.exp (-z)) = sig z := by
  show Ideal.logistic z = sig z
  unfold sig
  rw [half_bits]
  induction z with
  | bot =>
    rw [Ideal.logistic_bot, EReal.coe_mul_bot_of_pos (by norm_num), Ideal.tanh_bot, ← EReal.coe_one, ← EReal.coe_neg, ← EReal.coe_mul, ← EReal.coe_add]
    norm_num
  | top =>
    rw [Ideal.logistic_top, EReal.coe_mul_top_of_pos (by norm_num), Ideal.tanh_top, ← EReal.coe_one, ← EReal.coe_mul, ← EReal.coe_add]
    norm_num
  | coe r =>
    rw [Ideal.logistic_coe, ← EReal.coe_mul, Ideal.tanh_coe, ← EReal.coe_mul, ← EReal.coe_add, sigmoid_real]

theorem Real'.sig {z : EReal} (h : Real' z) : Real' (sig z) := by
  obtain ⟨r, rfl⟩ := h
  rw [← sigmoid_eq]
  show Real' (Ideal.logistic r)
  rw [Ideal.logistic_coe]
  exact coe _

/-- The gate's derivative as the chain rule arranges it. -/
theorem gate_eq {g d m c : EReal} (hg : Real' g) (hd : Real' d) (hm : Real' m) (hc : Real' c) :
    m * c * d * sig g + g * (m * c * d) * (sig g * (1 - sig g)) = d * m * c * (sig g + g * sig g * (1 - sig g)) := by
  obtain ⟨s, hs⟩ := hg.sig
  rw [hs]
  obtain ⟨g, rfl⟩ := hg
  obtain ⟨d, rfl⟩ := hd
  obtain ⟨m, rfl⟩ := hm
  obtain ⟨c, rfl⟩ := hc
  rw [← EReal.coe_one]
  simp only [← EReal.coe_mul, ← EReal.coe_sub, ← EReal.coe_add]
  congr 1
  ring

theorem window_ne (k : Fin 4) : (window k : ℝ) ≠ 0 := by
  simp [window]

/-- A division by the count is a product with its inverse. -/
theorem div_count (x : EReal) (p : ℕ) (k : Fin 4) : Ideal.div x (((min (p + 1) (window k) : ℕ) : ℝ) : EReal) = x * inv (p + 1) k := by
  have h : ((min (p + 1) (window k) : ℕ) : ℝ) ≠ 0 := by
    have : 0 < window k := by simp [window]
    exact_mod_cast (by omega : min (p + 1) (window k) ≠ 0)
  have hm : min (((p + 1 : ℕ) : ℝ) : EReal) ((window k : ℝ) : EReal) = (((min (p + 1) (window k) : ℕ) : ℝ) : EReal) := by
    rcases le_total (p + 1) (window k) with h | h
    · rw [min_eq_left h, min_eq_left (by exact_mod_cast h)]
    · rw [min_eq_right h, min_eq_right (by exact_mod_cast h)]
  unfold inv
  rw [hm, Ideal.div_coe h, Ideal.div_coe h, one_mul]

/-- The sum over a window is the tail sum of the differences at the window's distance. -/
theorem tail_window (N w : ℕ) (F : ℕ → EReal) (hF : ∀ t, Real' (F t)) (h0 : ∀ t, N ≤ t → F t = 0) (s : ℕ) :
    ∑ n ∈ Finset.range N, (F (s + n) + -F (s + n + w)) = ∑ j ∈ Finset.range w, F (s + j) := by
  choose f hf using hF
  have hz : ∀ t, N ≤ t → f t = 0 := fun t ht => by exact_mod_cast (hf t).symm.trans (h0 t ht)
  have hs : ∀ (t : Finset ℕ) (u : ℕ → ℝ), ∑ j ∈ t, (u j : EReal) = ((∑ j ∈ t, u j : ℝ) : EReal) := fun t u => (map_sum (⟨⟨Real.toEReal, EReal.coe_zero⟩, EReal.coe_add⟩ : ℝ →+ EReal) u t).symm
  simp only [hf, ← EReal.coe_neg, ← EReal.coe_add, hs]
  congr 1
  rw [Finset.sum_add_distrib, Finset.sum_neg_distrib]
  have e1 := Finset.sum_range_add (fun n => f (s + n)) N w
  have e2 := Finset.sum_range_add (fun n => f (s + n)) w N
  rw [Finset.sum_eq_zero fun j (_ : j ∈ Finset.range w) => hz (s + (N + j)) (by omega), add_zero] at e1
  rw [add_comm w N, e1] at e2
  have e3 : ∑ n ∈ Finset.range N, f (s + n + w) = ∑ n ∈ Finset.range N, f (s + (w + n)) :=
    Finset.sum_congr rfl fun n _ => by rw [show s + n + w = s + (w + n) by omega]
  linarith

/-- Row-major position `n` of a column is its index `(n, 0)`. -/
theorem symm_column {N : ℕ} (n : Fin (⟨2, ![N, 1]⟩ : Shape).numel) (h : n.val < N) : (⟨2, ![N, 1]⟩ : Shape).rowMajor.symm n = ix2 (⟨n.val, h⟩ : Fin N) (0 : Fin 1) :=
  ((⟨2, ![N, 1]⟩ : Shape).rowMajor.symm_apply_eq).2 (Fin.ext (by
    rw [Shape.rowMajor_val_two]
    show n.val = n.val * 1 + 0
    omega))

theorem numel_column (N : ℕ) : (⟨2, ![N, 1]⟩ : Shape).numel = N := by
  show ∏ a : Fin 2, (![N, 1] : Fin 2 → ℕ) a = N
  rw [Fin.prod_univ_two]
  exact Nat.mul_one N

/-- A window of the whole length, padded high by one less, sums the rows from its own to the last. -/
theorem tail_sum {N d Nm1 : ℕ} (x : (⟨2, ![N, d]⟩ : Shape).Idx → EReal) (F : ℕ → EReal) (m : Fin d)
    (hx : ∀ i : Fin N, x (ix2 i m) = F i.val) (h0 : ∀ t, N ≤ t → F t = 0) (v : EReal) (hv : v = 0)
    (h : (⟨2, ![N, d]⟩ : Shape).ReduceWindows (![N, 1] : Fin 2 → ℕ) ![1, 1] ![0, 0] ![Nm1, 0] (⟨2, ![N, d]⟩ : Shape)) (s : Fin N) :
    FloatOps.hostReduceWindowAdd (F := Ideal) (φ := .f32) (![N, 1] : Fin 2 → ℕ) ![1, 1] ![0, 0] ![Nm1, 0] h .single x v (ix2 s m)
      = ∑ n ∈ Finset.range N, F (s.val + n) := by
  have key : ∀ (l : List (Fin (⟨2, ![N, 1]⟩ : Shape).numel)) (g : Fin (⟨2, ![N, 1]⟩ : Shape).numel → EReal) (r : EReal),
      l.foldl (fun r n => r + g n) r = r + (l.map g).sum := fun l g r => by
    induction l generalizing r with
    | nil => simp
    | cons a l ih => rw [List.foldl_cons, ih, List.map_cons, List.sum_cons, add_assoc]
  show (List.finRange (⟨2, ![N, 1]⟩ : Shape).numel).foldl (fun r n => r + _) v = _
  rw [key, hv, zero_add, ← Fin.sum_univ_def]
  rw [← Fin.sum_univ_eq_sum_range (fun n => F (s.val + n)) N]
  refine Fintype.sum_equiv (finCongr (numel_column N)) _ _ fun n => ?_
  have hn : n.val < N := Nat.lt_of_lt_of_eq n.isLt (numel_column N)
  have hw0 : ((⟨2, ![N, 1]⟩ : Shape).rowMajor.symm n 0).val = n.val := by rw [symm_column n hn]; rfl
  have hw1 : ((⟨2, ![N, 1]⟩ : Shape).rowMajor.symm n 1).val = 0 := by rw [symm_column n hn]; rfl
  split
  · next hin =>
    have e0 := (hin (0 : Fin 2)).2
    change s.val * 1 + ((⟨2, ![N, 1]⟩ : Shape).rowMajor.symm n 0).val - 0 < N at e0
    rw [hw0] at e0
    refine (congrArg x (funext fun a => Fin.ext ?_)).trans (hx ⟨s.val + n.val, by omega⟩)
    match a with
    | ⟨0, _⟩ =>
      show s.val * 1 + ((⟨2, ![N, 1]⟩ : Shape).rowMajor.symm n 0).val - 0 = s.val + n.val
      omega
    | ⟨1, _⟩ =>
      show m.val * 1 + ((⟨2, ![N, 1]⟩ : Shape).rowMajor.symm n 1).val - 0 = m.val
      omega
  · next hin =>
    refine (h0 _ ?_).symm
    by_contra hlt
    refine hin fun a => ?_
    have hlt' : s.val + n.val < N := Nat.lt_of_not_le hlt
    match a with
    | ⟨0, _⟩ =>
      show 0 ≤ s.val * 1 + ((⟨2, ![N, 1]⟩ : Shape).rowMajor.symm n 0).val ∧ s.val * 1 + ((⟨2, ![N, 1]⟩ : Shape).rowMajor.symm n 0).val - 0 < N
      omega
    | ⟨1, _⟩ =>
      show 0 ≤ m.val * 1 + ((⟨2, ![N, 1]⟩ : Shape).rowMajor.symm n 1).val ∧ m.val * 1 + ((⟨2, ![N, 1]⟩ : Shape).rowMajor.symm n 1).val - 0 < d
      have := m.isLt
      omega

/-- A window sum of real numbers is a real number. -/
theorem Real'.window {s t : Shape} (w st lo hi : Fin s.rank → ℕ) (h : s.ReduceWindows w st lo hi t) (x : s.Idx → EReal) (hx : ∀ i, Real' (x i))
    (v : EReal) (hv : Real' v) (j : t.Idx) :
    Real' (FloatOps.hostReduceWindowAdd (F := Ideal) (φ := .f32) w st lo hi h .single x v j) := by
  refine Real'.foldl _ (fun n => ?_) v hv
  split
  · exact hx _
  · exact hv

end Cert.Mixer
-- ==== Proof.Ref.lean ====
/-
  The reference's backward lines, entry by entry, as the formulas.
-/
module

public import proofs.«01_k».proof.Proof.Reals
public import proofs.«01_k».proof.Proof.Gen.ReferenceIdeal.Read
public import Idealize.ShloMosaic.Lib.Pointwise

@[expose] public section

set_option maxRecDepth 16384

noncomputable section

namespace Cert.ReferenceIdeal.Mixer

open Idealize.ShloMosaic Cert.ReferenceIdeal Cert.ReferenceIdeal.Gen Cert.ReferenceIdeal.Read Cert.Mixer
open scoped BigOperators

variable (x0 : FVec Ideal S16384x1024 .f32) (x1 : FVec Ideal S16384x4096 .f32) (x2 : FVec Ideal S1x1024 .f32) (x3 : FVec Ideal S4x512x512 .f32)
  (x4 x5 : FVec Ideal S1x2048 .f32) (x6 : FVec Ideal S2048x1024 .f32)

def rdx (s : Fin 16384) (d : Fin 1024) : EReal := x0 (ix2 s d)
def rg (s : Fin 16384) (c : Fin 2048) : EReal := x1 (ix2 s ⟨2048 + c.val, by omega⟩)
def rmx (s : Fin 16384) (c : Fin 2048) : EReal := val_main_v86 (F := Ideal) x1 x3 x4 (ix2 s c)
def ry (s : Fin 16384) (c : Fin 2048) : EReal := val_main_v90 (F := Ideal) x1 x3 x4 x5 (ix2 s c)
def rdp (s : Fin 16384) (c : Fin 2048) : EReal := val_main_v67 (F := Ideal) x1 (ix2 s c)
def rgate (d : Fin 1024) : EReal := x2 (ix2 0 d)
def rwg (k : Fin 4) (a b : Fin 512) : EReal := x3 (ix3 k a b)
def rsc (c : Fin 2048) : EReal := x5 (ix2 0 c)
def rwo (c : Fin 2048) (d : Fin 1024) : EReal := x6 (ix2 c d)

theorem g_at (s : Fin 16384) (c : Fin 2048) : val_main_v1 (F := Ideal) x1 (ix2 s c) = rg x1 s c := by
  unfold rg
  pointwise [val_main_v1]

theorem dy_at (s : Fin 16384) (c : Fin 2048) : val_main_v97 (F := Ideal) x0 x2 x6 (ix2 s c) = dy (rdx x0) (rgate x2) (rwo x6) s c := by
  unfold dy rdx rgate rwo
  pointwise [val_main_v97, val_main_v96, val_main_v95]

theorem sig_at (s : Fin 16384) (c : Fin 2048) : val_main_v89_2 (F := Ideal) x1 (ix2 s c) = Cert.Mixer.sig (rg x1 s c) := by
  rw [← Cert.Mixer.sigmoid_eq, ← g_at]
  pointwise [val_main_v89_2, val_main_call4_v4, val_main_call4_v3, val_main_call4_v2, val_main_call4_v1, val_main_call4_v0, val_main_call4_cst, val_main_call4_cst_0]

theorem silu_at (s : Fin 16384) (c : Fin 2048) : val_main_v89_0 (F := Ideal) x1 (ix2 s c) = rg x1 s c * Cert.Mixer.sig (rg x1 s c) := by
  rw [← sig_at, ← g_at]
  pointwise [val_main_v89_0]

theorem dm_at (s : Fin 16384) (c : Fin 2048) : val_main_v107 (F := Ideal) x0 x1 x2 x5 x6 (ix2 s c) = dm (rdx x0) (rg x1) (rgate x2) (rsc x5) (rwo x6) s c := by
  unfold dm
  rw [← dy_at, ← silu_at]
  pointwise [val_main_v107, val_main_v101, val_main_v106]
  exact mul_right_comm _ _ _

theorem ds_at (c : Fin 2048) : val_main_v105 (F := Ideal) x0 x1 x2 x3 x4 x6 (ix2 0 c) = ∑ s, ds (rdx x0) (rg x1) (rmx x1 x3 x4) (rgate x2) (rwo x6) s c := by
  pointwise [val_main_v105, val_main_v104, val_main_cst_14]
  refine Finset.sum_congr rfl fun s _ => ?_
  unfold ds
  rw [← dy_at, ← silu_at]
  unfold rmx
  pointwise [val_main_v103, val_main_v101]
  exact mul_left_comm _ _ _ |>.trans (mul_assoc _ _ _).symm

theorem db_at (c : Fin 2048) : val_main_v109 (F := Ideal) x0 x1 x2 x5 x6 (ix2 0 c) = ∑ s, dm (rdx x0) (rg x1) (rgate x2) (rsc x5) (rwo x6) s c := by
  pointwise [val_main_v109, val_main_v108, val_main_cst_15]
  exact Finset.sum_congr rfl fun s _ => dm_at x0 x1 x2 x5 x6 s c

theorem mt_at (k : Fin 4) (r : Fin 512) (d : Fin 1024) : val_main_v191 (F := Ideal) x0 x1 x3 x4 x5 (ix3 k r d) = ∑ s, ry x1 x3 x4 x5 s (col k r) * rdx x0 s d := by
  pointwise [val_main_v191, val_main_v99, val_main_v98]
  refine Finset.sum_congr rfl fun s _ => (mul_comm _ _).trans (congrArg (· * rdx x0 s d) ?_)
  exact congrArg (fun c => val_main_v90 (F := Ideal) x1 x3 x4 x5 (ix2 s c)) (Fin.ext (show k.val * 512 + r.val = 512 * k.val + r.val by omega))

theorem dw_at0 (a b : Fin 512) : val_main_v141 (F := Ideal) x0 x1 x2 x5 x6 (ix3 0 a b) = ∑ s, rdp x1 s (col 0 a) * dm (rdx x0) (rg x1) (rgate x2) (rsc x5) (rwo x6) s (col 0 b) := by
  pointwise [val_main_v141, val_main_v140, val_main_v139, val_main_v137, val_main_v136, val_main_v133, val_main_v132, val_main_v131, val_main_v129, val_main_v128, val_main_v125, val_main_v124, val_main_v123, val_main_v121, val_main_v120, val_main_v118, val_main_v117, val_main_v115, val_main_v114, val_main_v113, val_main_v112, val_main_v111, val_main_v110, val_main_v80, val_main_v76, val_main_v72, val_main_v68, val_main_cst_16, val_main_cst_18, val_main_cst_20, val_main_cst_22]
  refine Finset.sum_congr rfl fun s _ => (mul_comm _ _).trans (congrArg₂ (· * ·) ?_ ?_)
  · exact congrArg (fun c => val_main_v67 (F := Ideal) x1 (ix2 s c)) (Fin.ext (by show _ = 512 * 0 + a.val; (first | rfl | (dsimp only; omega))))
  · refine (dm_at x0 x1 x2 x5 x6 s _).trans (congrArg (dm (rdx x0) (rg x1) (rgate x2) (rsc x5) (rwo x6) s) (Fin.ext ?_))
    show _ = 512 * 0 + b.val
    first | rfl | (dsimp only; omega)

theorem dw_at1 (a b : Fin 512) : val_main_v141 (F := Ideal) x0 x1 x2 x5 x6 (ix3 1 a b) = ∑ s, rdp x1 s (col 1 a) * dm (rdx x0) (rg x1) (rgate x2) (rsc x5) (rwo x6) s (col 1 b) := by
  pointwise [val_main_v141, val_main_v140, val_main_v139, val_main_v137, val_main_v136, val_main_v133, val_main_v132, val_main_v131, val_main_v129, val_main_v128, val_main_v125, val_main_v124, val_main_v123, val_main_v121, val_main_v120, val_main_v118, val_main_v117, val_main_v115, val_main_v114, val_main_v113, val_main_v112, val_main_v111, val_main_v110, val_main_v80, val_main_v76, val_main_v72, val_main_v68, val_main_cst_16, val_main_cst_18, val_main_cst_20, val_main_cst_22]
  refine Finset.sum_congr rfl fun s _ => (mul_comm _ _).trans (congrArg₂ (· * ·) ?_ ?_)
  · exact congrArg (fun c => val_main_v67 (F := Ideal) x1 (ix2 s c)) (Fin.ext (by show _ = 512 * 1 + a.val; (first | rfl | (dsimp only; omega))))
  · refine (dm_at x0 x1 x2 x5 x6 s _).trans (congrArg (dm (rdx x0) (rg x1) (rgate x2) (rsc x5) (rwo x6) s) (Fin.ext ?_))
    show _ = 512 * 1 + b.val
    first | rfl | (dsimp only; omega)

theorem dw_at2 (a b : Fin 512) : val_main_v141 (F := Ideal) x0 x1 x2 x5 x6 (ix3 2 a b) = ∑ s, rdp x1 s (col 2 a) * dm (rdx x0) (rg x1) (rgate x2) (rsc x5) (rwo x6) s (col 2 b) := by
  pointwise [val_main_v141, val_main_v140, val_main_v139, val_main_v137, val_main_v136, val_main_v133, val_main_v132, val_main_v131, val_main_v129, val_main_v128, val_main_v125, val_main_v124, val_main_v123, val_main_v121, val_main_v120, val_main_v118, val_main_v117, val_main_v115, val_main_v114, val_main_v113, val_main_v112, val_main_v111, val_main_v110, val_main_v80, val_main_v76, val_main_v72, val_main_v68, val_main_cst_16, val_main_cst_18, val_main_cst_20, val_main_cst_22]
  refine Finset.sum_congr rfl fun s _ => (mul_comm _ _).trans (congrArg₂ (· * ·) ?_ ?_)
  · exact congrArg (fun c => val_main_v67 (F := Ideal) x1 (ix2 s c)) (Fin.ext (by show _ = 512 * 2 + a.val; (first | rfl | (dsimp only; omega))))
  · refine (dm_at x0 x1 x2 x5 x6 s _).trans (congrArg (dm (rdx x0) (rg x1) (rgate x2) (rsc x5) (rwo x6) s) (Fin.ext ?_))
    show _ = 512 * 2 + b.val
    first | rfl | (dsimp only; omega)

theorem dw_at3 (a b : Fin 512) : val_main_v141 (F := Ideal) x0 x1 x2 x5 x6 (ix3 3 a b) = ∑ s, rdp x1 s (col 3 a) * dm (rdx x0) (rg x1) (rgate x2) (rsc x5) (rwo x6) s (col 3 b) := by
  pointwise [val_main_v141, val_main_v140, val_main_v139, val_main_v137, val_main_v136, val_main_v133, val_main_v132, val_main_v131, val_main_v129, val_main_v128, val_main_v125, val_main_v124, val_main_v123, val_main_v121, val_main_v120, val_main_v118, val_main_v117, val_main_v115, val_main_v114, val_main_v113, val_main_v112, val_main_v111, val_main_v110, val_main_v80, val_main_v76, val_main_v72, val_main_v68, val_main_cst_16, val_main_cst_18, val_main_cst_20, val_main_cst_22]
  refine Finset.sum_congr rfl fun s _ => (mul_comm _ _).trans (congrArg₂ (· * ·) ?_ ?_)
  · exact congrArg (fun c => val_main_v67 (F := Ideal) x1 (ix2 s c)) (Fin.ext (by show _ = 512 * 3 + a.val; (first | rfl | (dsimp only; omega))))
  · refine (dm_at x0 x1 x2 x5 x6 s _).trans (congrArg (dm (rdx x0) (rg x1) (rgate x2) (rsc x5) (rwo x6) s) (Fin.ext ?_))
    show _ = 512 * 3 + b.val
    first | rfl | (dsimp only; omega)

theorem dw_at (k : Fin 4) (a b : Fin 512) : val_main_v141 (F := Ideal) x0 x1 x2 x5 x6 (ix3 k a b) = ∑ s, rdp x1 s (col k a) * dm (rdx x0) (rg x1) (rgate x2) (rsc x5) (rwo x6) s (col k b) :=
  match k with
  | 0 => dw_at0 x0 x1 x2 x5 x6 a b
  | 1 => dw_at1 x0 x1 x2 x5 x6 a b
  | 2 => dw_at2 x0 x1 x2 x5 x6 a b
  | 3 => dw_at3 x0 x1 x2 x5 x6 a b

/-! ## The pooled half -/

theorem dd_at0 (s : Fin 16384) (j : Fin 512) : val_main_v143 (F := Ideal) x0 x1 x2 x3 x5 x6 (ix2 s ⟨0 + j.val, by omega⟩) = dd (rdx x0) (rg x1) (rgate x2) (rwg x3) (rsc x5) (rwo x6) s 0 j := by
  unfold dd
  have hj : j.val < 512 := j.isLt
  pointwise [val_main_v143, val_main_v142, val_main_v138, val_main_v135, val_main_v134, val_main_v130, val_main_v127, val_main_v126, val_main_v122, val_main_v119, val_main_v116, val_main_v113, val_main_v112, val_main_v111, val_main_v110, val_main_v82, val_main_v81, val_main_v78, val_main_v77, val_main_v74, val_main_v73, val_main_v70, val_main_v69, val_main_cst_17, val_main_cst_19, val_main_cst_21, val_main_cst_23]
  rw [dif_neg (by omega)]; rw [dif_neg (by omega)]; rw [dif_neg (fun h => h.1)]
  simp only [zero_add, add_zero]
  refine Finset.sum_congr rfl fun c _ => congrArg₂ (fun a b : EReal => a * b) ?_ ?_
  · refine (dm_at x0 x1 x2 x5 x6 s _).trans (congrArg (dm (rdx x0) (rg x1) (rgate x2) (rsc x5) (rwo x6) s) (Fin.ext ?_))
    show _ = 512 * 0 + c.val
    first | rfl | (dsimp only; omega)
  · unfold rwg
    rfl

theorem dd_at1 (s : Fin 16384) (j : Fin 512) : val_main_v143 (F := Ideal) x0 x1 x2 x3 x5 x6 (ix2 s ⟨512 + j.val, by omega⟩) = dd (rdx x0) (rg x1) (rgate x2) (rwg x3) (rsc x5) (rwo x6) s 1 j := by
  unfold dd
  have hj : j.val < 512 := j.isLt
  pointwise [val_main_v143, val_main_v142, val_main_v138, val_main_v135, val_main_v134, val_main_v130, val_main_v127, val_main_v126, val_main_v122, val_main_v119, val_main_v116, val_main_v113, val_main_v112, val_main_v111, val_main_v110, val_main_v82, val_main_v81, val_main_v78, val_main_v77, val_main_v74, val_main_v73, val_main_v70, val_main_v69, val_main_cst_17, val_main_cst_19, val_main_cst_21, val_main_cst_23]
  rw [dif_neg (by omega)]; rw [dif_neg (by omega)]
  simp only [zero_add, add_zero]
  refine Finset.sum_congr rfl fun c _ => congrArg₂ (fun a b : EReal => a * b) ?_ ?_
  · refine (dm_at x0 x1 x2 x5 x6 s _).trans (congrArg (dm (rdx x0) (rg x1) (rgate x2) (rsc x5) (rwo x6) s) (Fin.ext ?_))
    show _ = 512 * 1 + c.val
    first | rfl | (dsimp only; omega)
  · unfold rwg
    rfl

theorem dd_at2 (s : Fin 16384) (j : Fin 512) : val_main_v143 (F := Ideal) x0 x1 x2 x3 x5 x6 (ix2 s ⟨1024 + j.val, by omega⟩) = dd (rdx x0) (rg x1) (rgate x2) (rwg x3) (rsc x5) (rwo x6) s 2 j := by
  unfold dd
  have hj : j.val < 512 := j.isLt
  pointwise [val_main_v143, val_main_v142, val_main_v138, val_main_v135, val_main_v134, val_main_v130, val_main_v127, val_main_v126, val_main_v122, val_main_v119, val_main_v116, val_main_v113, val_main_v112, val_main_v111, val_main_v110, val_main_v82, val_main_v81, val_main_v78, val_main_v77, val_main_v74, val_main_v73, val_main_v70, val_main_v69, val_main_cst_17, val_main_cst_19, val_main_cst_21, val_main_cst_23]
  rw [dif_neg (by omega)]; rw [dif_neg (by omega)]; rw [dif_neg (by omega)]
  simp only [zero_add, add_zero]
  refine Finset.sum_congr rfl fun c _ => congrArg₂ (fun a b : EReal => a * b) ?_ ?_
  · refine (dm_at x0 x1 x2 x5 x6 s _).trans (congrArg (dm (rdx x0) (rg x1) (rgate x2) (rsc x5) (rwo x6) s) (Fin.ext ?_))
    show _ = 512 * 2 + c.val
    first | rfl | (dsimp only; omega)
  · unfold rwg
    rfl

theorem dd_at3 (s : Fin 16384) (j : Fin 512) : val_main_v143 (F := Ideal) x0 x1 x2 x3 x5 x6 (ix2 s ⟨1536 + j.val, by omega⟩) = dd (rdx x0) (rg x1) (rgate x2) (rwg x3) (rsc x5) (rwo x6) s 3 j := by
  unfold dd
  have hj : j.val < 512 := j.isLt
  pointwise [val_main_v143, val_main_v142, val_main_v138, val_main_v135, val_main_v134, val_main_v130, val_main_v127, val_main_v126, val_main_v122, val_main_v119, val_main_v116, val_main_v113, val_main_v112, val_main_v111, val_main_v110, val_main_v82, val_main_v81, val_main_v78, val_main_v77, val_main_v74, val_main_v73, val_main_v70, val_main_v69, val_main_cst_17, val_main_cst_19, val_main_cst_21, val_main_cst_23]
  rw [dif_neg (by omega)]; rw [dif_neg (by omega)]; rw [dif_neg (by omega)]
  simp only [zero_add, add_zero]
  refine Finset.sum_congr rfl fun c _ => congrArg₂ (fun a b : EReal => a * b) ?_ ?_
  · refine (dm_at x0 x1 x2 x5 x6 s _).trans (congrArg (dm (rdx x0) (rg x1) (rgate x2) (rsc x5) (rwo x6) s) (Fin.ext ?_))
    show _ = 512 * 3 + c.val
    first | rfl | (dsimp only; omega)
  · unfold rwg
    rfl

end Cert.ReferenceIdeal.Mixer

end
-- ==== Proof.RefPool.lean ====
/-
  The reference's cotangent of the projection, entry by entry, where the arguments are real numbers: the columns the pool
  reads, and the columns of the gate.
-/
module

public import proofs.«01_k».proof.Proof.Ref
public import proofs.«01_k».proof.Proof.Pool

@[expose] public section

set_option maxRecDepth 16384

noncomputable section

namespace Cert.ReferenceIdeal.Mixer

open Idealize.ShloMosaic Cert.ReferenceIdeal Cert.ReferenceIdeal.Gen Cert.ReferenceIdeal.Read Cert.Mixer
open scoped BigOperators

/-! ## What is real -/

/-- Every entry is a real number. -/
abbrev AllReal {s : Shape} (x : s.Idx → EReal) : Prop := ∀ i, Real' (x i)

theorem real_slice {s t : Shape} (off : Fin s.rank → ℕ) (h : s.Slices off t) {x : s.Idx → EReal} (hx : AllReal x) : AllReal (extractStridedSlice t off x h) :=
  fun i => hx _

theorem real_zero {t : Shape} (h : (⟨0, ![]⟩ : Shape).BroadcastsInDim t ![]) : AllReal (broadcastInDim t ![] h (constant (F := Ideal) ⟨0, ![]⟩ .f32 0x00000000#32)) :=
  fun i => by
    show Real' (Ideal.ofBits .f32 0x00000000#32)
    rw [show Ideal.ofBits .f32 0x00000000#32 = 0 by simp [Ideal.ofBits, Ideal.ieee]]
    exact Real'.zero

theorem real_cat2 {t s1 s2 : Shape} (a : Fin t.rank) {x : s1.Idx → EReal} {y : s2.Idx → EReal} (h : Shape.Concatenates [s1, s2] t a)
    (hx : AllReal x) (hy : AllReal y) : AllReal (concatenate t a [⟨s1, x⟩, ⟨s2, y⟩] h) :=
  concatenate_forall t a [⟨s1, x⟩, ⟨s2, y⟩] h fun p hp => by
    rcases List.mem_cons.1 hp with rfl | hp
    · exact hx
    rcases List.mem_cons.1 hp with rfl | hp
    · exact hy
    · exact absurd hp List.not_mem_nil

theorem real_cat4 {t s1 s2 s3 s4 : Shape} (a : Fin t.rank) {x : s1.Idx → EReal} {y : s2.Idx → EReal} {z : s3.Idx → EReal} {w : s4.Idx → EReal}
    (h : Shape.Concatenates [s1, s2, s3, s4] t a) (hx : AllReal x) (hy : AllReal y) (hz : AllReal z) (hw : AllReal w) :
    AllReal (concatenate t a [⟨s1, x⟩, ⟨s2, y⟩, ⟨s3, z⟩, ⟨s4, w⟩] h) :=
  concatenate_forall t a [⟨s1, x⟩, ⟨s2, y⟩, ⟨s3, z⟩, ⟨s4, w⟩] h fun p hp => by
    rcases List.mem_cons.1 hp with rfl | hp
    · exact hx
    rcases List.mem_cons.1 hp with rfl | hp
    · exact hy
    rcases List.mem_cons.1 hp with rfl | hp
    · exact hz
    rcases List.mem_cons.1 hp with rfl | hp
    · exact hw
    · exact absurd hp List.not_mem_nil

variable {x0 : (⟨S16384x1024, .f32⟩ : BufTy).Contents (Elt Ideal)} {x1 : (⟨S16384x4096, .f32⟩ : BufTy).Contents (Elt Ideal)} {x2 : (⟨S1x1024, .f32⟩ : BufTy).Contents (Elt Ideal)} {x3 : (⟨S4x512x512, .f32⟩ : BufTy).Contents (Elt Ideal)} {x4 : (⟨S1x2048, .f32⟩ : BufTy).Contents (Elt Ideal)} {x5 : (⟨S1x2048, .f32⟩ : BufTy).Contents (Elt Ideal)} {x6 : (⟨S2048x1024, .f32⟩ : BufTy).Contents (Elt Ideal)}

section Formulas

variable (h0 : AllReal x0) (h1 : AllReal x1) (h2 : AllReal x2) (h3 : AllReal x3) (h5 : AllReal x5) (h6 : AllReal x6)
include h0 h2 h6

theorem real_dy (s : Fin 16384) (c : Fin 2048) : Real' (dy (rdx x0) (rgate x2) (rwo x6) s c) :=
  Real'.sum _ fun d => ((h2 _).mul (h0 _)).mul (h6 _)

include h1 h5

theorem real_dm (s : Fin 16384) (c : Fin 2048) : Real' (dm (rdx x0) (rg x1) (rgate x2) (rsc x5) (rwo x6) s c) :=
  ((real_dy h0 h2 h6 s c).mul (h5 _)).mul (Real'.mul (h1 _) (Real'.sig (h1 _)))

include h3

theorem real_dd (s : Fin 16384) (k : Fin 4) (m : Fin 512) : Real' (dd (rdx x0) (rg x1) (rgate x2) (rwg x3) (rsc x5) (rwo x6) s k m) :=
  Real'.sum _ fun d => (real_dm h0 h1 h2 h5 h6 s _).mul (h3 _)

theorem real_inv (p : ℕ) (k : Fin 4) : Real' (inv (p + 1) k) := by
  rw [← one_mul (inv (p + 1) k), ← div_count]
  refine Real'.one.div ?_
  have : 0 < window k := by simp [window]
  exact_mod_cast (by omega : min (p + 1) (window k) ≠ 0)

theorem real_dqz (t : ℕ) (k : Fin 4) (m : Fin 512) : Real' (dqz (rdx x0) (rg x1) (rgate x2) (rwg x3) (rsc x5) (rwo x6) t k m) := by
  unfold dqz
  split
  · exact (real_dd h0 h1 h2 h3 h5 h6 _ k m).mul (real_inv h0 h1 h2 h3 h5 h6 _ k)
  · exact Real'.zero

end Formulas

/-! ## The counts -/

theorem count_word (s w : ℕ) (hs : s < 16384) (hw : w ≤ 16) :
    (IntOp.minsi (IntOp.addi 1#32 (BitVec.ofNat 32 s)) (BitVec.ofNat 32 w)).toInt = (min (s + 1) w : ℕ) := by
  have e : IntOp.addi 1#32 (BitVec.ofNat 32 s) = BitVec.ofNat 32 (s + 1) := by
    show 1#32 + BitVec.ofNat 32 s = _
    rw [Nat.add_comm s 1, BitVec.ofNat_add]
  have i1 : (BitVec.ofNat 32 (s + 1)).toInt = ((s + 1 : ℕ) : ℤ) := by
    have : (BitVec.ofNat 32 (s + 1)).toNat = s + 1 := by rw [BitVec.toNat_ofNat]; exact Nat.mod_eq_of_lt (by omega)
    rw [BitVec.toInt_eq_toNat_of_lt (by omega), this]
  have i2 : (BitVec.ofNat 32 w).toInt = (w : ℤ) := by
    have : (BitVec.ofNat 32 w).toNat = w := by rw [BitVec.toNat_ofNat]; exact Nat.mod_eq_of_lt (by omega)
    rw [BitVec.toInt_eq_toNat_of_lt (by omega), this]
  rw [e]
  unfold IntOp.minsi
  split
  · next h =>
    rw [i1]
    simp only [BitVec.slt, BitVec.sle, i1, i2, decide_eq_true_eq] at h
    omega
  · next h =>
    rw [i2]
    simp only [BitVec.slt, BitVec.sle, i1, i2, decide_eq_true_eq] at h
    omega

theorem count_at0 (s : Fin 16384) : val_main_v14 (F := Ideal) (ix2 s 0) = (((min (s.val + 1) (window 0) : ℕ) : ℝ) : EReal) := by
  pointwise [val_main_v14, val_main_v13, val_main_v12, val_main_v11, val_main_v10, val_main_v9, val_main_v8, val_main_c, val_main_c_1]
  exact congrArg (fun z : ℤ => ((z : ℝ) : EReal)) (count_word s.val 2 s.isLt (by decide))

theorem count_at1 (s : Fin 16384) : val_main_v30 (F := Ideal) (ix2 s 0) = (((min (s.val + 1) (window 1) : ℕ) : ℝ) : EReal) := by
  pointwise [val_main_v30, val_main_v29, val_main_v28, val_main_v27, val_main_v26, val_main_v25, val_main_v24, val_main_c_4, val_main_c_5]
  exact congrArg (fun z : ℤ => ((z : ℝ) : EReal)) (count_word s.val 4 s.isLt (by decide))

theorem count_at2 (s : Fin 16384) : val_main_v46 (F := Ideal) (ix2 s 0) = (((min (s.val + 1) (window 2) : ℕ) : ℝ) : EReal) := by
  pointwise [val_main_v46, val_main_v45, val_main_v44, val_main_v43, val_main_v42, val_main_v41, val_main_v40, val_main_c_8, val_main_c_9]
  exact congrArg (fun z : ℤ => ((z : ℝ) : EReal)) (count_word s.val 8 s.isLt (by decide))

theorem count_at3 (s : Fin 16384) : val_main_v62 (F := Ideal) (ix2 s 0) = (((min (s.val + 1) (window 3) : ℕ) : ℝ) : EReal) := by
  pointwise [val_main_v62, val_main_v61, val_main_v60, val_main_v59, val_main_v58, val_main_v57, val_main_v56, val_main_c_12, val_main_c_13]
  exact congrArg (fun z : ℤ => ((z : ℝ) : EReal)) (count_word s.val 16 s.isLt (by decide))

/-! ## The pooled and mixed columns are real -/

section Forward

variable (h1 : AllReal x1) (h3 : AllReal x3) (h4 : AllReal x4)
include h1

theorem real_cumsum0 : AllReal (val_main_v3 (F := Ideal) x1) := fun i =>
  Real'.window _ _ _ _ _ _ (real_slice _ _ (real_slice _ _ h1)) _ (real_zero _ _) i

theorem real_lag0 : AllReal (val_main_v6 (F := Ideal) x1) :=
  real_cat2 (t := S16384x512) 0 _ (real_zero bcast_S_S2x512) (real_slice _ _ (real_cumsum0 h1))

theorem real_pool0 : AllReal (val_main_v17 (F := Ideal) x1) := fun i => by
  obtain ⟨s, m, rfl⟩ : ∃ (s : Fin 16384) (m : Fin 512), i = ix2 s m := ⟨i 0, i 1, eq_ix2 i⟩
  have e : val_main_v17 (F := Ideal) x1 (ix2 s m) = Ideal.div (val_main_v15 (F := Ideal) x1 (ix2 s m)) (val_main_v14 (F := Ideal) (ix2 s 0)) := by
    pointwise [val_main_v17, val_main_v16]
  rw [e, count_at0, div_count, ← one_mul (inv _ _), ← div_count]
  refine Real'.mul ((real_cumsum0 h1 _).sub (real_lag0 h1 _)) (Real'.one.div ?_)
  have : 0 < window 0 := by simp [window]
  exact_mod_cast (by omega : min (s.val + 1) (window 0) ≠ 0)

theorem real_cumsum1 : AllReal (val_main_v19 (F := Ideal) x1) := fun i =>
  Real'.window _ _ _ _ _ _ (real_slice _ _ (real_slice _ _ h1)) _ (real_zero _ _) i

theorem real_lag1 : AllReal (val_main_v22 (F := Ideal) x1) :=
  real_cat2 (t := S16384x512) 0 _ (real_zero bcast_S_S4x512) (real_slice _ _ (real_cumsum1 h1))

theorem real_pool1 : AllReal (val_main_v33 (F := Ideal) x1) := fun i => by
  obtain ⟨s, m, rfl⟩ : ∃ (s : Fin 16384) (m : Fin 512), i = ix2 s m := ⟨i 0, i 1, eq_ix2 i⟩
  have e : val_main_v33 (F := Ideal) x1 (ix2 s m) = Ideal.div (val_main_v31 (F := Ideal) x1 (ix2 s m)) (val_main_v30 (F := Ideal) (ix2 s 0)) := by
    pointwise [val_main_v33, val_main_v32]
  rw [e, count_at1, div_count, ← one_mul (inv _ _), ← div_count]
  refine Real'.mul ((real_cumsum1 h1 _).sub (real_lag1 h1 _)) (Real'.one.div ?_)
  have : 0 < window 1 := by simp [window]
  exact_mod_cast (by omega : min (s.val + 1) (window 1) ≠ 0)

theorem real_cumsum2 : AllReal (val_main_v35 (F := Ideal) x1) := fun i =>
  Real'.window _ _ _ _ _ _ (real_slice _ _ (real_slice _ _ h1)) _ (real_zero _ _) i

theorem real_lag2 : AllReal (val_main_v38 (F := Ideal) x1) :=
  real_cat2 (t := S16384x512) 0 _ (real_zero bcast_S_S8x512) (real_slice _ _ (real_cumsum2 h1))

theorem real_pool2 : AllReal (val_main_v49 (F := Ideal) x1) := fun i => by
  obtain ⟨s, m, rfl⟩ : ∃ (s : Fin 16384) (m : Fin 512), i = ix2 s m := ⟨i 0, i 1, eq_ix2 i⟩
  have e : val_main_v49 (F := Ideal) x1 (ix2 s m) = Ideal.div (val_main_v47 (F := Ideal) x1 (ix2 s m)) (val_main_v46 (F := Ideal) (ix2 s 0)) := by
    pointwise [val_main_v49, val_main_v48]
  rw [e, count_at2, div_count, ← one_mul (inv _ _), ← div_count]
  refine Real'.mul ((real_cumsum2 h1 _).sub (real_lag2 h1 _)) (Real'.one.div ?_)
  have : 0 < window 2 := by simp [window]
  exact_mod_cast (by omega : min (s.val + 1) (window 2) ≠ 0)

theorem real_cumsum3 : AllReal (val_main_v51 (F := Ideal) x1) := fun i =>
  Real'.window _ _ _ _ _ _ (real_slice _ _ (real_slice _ _ h1)) _ (real_zero _ _) i

theorem real_lag3 : AllReal (val_main_v54 (F := Ideal) x1) :=
  real_cat2 (t := S16384x512) 0 _ (real_zero bcast_S_S16x512) (real_slice _ _ (real_cumsum3 h1))

theorem real_pool3 : AllReal (val_main_v65 (F := Ideal) x1) := fun i => by
  obtain ⟨s, m, rfl⟩ : ∃ (s : Fin 16384) (m : Fin 512), i = ix2 s m := ⟨i 0, i 1, eq_ix2 i⟩
  have e : val_main_v65 (F := Ideal) x1 (ix2 s m) = Ideal.div (val_main_v63 (F := Ideal) x1 (ix2 s m)) (val_main_v62 (F := Ideal) (ix2 s 0)) := by
    pointwise [val_main_v65, val_main_v64]
  rw [e, count_at3, div_count, ← one_mul (inv _ _), ← div_count]
  refine Real'.mul ((real_cumsum3 h1 _).sub (real_lag3 h1 _)) (Real'.one.div ?_)
  have : 0 < window 3 := by simp [window]
  exact_mod_cast (by omega : min (s.val + 1) (window 3) ≠ 0)

theorem real_centred : AllReal (val_main_v67 (F := Ideal) x1) := fun i => by
  refine Real'.sub ?_ (real_slice _ _ h1 i)
  exact real_cat4 (t := S16384x2048) 1 _ (real_pool0 h1) (real_pool1 h1) (real_pool2 h1) (real_pool3 h1) i

include h3

theorem real_product0 : AllReal (val_main_v71 (F := Ideal) x1 x3) := fun i => by
  obtain ⟨s, m, rfl⟩ : ∃ (s : Fin 16384) (m : Fin 512), i = ix2 s m := ⟨i 0, i 1, eq_ix2 i⟩
  have e : val_main_v71 (F := Ideal) x1 x3 (ix2 s m) = ∑ j : Fin 512, val_main_v68 (F := Ideal) x1 (ix2 s j) * x3 (ix3 0 j m) := by
    pointwise [val_main_v71, val_main_v70, val_main_v69]
    try rfl
  rw [e]
  exact Real'.sum _ fun j => (real_slice _ _ (real_centred h1) _).mul (h3 _)

theorem real_product1 : AllReal (val_main_v75 (F := Ideal) x1 x3) := fun i => by
  obtain ⟨s, m, rfl⟩ : ∃ (s : Fin 16384) (m : Fin 512), i = ix2 s m := ⟨i 0, i 1, eq_ix2 i⟩
  have e : val_main_v75 (F := Ideal) x1 x3 (ix2 s m) = ∑ j : Fin 512, val_main_v72 (F := Ideal) x1 (ix2 s j) * x3 (ix3 1 j m) := by
    pointwise [val_main_v75, val_main_v74, val_main_v73]
    try rfl
  rw [e]
  exact Real'.sum _ fun j => (real_slice _ _ (real_centred h1) _).mul (h3 _)

theorem real_product2 : AllReal (val_main_v79 (F := Ideal) x1 x3) := fun i => by
  obtain ⟨s, m, rfl⟩ : ∃ (s : Fin 16384) (m : Fin 512), i = ix2 s m := ⟨i 0, i 1, eq_ix2 i⟩
  have e : val_main_v79 (F := Ideal) x1 x3 (ix2 s m) = ∑ j : Fin 512, val_main_v76 (F := Ideal) x1 (ix2 s j) * x3 (ix3 2 j m) := by
    pointwise [val_main_v79, val_main_v78, val_main_v77]
    try rfl
  rw [e]
  exact Real'.sum _ fun j => (real_slice _ _ (real_centred h1) _).mul (h3 _)

theorem real_product3 : AllReal (val_main_v83 (F := Ideal) x1 x3) := fun i => by
  obtain ⟨s, m, rfl⟩ : ∃ (s : Fin 16384) (m : Fin 512), i = ix2 s m := ⟨i 0, i 1, eq_ix2 i⟩
  have e : val_main_v83 (F := Ideal) x1 x3 (ix2 s m) = ∑ j : Fin 512, val_main_v80 (F := Ideal) x1 (ix2 s j) * x3 (ix3 3 j m) := by
    pointwise [val_main_v83, val_main_v82, val_main_v81]
    try rfl
  rw [e]
  exact Real'.sum _ fun j => (real_slice _ _ (real_centred h1) _).mul (h3 _)

include h4

theorem real_mixed : AllReal (val_main_v86 (F := Ideal) x1 x3 x4) := fun i => by
  refine Real'.add ?_ (h4 _)
  exact real_cat4 (t := S16384x2048) 1 _ (real_product0 h1 h3) (real_product1 h1 h3) (real_product2 h1 h3) (real_product3 h1 h3) i

end Forward

/-! ## The two halves -/

variable (h0 : AllReal x0) (h1 : AllReal x1) (h2 : AllReal x2) (h3 : AllReal x3) (h4 : AllReal x4) (h5 : AllReal x5) (h6 : AllReal x6)
include h0 h1 h2 h3 h4 h5 h6

theorem gate_at (s : Fin 16384) (c : Fin 2048) : val_main_v102 (F := Ideal) x0 x1 x2 x3 x4 x5 x6 (ix2 s c)
    = dg (rdx x0) (rg x1) (rmx x1 x3 x4) (rgate x2) (rsc x5) (rwo x6) s c := by
  unfold dg
  rw [← gate_eq (g := rg x1 s c) (m := rmx x1 x3 x4 s c) (c := rsc x5 c) (h1 _) (real_dy h0 h2 h6 s c) (real_mixed h1 h3 h4 _) (h5 _), ← dy_at, ← sig_at, ← g_at]
  pointwise [val_main_v102, val_main_call5_v0, val_main_call5_v1, val_main_call5_v2, val_main_v100, val_main_v88, val_main_v87, val_main_v89_1, val_main_call4_v7, val_main_call4_v6, val_main_call4_cst_1]
  unfold rmx rsc
  try rfl

omit h4

theorem q_at0 (s : Fin 16384) (m : Fin 512) : val_main_v180 (F := Ideal) x0 x1 x2 x3 x5 x6 (ix2 s m)
    = dq (rdx x0) (rg x1) (rgate x2) (rwg x3) (rsc x5) (rwo x6) s 0 m := by
  unfold dq
  rw [← div_count, ← count_at0, ← dd_at0]
  pointwise [val_main_v180, val_main_v145, val_main_v179]
  try rfl

theorem step_at0 (s : Fin 16384) (m : Fin 512) : val_main_v185 (F := Ideal) x0 x1 x2 x3 x5 x6 (ix2 s m)
    = dqz (rdx x0) (rg x1) (rgate x2) (rwg x3) (rsc x5) (rwo x6) s.val 0 m + -dqz (rdx x0) (rg x1) (rgate x2) (rwg x3) (rsc x5) (rwo x6) (s.val + 2) 0 m := by
  have hs := s.isLt
  rw [dqz, dif_pos s.isLt, ← q_at0 h0 h1 h2 h3 h5 h6]
  pointwise [val_main_v185, val_main_v184, val_main_v183, val_main_v181, val_main_cst_30]
  refine congrArg (fun z : EReal => val_main_v180 (F := Ideal) x0 x1 x2 x3 x5 x6 (ix2 s m) + z) ?_
  unfold dqz
  by_cases h : s.val < 16384 - 2
  · rw [dif_pos (by omega), dif_pos (by omega), ← q_at0 h0 h1 h2 h3 h5 h6]
    exact congrArg (fun i : Fin 16384 => -val_main_v180 (F := Ideal) x0 x1 x2 x3 x5 x6 (ix2 i m)) (Fin.ext (by first | omega | (show _ = _; dsimp only; omega)))
  · rw [dif_neg (by omega), dif_neg (by omega), neg_zero]

theorem tail_at0 (s : Fin 16384) (m : Fin 512) : val_main_v186 (F := Ideal) x0 x1 x2 x3 x5 x6 (ix2 s m)
    = ∑ j ∈ Finset.range (window 0), dqz (rdx x0) (rg x1) (rgate x2) (rwg x3) (rsc x5) (rwo x6) (s.val + j) 0 m := by
  have hz : ∀ t, 16384 ≤ t → dqz (rdx x0) (rg x1) (rgate x2) (rwg x3) (rsc x5) (rwo x6) t 0 m = 0 := fun t ht => dif_neg (Nat.not_lt.2 ht)
  refine (tail_sum _ (fun t => dqz (rdx x0) (rg x1) (rgate x2) (rwg x3) (rsc x5) (rwo x6) t 0 m + -dqz (rdx x0) (rg x1) (rgate x2) (rwg x3) (rsc x5) (rwo x6) (t + 2) 0 m) m
    (fun i => step_at0 h0 h1 h2 h3 h5 h6 i m) (fun t ht => ?_) _ ?_ _ s).trans
    (tail_window 16384 2 (fun t => dqz (rdx x0) (rg x1) (rgate x2) (rwg x3) (rsc x5) (rwo x6) t 0 m) (fun t => real_dqz h0 h1 h2 h3 h5 h6 t 0 m) hz s.val)
  · rw [hz t ht, hz (t + 2) (by omega), neg_zero, add_zero]
  · exact (show Ideal.ofBits .f32 0x00000000#32 = 0 by simp [Ideal.ofBits, Ideal.ieee])

theorem q_at1 (s : Fin 16384) (m : Fin 512) : val_main_v170 (F := Ideal) x0 x1 x2 x3 x5 x6 (ix2 s m)
    = dq (rdx x0) (rg x1) (rgate x2) (rwg x3) (rsc x5) (rwo x6) s 1 m := by
  unfold dq
  rw [← div_count, ← count_at1, ← dd_at1]
  pointwise [val_main_v170, val_main_v146, val_main_v169]
  try rfl

theorem step_at1 (s : Fin 16384) (m : Fin 512) : val_main_v175 (F := Ideal) x0 x1 x2 x3 x5 x6 (ix2 s m)
    = dqz (rdx x0) (rg x1) (rgate x2) (rwg x3) (rsc x5) (rwo x6) s.val 1 m + -dqz (rdx x0) (rg x1) (rgate x2) (rwg x3) (rsc x5) (rwo x6) (s.val + 4) 1 m := by
  have hs := s.isLt
  rw [dqz, dif_pos s.isLt, ← q_at1 h0 h1 h2 h3 h5 h6]
  pointwise [val_main_v175, val_main_v174, val_main_v173, val_main_v171, val_main_cst_28]
  refine congrArg (fun z : EReal => val_main_v170 (F := Ideal) x0 x1 x2 x3 x5 x6 (ix2 s m) + z) ?_
  unfold dqz
  by_cases h : s.val < 16384 - 4
  · rw [dif_pos (by omega), dif_pos (by omega), ← q_at1 h0 h1 h2 h3 h5 h6]
    exact congrArg (fun i : Fin 16384 => -val_main_v170 (F := Ideal) x0 x1 x2 x3 x5 x6 (ix2 i m)) (Fin.ext (by first | omega | (show _ = _; dsimp only; omega)))
  · rw [dif_neg (by omega), dif_neg (by omega), neg_zero]

theorem tail_at1 (s : Fin 16384) (m : Fin 512) : val_main_v176 (F := Ideal) x0 x1 x2 x3 x5 x6 (ix2 s m)
    = ∑ j ∈ Finset.range (window 1), dqz (rdx x0) (rg x1) (rgate x2) (rwg x3) (rsc x5) (rwo x6) (s.val + j) 1 m := by
  have hz : ∀ t, 16384 ≤ t → dqz (rdx x0) (rg x1) (rgate x2) (rwg x3) (rsc x5) (rwo x6) t 1 m = 0 := fun t ht => dif_neg (Nat.not_lt.2 ht)
  refine (tail_sum _ (fun t => dqz (rdx x0) (rg x1) (rgate x2) (rwg x3) (rsc x5) (rwo x6) t 1 m + -dqz (rdx x0) (rg x1) (rgate x2) (rwg x3) (rsc x5) (rwo x6) (t + 4) 1 m) m
    (fun i => step_at1 h0 h1 h2 h3 h5 h6 i m) (fun t ht => ?_) _ ?_ _ s).trans
    (tail_window 16384 4 (fun t => dqz (rdx x0) (rg x1) (rgate x2) (rwg x3) (rsc x5) (rwo x6) t 1 m) (fun t => real_dqz h0 h1 h2 h3 h5 h6 t 1 m) hz s.val)
  · rw [hz t ht, hz (t + 4) (by omega), neg_zero, add_zero]
  · exact (show Ideal.ofBits .f32 0x00000000#32 = 0 by simp [Ideal.ofBits, Ideal.ieee])

theorem q_at2 (s : Fin 16384) (m : Fin 512) : val_main_v160 (F := Ideal) x0 x1 x2 x3 x5 x6 (ix2 s m)
    = dq (rdx x0) (rg x1) (rgate x2) (rwg x3) (rsc x5) (rwo x6) s 2 m := by
  unfold dq
  rw [← div_count, ← count_at2, ← dd_at2]
  pointwise [val_main_v160, val_main_v147, val_main_v159]
  try rfl

theorem step_at2 (s : Fin 16384) (m : Fin 512) : val_main_v165 (F := Ideal) x0 x1 x2 x3 x5 x6 (ix2 s m)
    = dqz (rdx x0) (rg x1) (rgate x2) (rwg x3) (rsc x5) (rwo x6) s.val 2 m + -dqz (rdx x0) (rg x1) (rgate x2) (rwg x3) (rsc x5) (rwo x6) (s.val + 8) 2 m := by
  have hs := s.isLt
  rw [dqz, dif_pos s.isLt, ← q_at2 h0 h1 h2 h3 h5 h6]
  pointwise [val_main_v165, val_main_v164, val_main_v163, val_main_v161, val_main_cst_26]
  refine congrArg (fun z : EReal => val_main_v160 (F := Ideal) x0 x1 x2 x3 x5 x6 (ix2 s m) + z) ?_
  unfold dqz
  by_cases h : s.val < 16384 - 8
  · rw [dif_pos (by omega), dif_pos (by omega), ← q_at2 h0 h1 h2 h3 h5 h6]
    exact congrArg (fun i : Fin 16384 => -val_main_v160 (F := Ideal) x0 x1 x2 x3 x5 x6 (ix2 i m)) (Fin.ext (by first | omega | (show _ = _; dsimp only; omega)))
  · rw [dif_neg (by omega), dif_neg (by omega), neg_zero]

theorem tail_at2 (s : Fin 16384) (m : Fin 512) : val_main_v166 (F := Ideal) x0 x1 x2 x3 x5 x6 (ix2 s m)
    = ∑ j ∈ Finset.range (window 2), dqz (rdx x0) (rg x1) (rgate x2) (rwg x3) (rsc x5) (rwo x6) (s.val + j) 2 m := by
  have hz : ∀ t, 16384 ≤ t → dqz (rdx x0) (rg x1) (rgate x2) (rwg x3) (rsc x5) (rwo x6) t 2 m = 0 := fun t ht => dif_neg (Nat.not_lt.2 ht)
  refine (tail_sum _ (fun t => dqz (rdx x0) (rg x1) (rgate x2) (rwg x3) (rsc x5) (rwo x6) t 2 m + -dqz (rdx x0) (rg x1) (rgate x2) (rwg x3) (rsc x5) (rwo x6) (t + 8) 2 m) m
    (fun i => step_at2 h0 h1 h2 h3 h5 h6 i m) (fun t ht => ?_) _ ?_ _ s).trans
    (tail_window 16384 8 (fun t => dqz (rdx x0) (rg x1) (rgate x2) (rwg x3) (rsc x5) (rwo x6) t 2 m) (fun t => real_dqz h0 h1 h2 h3 h5 h6 t 2 m) hz s.val)
  · rw [hz t ht, hz (t + 8) (by omega), neg_zero, add_zero]
  · exact (show Ideal.ofBits .f32 0x00000000#32 = 0 by simp [Ideal.ofBits, Ideal.ieee])

theorem q_at3 (s : Fin 16384) (m : Fin 512) : val_main_v150 (F := Ideal) x0 x1 x2 x3 x5 x6 (ix2 s m)
    = dq (rdx x0) (rg x1) (rgate x2) (rwg x3) (rsc x5) (rwo x6) s 3 m := by
  unfold dq
  rw [← div_count, ← count_at3, ← dd_at3]
  pointwise [val_main_v150, val_main_v148, val_main_v149]
  try rfl

theorem step_at3 (s : Fin 16384) (m : Fin 512) : val_main_v155 (F := Ideal) x0 x1 x2 x3 x5 x6 (ix2 s m)
    = dqz (rdx x0) (rg x1) (rgate x2) (rwg x3) (rsc x5) (rwo x6) s.val 3 m + -dqz (rdx x0) (rg x1) (rgate x2) (rwg x3) (rsc x5) (rwo x6) (s.val + 16) 3 m := by
  have hs := s.isLt
  rw [dqz, dif_pos s.isLt, ← q_at3 h0 h1 h2 h3 h5 h6]
  pointwise [val_main_v155, val_main_v154, val_main_v153, val_main_v151, val_main_cst_24]
  refine congrArg (fun z : EReal => val_main_v150 (F := Ideal) x0 x1 x2 x3 x5 x6 (ix2 s m) + z) ?_
  unfold dqz
  by_cases h : s.val < 16384 - 16
  · rw [dif_pos (by omega), dif_pos (by omega), ← q_at3 h0 h1 h2 h3 h5 h6]
    exact congrArg (fun i : Fin 16384 => -val_main_v150 (F := Ideal) x0 x1 x2 x3 x5 x6 (ix2 i m)) (Fin.ext (by first | omega | (show _ = _; dsimp only; omega)))
  · rw [dif_neg (by omega), dif_neg (by omega), neg_zero]

theorem tail_at3 (s : Fin 16384) (m : Fin 512) : val_main_v156 (F := Ideal) x0 x1 x2 x3 x5 x6 (ix2 s m)
    = ∑ j ∈ Finset.range (window 3), dqz (rdx x0) (rg x1) (rgate x2) (rwg x3) (rsc x5) (rwo x6) (s.val + j) 3 m := by
  have hz : ∀ t, 16384 ≤ t → dqz (rdx x0) (rg x1) (rgate x2) (rwg x3) (rsc x5) (rwo x6) t 3 m = 0 := fun t ht => dif_neg (Nat.not_lt.2 ht)
  refine (tail_sum _ (fun t => dqz (rdx x0) (rg x1) (rgate x2) (rwg x3) (rsc x5) (rwo x6) t 3 m + -dqz (rdx x0) (rg x1) (rgate x2) (rwg x3) (rsc x5) (rwo x6) (t + 16) 3 m) m
    (fun i => step_at3 h0 h1 h2 h3 h5 h6 i m) (fun t ht => ?_) _ ?_ _ s).trans
    (tail_window 16384 16 (fun t => dqz (rdx x0) (rg x1) (rgate x2) (rwg x3) (rsc x5) (rwo x6) t 3 m) (fun t => real_dqz h0 h1 h2 h3 h5 h6 t 3 m) hz s.val)
  · rw [hz t ht, hz (t + 16) (by omega), neg_zero, add_zero]
  · exact (show Ideal.ofBits .f32 0x00000000#32 = 0 by simp [Ideal.ofBits, Ideal.ieee])

theorem pool_at0 (s : Fin 16384) (m : Fin 512) : val_main_v188 (F := Ideal) x0 x1 x2 x3 x5 x6 (ix2 s ⟨0 + m.val, by omega⟩)
    = dv (rdx x0) (rg x1) (rgate x2) (rwg x3) (rsc x5) (rwo x6) s 0 m := by
  have hm : m.val < 512 := m.isLt
  unfold dv
  rw [← tail_at0 h0 h1 h2 h3 h5 h6, ← dd_at0, sub_eq_add_neg, add_comm (val_main_v186 (F := Ideal) x0 x1 x2 x3 x5 x6 (ix2 s m))]
  pointwise [val_main_v188, val_main_v187, val_main_cst_31, val_main_v178, val_main_v177, val_main_cst_29, val_main_v168, val_main_v167, val_main_cst_27, val_main_v158, val_main_v157, val_main_cst_25, val_main_v144]
  rw [dif_neg (by omega)]; rw [dif_neg (by omega)]; rw [dif_neg (fun h => h.1)]
  simp only [add_zero, zero_add]

theorem pool_at1 (s : Fin 16384) (m : Fin 512) : val_main_v188 (F := Ideal) x0 x1 x2 x3 x5 x6 (ix2 s ⟨512 + m.val, by omega⟩)
    = dv (rdx x0) (rg x1) (rgate x2) (rwg x3) (rsc x5) (rwo x6) s 1 m := by
  have hm : m.val < 512 := m.isLt
  unfold dv
  rw [← tail_at1 h0 h1 h2 h3 h5 h6, ← dd_at1, sub_eq_add_neg, add_comm (val_main_v176 (F := Ideal) x0 x1 x2 x3 x5 x6 (ix2 s m))]
  pointwise [val_main_v188, val_main_v187, val_main_cst_31, val_main_v178, val_main_v177, val_main_cst_29, val_main_v168, val_main_v167, val_main_cst_27, val_main_v158, val_main_v157, val_main_cst_25, val_main_v144]
  rw [dif_neg (by omega)]; rw [dif_neg (by omega)]
  simp only [add_zero, zero_add]

theorem pool_at2 (s : Fin 16384) (m : Fin 512) : val_main_v188 (F := Ideal) x0 x1 x2 x3 x5 x6 (ix2 s ⟨1024 + m.val, by omega⟩)
    = dv (rdx x0) (rg x1) (rgate x2) (rwg x3) (rsc x5) (rwo x6) s 2 m := by
  have hm : m.val < 512 := m.isLt
  unfold dv
  rw [← tail_at2 h0 h1 h2 h3 h5 h6, ← dd_at2, sub_eq_add_neg, add_comm (val_main_v166 (F := Ideal) x0 x1 x2 x3 x5 x6 (ix2 s m))]
  pointwise [val_main_v188, val_main_v187, val_main_cst_31, val_main_v178, val_main_v177, val_main_cst_29, val_main_v168, val_main_v167, val_main_cst_27, val_main_v158, val_main_v157, val_main_cst_25, val_main_v144]
  rw [dif_neg (by omega)]; rw [dif_neg (by omega)]; rw [dif_neg (by omega)]
  simp only [add_zero, zero_add]

theorem pool_at3 (s : Fin 16384) (m : Fin 512) : val_main_v188 (F := Ideal) x0 x1 x2 x3 x5 x6 (ix2 s ⟨1536 + m.val, by omega⟩)
    = dv (rdx x0) (rg x1) (rgate x2) (rwg x3) (rsc x5) (rwo x6) s 3 m := by
  have hm : m.val < 512 := m.isLt
  unfold dv
  rw [← tail_at3 h0 h1 h2 h3 h5 h6, ← dd_at3, sub_eq_add_neg, add_comm (val_main_v156 (F := Ideal) x0 x1 x2 x3 x5 x6 (ix2 s m))]
  pointwise [val_main_v188, val_main_v187, val_main_cst_31, val_main_v178, val_main_v177, val_main_cst_29, val_main_v168, val_main_v167, val_main_cst_27, val_main_v158, val_main_v157, val_main_cst_25, val_main_v144]
  rw [dif_neg (by omega)]; rw [dif_neg (by omega)]; rw [dif_neg (by omega)]
  simp only [add_zero, zero_add]

end Cert.ReferenceIdeal.Mixer
-- ==== Proof.Ends.lean ====
/-
  The arrays the kernel's run ends with are the reference's results.
-/
module

public import proofs.«01_k».proof.Proof.Final
public import proofs.«01_k».proof.Proof.Host
public import proofs.«01_k».proof.Proof.RefPool

@[expose] public section

set_option maxRecDepth 16384

noncomputable section

namespace Cert.KernelIdeal.Point

open Idealize.ShloMosaic Idealize.ShloMosaic.TcCoe Idealize.SL.Sem Cert.KernelIdeal Cert.KernelIdeal.Gen Cert.Mixer
open Cert.ReferenceIdeal.Mixer (rdx rg rmx ry rdp rgate rwg rsc rwo AllReal)
open scoped BigOperators

variable (m : (ℓ : Loc nD τ sig) → Buf (Elt Ideal) ℓ) (c : Dev nD)

theorem vdx_eq : vdx m c = rdx (m ((c : Thread nD τ).loc main_arg0)) := by
  unfold vdx rdx
  rw [V_main_arg0]
  try rfl

theorem vg_eq : vg m c = rg (m ((c : Thread nD τ).loc main_arg1)) := by
  unfold vg rg
  rw [v87_eq]
  try rfl

theorem vmx_eq : vmx m c = rmx (m ((c : Thread nD τ).loc main_arg1)) (m ((c : Thread nD τ).loc main_arg3)) (m ((c : Thread nD τ).loc main_arg4)) := by
  unfold vmx rmx
  rw [v88_eq]
  try rfl

theorem vy_eq : vy m c = ry (m ((c : Thread nD τ).loc main_arg1)) (m ((c : Thread nD τ).loc main_arg3)) (m ((c : Thread nD τ).loc main_arg4)) (m ((c : Thread nD τ).loc main_arg5)) := by
  unfold vy ry
  rw [v89_eq]
  try rfl

theorem vdp_eq : vdp m c = rdp (m ((c : Thread nD τ).loc main_arg1)) := by
  unfold vdp rdp
  rw [v90_eq]
  try rfl

theorem vgate_eq : vgate m c = rgate (m ((c : Thread nD τ).loc main_arg2)) := by
  unfold vgate rgate
  rw [V_main_arg2]
  try rfl

theorem vwg_eq : vwg m c = rwg (m ((c : Thread nD τ).loc main_arg3)) := by
  unfold vwg rwg
  rw [v91_eq]
  try rfl

theorem vsc_eq : vsc m c = rsc (m ((c : Thread nD τ).loc main_arg5)) := by
  unfold vsc rsc
  rw [V_main_arg5]
  try rfl

theorem vwo_eq : vwo m c = rwo (m ((c : Thread nD τ).loc main_arg6)) := by
  unfold vwo rwo
  rw [v92_eq]
  try rfl

theorem endMt_eq : endMt m c = Cert.ReferenceIdeal.Read.val_main_v191 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  funext j
  obtain ⟨k, r, d, rfl⟩ : ∃ (k : Fin 4) (r : Fin 512) (d : Fin 1024), j = ix3 k r d := ⟨j 0, j 1, j 2, eq_ix3 j⟩
  refine Eq.trans ?_ (Cert.ReferenceIdeal.Mixer.mt_at _ _ _ _ _ k r d).symm
  show ∑ s, tmt m c k r d s = _
  unfold tmt
  rw [vy_eq, vdx_eq]

theorem endDw_eq : endDw m c = Cert.ReferenceIdeal.Read.val_main_v141 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  funext j
  obtain ⟨k, a, b, rfl⟩ : ∃ (k : Fin 4) (a : Fin 512) (b : Fin 512), j = ix3 k a b := ⟨j 0, j 1, j 2, eq_ix3 j⟩
  refine Eq.trans ?_ (Cert.ReferenceIdeal.Mixer.dw_at _ _ _ _ _ k a b).symm
  show ∑ s, tdw m c k a b s = _
  unfold tdw
  rw [vdp_eq, vdx_eq, vg_eq, vgate_eq, vsc_eq, vwo_eq]

theorem endDs_eq : endDs m c = Cert.ReferenceIdeal.Read.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  funext j
  obtain ⟨z, x, rfl⟩ : ∃ (z : Fin 1) (x : Fin 2048), j = ix2 z x := ⟨j 0, j 1, eq_ix2 j⟩
  obtain rfl : z = 0 := Subsingleton.elim _ _
  refine Eq.trans ?_ (Cert.ReferenceIdeal.Mixer.ds_at _ _ _ _ _ _ x).symm
  show ∑ s, tds m c x s = _
  unfold tds
  rw [vdx_eq, vg_eq, vmx_eq, vgate_eq, vwo_eq]

theorem endDb_eq : endDb m c = Cert.ReferenceIdeal.Read.val_main_v109 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  funext j
  obtain ⟨z, x, rfl⟩ : ∃ (z : Fin 1) (x : Fin 2048), j = ix2 z x := ⟨j 0, j 1, eq_ix2 j⟩
  obtain rfl : z = 0 := Subsingleton.elim _ _
  refine Eq.trans ?_ (Cert.ReferenceIdeal.Mixer.db_at _ _ _ _ _ x).symm
  show ∑ s, tdb m c x s = _
  unfold tdb
  rw [vdx_eq, vg_eq, vgate_eq, vsc_eq, vwo_eq]

theorem endProj_eq (h0 : AllReal (s := S16384x1024) (m ((c : Thread nD τ).loc main_arg0))) (h1 : AllReal (s := S16384x4096) (m ((c : Thread nD τ).loc main_arg1))) (h2 : AllReal (s := S1x1024) (m ((c : Thread nD τ).loc main_arg2))) (h3 : AllReal (s := S4x512x512) (m ((c : Thread nD τ).loc main_arg3))) (h4 : AllReal (s := S1x2048) (m ((c : Thread nD τ).loc main_arg4))) (h5 : AllReal (s := S1x2048) (m ((c : Thread nD τ).loc main_arg5))) (h6 : AllReal (s := S2048x1024) (m ((c : Thread nD τ).loc main_arg6))) :
    endProj m c = Cert.ReferenceIdeal.Read.val_main_v190 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext j
  obtain ⟨s, x, rfl⟩ : ∃ (s : Fin 16384) (x : Fin 4096), j = ix2 s x := ⟨j 0, j 1, eq_ix2 j⟩
  show dproj (vdx m c) (vg m c) (vmx m c) (vgate m c) (vwg m c) (vsc m c) (vwo m c) s x = _
  rw [vdx_eq, vg_eq, vmx_eq, vgate_eq, vwg_eq, vsc_eq, vwo_eq]
  by_cases hx : x.val < 2048
  · obtain ⟨k, w, hc⟩ := exists_col ⟨x.val, hx⟩
    refine (dproj_col _ _ _ _ _ _ _ s ⟨x.val, hx⟩ k w hc).trans ?_
    have key : Cert.ReferenceIdeal.Read.val_main_v188 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (ix2 s ⟨x.val, hx⟩)
        = dv (rdx (m ((c : Thread nD τ).loc main_arg0))) (rg (m ((c : Thread nD τ).loc main_arg1))) (rgate (m ((c : Thread nD τ).loc main_arg2))) (rwg (m ((c : Thread nD τ).loc main_arg3))) (rsc (m ((c : Thread nD τ).loc main_arg5))) (rwo (m ((c : Thread nD τ).loc main_arg6))) s k w := by
      rw [hc]
      match k with
      | 0 => exact Cert.ReferenceIdeal.Mixer.pool_at0 h0 h1 h2 h3 h5 h6 s w
      | 1 => exact Cert.ReferenceIdeal.Mixer.pool_at1 h0 h1 h2 h3 h5 h6 s w
      | 2 => exact Cert.ReferenceIdeal.Mixer.pool_at2 h0 h1 h2 h3 h5 h6 s w
      | 3 => exact Cert.ReferenceIdeal.Mixer.pool_at3 h0 h1 h2 h3 h5 h6 s w
    rw [← key]
    pointwise [Cert.ReferenceIdeal.Read.val_main_v190, Cert.ReferenceIdeal.Read.val_main_v189]
    rw [dif_pos hx]
    done
  · obtain ⟨x, hx'⟩ := x
    dsimp only at hx
    obtain ⟨y, rfl⟩ : ∃ y : Fin 2048, x = 2048 + y.val := ⟨⟨x - 2048, by omega⟩, (by dsimp only; omega)⟩
    refine (dproj_gate _ _ _ _ _ _ _ s y).trans ?_
    rw [← Cert.ReferenceIdeal.Mixer.gate_at h0 h1 h2 h3 h4 h5 h6]
    pointwise [Cert.ReferenceIdeal.Read.val_main_v190, Cert.ReferenceIdeal.Read.val_main_v189]
    try rw [dif_neg hx]

/-- An array whose entries are all below infinity in absolute value has real entries. -/
theorem real_of_finite {s : Shape} (x : FVec Ideal s .f32) (h : (⟨0, ![]⟩ : Shape).BroadcastsInDim s ![])
    (e : cmpf .olt (Host.absf x) (broadcastInDim s ![] h (constant (F := Ideal) ⟨0, ![]⟩ .f32 0x7F800000#32)) = fun _ => 1#1) : AllReal x := fun i => by
  have e' := congrFun e i
  have t : Ideal.ofBits .f32 0x7F800000#32 = ⊤ := by simp [Ideal.ofBits, Ideal.ieee]
  change BitVec.ofBool (decide (max (x i) (-(x i)) < Ideal.ofBits .f32 0x7F800000#32)) = 1#1 at e'
  rw [t] at e'
  refine Real'.of_abs_lt ?_
  by_contra hn
  rw [decide_eq_false hn] at e'
  exact absurd e' (by decide)

end Cert.KernelIdeal.Point
-- ==== Proof.Norm.lean ====
/-
  The backward pass of the norm with modulation, row by row: the formula the kernel follows and the one that
  differentiation gives are equal, whatever the row holds.
-/
module

public import proofs.«01_k».proof.Proof.Reals

@[expose] public section

noncomputable section

namespace Cert.Norm

open Idealize.ShloMosaic Cert.Mixer
open scoped BigOperators

/-- What keeps the mean of squares from zero. -/
def eps : EReal := Ideal.ofBits .f32 0x358637BD#32

theorem eps_eq : ∃ e : ℝ, 0 < e ∧ eps = (e : EReal) := by
  refine ⟨8796093 / 2 ^ 43, by norm_num, ?_⟩
  simp [eps, Ideal.ofBits, Ideal.ieee, -EReal.coe_mul]
  norm_num

section
variable (x dh dr g sc : Fin 1024 → EReal)

/-- The mean square. -/
def msq : EReal := Ideal.div (∑ d, x d * x d) ((1024 : ℝ) : EReal) + eps
/-- One over its root. -/
def inv : EReal := Ideal.rsqrt (msq x)
/-- The normed row. -/
def nrm (d : Fin 1024) : EReal := x d * inv x
/-- The cotangent of the normed row. -/
def dn (d : Fin 1024) : EReal := dh d * (g d * (1 + sc d))
/-- The cotangent of the row, the residual's with it, as the kernel has it. -/
def dxRow (d : Fin 1024) : EReal :=
  dr d + inv x * (dn dh g sc d - nrm x d * Ideal.div (∑ e, dn dh g sc e * nrm x e) ((1024 : ℝ) : EReal))

/-- The cotangent of the normed row, in the order that differentiation has. -/
def dnr (d : Fin 1024) : EReal := dh d * (1 + sc d) * g d
/-- What the mean square's derivative adds to every entry, over the entry. -/
def spread : EReal :=
  Ideal.div ((∑ e, x e * dnr dh g sc e) * (((-(1 / 2) : ℝ) : EReal) * Ideal.div (inv x) (msq x))) ((1024 : ℝ) : EReal)

end

theorem coe_sum {ι : Type} (t : Finset ι) (f : ι → ℝ) : ((∑ i ∈ t, f i : ℝ) : EReal) = ∑ i ∈ t, (f i : EReal) := by
  classical
  refine Finset.induction_on t (by simp) fun a s ha ih => ?_
  rw [Finset.sum_insert ha, Finset.sum_insert ha, EReal.coe_add, ih]

/-- A real number that isn't negative multiplies a sum term by term, whatever the terms. -/
theorem sum_mul_coe {ι : Type} (t : Finset ι) (f : ι → EReal) {r : ℝ} (hr : 0 ≤ r) : (∑ i ∈ t, f i) * (r : EReal) = ∑ i ∈ t, f i * (r : EReal) := by
  classical
  refine Finset.induction_on t (by simp) fun a s ha ih => ?_
  rw [Finset.sum_insert ha, Finset.sum_insert ha, EReal.right_distrib_of_nonneg_of_ne_top (EReal.coe_nonneg.mpr hr) (EReal.coe_ne_top r), ih]

theorem add_self (p : EReal) : p + p = ((2 : ℝ) : EReal) * p := by
  have h : ((2 : ℝ) : EReal) = 1 + 1 := by rw [← EReal.coe_one, ← EReal.coe_add]; norm_num
  rw [h, EReal.right_distrib_of_nonneg zero_le_one zero_le_one, one_mul]

theorem sq_nonneg (y : EReal) : 0 ≤ y * y := by
  induction y with
  | bot => simp
  | top => simp
  | coe r => rw [← EReal.coe_mul]; exact EReal.coe_nonneg.mpr (mul_self_nonneg r)

/-- A row with an infinite entry has an infinite mean square. -/
theorem msq_top (x : Fin 1024 → EReal) (d : Fin 1024) (h : ¬Real' (x d)) : msq x = ⊤ := by
  have hd : x d * x d = ⊤ := by
    generalize x d = y at h
    induction y with
    | bot => simp
    | top => simp
    | coe r => exact absurd ⟨r, rfl⟩ h
  have hs : ∑ e, x e * x e = ⊤ := by
    refine top_le_iff.mp (hd ▸ ?_)
    exact Finset.single_le_sum (f := fun e => x e * x e) (fun e _ => sq_nonneg (x e)) (Finset.mem_univ d)
  obtain ⟨e, he, hee⟩ := eps_eq
  rw [msq, hs, hee, Ideal.div_coe (by norm_num : (1024 : ℝ) ≠ 0), EReal.top_mul_coe_of_pos (by norm_num), EReal.top_add_coe]

/-- The two formulas agree: on a row of real numbers one factor comes out of the sums, and a row with an infinite entry has nothing
    but the residual's cotangent. -/
theorem dxRow_eq (x dh dr g sc : Fin 1024 → EReal) (d : Fin 1024) :
    dr d + (dnr dh g sc d * inv x + x d * spread x dh g sc + spread x dh g sc * x d) = dxRow x dh dr g sc d := by
  by_cases hx : ∀ d, Real' (x d)
  · choose X hX using hx
    obtain rfl : x = fun d => (X d : EReal) := funext hX
    obtain ⟨e, he, hee⟩ := eps_eq
    have h1024 : (1024 : ℝ) ≠ 0 := by norm_num
    set M : ℝ := (∑ d, X d * X d) * (1 / 1024) + e with hM
    have hMpos : 0 < M := by
      have : 0 ≤ ∑ d, X d * X d := Finset.sum_nonneg fun d _ => mul_self_nonneg (X d)
      positivity
    have hmsq : msq (fun d => (X d : EReal)) = (M : EReal) := by
      rw [msq, Ideal.div_coe h1024, hee, hM, EReal.coe_add, EReal.coe_mul, coe_sum]
      simp only [EReal.coe_mul]
    have hinv : inv (fun d => (X d : EReal)) = (((Real.sqrt M)⁻¹ : ℝ) : EReal) := by
      rw [inv, hmsq, Ideal.rsqrt_coe, if_neg (not_lt.mpr hMpos.le), if_neg hMpos.ne']
    set I : ℝ := (Real.sqrt M)⁻¹ with hI
    have hI0 : 0 ≤ I := inv_nonneg.mpr (Real.sqrt_nonneg M)
    have hII : 1 / M = I * I := by
      rw [hI, ← mul_inv, Real.mul_self_sqrt hMpos.le, one_div]
    have hdn : ∀ e, dn dh g sc e = dnr dh g sc e := fun e => by rw [dn, dnr, mul_comm (g e), mul_assoc]
    set T : EReal := ∑ e, (X e : EReal) * dnr dh g sc e with hT
    have hsum : ∑ e, dn dh g sc e * nrm (fun d => (X d : EReal)) e = T * (I : EReal) := by
      rw [hT, sum_mul_coe _ _ hI0]
      refine Finset.sum_congr rfl fun e _ => ?_
      rw [hdn, nrm, hinv, mul_comm (X e : EReal) (dnr dh g sc e), mul_assoc]
    have hspread : spread (fun d => (X d : EReal)) dh g sc = T * ((-(1 / 2) * (I * (I * I)) * (1 / 1024) : ℝ) : EReal) := by
      rw [spread, hinv, hmsq, Ideal.div_coe hMpos.ne', Ideal.div_coe h1024, hII, ← hT, mul_assoc, ← EReal.coe_mul, ← EReal.coe_mul, ← EReal.coe_mul]
    rw [dxRow, hsum, hspread, hdn, nrm, hinv, Ideal.div_coe h1024, add_assoc, mul_comm _ (X d : EReal), add_self,
      sub_eq_add_neg, EReal.left_distrib_of_nonneg_of_ne_top (EReal.coe_nonneg.mpr hI0) (EReal.coe_ne_top I), mul_comm (I : EReal) (dnr dh g sc d)]
    refine congrArg (dr d + ·) (congrArg (dnr dh g sc d * (I : EReal) + ·) ?_)
    have hl : ((2 : ℝ) : EReal) * ((X d : EReal) * (T * ((-(1 / 2) * (I * (I * I)) * (1 / 1024) : ℝ) : EReal)))
        = T * ((2 * (X d * (-(1 / 2) * (I * (I * I)) * (1 / 1024))) : ℝ) : EReal) := by
      rw [EReal.coe_mul 2, EReal.coe_mul (X d)]
      ac_rfl
    have hr : (I : EReal) * -((X d : EReal) * (I : EReal) * (T * (I : EReal) * ((1 / 1024 : ℝ) : EReal)))
        = T * ((-(I * (X d * I * (I * (1 / 1024)))) : ℝ) : EReal) := by
      rw [mul_neg, EReal.coe_neg, mul_neg, EReal.coe_mul I, EReal.coe_mul (X d * I), EReal.coe_mul (X d), EReal.coe_mul I (1 / 1024)]
      refine congrArg (- ·) ?_
      ac_rfl
    rw [hl, hr]
    exact congrArg (fun r : ℝ => T * (r : EReal)) (by ring)
  · obtain ⟨e, he⟩ := not_forall.mp hx
    have hm : msq x = ⊤ := msq_top x e he
    have hi : inv x = 0 := by rw [inv, hm, Ideal.rsqrt_top]
    have hs : spread x dh g sc = 0 := by
      rw [spread, hi, hm, Ideal.div_coe (by norm_num : (1024 : ℝ) ≠ 0), Ideal.div, if_neg EReal.top_ne_zero, zero_mul, mul_zero, mul_zero, zero_mul]
    rw [dxRow, hs, hi, mul_zero, mul_zero, zero_mul, zero_mul, add_zero, add_zero]

end Cert.Norm

end
-- ==== Proof.Sums.lean ====
/-
  Sums taken in parts: over the points of a grid one after the other, over blocks of rows, over four groups of columns.
-/
module

public import Idealize.ShloMosaic.Lib.Pointwise

@[expose] public section

noncomputable section

namespace Cert.Sums

open scoped BigOperators

/-- The sum of the first `n` terms. -/
def part {N : ℕ} (f : Fin N → EReal) (n : ℕ) : EReal := ∑ t ∈ Finset.range n, if h : t < N then f ⟨t, h⟩ else 0

theorem part_succ {N : ℕ} (f : Fin N → EReal) (n : ℕ) (h : n < N) : part f (n + 1) = part f n + f ⟨n, h⟩ := by
  rw [part, Finset.sum_range_succ, dif_pos h, part]

theorem part_one {N : ℕ} (f : Fin N → EReal) (h : 0 < N) : part f 1 = f ⟨0, h⟩ := by
  rw [part, Finset.sum_range_one, dif_pos h]

theorem part_all {N : ℕ} (f : Fin N → EReal) : part f N = ∑ t, f t := by
  rw [part, Finset.sum_range]
  exact Finset.sum_congr rfl fun t _ => dif_pos t.isLt

/-- Row `r` of block `t`, of `N` blocks of `b` rows. -/
def row {N b S : ℕ} (h : N * b = S) (t : Fin N) (r : Fin b) : Fin S :=
  ⟨b * t.val + r.val, by
    have h1 : b * t.val + r.val < b * (t.val + 1) := by rw [Nat.mul_succ]; exact Nat.add_lt_add_left r.isLt _
    have h2 : b * (t.val + 1) ≤ b * N := Nat.mul_le_mul_left b t.isLt
    rw [← h, Nat.mul_comm N b]
    exact Nat.lt_of_lt_of_le h1 h2⟩

/-- The blocks' rows are all the rows, each once. -/
theorem sum_blocks {N b S : ℕ} (h : N * b = S) (f : Fin S → EReal) : (∑ t : Fin N, ∑ r : Fin b, f (row h t r)) = ∑ s, f s := by
  subst h
  rw [← Fintype.sum_prod_type' fun t r => f (row rfl t r), ← finProdFinEquiv.sum_comp f]
  refine Finset.sum_congr rfl fun p _ => congrArg f (Fin.ext ?_)
  show b * p.1.val + p.2.val = p.2.val + b * p.1.val
  exact Nat.add_comm _ _

/-- A sum over four groups of `n`, group after group. -/
theorem sum_four {n : ℕ} (f : Fin (n + n + n + n) → EReal) :
    ∑ q, f q = (((∑ j : Fin n, f ⟨j.val, by omega⟩) + ∑ j : Fin n, f ⟨n + j.val, by omega⟩) + ∑ j : Fin n, f ⟨n + n + j.val, by omega⟩)
      + ∑ j : Fin n, f ⟨n + n + n + j.val, by omega⟩ := by
  rw [Fin.sum_univ_add, Fin.sum_univ_add, Fin.sum_univ_add]
  rfl

/-- Column `j` of group `k` of four. -/
def col {n : ℕ} (k : Fin 4) (j : Fin n) : Fin (n + n + n + n) :=
  ⟨n * k.val + j.val, by
    have h : n * k.val ≤ n * 3 := Nat.mul_le_mul_left n (by omega)
    omega⟩

theorem sum_groups {n : ℕ} (f : Fin (n + n + n + n) → EReal) :
    (((∑ j : Fin n, f (col 0 j)) + ∑ j : Fin n, f (col 1 j)) + ∑ j : Fin n, f (col 2 j)) + ∑ j : Fin n, f (col 3 j) = ∑ q, f q := by
  rw [sum_four]
  refine congrArg₂ (· + ·) (congrArg₂ (· + ·) (congrArg₂ (· + ·) ?_ ?_) ?_) ?_ <;>
    refine Finset.sum_congr rfl fun j _ => congrArg f (Fin.ext ?_)
  · show n * 0 + j.val = j.val; omega
  · show n * 1 + j.val = n + j.val; omega
  · show n * 2 + j.val = n + n + j.val; omega
  · show n * 3 + j.val = n + n + n + j.val; omega

/-- A run of `ns` steps for each of `G` groups, each step adding its term and the first starting from nothing: what every step leaves. -/
theorem runs {G ns N : ℕ} (o : (n : ℕ) → n < N → EReal) (f : Fin G → Fin ns → EReal)
    (first : ∀ (g : Fin G) (s : Fin ns) n h, n = ns * g.val + s.val → s.val = 0 → o n h = f g s)
    (next : ∀ (g : Fin G) (s : Fin ns) n h, n + 1 = ns * g.val + s.val → s.val ≠ 0 → o (n + 1) h = o n (Nat.lt_of_succ_lt h) + f g s) (g : Fin G) :
    ∀ k (hk : k < ns) n h, n = ns * g.val + k → o n h = part (f g) (k + 1)
  | 0, hk, n, h, e => by rw [part_one _ hk, first g ⟨0, hk⟩ n h e rfl]
  | k + 1, hk, 0, h, e => absurd e (by omega)
  | k + 1, hk, n + 1, h, e => by
    rw [part_succ _ _ hk, next g ⟨k + 1, hk⟩ n h e (Nat.succ_ne_zero k), runs o f first next g k (Nat.lt_of_succ_lt hk) n _ (by omega)]

end Cert.Sums

end
-- ==== Proof.NormTile.lean ====
/-
  What one block of 512 tokens computes in the backward pass of a norm and its input product, entry by entry. The values
  are named as in layer 1's call; those of layer 0's are the same functions, but for the product's width.
-/
module

public import proofs.«01_k».proof.Proof.Norm
public import proofs.«01_k».proof.Proof.Sums
public import proofs.«01_k».proof.Proof.Slabs
public import proofs.«01_k».proof.Proof.Gen.Norm1Ideal.Skeleton
public import proofs.«01_k».proof.Proof.Gen.Norm0Ideal.Skeleton

@[expose] public section

set_option maxRecDepth 16384

noncomputable section

namespace Cert.Norm

open Idealize.ShloMosaic

/-- The load of columns `q …` of a block's rows. -/
theorem ld_cols {n b q : ℕ} {e : EltTy} (x : Vec Ideal ⟨2, ![512, n]⟩ e) (inb) (r : Fin 512) (j : Fin b) (h : q + j.val < n) :
    View.ld x (Rect.unit (s := ⟨2, ![512, n]⟩) ![0, q] ![512, b] inb) (ix2 r j) = x (ix2 r ⟨q + j.val, h⟩) :=
  (congrArg x (Mixer.quarter_emb inb r j (by omega) h)).trans (congrArg (fun a => x (ix2 a _)) (Fin.ext (Nat.zero_add _)))

/-- The load of slab `k` of four. -/
theorem ld_slab {b d : ℕ} {e : EltTy} (o : Vec Ideal ⟨3, ![4, b, d]⟩ e) (k : Fin 4) (inb) (r : Fin b) (m : Fin d) :
    View.ld o (Rect.unit (s := ⟨3, ![4, b, d]⟩) ![k.val, 0, 0] ![1, b, d] inb) (ix3 (0 : Fin 1) r m) = o (ix3 k r m) :=
  congrArg o (Mixer.slab_emb k inb r m)

end Cert.Norm

namespace Cert.Norm1Ideal.Point

open Idealize.ShloMosaic Cert.Norm1Ideal Cert.Norm1Ideal.Gen
open scoped BigOperators

theorem ofBits_1024 : Ideal.ofBits .f32 0x44800000#32 = ((1024 : ℝ) : EReal) := by
  simp [Ideal.ofBits, Ideal.ieee, -EReal.coe_mul]
  norm_num

section
variable (dh x dr : Vec Ideal S512x1024 .f32) (g sc o : Vec Ideal S1x1024 .f32) (r : Fin 512) (d : Fin 1024)

theorem pay5_at : k0_pay5 (F := Ideal) x (ix2 r 0) = Norm.inv fun d => x (ix2 r d) := by
  unfold Norm.inv Norm.msq Norm.eps
  rw [← ofBits_1024]
  pointwise [k0_pay5]

theorem pay6_at : k0_pay6 (F := Ideal) x (ix2 r d) = Norm.nrm (fun d => x (ix2 r d)) d := by
  unfold Norm.nrm
  rw [← pay5_at]
  pointwise [k0_pay6]

theorem pay9_at : k0_pay9 (F := Ideal) dh g sc (ix2 r d) = Norm.dn (fun d => dh (ix2 r d)) (fun d => g (ix2 0 d)) (fun d => sc (ix2 0 d)) d := by
  unfold Norm.dn
  pointwise [k0_pay9]

theorem pay10_at : k0_pay10 (F := Ideal) dh x g sc (ix2 r 0) =
    Ideal.div (∑ e, Norm.dn (fun d => dh (ix2 r d)) (fun d => g (ix2 0 d)) (fun d => sc (ix2 0 d)) e * Norm.nrm (fun d => x (ix2 r d)) e) ((1024 : ℝ) : EReal) := by
  rw [← ofBits_1024]
  simp only [← pay9_at, ← pay6_at]
  pointwise [k0_pay10]

/-- The cotangent of the block's rows. -/
theorem dx_at : k0_pay1 (F := Ideal) (k0_pay5 x) (k0_pay6 x) (k0_pay9 dh g sc) dr (k0_pay10 dh x g sc) (ix2 r d) =
    Norm.dxRow (fun d => x (ix2 r d)) (fun d => dh (ix2 r d)) (fun d => dr (ix2 r d)) (fun d => g (ix2 0 d)) (fun d => sc (ix2 0 d)) d := by
  unfold Norm.dxRow
  rw [← pay9_at, ← pay6_at, ← pay10_at, ← pay5_at]
  pointwise [k0_pay1]

/-- The shift's cotangent, summed over the block onto what stood there. -/
theorem s1_at : k0_pay7 (F := Ideal) dh o (ix2 0 d) = o (ix2 0 d) + ∑ r, dh (ix2 r d) := by
  pointwise [k0_pay7]

/-- The scale's, likewise. -/
theorem s2_at : k0_pay8 (F := Ideal) dh x o (ix2 0 d) = o (ix2 0 d) + ∑ r, dh (ix2 r d) * Norm.nrm (fun d => x (ix2 r d)) d := by
  simp only [← pay6_at]
  pointwise [k0_pay8]

theorem zero2 : k0_pay2 (F := Ideal) (ix2 0 d) = 0 := by
  pointwise [k0_pay2]
theorem zero3 : k0_pay3 (F := Ideal) (ix2 0 d) = 0 := by
  pointwise [k0_pay3]

end

/-- The cotangent of the modulated row: the four groups of columns of the projection's cotangent, each against its block of the weight. -/
theorem dh_at (a0 : Vec Ideal S512x1024 .bf16) (b0 : Vec Ideal S1x1024x1024 .bf16) (a1 : Vec Ideal S512x1024 .bf16) (b1 : Vec Ideal S1x1024x1024 .bf16)
    (a2 : Vec Ideal S512x1024 .bf16) (b2 : Vec Ideal S1x1024x1024 .bf16) (a3 : Vec Ideal S512x1024 .bf16) (b3 : Vec Ideal S1x1024x1024 .bf16) (r : Fin 512) (d : Fin 1024) :
    k0_pay4 (F := Ideal) a0 b0 a1 b1 a2 b2 a3 b3 (ix2 r d) =
      (((∑ j, a0 (ix2 r j) * b0 (ix3 0 d j)) + ∑ j, a1 (ix2 r j) * b1 (ix3 0 d j)) + ∑ j, a2 (ix2 r j) * b2 (ix3 0 d j)) + ∑ j, a3 (ix2 r j) * b3 (ix3 0 d j) := by
  pointwise [k0_pay4]

/-- The cotangent of the block's rows, from the cotangent of the modulated rows. -/
def tileDx (dh x dr : Vec Ideal S512x1024 .f32) (g sc : Vec Ideal S1x1024 .f32) : Vec Ideal S512x1024 .f32 :=
  k0_pay1 (k0_pay5 x) (k0_pay6 x) (k0_pay9 dh g sc) dr (k0_pay10 dh x g sc)

theorem rows_eq : 32 * 512 = 16384 := by norm_num

/-- Row `r` of block `t`. -/
abbrev row (t : Fin 32) (r : Fin 512) : Fin 16384 := Sums.row rows_eq t r

/-- The arrays at the end: the cotangent of the input, and the two sums over the tokens. -/
def endDx (dh x dr : Fin 16384 → Fin 1024 → EReal) (g sc : Fin 1024 → EReal) : Vec Ideal ⟨2, ![16384, 1024]⟩ .f32 := fun j =>
  Norm.dxRow (x (j 0)) (dh (j 0)) (dr (j 0)) g sc (j 1)
def endS1 (dh : Fin 16384 → Fin 1024 → EReal) : Vec Ideal S1x1024 .f32 := fun j => ∑ s, dh s (j 1)
def endS2 (dh x : Fin 16384 → Fin 1024 → EReal) : Vec Ideal S1x1024 .f32 := fun j => ∑ s, dh s (j 1) * Norm.nrm (x s) (j 1)

/-- What every point of the grid leaves, from what the first leaves and how a later one goes on. -/
theorem left (outs : (n : ℕ) → n < 32 → Vec Ideal S512x1024 .f32 × Vec Ideal S1x1024 .f32 × Vec Ideal S1x1024 .f32)
    (dhT xT drT : Fin 32 → Vec Ideal S512x1024 .f32) (gT scT : Fin 32 → Vec Ideal S1x1024 .f32)
    (first : ∀ h, outs 0 h = (tileDx (dhT ⟨0, h⟩) (xT ⟨0, h⟩) (drT ⟨0, h⟩) (gT ⟨0, h⟩) (scT ⟨0, h⟩), k0_pay7 (F := Ideal) (dhT ⟨0, h⟩) (k0_pay2 (F := Ideal)), k0_pay8 (F := Ideal) (dhT ⟨0, h⟩) (xT ⟨0, h⟩) (k0_pay3 (F := Ideal))))
    (next : ∀ n h, outs (n + 1) h = (tileDx (dhT ⟨n + 1, h⟩) (xT ⟨n + 1, h⟩) (drT ⟨n + 1, h⟩) (gT ⟨n + 1, h⟩) (scT ⟨n + 1, h⟩),
      k0_pay7 (dhT ⟨n + 1, h⟩) (outs n (Nat.lt_of_succ_lt h)).2.1, k0_pay8 (dhT ⟨n + 1, h⟩) (xT ⟨n + 1, h⟩) (outs n (Nat.lt_of_succ_lt h)).2.2))
    (dh x dr : Fin 16384 → Fin 1024 → EReal) (g sc : Fin 1024 → EReal)
    (hdh : ∀ t r d, dhT t (ix2 r d) = dh (row t r) d) (hx : ∀ t r d, xT t (ix2 r d) = x (row t r) d)
    (hdr : ∀ t r d, drT t (ix2 r d) = dr (row t r) d) (hg : ∀ t d, gT t (ix2 0 d) = g d) (hsc : ∀ t d, scT t (ix2 0 d) = sc d) :
    ∀ n h, (∀ r d, (outs n h).1 (ix2 r d) = endDx dh x dr g sc (ix2 (row ⟨n, h⟩ r) d))
      ∧ (∀ d, (outs n h).2.1 (ix2 0 d) = Sums.part (fun t => ∑ r, dh (row t r) d) (n + 1))
      ∧ (∀ d, (outs n h).2.2 (ix2 0 d) = Sums.part (fun t => ∑ r, dh (row t r) d * Norm.nrm (x (row t r)) d) (n + 1)) := by
  have tile : ∀ t r d, tileDx (dhT t) (xT t) (drT t) (gT t) (scT t) (ix2 r d) = endDx dh x dr g sc (ix2 (row t r) d) := by
    intro t r d
    unfold tileDx
    rw [dx_at]
    simp only [hdh, hx, hdr, hg, hsc]
    rfl
  intro n
  induction n with
  | zero =>
    intro h
    rw [first h]
    refine ⟨tile _, fun d => ?_, fun d => ?_⟩
    · rw [Sums.part_one _ h]
      refine (s1_at _ _ d).trans ?_
      rw [zero2, zero_add]
      simp only [hdh]
    · rw [Sums.part_one _ h]
      refine (s2_at _ _ _ d).trans ?_
      rw [zero3, zero_add]
      simp only [hdh, hx]
  | succ n ih =>
    intro h
    obtain ⟨-, ih1, ih2⟩ := ih (Nat.lt_of_succ_lt h)
    rw [next n h]
    refine ⟨tile _, fun d => ?_, fun d => ?_⟩
    · rw [Sums.part_succ _ _ h]
      refine (s1_at _ _ d).trans ?_
      rw [ih1]
      simp only [hdh]
    · rw [Sums.part_succ _ _ h]
      refine (s2_at _ _ _ d).trans ?_
      rw [ih2]
      simp only [hdh, hx]

/-- The last point leaves the sums over all the tokens. -/
theorem sums_last (f : Fin 16384 → EReal) : Sums.part (fun t => ∑ r, f (row t r)) (31 + 1) = ∑ s, f s :=
  (Sums.part_all (N := 32) _).trans (Sums.sum_blocks rows_eq f)

end Cert.Norm1Ideal.Point

namespace Cert.Norm0Ideal.Point

open Idealize.ShloMosaic Cert.Norm0Ideal Cert.Norm0Ideal.Gen
open scoped BigOperators

theorem dh_at (a0 : Vec Ideal S512x1536 .bf16) (b0 : Vec Ideal S1x1024x1536 .bf16) (a1 : Vec Ideal S512x1536 .bf16) (b1 : Vec Ideal S1x1024x1536 .bf16)
    (a2 : Vec Ideal S512x1536 .bf16) (b2 : Vec Ideal S1x1024x1536 .bf16) (a3 : Vec Ideal S512x1536 .bf16) (b3 : Vec Ideal S1x1024x1536 .bf16) (r : Fin 512) (d : Fin 1024) :
    k0_pay4 (F := Ideal) a0 b0 a1 b1 a2 b2 a3 b3 (ix2 r d) =
      (((∑ j, a0 (ix2 r j) * b0 (ix3 0 d j)) + ∑ j, a1 (ix2 r j) * b1 (ix3 0 d j)) + ∑ j, a2 (ix2 r j) * b2 (ix3 0 d j)) + ∑ j, a3 (ix2 r j) * b3 (ix3 0 d j) := by
  pointwise [k0_pay4]

end Cert.Norm0Ideal.Point

end
-- ==== Proof.NormRef.lean ====
/-
  The norm's references at one entry of each result.
-/
module

public import proofs.«01_k».proof.Proof.NormTile
public import proofs.«01_k».proof.Proof.Gen.NormRef1Ideal.Read
public import proofs.«01_k».proof.Proof.Gen.NormRef0Ideal.Read

@[expose] public section

set_option maxRecDepth 16384

noncomputable section

namespace Cert.NormRef1Ideal.Point

open Idealize.ShloMosaic Cert.NormRef1Ideal Cert.NormRef1Ideal.Gen Cert.NormRef1Ideal.Read
open scoped BigOperators

variable (x0 : FVec Ideal S16384x4096 .f32) (x1 : FVec Ideal S1024x4096 .f32) (x2 x3 : FVec Ideal S16384x1024 .f32) (x4 x5 : FVec Ideal S1x1024 .f32)
  (s : Fin 16384) (d : Fin 1024)

theorem ofBits_half : Ideal.ofBits .f32 0xBF000000#32 = ((-(1 / 2) : ℝ) : EReal) := by
  simp [Ideal.ofBits, Ideal.ieee, -EReal.coe_mul]; norm_num

theorem cst5 : val_main_cst_5 (F := Ideal) (Shape.Idx.first h_S_) = 0 := by
  simp [val_main_cst_5, constant, Ideal.ofBits, Ideal.ieee]
theorem one16 : val_main_v16 (F := Ideal) (ix2 0 d) = 1 := by
  pointwise [val_main_v16]
  simp [val_main_cst_4, constant, Ideal.ofBits, Ideal.ieee, -EReal.coe_mul]
  norm_num
theorem msq_at : val_main_v7 (F := Ideal) x2 (ix2 s 0) = Norm.msq (fun d => x2 (ix2 s d)) := by
  pointwise [val_main_v7, val_main_v6, val_main_v5, val_main_v4, val_main_v3, val_main_v2, val_main_v1]
  rw [show val_main_cst_0 (F := Ideal) (Shape.Idx.first h_S_) = 0 from cst5, zero_add]
  exact congrArg (fun a => Ideal.div _ a + _) Cert.Norm1Ideal.Point.ofBits_1024
theorem inv_at : val_main_v8 (F := Ideal) x2 (ix2 s 0) = Norm.inv (fun d => x2 (ix2 s d)) := by
  unfold Norm.inv
  rw [← msq_at]
  pointwise [val_main_v8]
theorem inv9_at : val_main_v11 (F := Ideal) x2 (ix2 s 0) = ((-(1 / 2) : ℝ) : EReal) * Ideal.div (Norm.inv (fun d => x2 (ix2 s d))) (Norm.msq (fun d => x2 (ix2 s d))) := by
  rw [← inv_at, ← msq_at, ← ofBits_half]
  pointwise [val_main_v11, val_main_v10, val_main_v9]
  rfl
theorem inv33_at : val_main_v33 (F := Ideal) x2 (ix2 s d) = Norm.inv (fun d => x2 (ix2 s d)) := by
  rw [← inv_at]
  pointwise [val_main_v33]
theorem inv52_at : val_main_v52 (F := Ideal) x2 (ix2 s d) = Norm.inv (fun d => x2 (ix2 s d)) := by
  rw [← inv_at]
  pointwise [val_main_v52]
  rfl
theorem sc_at : val_main_v26 (F := Ideal) x5 (ix2 s d) = 1 + x5 (ix2 0 d) := by
  pointwise [val_main_v26, val_main_v17]
  exact congrArg (· + _) (one16 d)
theorem g_at : val_main_v28 (F := Ideal) x4 (ix2 s d) = x4 (ix2 0 d) := by
  pointwise [val_main_v28]
theorem cst6 : val_main_cst_6 (F := Ideal) (Shape.Idx.first h_S_) = 0 := cst5
theorem cst8 : val_main_cst_8 (F := Ideal) (Shape.Idx.first h_S_) = 0 := cst5
theorem cst7 : val_main_cst_7 (F := Ideal) ix0 = ((1024 : ℝ) : EReal) := Cert.Norm1Ideal.Point.ofBits_1024

theorem dh_at : val_main_v23 (F := Ideal) x0 x1 (ix2 s d) = ∑ q, x0 (ix2 s q) * x1 (ix2 d q) := by
  pointwise [val_main_v23]
theorem s1_at : val_main_v25 (F := Ideal) x0 x1 (ix2 0 d) = ∑ s, ∑ q, x0 (ix2 s q) * x1 (ix2 d q) := by
  simp only [← dh_at]
  pointwise [val_main_v25, val_main_v24]
  rw [cst5, zero_add]
theorem s2_at : val_main_v60 (F := Ideal) x0 x1 x2 (ix2 0 d) = ∑ s, (∑ q, x0 (ix2 s q) * x1 (ix2 d q)) * Norm.nrm (fun d => x2 (ix2 s d)) d := by
  simp only [← dh_at]
  pointwise [val_main_v60, val_main_v59, val_main_v58, val_main_v53]
  rw [show val_main_cst_12 (F := Ideal) (Shape.Idx.first h_S_) = 0 from cst5, zero_add]
  refine Finset.sum_congr rfl fun s _ => ?_
  rw [inv52_at, show val_main_v57 (F := Ideal) x0 x1 (ix2 s d) = val_main_v23 (F := Ideal) x0 x1 (ix2 s d) from rfl, mul_comm]
  rfl

theorem dx_at : val_main_v61 (F := Ideal) x0 x1 x2 x3 x4 x5 (ix2 s d) =
    x3 (ix2 s d) + (Norm.dnr (fun d => ∑ q, x0 (ix2 s q) * x1 (ix2 d q)) (fun d => x4 (ix2 0 d)) (fun d => x5 (ix2 0 d)) d * Norm.inv (fun d => x2 (ix2 s d))
      + x2 (ix2 s d) * Norm.spread (fun d => x2 (ix2 s d)) (fun d => ∑ q, x0 (ix2 s q) * x1 (ix2 d q)) (fun d => x4 (ix2 0 d)) (fun d => x5 (ix2 0 d))
      + Norm.spread (fun d => x2 (ix2 s d)) (fun d => ∑ q, x0 (ix2 s q) * x1 (ix2 d q)) (fun d => x4 (ix2 0 d)) (fun d => x5 (ix2 0 d)) * x2 (ix2 s d)) := by
  unfold Norm.spread Norm.dnr
  simp only [← dh_at, ← inv_at]
  pointwise [val_main_v61, val_main_v43, val_main_v42, val_main_v41, val_main_v40, val_main_v39, val_main_v38, val_main_v37, val_main_v36, val_main_v35, val_main_v34, val_main_v32, val_main_v31, val_main_v30, val_main_v29, val_main_v27]
  simp only [cst6, cst7, cst8, zero_add, sc_at, g_at, inv33_at]
  simp only [Fin.sum_univ_one, inv9_at, inv_at]
end Cert.NormRef1Ideal.Point

namespace Cert.NormRef0Ideal.Point

open Idealize.ShloMosaic Cert.NormRef0Ideal Cert.NormRef0Ideal.Gen Cert.NormRef0Ideal.Read
open scoped BigOperators

variable (x0 : FVec Ideal S16384x6144 .f32) (x1 : FVec Ideal S1024x6144 .f32) (x2 x3 : FVec Ideal S16384x1024 .f32) (x4 x5 : FVec Ideal S1x1024 .f32)
  (s : Fin 16384) (d : Fin 1024)

/-! What doesn't read the projection is the same in both references. -/

theorem inv_at : val_main_v8 (F := Ideal) x2 (ix2 s 0) = Norm.inv (fun d => x2 (ix2 s d)) := Cert.NormRef1Ideal.Point.inv_at x2 s
theorem inv9_at : val_main_v11 (F := Ideal) x2 (ix2 s 0) = ((-(1 / 2) : ℝ) : EReal) * Ideal.div (Norm.inv (fun d => x2 (ix2 s d))) (Norm.msq (fun d => x2 (ix2 s d))) :=
  Cert.NormRef1Ideal.Point.inv9_at x2 s
theorem inv33_at : val_main_v33 (F := Ideal) x2 (ix2 s d) = Norm.inv (fun d => x2 (ix2 s d)) := Cert.NormRef1Ideal.Point.inv33_at x2 s d
theorem inv52_at : val_main_v52 (F := Ideal) x2 (ix2 s d) = Norm.inv (fun d => x2 (ix2 s d)) := Cert.NormRef1Ideal.Point.inv52_at x2 s d
theorem sc_at : val_main_v26 (F := Ideal) x5 (ix2 s d) = 1 + x5 (ix2 0 d) := Cert.NormRef1Ideal.Point.sc_at x5 s d
theorem g_at : val_main_v28 (F := Ideal) x4 (ix2 s d) = x4 (ix2 0 d) := Cert.NormRef1Ideal.Point.g_at x4 s d
theorem cst5 : val_main_cst_5 (F := Ideal) (Shape.Idx.first h_S_) = 0 := Cert.NormRef1Ideal.Point.cst5
theorem cst6 : val_main_cst_6 (F := Ideal) (Shape.Idx.first h_S_) = 0 := cst5
theorem cst8 : val_main_cst_8 (F := Ideal) (Shape.Idx.first h_S_) = 0 := cst5
theorem cst7 : val_main_cst_7 (F := Ideal) ix0 = ((1024 : ℝ) : EReal) := Cert.NormRef1Ideal.Point.cst7

theorem dh_at : val_main_v23 (F := Ideal) x0 x1 (ix2 s d) = ∑ q, x0 (ix2 s q) * x1 (ix2 d q) := by
  pointwise [val_main_v23]
theorem s1_at : val_main_v25 (F := Ideal) x0 x1 (ix2 0 d) = ∑ s, ∑ q, x0 (ix2 s q) * x1 (ix2 d q) := by
  simp only [← dh_at]
  pointwise [val_main_v25, val_main_v24]
  rw [cst5, zero_add]
theorem s2_at : val_main_v60 (F := Ideal) x0 x1 x2 (ix2 0 d) = ∑ s, (∑ q, x0 (ix2 s q) * x1 (ix2 d q)) * Norm.nrm (fun d => x2 (ix2 s d)) d := by
  simp only [← dh_at]
  pointwise [val_main_v60, val_main_v59, val_main_v58, val_main_v53]
  rw [show val_main_cst_12 (F := Ideal) (Shape.Idx.first h_S_) = 0 from cst5, zero_add]
  refine Finset.sum_congr rfl fun s _ => ?_
  rw [inv52_at, show val_main_v57 (F := Ideal) x0 x1 (ix2 s d) = val_main_v23 (F := Ideal) x0 x1 (ix2 s d) from rfl, mul_comm]
  rfl

theorem dx_at : val_main_v61 (F := Ideal) x0 x1 x2 x3 x4 x5 (ix2 s d) =
    x3 (ix2 s d) + (Norm.dnr (fun d => ∑ q, x0 (ix2 s q) * x1 (ix2 d q)) (fun d => x4 (ix2 0 d)) (fun d => x5 (ix2 0 d)) d * Norm.inv (fun d => x2 (ix2 s d))
      + x2 (ix2 s d) * Norm.spread (fun d => x2 (ix2 s d)) (fun d => ∑ q, x0 (ix2 s q) * x1 (ix2 d q)) (fun d => x4 (ix2 0 d)) (fun d => x5 (ix2 0 d))
      + Norm.spread (fun d => x2 (ix2 s d)) (fun d => ∑ q, x0 (ix2 s q) * x1 (ix2 d q)) (fun d => x4 (ix2 0 d)) (fun d => x5 (ix2 0 d)) * x2 (ix2 s d)) := by
  unfold Norm.spread Norm.dnr
  simp only [← dh_at, ← inv_at]
  pointwise [val_main_v61, val_main_v43, val_main_v42, val_main_v41, val_main_v40, val_main_v39, val_main_v38, val_main_v37, val_main_v36, val_main_v35, val_main_v34, val_main_v32, val_main_v31, val_main_v30, val_main_v29, val_main_v27]
  simp only [cst6, cst7, cst8, zero_add, sc_at, g_at, inv33_at]
  simp only [Fin.sum_univ_one, inv9_at, inv_at]

end Cert.NormRef0Ideal.Point

end
-- ==== Proof.Norm1.lean ====
/-
  Layer 1's norm and input projection: the arrays the call's run ends with are the reference's results.
-/
module

public import proofs.«01_k».proof.Proof.NormTile
public import proofs.«01_k».proof.Proof.NormRef
public import proofs.«01_k».proof.Proof.Gen.Norm1Ideal.Value
public import Idealize.ShloMosaic.Lib.StableHlo.RunRead
public import Idealize.ShloMosaic.Lib.Claim

@[expose] public section

set_option maxRecDepth 16384

noncomputable section

namespace Cert.Norm1Ideal.Point

open Idealize.ShloMosaic Idealize.ShloMosaic.TcCoe Idealize.SL.Sem Cert.Norm1Ideal Cert.Norm1Ideal.Gen
open Idealize.ShloMosaic.Pipeline (Dat)
open scoped BigOperators

theorem hz2 : (![0, 0] : Fin 2 → Nat) = fun _ => 0 := funext fun a => by fin_cases a <;> rfl

/-- Loads of whole blocks. -/
theorem ld_rows (x : Vec Ideal S512x1024 .f32) : View.ld x (Rect.unit ![0, 0] ![512, 1024] inb_S512x1024_S512x1024_0_0) = x := by
  funext j; idx_vars j; pointwise
theorem ld_vec (x : Vec Ideal S1x1024 .f32) : View.ld x (Rect.unit ![0, 0] ![1, 1024] inb_S1x1024_S1x1024_0_0) = x := by
  funext j; idx_vars j; pointwise
  exact congrArg (fun a => x (ix2 a _)) (Subsingleton.elim _ _)

/-- The cotangent of the modulated rows of a block. -/
def dhTile (x0 : Vec Ideal S512x4096 .bf16) (x1 : Vec Ideal S4x1024x1024 .bf16) : Vec Ideal S512x1024 .f32 :=
  k0_pay4 (View.ld x0 (Rect.unit ![0, 0] ![512, 1024] inb_S512x4096_S512x1024_0_0)) (View.ld x1 (Rect.unit ![0, 0, 0] ![1, 1024, 1024] inb_S4x1024x1024_S1x1024x1024_0_0_0))
    (View.ld x0 (Rect.unit ![0, 1024] ![512, 1024] inb_S512x4096_S512x1024_0_1024)) (View.ld x1 (Rect.unit ![1, 0, 0] ![1, 1024, 1024] inb_S4x1024x1024_S1x1024x1024_1_0_0))
    (View.ld x0 (Rect.unit ![0, 2048] ![512, 1024] inb_S512x4096_S512x1024_0_2048)) (View.ld x1 (Rect.unit ![2, 0, 0] ![1, 1024, 1024] inb_S4x1024x1024_S1x1024x1024_2_0_0))
    (View.ld x0 (Rect.unit ![0, 3072] ![512, 1024] inb_S512x4096_S512x1024_0_3072)) (View.ld x1 (Rect.unit ![3, 0, 0] ![1, 1024, 1024] inb_S4x1024x1024_S1x1024x1024_3_0_0))

section
variable (c : Dev nD) (i : grid0.Coords) (a1 : Memref sig .tc .vmem S512x4096 .bf16) (h1 : a1.IsWhole) (a2 : Memref sig .tc .vmem S4x1024x1024 .bf16) (h2 : a2.IsWhole)
  (a3 a4 : Memref sig .tc .vmem S512x1024 .f32) (h3 : a3.IsWhole) (h4 : a4.IsWhole) (a5 a6 : Memref sig .tc .vmem S1x1024 .f32) (h5 : a5.IsWhole) (h6 : a6.IsWhole)
  (a7 : Memref sig .tc .vmem S512x1024 .f32) (h7 : a7.IsWhole) (a8 a9 : Memref sig .tc .vmem S1x1024 .f32) (h8 : a8.IsWhole) (h9 : a9.IsWhole)
  (x0 : Vec Ideal S512x4096 .bf16) (x1 : Vec Ideal S4x1024x1024 .bf16) (x2 x3 : Vec Ideal S512x1024 .f32) (x4 x5 o7 o8 : Vec Ideal S1x1024 .f32)

theorem dx_first (hc : cond0_0 i) : out0_A_6 c i a1 h1 a2 h2 a3 h3 a4 h4 a5 h5 a6 h6 a7 h7 a8 h8 a9 h9 hc x0 x1 x2 x3 x4 x5 = tileDx (dhTile x0 x1) x2 x3 x4 x5 := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  sl_unfold_words
  simp only [View.readAt_eq_ld, h1.read_unread, h2.read_unread, h3.read_unread, h4.read_unread, h5.read_unread, h6.read_unread]
  simp only [ld_rows, ld_vec]
  exact View.canon_cons_unit_zero hz2 _ _ _

theorem s1_first (hc : cond0_0 i) : out0_A_7 c i a1 h1 a2 h2 a3 h3 a4 h4 a5 h5 a6 h6 a7 h7 a8 h8 a9 h9 hc x0 x1 x2 x3 x4 x5 = k0_pay7 (F := Ideal) (dhTile x0 x1) (k0_pay2 (F := Ideal)) := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  simp only [View.readAt_eq_ld, h1.read_unread, h2.read_unread, h3.read_unread, h4.read_unread, h5.read_unread, h6.read_unread]
  simp (disch := decide) only [↓ View.readCov_skip, ↓ View.readCov_cons_toLoadRect, ↓ View.readCov_fill]
  exact View.canon_cons_unit_zero hz2 _ _ _

theorem s2_first (hc : cond0_0 i) : out0_A_8 c i a1 h1 a2 h2 a3 h3 a4 h4 a5 h5 a6 h6 a7 h7 a8 h8 a9 h9 hc x0 x1 x2 x3 x4 x5 = k0_pay8 (dhTile x0 x1) x2 (k0_pay3 (F := Ideal)) := by
  unfold out0_A_8
  rw [View.read_writes_eq_canon _ _ _ (cover0_A_8 c i a1 h1 a2 h2 a3 h3 a4 h4 a5 h5 a6 h6 a7 h7 a8 h8 a9 h9 hc x0 x1 x2 x3 x4 x5)]
  unfold kernelRun0_A
  dsimp only
  sl_unfold_words
  simp only [View.readAt_eq_ld, h1.read_unread, h2.read_unread, h3.read_unread, h4.read_unread, h5.read_unread, h6.read_unread]
  simp (disch := decide) only [↓ View.readCov_skip, ↓ View.readCov_cons_toLoadRect, ↓ View.readCov_fill]
  simp only [ld_rows, ld_vec]
  exact View.canon_cons_unit_zero hz2 _ _ _

theorem dx_next (hc : ¬cond0_0 i) : out0_B_6 c i a1 h1 a2 h2 a3 h3 a4 h4 a5 h5 a6 h6 a7 h7 a8 h8 a9 h9 hc x0 x1 x2 x3 x4 x5 o7 o8 = tileDx (dhTile x0 x1) x2 x3 x4 x5 := by
  unfold out0_B_6
  rw [View.read_writes_eq_canon _ _ _ (cover0_B_6 c i a1 h1 a2 h2 a3 h3 a4 h4 a5 h5 a6 h6 a7 h7 a8 h8 a9 h9 hc x0 x1 x2 x3 x4 x5 o7 o8)]
  unfold kernelRun0_B
  dsimp only
  sl_unfold_words
  simp only [View.readAt_eq_ld, h1.read_unread, h2.read_unread, h3.read_unread, h4.read_unread, h5.read_unread, h6.read_unread, h8.read_unread, h9.read_unread]
  simp only [ld_rows, ld_vec]
  exact View.canon_cons_unit_zero hz2 _ _ _

theorem s1_next (hc : ¬cond0_0 i) : out0_B_7 c i a1 h1 a2 h2 a3 h3 a4 h4 a5 h5 a6 h6 a7 h7 a8 h8 a9 h9 hc x0 x1 x2 x3 x4 x5 o7 o8 = k0_pay7 (dhTile x0 x1) o7 := by
  unfold out0_B_7
  rw [View.read_writes_eq_canon _ _ _ (cover0_B_7 c i a1 h1 a2 h2 a3 h3 a4 h4 a5 h5 a6 h6 a7 h7 a8 h8 a9 h9 hc x0 x1 x2 x3 x4 x5 o7 o8)]
  unfold kernelRun0_B
  dsimp only
  sl_unfold_words
  simp only [View.readAt_eq_ld, h1.read_unread, h2.read_unread, h3.read_unread, h4.read_unread, h5.read_unread, h6.read_unread, h8.read_unread, h9.read_unread]
  simp only [ld_vec]
  exact View.canon_cons_unit_zero hz2 _ _ _

theorem s2_next (hc : ¬cond0_0 i) : out0_B_8 c i a1 h1 a2 h2 a3 h3 a4 h4 a5 h5 a6 h6 a7 h7 a8 h8 a9 h9 hc x0 x1 x2 x3 x4 x5 o7 o8 = k0_pay8 (dhTile x0 x1) x2 o8 := by
  unfold out0_B_8
  rw [View.read_writes_eq_canon _ _ _ (cover0_B_8 c i a1 h1 a2 h2 a3 h3 a4 h4 a5 h5 a6 h6 a7 h7 a8 h8 a9 h9 hc x0 x1 x2 x3 x4 x5 o7 o8)]
  unfold kernelRun0_B
  dsimp only
  sl_unfold_words
  simp only [View.readAt_eq_ld, h1.read_unread, h2.read_unread, h3.read_unread, h4.read_unread, h5.read_unread, h6.read_unread, h8.read_unread, h9.read_unread]
  simp only [ld_rows, ld_vec]
  exact View.canon_cons_unit_zero hz2 _ _ _
end

/-- The four groups of columns are the whole projection. -/
theorem dhTile_at (x0 : Vec Ideal S512x4096 .bf16) (x1 : Vec Ideal S4x1024x1024 .bf16) (w : Fin 1024 → Fin 4096 → EReal)
    (hw : ∀ k d j, x1 (ix3 k d j) = w d (Sums.col k j)) (r : Fin 512) (d : Fin 1024) :
    dhTile x0 x1 (ix2 r d) = ∑ q : Fin 4096, x0 (ix2 r q) * w d q := by
  refine (dh_at _ _ _ _ _ _ _ _ r d).trans (Eq.trans ?_ (Sums.sum_groups (n := 1024) fun q => x0 (ix2 r q) * w d q))
  refine congrArg₂ (· + ·) (congrArg₂ (· + ·) (congrArg₂ (· + ·) ?_ ?_) ?_) ?_ <;> refine Finset.sum_congr rfl fun j _ => ?_
  · exact congrArg₂ (· * ·) ((Norm.ld_cols (n := 4096) (b := 1024) x0 _ r j (by omega)).trans (congrArg (fun q => x0 (ix2 r q)) (Fin.ext (by simp [Sums.col])))) ((Norm.ld_slab (b := 1024) (d := 1024) x1 0 _ d j).trans (hw 0 d j))
  · exact congrArg₂ (· * ·) ((Norm.ld_cols (n := 4096) (b := 1024) x0 _ r j (by omega)).trans (congrArg (fun q => x0 (ix2 r q)) (Fin.ext (by simp [Sums.col])))) ((Norm.ld_slab (b := 1024) (d := 1024) x1 1 _ d j).trans (hw 1 d j))
  · exact congrArg₂ (· * ·) ((Norm.ld_cols (n := 4096) (b := 1024) x0 _ r j (by omega)).trans (congrArg (fun q => x0 (ix2 r q)) (Fin.ext (by simp [Sums.col])))) ((Norm.ld_slab (b := 1024) (d := 1024) x1 2 _ d j).trans (hw 2 d j))
  · exact congrArg₂ (· * ·) ((Norm.ld_cols (n := 4096) (b := 1024) x0 _ r j (by omega)).trans (congrArg (fun q => x0 (ix2 r q)) (Fin.ext (by simp [Sums.col])))) ((Norm.ld_slab (b := 1024) (d := 1024) x1 3 _ d j).trans (hw 3 d j))

/-! ## The points' blocks -/

variable (m : (ℓ : Loc nD τ sig) → Buf (Elt Ideal) ℓ) (c : Dev nD)

theorem lt32 (t : Fin cfg0.N) : t.val < 32 := Nat.lt_of_lt_of_eq t.isLt N_0
def t31 : Fin cfg0.N := ⟨31, Nat.lt_of_lt_of_eq (by decide) N_0.symm⟩

theorem index_rows : ∀ t : Fin cfg0.N, (win0_0.index t 0 = t.val ∧ win0_0.index t 1 = 0) ∧ (win0_2.index t 0 = t.val ∧ win0_2.index t 1 = 0)
    ∧ (win0_3.index t 0 = t.val ∧ win0_3.index t 1 = 0) ∧ (win0_6.index t 0 = t.val ∧ win0_6.index t 1 = 0) :=
  (by decide +kernel : ∀ t : Fin grid0.N, (win0_0.index t 0 = t.val ∧ win0_0.index t 1 = 0) ∧ (win0_2.index t 0 = t.val ∧ win0_2.index t 1 = 0)
    ∧ (win0_3.index t 0 = t.val ∧ win0_3.index t 1 = 0) ∧ (win0_6.index t 0 = t.val ∧ win0_6.index t 1 = 0))
theorem index_whole : ∀ t : Fin cfg0.N, (win0_1.index t 0 = 0 ∧ win0_1.index t 1 = 0 ∧ win0_1.index t 2 = 0) ∧ (win0_4.index t 0 = 0 ∧ win0_4.index t 1 = 0)
    ∧ (win0_5.index t 0 = 0 ∧ win0_5.index t 1 = 0) :=
  (by decide +kernel : ∀ t : Fin grid0.N, (win0_1.index t 0 = 0 ∧ win0_1.index t 1 = 0 ∧ win0_1.index t 2 = 0) ∧ (win0_4.index t 0 = 0 ∧ win0_4.index t 1 = 0)
    ∧ (win0_5.index t 0 = 0 ∧ win0_5.index t 1 = 0))

theorem read_dp (t : Fin cfg0.N) (A : Vec Ideal S16384x4096 .bf16) (r : Fin 512) (x : Fin 4096) : (((cfg0.win 0).blk t).view.read (Elt Ideal) A) (ix2 r x) = A (ix2 (row ⟨t.val, lt32 t⟩ r) x) := by
  rw [View.read_apply]
  refine congrArg A (funext fun a => Fin.ext ?_)
  match a with
  | ⟨0, _⟩ => show win0_0.index t 0 * 512 + 1 * r.val = 512 * t.val + r.val; rw [(index_rows t).1.1]; omega
  | ⟨1, _⟩ => show win0_0.index t 1 * 4096 + 1 * x.val = x.val; rw [(index_rows t).1.2]; omega

theorem read_w (t : Fin cfg0.N) (A : Vec Ideal S4x1024x1024 .bf16) (k : Fin 4) (d : Fin 1024) (j : Fin 1024) : (((cfg0.win 1).blk t).view.read (Elt Ideal) A) (ix3 k d j) = A (ix3 k d j) := by
  rw [View.read_apply]
  refine congrArg A (funext fun a => Fin.ext ?_)
  match a with
  | ⟨0, _⟩ => show win0_1.index t 0 * 4 + 1 * k.val = k.val; rw [(index_whole t).1.1]; omega
  | ⟨1, _⟩ => show win0_1.index t 1 * 1024 + 1 * d.val = d.val; rw [(index_whole t).1.2.1]; omega
  | ⟨2, _⟩ => show win0_1.index t 2 * 1024 + 1 * j.val = j.val; rw [(index_whole t).1.2.2]; omega

theorem read_x (t : Fin cfg0.N) (A : Vec Ideal S16384x1024 .f32) (r : Fin 512) (x : Fin 1024) : (((cfg0.win 2).blk t).view.read (Elt Ideal) A) (ix2 r x) = A (ix2 (row ⟨t.val, lt32 t⟩ r) x) := by
  rw [View.read_apply]
  refine congrArg A (funext fun a => Fin.ext ?_)
  match a with
  | ⟨0, _⟩ => show win0_2.index t 0 * 512 + 1 * r.val = 512 * t.val + r.val; rw [(index_rows t).2.1.1]; omega
  | ⟨1, _⟩ => show win0_2.index t 1 * 1024 + 1 * x.val = x.val; rw [(index_rows t).2.1.2]; omega

theorem read_dr (t : Fin cfg0.N) (A : Vec Ideal S16384x1024 .f32) (r : Fin 512) (x : Fin 1024) : (((cfg0.win 3).blk t).view.read (Elt Ideal) A) (ix2 r x) = A (ix2 (row ⟨t.val, lt32 t⟩ r) x) := by
  rw [View.read_apply]
  refine congrArg A (funext fun a => Fin.ext ?_)
  match a with
  | ⟨0, _⟩ => show win0_3.index t 0 * 512 + 1 * r.val = 512 * t.val + r.val; rw [(index_rows t).2.2.1.1]; omega
  | ⟨1, _⟩ => show win0_3.index t 1 * 1024 + 1 * x.val = x.val; rw [(index_rows t).2.2.1.2]; omega

theorem read_g (t : Fin cfg0.N) (A : Vec Ideal S1x1024 .f32) (x : Fin 1024) : (((cfg0.win 4).blk t).view.read (Elt Ideal) A) (ix2 0 x) = A (ix2 0 x) := by
  rw [View.read_apply]
  refine congrArg A (funext fun a => Fin.ext ?_)
  match a with
  | ⟨0, _⟩ => show win0_4.index t 0 * 1 + 1 * 0 = 0; rw [(index_whole t).2.1.1]
  | ⟨1, _⟩ => show win0_4.index t 1 * 1024 + 1 * x.val = x.val; rw [(index_whole t).2.1.2]; omega

theorem read_sc (t : Fin cfg0.N) (A : Vec Ideal S1x1024 .f32) (x : Fin 1024) : (((cfg0.win 5).blk t).view.read (Elt Ideal) A) (ix2 0 x) = A (ix2 0 x) := by
  rw [View.read_apply]
  refine congrArg A (funext fun a => Fin.ext ?_)
  match a with
  | ⟨0, _⟩ => show win0_5.index t 0 * 1 + 1 * 0 = 0; rw [(index_whole t).2.2.1]
  | ⟨1, _⟩ => show win0_5.index t 1 * 1024 + 1 * x.val = x.val; rw [(index_whole t).2.2.2]; omega

theorem read_out (t : Fin cfg0.N) (A : Vec Ideal S16384x1024 .f32) (r : Fin 512) (x : Fin 1024) : (((cfg0.win 6).blk t).view.read (Elt Ideal) A) (ix2 r x) = A (ix2 (row ⟨t.val, lt32 t⟩ r) x) := by
  rw [View.read_apply]
  refine congrArg A (funext fun a => Fin.ext ?_)
  match a with
  | ⟨0, _⟩ => show win0_6.index t 0 * 512 + 1 * r.val = 512 * t.val + r.val; rw [(index_rows t).2.2.2.1]; omega
  | ⟨1, _⟩ => show win0_6.index t 1 * 1024 + 1 * x.val = x.val; rw [(index_rows t).2.2.2.2]; omega

/-! ## What the host lines hand the call -/

abbrev arg0 : FVec Ideal S16384x4096 .f32 := m ((c : Thread nD τ).loc main_arg0)
abbrev arg1 : FVec Ideal S1024x4096 .f32 := m ((c : Thread nD τ).loc main_arg1)
abbrev arg2 : FVec Ideal S16384x1024 .f32 := m ((c : Thread nD τ).loc main_arg2)
abbrev arg3 : FVec Ideal S16384x1024 .f32 := m ((c : Thread nD τ).loc main_arg3)
abbrev arg4 : FVec Ideal S1x1024 .f32 := m ((c : Thread nD τ).loc main_arg4)
abbrev arg5 : FVec Ideal S1x1024 .f32 := m ((c : Thread nD τ).loc main_arg5)

theorem v0_eq : V m c main_v0 = (truncf .bf16 (arg0 m c) bitsLt_bf16_f32 : FVec Ideal S16384x4096 .bf16) := by
  unfold_abbrev_sides
  after_reads_simp

theorem v3_eq : V m c main_v3 = (truncf .bf16 (transpose S4x1024x1024 [1, 0, 2] (shapeCast S1024x4x1024 (arg1 m c) shapeCasts_S1024x4096_S1024x4x1024) transposes_S1024x4x1024_S4x1024x1024_1_0_2) bitsLt_bf16_f32 : FVec Ideal S4x1024x1024 .bf16) := by
  unfold_abbrev_sides
  after_reads_simp
  rfl

theorem w_at (k : Fin 4) (d : Fin 1024) (j : Fin 1024) : V m c main_v3 (ix3 k d j) = arg1 m c (ix2 d (Sums.col k j)) := by
  rw [v3_eq]
  pointwise
  exact congrArg (fun a => arg1 m c (ix2 d a)) (Fin.ext (congrArg (· + j.val) (Nat.mul_comm _ _)))

/-- The cotangent of the modulated rows. -/
def vdh (s : Fin 16384) (d : Fin 1024) : EReal := ∑ q : Fin 4096, arg0 m c (ix2 s q) * arg1 m c (ix2 d q)
def vx (s : Fin 16384) (d : Fin 1024) : EReal := arg2 m c (ix2 s d)
def vdr (s : Fin 16384) (d : Fin 1024) : EReal := arg3 m c (ix2 s d)
def vg (d : Fin 1024) : EReal := arg4 m c (ix2 0 d)
def vsc (d : Fin 1024) : EReal := arg5 m c (ix2 0 d)

/-! ## What the run leaves -/

abbrev pt (t : Fin 32) : Fin cfg0.N := ⟨t.val, Nat.lt_of_lt_of_eq t.isLt N_0.symm⟩

theorem outs (n : ℕ) (h : n < 32) : (∀ r d, (outsAt0 m c n (pt ⟨n, h⟩).isLt).1 (ix2 r d) = endDx (vdh m c) (vx m c) (vdr m c) (vg m c) (vsc m c) (ix2 (row ⟨n, h⟩ r) d))
      ∧ (∀ d, (outsAt0 m c n (pt ⟨n, h⟩).isLt).2.1 (ix2 0 d) = Sums.part (fun t => ∑ r, vdh m c (row t r) d) (n + 1))
      ∧ (∀ d, (outsAt0 m c n (pt ⟨n, h⟩).isLt).2.2 (ix2 0 d) = Sums.part (fun t => ∑ r, vdh m c (row t r) d * Norm.nrm (vx m c (row t r)) d) (n + 1)) := by
  refine left (fun n h => outsAt0 m c n (pt ⟨n, h⟩).isLt) (fun t => dhTile (iblk m c 0 (pt t)) (iblk m c 1 (pt t))) (fun t => iblk m c 2 (pt t))
    (fun t => iblk m c 3 (pt t)) (fun t => iblk m c 4 (pt t)) (fun t => iblk m c 5 (pt t)) (fun h => ?_) (fun n h => ?_)
    (vdh m c) (vx m c) (vdr m c) (vg m c) (vsc m c) (fun t r d => ?_) (fun t r d => ?_) (fun t r d => ?_) (fun t d => ?_) (fun t d => ?_) n h
  · refine (outsAt0_A m c (pt ⟨0, h⟩) rfl).trans ?_
    exact congrArg₂ Prod.mk (dx_first ..) (congrArg₂ Prod.mk (s1_first ..) (s2_first ..))
  · refine (outsAt0_B m c (pt ⟨n + 1, h⟩) (by show ¬(n + 1) % 32 = 0; omega)).trans ?_
    exact congrArg₂ Prod.mk (dx_next ..) (congrArg₂ Prod.mk (s1_next ..) (s2_next ..))
  · refine (dhTile_at _ _ (fun d q => arg1 m c (ix2 d q)) (fun k d j => (read_w (pt t) (V m c main_v3) k d j).trans (w_at m c k d j)) r d).trans ?_
    refine Finset.sum_congr rfl fun q _ => congrArg (· * _) ((read_dp (pt t) (V m c main_v0) r q).trans ?_)
    rw [v0_eq]
    rfl
  · refine (read_x (pt t) (V m c main_arg2) r d).trans ?_
    rw [V_main_arg2]
    rfl
  · refine (read_dr (pt t) (V m c main_arg3) r d).trans ?_
    rw [V_main_arg3]
    rfl
  · refine (read_g (pt t) (V m c main_arg4) d).trans ?_
    rw [V_main_arg4]
    rfl
  · refine (read_sc (pt t) (V m c main_arg5) d).trans ?_
    rw [V_main_arg5]
    rfl

theorem xsize6 : ∀ t : Fin cfg0.N, win0_6.xsize (grid0.coords t) 0 = 512 ∧ win0_6.xsize (grid0.coords t) 1 = 1024 :=
  (by decide +kernel : ∀ t : Fin grid0.N, win0_6.xsize (grid0.coords t) 0 = 512 ∧ win0_6.xsize (grid0.coords t) 1 = 1024)

theorem flushed_dx (t : Fin cfg0.N) (hf : (cfg0.win 6).flush t = true) :
    (dats m 0 c).flushed 6 t = ((cfg0.win 6).blk t).view.read (Elt Ideal) (endDx (vdh m c) (vx m c) (vdr m c) (vg m c) (vsc m c)) := by
  show (cfg0.win 6).cut (grid0.coords t) ((dats m 0 c).after 6 t) = _
  rw [after0_6]
  funext j
  obtain ⟨r, x, rfl⟩ : ∃ (r : Fin 512) (x : Fin 1024), j = ix2 r x := ⟨j 0, j 1, eq_ix2 j⟩
  exact ((outs m c t.val (lt32 t)).1 r x).trans (read_out t _ r x).symm

theorem final_dx : (dats m 0 c).arrAt 6 cfg0.N = endDx (vdh m c) (vx m c) (vdr m c) (vg m c) (vsc m c) :=
  (dats m 0 c).arrAt_eq_of_cover 6 _ (flushed_dx m c) fun i => by
    have h0 : (i 0 : Nat) < 16384 := (i 0).isLt
    have h1 : (i 1 : Nat) < 1024 := (i 1).isLt
    refine ⟨pt ⟨(i 0 : Nat) / 512, by omega⟩, flush0_6 _, ?_⟩
    generalize ht : pt ⟨(i 0 : Nat) / 512, _⟩ = t
    have hv : t.val = (i 0 : Nat) / 512 := by rw [← ht]
    show i ∈ ((View.whole main_v4_0).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + win0_6.xsize (grid0.coords t) 0
                rw [(index_rows t).2.2.2.1, (xsize6 t).1]; omega
    | ⟨1, _⟩ => show win0_6.index t 1 * 1024 ≤ (i 1 : Nat) ∧ (i 1 : Nat) < win0_6.index t 1 * 1024 + win0_6.xsize (grid0.coords t) 1
                rw [(index_rows t).2.2.2.2, (xsize6 t).2]; omega

theorem last_s1 (t : Fin cfg0.N) (ht : t.val = 31) : (outsAt0 m c t.val t.isLt).2.1 = endS1 (vdh m c) := by
  funext j
  obtain ⟨z, x, rfl⟩ : ∃ (z : Fin 1) (x : Fin 1024), j = ix2 z x := ⟨j 0, j 1, eq_ix2 j⟩
  obtain rfl : z = 0 := Subsingleton.elim _ _
  refine ((outs m c t.val (lt32 t)).2.1 x).trans ?_
  rw [ht]
  exact sums_last (fun s => vdh m c s x)

theorem flushed_s1 (t : Fin cfg0.N) (hf : (cfg0.win 7).flush t = true) : (dats m 0 c).flushed 7 t = ((cfg0.win 7).blk t).view.read (Elt Ideal) (endS1 (vdh m c)) := by
  have h3 : t.val = 31 := by have := (flush0_7 t).mp hf; have := lt32 t; omega
  obtain rfl : t = t31 := Fin.ext h3
  show (cfg0.win 7).cut (grid0.coords t31) ((dats m 0 c).after 7 t31) = _
  rw [after0_7]
  rw [last_s1 m c t31 rfl]
  have hz : (fun a => win0_7.index t31 a * main_v4_1.ty.shape.size a) = fun _ => 0 := funext fun a => by fin_cases a <;> decide +kernel
  exact (Memref.read_access_unit_zero (Elt Ideal) main_v4_1 hz (fun a => by rw [congrFun hz a]; simp) (endS1 (vdh m c))).symm

theorem final_s1 : (dats m 0 c).arrAt 7 cfg0.N = endS1 (vdh m c) :=
  (dats m 0 c).arrAt_eq_of_cover 7 _ (flushed_s1 m c) fun i =>
    ⟨t31, (flush0_7 t31).mpr (by decide), by
      show i ∈ ((View.whole main_v4_1).slice (win0_7.rect t31)).set
      rw [View.set_slice_whole, Rect.mem_set_unit]
      intro a
      have h0 : (i 0 : Nat) < 1 := (i 0).isLt
      have h1 : (i 1 : Nat) < 1024 := (i 1).isLt
      match a with
      | ⟨0, _⟩ => show win0_7.index t31 0 * 1 ≤ (i 0 : Nat) ∧ (i 0 : Nat) < win0_7.index t31 0 * 1 + win0_7.xsize (grid0.coords t31) 0
                  rw [show win0_7.index t31 0 = 0 from by decide +kernel, show win0_7.xsize (grid0.coords t31) 0 = 1 from by decide +kernel]; omega
      | ⟨1, _⟩ => show win0_7.index t31 1 * 1024 ≤ (i 1 : Nat) ∧ (i 1 : Nat) < win0_7.index t31 1 * 1024 + win0_7.xsize (grid0.coords t31) 1
                  rw [show win0_7.index t31 1 = 0 from by decide +kernel, show win0_7.xsize (grid0.coords t31) 1 = 1024 from by decide +kernel]; omega⟩

theorem last_s2 (t : Fin cfg0.N) (ht : t.val = 31) : (outsAt0 m c t.val t.isLt).2.2 = endS2 (vdh m c) (vx m c) := by
  funext j
  obtain ⟨z, x, rfl⟩ : ∃ (z : Fin 1) (x : Fin 1024), j = ix2 z x := ⟨j 0, j 1, eq_ix2 j⟩
  obtain rfl : z = 0 := Subsingleton.elim _ _
  refine ((outs m c t.val (lt32 t)).2.2 x).trans ?_
  rw [ht]
  exact sums_last (fun s => vdh m c s x * Norm.nrm (vx m c s) x)

theorem flushed_s2 (t : Fin cfg0.N) (hf : (cfg0.win 8).flush t = true) : (dats m 0 c).flushed 8 t = ((cfg0.win 8).blk t).view.read (Elt Ideal) (endS2 (vdh m c) (vx m c)) := by
  have h3 : t.val = 31 := by have := (flush0_8 t).mp hf; have := lt32 t; omega
  obtain rfl : t = t31 := Fin.ext h3
  show (cfg0.win 8).cut (grid0.coords t31) ((dats m 0 c).after 8 t31) = _
  rw [after0_8]
  rw [last_s2 m c t31 rfl]
  have hz : (fun a => win0_8.index t31 a * main_v4_2.ty.shape.size a) = fun _ => 0 := funext fun a => by fin_cases a <;> decide +kernel
  exact (Memref.read_access_unit_zero (Elt Ideal) main_v4_2 hz (fun a => by rw [congrFun hz a]; simp) (endS2 (vdh m c) (vx m c))).symm

theorem final_s2 : (dats m 0 c).arrAt 8 cfg0.N = endS2 (vdh m c) (vx m c) :=
  (dats m 0 c).arrAt_eq_of_cover 8 _ (flushed_s2 m c) fun i =>
    ⟨t31, (flush0_8 t31).mpr (by decide), by
      show i ∈ ((View.whole main_v4_2).slice (win0_8.rect t31)).set
      rw [View.set_slice_whole, Rect.mem_set_unit]
      intro a
      have h0 : (i 0 : Nat) < 1 := (i 0).isLt
      have h1 : (i 1 : Nat) < 1024 := (i 1).isLt
      match a with
      | ⟨0, _⟩ => show win0_8.index t31 0 * 1 ≤ (i 0 : Nat) ∧ (i 0 : Nat) < win0_8.index t31 0 * 1 + win0_8.xsize (grid0.coords t31) 0
                  rw [show win0_8.index t31 0 = 0 from by decide +kernel, show win0_8.xsize (grid0.coords t31) 0 = 1 from by decide +kernel]; omega
      | ⟨1, _⟩ => show win0_8.index t31 1 * 1024 ≤ (i 1 : Nat) ∧ (i 1 : Nat) < win0_8.index t31 1 * 1024 + win0_8.xsize (grid0.coords t31) 1
                  rw [show win0_8.index t31 1 = 0 from by decide +kernel, show win0_8.xsize (grid0.coords t31) 1 = 1024 from by decide +kernel]; omega⟩

/-! ## The reference's results -/

theorem endS1_eq : endS1 (vdh m c) = Cert.NormRef1Ideal.Read.val_main_v25 (F := Ideal) (arg0 m c) (arg1 m c) := funext fun j => by
  obtain ⟨z, x, rfl⟩ : ∃ (z : Fin 1) (x : Fin 1024), j = ix2 z x := ⟨j 0, j 1, eq_ix2 j⟩
  obtain rfl : z = 0 := Subsingleton.elim _ _
  exact (Cert.NormRef1Ideal.Point.s1_at _ _ x).symm

theorem endS2_eq : endS2 (vdh m c) (vx m c) = Cert.NormRef1Ideal.Read.val_main_v60 (F := Ideal) (arg0 m c) (arg1 m c) (arg2 m c) := funext fun j => by
  obtain ⟨z, x, rfl⟩ : ∃ (z : Fin 1) (x : Fin 1024), j = ix2 z x := ⟨j 0, j 1, eq_ix2 j⟩
  obtain rfl : z = 0 := Subsingleton.elim _ _
  exact (Cert.NormRef1Ideal.Point.s2_at _ _ _ x).symm

theorem endDx_eq : endDx (vdh m c) (vx m c) (vdr m c) (vg m c) (vsc m c)
      = Cert.NormRef1Ideal.Read.val_main_v61 (F := Ideal) (arg0 m c) (arg1 m c) (arg2 m c) (arg3 m c) (arg4 m c) (arg5 m c) := funext fun j => by
  obtain ⟨s, d, rfl⟩ : ∃ (s : Fin 16384) (d : Fin 1024), j = ix2 s d := ⟨j 0, j 1, eq_ix2 j⟩
  refine Eq.trans ?_ (Cert.NormRef1Ideal.Point.dx_at _ _ _ _ _ _ s d).symm
  exact (Norm.dxRow_eq (vx m c s) (vdh m c s) (vdr m c s) (vg m c) (vsc m c) d).symm

end Cert.Norm1Ideal.Point

end
-- ==== Proof.Norm0.lean ====
/-
  Layer 0's norm and input projection: the arrays the call's run ends with are the reference's results.
-/
module

public import proofs.«01_k».proof.Proof.NormTile
public import proofs.«01_k».proof.Proof.NormRef
public import proofs.«01_k».proof.Proof.Gen.Norm0Ideal.Value
public import Idealize.ShloMosaic.Lib.StableHlo.RunRead
public import Idealize.ShloMosaic.Lib.Claim

@[expose] public section

set_option maxRecDepth 16384

noncomputable section

namespace Cert.Norm0Ideal.Point

open Cert.Norm1Ideal.Point (tileDx row endDx endS1 endS2 left sums_last)
open Idealize.ShloMosaic Idealize.ShloMosaic.TcCoe Idealize.SL.Sem Cert.Norm0Ideal Cert.Norm0Ideal.Gen
open Idealize.ShloMosaic.Pipeline (Dat)
open scoped BigOperators

theorem hz2 : (![0, 0] : Fin 2 → Nat) = fun _ => 0 := funext fun a => by fin_cases a <;> rfl

/-- Loads of whole blocks. -/
theorem ld_rows (x : Vec Ideal S512x1024 .f32) : View.ld x (Rect.unit ![0, 0] ![512, 1024] inb_S512x1024_S512x1024_0_0) = x := by
  funext j; idx_vars j; pointwise
theorem ld_vec (x : Vec Ideal S1x1024 .f32) : View.ld x (Rect.unit ![0, 0] ![1, 1024] inb_S1x1024_S1x1024_0_0) = x := by
  funext j; idx_vars j; pointwise
  exact congrArg (fun a => x (ix2 a _)) (Subsingleton.elim _ _)

/-- The cotangent of the modulated rows of a block. -/
def dhTile (x0 : Vec Ideal S512x6144 .bf16) (x1 : Vec Ideal S4x1024x1536 .bf16) : Vec Ideal S512x1024 .f32 :=
  k0_pay4 (View.ld x0 (Rect.unit ![0, 0] ![512, 1536] inb_S512x6144_S512x1536_0_0)) (View.ld x1 (Rect.unit ![0, 0, 0] ![1, 1024, 1536] inb_S4x1024x1536_S1x1024x1536_0_0_0))
    (View.ld x0 (Rect.unit ![0, 1536] ![512, 1536] inb_S512x6144_S512x1536_0_1536)) (View.ld x1 (Rect.unit ![1, 0, 0] ![1, 1024, 1536] inb_S4x1024x1536_S1x1024x1536_1_0_0))
    (View.ld x0 (Rect.unit ![0, 3072] ![512, 1536] inb_S512x6144_S512x1536_0_3072)) (View.ld x1 (Rect.unit ![2, 0, 0] ![1, 1024, 1536] inb_S4x1024x1536_S1x1024x1536_2_0_0))
    (View.ld x0 (Rect.unit ![0, 4608] ![512, 1536] inb_S512x6144_S512x1536_0_4608)) (View.ld x1 (Rect.unit ![3, 0, 0] ![1, 1024, 1536] inb_S4x1024x1536_S1x1024x1536_3_0_0))

section
variable (c : Dev nD) (i : grid0.Coords) (a1 : Memref sig .tc .vmem S512x6144 .bf16) (h1 : a1.IsWhole) (a2 : Memref sig .tc .vmem S4x1024x1536 .bf16) (h2 : a2.IsWhole)
  (a3 a4 : Memref sig .tc .vmem S512x1024 .f32) (h3 : a3.IsWhole) (h4 : a4.IsWhole) (a5 a6 : Memref sig .tc .vmem S1x1024 .f32) (h5 : a5.IsWhole) (h6 : a6.IsWhole)
  (a7 : Memref sig .tc .vmem S512x1024 .f32) (h7 : a7.IsWhole) (a8 a9 : Memref sig .tc .vmem S1x1024 .f32) (h8 : a8.IsWhole) (h9 : a9.IsWhole)
  (x0 : Vec Ideal S512x6144 .bf16) (x1 : Vec Ideal S4x1024x1536 .bf16) (x2 x3 : Vec Ideal S512x1024 .f32) (x4 x5 o7 o8 : Vec Ideal S1x1024 .f32)

theorem dx_first (hc : cond0_0 i) : out0_A_6 c i a1 h1 a2 h2 a3 h3 a4 h4 a5 h5 a6 h6 a7 h7 a8 h8 a9 h9 hc x0 x1 x2 x3 x4 x5 = tileDx (dhTile x0 x1) x2 x3 x4 x5 := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  sl_unfold_words
  simp only [View.readAt_eq_ld, h1.read_unread, h2.read_unread, h3.read_unread, h4.read_unread, h5.read_unread, h6.read_unread]
  simp only [ld_rows, ld_vec]
  exact View.canon_cons_unit_zero hz2 _ _ _

theorem s1_first (hc : cond0_0 i) : out0_A_7 c i a1 h1 a2 h2 a3 h3 a4 h4 a5 h5 a6 h6 a7 h7 a8 h8 a9 h9 hc x0 x1 x2 x3 x4 x5 = k0_pay7 (F := Ideal) (dhTile x0 x1) (k0_pay2 (F := Ideal)) := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  simp only [View.readAt_eq_ld, h1.read_unread, h2.read_unread, h3.read_unread, h4.read_unread, h5.read_unread, h6.read_unread]
  simp (disch := decide) only [↓ View.readCov_skip, ↓ View.readCov_cons_toLoadRect, ↓ View.readCov_fill]
  exact View.canon_cons_unit_zero hz2 _ _ _

theorem s2_first (hc : cond0_0 i) : out0_A_8 c i a1 h1 a2 h2 a3 h3 a4 h4 a5 h5 a6 h6 a7 h7 a8 h8 a9 h9 hc x0 x1 x2 x3 x4 x5 = k0_pay8 (dhTile x0 x1) x2 (k0_pay3 (F := Ideal)) := by
  unfold out0_A_8
  rw [View.read_writes_eq_canon _ _ _ (cover0_A_8 c i a1 h1 a2 h2 a3 h3 a4 h4 a5 h5 a6 h6 a7 h7 a8 h8 a9 h9 hc x0 x1 x2 x3 x4 x5)]
  unfold kernelRun0_A
  dsimp only
  sl_unfold_words
  simp only [View.readAt_eq_ld, h1.read_unread, h2.read_unread, h3.read_unread, h4.read_unread, h5.read_unread, h6.read_unread]
  simp (disch := decide) only [↓ View.readCov_skip, ↓ View.readCov_cons_toLoadRect, ↓ View.readCov_fill]
  simp only [ld_rows, ld_vec]
  exact View.canon_cons_unit_zero hz2 _ _ _

theorem dx_next (hc : ¬cond0_0 i) : out0_B_6 c i a1 h1 a2 h2 a3 h3 a4 h4 a5 h5 a6 h6 a7 h7 a8 h8 a9 h9 hc x0 x1 x2 x3 x4 x5 o7 o8 = tileDx (dhTile x0 x1) x2 x3 x4 x5 := by
  unfold out0_B_6
  rw [View.read_writes_eq_canon _ _ _ (cover0_B_6 c i a1 h1 a2 h2 a3 h3 a4 h4 a5 h5 a6 h6 a7 h7 a8 h8 a9 h9 hc x0 x1 x2 x3 x4 x5 o7 o8)]
  unfold kernelRun0_B
  dsimp only
  sl_unfold_words
  simp only [View.readAt_eq_ld, h1.read_unread, h2.read_unread, h3.read_unread, h4.read_unread, h5.read_unread, h6.read_unread, h8.read_unread, h9.read_unread]
  simp only [ld_rows, ld_vec]
  exact View.canon_cons_unit_zero hz2 _ _ _

theorem s1_next (hc : ¬cond0_0 i) : out0_B_7 c i a1 h1 a2 h2 a3 h3 a4 h4 a5 h5 a6 h6 a7 h7 a8 h8 a9 h9 hc x0 x1 x2 x3 x4 x5 o7 o8 = k0_pay7 (dhTile x0 x1) o7 := by
  unfold out0_B_7
  rw [View.read_writes_eq_canon _ _ _ (cover0_B_7 c i a1 h1 a2 h2 a3 h3 a4 h4 a5 h5 a6 h6 a7 h7 a8 h8 a9 h9 hc x0 x1 x2 x3 x4 x5 o7 o8)]
  unfold kernelRun0_B
  dsimp only
  sl_unfold_words
  simp only [View.readAt_eq_ld, h1.read_unread, h2.read_unread, h3.read_unread, h4.read_unread, h5.read_unread, h6.read_unread, h8.read_unread, h9.read_unread]
  simp only [ld_vec]
  exact View.canon_cons_unit_zero hz2 _ _ _

theorem s2_next (hc : ¬cond0_0 i) : out0_B_8 c i a1 h1 a2 h2 a3 h3 a4 h4 a5 h5 a6 h6 a7 h7 a8 h8 a9 h9 hc x0 x1 x2 x3 x4 x5 o7 o8 = k0_pay8 (dhTile x0 x1) x2 o8 := by
  unfold out0_B_8
  rw [View.read_writes_eq_canon _ _ _ (cover0_B_8 c i a1 h1 a2 h2 a3 h3 a4 h4 a5 h5 a6 h6 a7 h7 a8 h8 a9 h9 hc x0 x1 x2 x3 x4 x5 o7 o8)]
  unfold kernelRun0_B
  dsimp only
  sl_unfold_words
  simp only [View.readAt_eq_ld, h1.read_unread, h2.read_unread, h3.read_unread, h4.read_unread, h5.read_unread, h6.read_unread, h8.read_unread, h9.read_unread]
  simp only [ld_rows, ld_vec]
  exact View.canon_cons_unit_zero hz2 _ _ _
end

/-- The four groups of columns are the whole projection. -/
theorem dhTile_at (x0 : Vec Ideal S512x6144 .bf16) (x1 : Vec Ideal S4x1024x1536 .bf16) (w : Fin 1024 → Fin 6144 → EReal)
    (hw : ∀ k d j, x1 (ix3 k d j) = w d (Sums.col k j)) (r : Fin 512) (d : Fin 1024) :
    dhTile x0 x1 (ix2 r d) = ∑ q : Fin 6144, x0 (ix2 r q) * w d q := by
  refine (dh_at _ _ _ _ _ _ _ _ r d).trans (Eq.trans ?_ (Sums.sum_groups (n := 1536) fun q => x0 (ix2 r q) * w d q))
  refine congrArg₂ (· + ·) (congrArg₂ (· + ·) (congrArg₂ (· + ·) ?_ ?_) ?_) ?_ <;> refine Finset.sum_congr rfl fun j _ => ?_
  · exact congrArg₂ (· * ·) ((Norm.ld_cols (n := 6144) (b := 1536) x0 _ r j (by omega)).trans (congrArg (fun q => x0 (ix2 r q)) (Fin.ext (by simp [Sums.col])))) ((Norm.ld_slab (b := 1024) (d := 1536) x1 0 _ d j).trans (hw 0 d j))
  · exact congrArg₂ (· * ·) ((Norm.ld_cols (n := 6144) (b := 1536) x0 _ r j (by omega)).trans (congrArg (fun q => x0 (ix2 r q)) (Fin.ext (by simp [Sums.col])))) ((Norm.ld_slab (b := 1024) (d := 1536) x1 1 _ d j).trans (hw 1 d j))
  · exact congrArg₂ (· * ·) ((Norm.ld_cols (n := 6144) (b := 1536) x0 _ r j (by omega)).trans (congrArg (fun q => x0 (ix2 r q)) (Fin.ext (by simp [Sums.col])))) ((Norm.ld_slab (b := 1024) (d := 1536) x1 2 _ d j).trans (hw 2 d j))
  · exact congrArg₂ (· * ·) ((Norm.ld_cols (n := 6144) (b := 1536) x0 _ r j (by omega)).trans (congrArg (fun q => x0 (ix2 r q)) (Fin.ext (by simp [Sums.col])))) ((Norm.ld_slab (b := 1024) (d := 1536) x1 3 _ d j).trans (hw 3 d j))

/-! ## The points' blocks -/

variable (m : (ℓ : Loc nD τ sig) → Buf (Elt Ideal) ℓ) (c : Dev nD)

theorem lt32 (t : Fin cfg0.N) : t.val < 32 := Nat.lt_of_lt_of_eq t.isLt N_0
def t31 : Fin cfg0.N := ⟨31, Nat.lt_of_lt_of_eq (by decide) N_0.symm⟩

theorem index_rows : ∀ t : Fin cfg0.N, (win0_0.index t 0 = t.val ∧ win0_0.index t 1 = 0) ∧ (win0_2.index t 0 = t.val ∧ win0_2.index t 1 = 0)
    ∧ (win0_3.index t 0 = t.val ∧ win0_3.index t 1 = 0) ∧ (win0_6.index t 0 = t.val ∧ win0_6.index t 1 = 0) :=
  (by decide +kernel : ∀ t : Fin grid0.N, (win0_0.index t 0 = t.val ∧ win0_0.index t 1 = 0) ∧ (win0_2.index t 0 = t.val ∧ win0_2.index t 1 = 0)
    ∧ (win0_3.index t 0 = t.val ∧ win0_3.index t 1 = 0) ∧ (win0_6.index t 0 = t.val ∧ win0_6.index t 1 = 0))
theorem index_whole : ∀ t : Fin cfg0.N, (win0_1.index t 0 = 0 ∧ win0_1.index t 1 = 0 ∧ win0_1.index t 2 = 0) ∧ (win0_4.index t 0 = 0 ∧ win0_4.index t 1 = 0)
    ∧ (win0_5.index t 0 = 0 ∧ win0_5.index t 1 = 0) :=
  (by decide +kernel : ∀ t : Fin grid0.N, (win0_1.index t 0 = 0 ∧ win0_1.index t 1 = 0 ∧ win0_1.index t 2 = 0) ∧ (win0_4.index t 0 = 0 ∧ win0_4.index t 1 = 0)
    ∧ (win0_5.index t 0 = 0 ∧ win0_5.index t 1 = 0))

theorem read_dp (t : Fin cfg0.N) (A : Vec Ideal S16384x6144 .bf16) (r : Fin 512) (x : Fin 6144) : (((cfg0.win 0).blk t).view.read (Elt Ideal) A) (ix2 r x) = A (ix2 (row ⟨t.val, lt32 t⟩ r) x) := by
  rw [View.read_apply]
  refine congrArg A (funext fun a => Fin.ext ?_)
  match a with
  | ⟨0, _⟩ => show win0_0.index t 0 * 512 + 1 * r.val = 512 * t.val + r.val; rw [(index_rows t).1.1]; omega
  | ⟨1, _⟩ => show win0_0.index t 1 * 6144 + 1 * x.val = x.val; rw [(index_rows t).1.2]; omega

theorem read_w (t : Fin cfg0.N) (A : Vec Ideal S4x1024x1536 .bf16) (k : Fin 4) (d : Fin 1024) (j : Fin 1536) : (((cfg0.win 1).blk t).view.read (Elt Ideal) A) (ix3 k d j) = A (ix3 k d j) := by
  rw [View.read_apply]
  refine congrArg A (funext fun a => Fin.ext ?_)
  match a with
  | ⟨0, _⟩ => show win0_1.index t 0 * 4 + 1 * k.val = k.val; rw [(index_whole t).1.1]; omega
  | ⟨1, _⟩ => show win0_1.index t 1 * 1024 + 1 * d.val = d.val; rw [(index_whole t).1.2.1]; omega
  | ⟨2, _⟩ => show win0_1.index t 2 * 1536 + 1 * j.val = j.val; rw [(index_whole t).1.2.2]; omega

theorem read_x (t : Fin cfg0.N) (A : Vec Ideal S16384x1024 .f32) (r : Fin 512) (x : Fin 1024) : (((cfg0.win 2).blk t).view.read (Elt Ideal) A) (ix2 r x) = A (ix2 (row ⟨t.val, lt32 t⟩ r) x) := by
  rw [View.read_apply]
  refine congrArg A (funext fun a => Fin.ext ?_)
  match a with
  | ⟨0, _⟩ => show win0_2.index t 0 * 512 + 1 * r.val = 512 * t.val + r.val; rw [(index_rows t).2.1.1]; omega
  | ⟨1, _⟩ => show win0_2.index t 1 * 1024 + 1 * x.val = x.val; rw [(index_rows t).2.1.2]; omega

theorem read_dr (t : Fin cfg0.N) (A : Vec Ideal S16384x1024 .f32) (r : Fin 512) (x : Fin 1024) : (((cfg0.win 3).blk t).view.read (Elt Ideal) A) (ix2 r x) = A (ix2 (row ⟨t.val, lt32 t⟩ r) x) := by
  rw [View.read_apply]
  refine congrArg A (funext fun a => Fin.ext ?_)
  match a with
  | ⟨0, _⟩ => show win0_3.index t 0 * 512 + 1 * r.val = 512 * t.val + r.val; rw [(index_rows t).2.2.1.1]; omega
  | ⟨1, _⟩ => show win0_3.index t 1 * 1024 + 1 * x.val = x.val; rw [(index_rows t).2.2.1.2]; omega

theorem read_g (t : Fin cfg0.N) (A : Vec Ideal S1x1024 .f32) (x : Fin 1024) : (((cfg0.win 4).blk t).view.read (Elt Ideal) A) (ix2 0 x) = A (ix2 0 x) := by
  rw [View.read_apply]
  refine congrArg A (funext fun a => Fin.ext ?_)
  match a with
  | ⟨0, _⟩ => show win0_4.index t 0 * 1 + 1 * 0 = 0; rw [(index_whole t).2.1.1]
  | ⟨1, _⟩ => show win0_4.index t 1 * 1024 + 1 * x.val = x.val; rw [(index_whole t).2.1.2]; omega

theorem read_sc (t : Fin cfg0.N) (A : Vec Ideal S1x1024 .f32) (x : Fin 1024) : (((cfg0.win 5).blk t).view.read (Elt Ideal) A) (ix2 0 x) = A (ix2 0 x) := by
  rw [View.read_apply]
  refine congrArg A (funext fun a => Fin.ext ?_)
  match a with
  | ⟨0, _⟩ => show win0_5.index t 0 * 1 + 1 * 0 = 0; rw [(index_whole t).2.2.1]
  | ⟨1, _⟩ => show win0_5.index t 1 * 1024 + 1 * x.val = x.val; rw [(index_whole t).2.2.2]; omega

theorem read_out (t : Fin cfg0.N) (A : Vec Ideal S16384x1024 .f32) (r : Fin 512) (x : Fin 1024) : (((cfg0.win 6).blk t).view.read (Elt Ideal) A) (ix2 r x) = A (ix2 (row ⟨t.val, lt32 t⟩ r) x) := by
  rw [View.read_apply]
  refine congrArg A (funext fun a => Fin.ext ?_)
  match a with
  | ⟨0, _⟩ => show win0_6.index t 0 * 512 + 1 * r.val = 512 * t.val + r.val; rw [(index_rows t).2.2.2.1]; omega
  | ⟨1, _⟩ => show win0_6.index t 1 * 1024 + 1 * x.val = x.val; rw [(index_rows t).2.2.2.2]; omega

/-! ## What the host lines hand the call -/

abbrev arg0 : FVec Ideal S16384x6144 .f32 := m ((c : Thread nD τ).loc main_arg0)
abbrev arg1 : FVec Ideal S1024x6144 .f32 := m ((c : Thread nD τ).loc main_arg1)
abbrev arg2 : FVec Ideal S16384x1024 .f32 := m ((c : Thread nD τ).loc main_arg2)
abbrev arg3 : FVec Ideal S16384x1024 .f32 := m ((c : Thread nD τ).loc main_arg3)
abbrev arg4 : FVec Ideal S1x1024 .f32 := m ((c : Thread nD τ).loc main_arg4)
abbrev arg5 : FVec Ideal S1x1024 .f32 := m ((c : Thread nD τ).loc main_arg5)

theorem v0_eq : V m c main_v0 = (truncf .bf16 (arg0 m c) bitsLt_bf16_f32 : FVec Ideal S16384x6144 .bf16) := by
  unfold_abbrev_sides
  after_reads_simp

theorem v3_eq : V m c main_v3 = (truncf .bf16 (transpose S4x1024x1536 [1, 0, 2] (shapeCast S1024x4x1536 (arg1 m c) shapeCasts_S1024x6144_S1024x4x1536) transposes_S1024x4x1536_S4x1024x1536_1_0_2) bitsLt_bf16_f32 : FVec Ideal S4x1024x1536 .bf16) := by
  unfold_abbrev_sides
  after_reads_simp
  rfl

theorem w_at (k : Fin 4) (d : Fin 1024) (j : Fin 1536) : V m c main_v3 (ix3 k d j) = arg1 m c (ix2 d (Sums.col k j)) := by
  rw [v3_eq]
  pointwise
  exact congrArg (fun a => arg1 m c (ix2 d a)) (Fin.ext (congrArg (· + j.val) (Nat.mul_comm _ _)))

/-- The cotangent of the modulated rows. -/
def vdh (s : Fin 16384) (d : Fin 1024) : EReal := ∑ q : Fin 6144, arg0 m c (ix2 s q) * arg1 m c (ix2 d q)
def vx (s : Fin 16384) (d : Fin 1024) : EReal := arg2 m c (ix2 s d)
def vdr (s : Fin 16384) (d : Fin 1024) : EReal := arg3 m c (ix2 s d)
def vg (d : Fin 1024) : EReal := arg4 m c (ix2 0 d)
def vsc (d : Fin 1024) : EReal := arg5 m c (ix2 0 d)

/-! ## What the run leaves -/

abbrev pt (t : Fin 32) : Fin cfg0.N := ⟨t.val, Nat.lt_of_lt_of_eq t.isLt N_0.symm⟩

theorem outs (n : ℕ) (h : n < 32) : (∀ r d, (outsAt0 m c n (pt ⟨n, h⟩).isLt).1 (ix2 r d) = endDx (vdh m c) (vx m c) (vdr m c) (vg m c) (vsc m c) (ix2 (row ⟨n, h⟩ r) d))
      ∧ (∀ d, (outsAt0 m c n (pt ⟨n, h⟩).isLt).2.1 (ix2 0 d) = Sums.part (fun t => ∑ r, vdh m c (row t r) d) (n + 1))
      ∧ (∀ d, (outsAt0 m c n (pt ⟨n, h⟩).isLt).2.2 (ix2 0 d) = Sums.part (fun t => ∑ r, vdh m c (row t r) d * Norm.nrm (vx m c (row t r)) d) (n + 1)) := by
  refine left (fun n h => outsAt0 m c n (pt ⟨n, h⟩).isLt) (fun t => dhTile (iblk m c 0 (pt t)) (iblk m c 1 (pt t))) (fun t => iblk m c 2 (pt t))
    (fun t => iblk m c 3 (pt t)) (fun t => iblk m c 4 (pt t)) (fun t => iblk m c 5 (pt t)) (fun h => ?_) (fun n h => ?_)
    (vdh m c) (vx m c) (vdr m c) (vg m c) (vsc m c) (fun t r d => ?_) (fun t r d => ?_) (fun t r d => ?_) (fun t d => ?_) (fun t d => ?_) n h
  · refine (outsAt0_A m c (pt ⟨0, h⟩) rfl).trans ?_
    exact congrArg₂ Prod.mk (dx_first ..) (congrArg₂ Prod.mk (s1_first ..) (s2_first ..))
  · refine (outsAt0_B m c (pt ⟨n + 1, h⟩) (by show ¬(n + 1) % 32 = 0; omega)).trans ?_
    exact congrArg₂ Prod.mk (dx_next ..) (congrArg₂ Prod.mk (s1_next ..) (s2_next ..))
  · refine (dhTile_at _ _ (fun d q => arg1 m c (ix2 d q)) (fun k d j => (read_w (pt t) (V m c main_v3) k d j).trans (w_at m c k d j)) r d).trans ?_
    refine Finset.sum_congr rfl fun q _ => congrArg (· * _) ((read_dp (pt t) (V m c main_v0) r q).trans ?_)
    rw [v0_eq]
    rfl
  · refine (read_x (pt t) (V m c main_arg2) r d).trans ?_
    rw [V_main_arg2]
    rfl
  · refine (read_dr (pt t) (V m c main_arg3) r d).trans ?_
    rw [V_main_arg3]
    rfl
  · refine (read_g (pt t) (V m c main_arg4) d).trans ?_
    rw [V_main_arg4]
    rfl
  · refine (read_sc (pt t) (V m c main_arg5) d).trans ?_
    rw [V_main_arg5]
    rfl

theorem xsize6 : ∀ t : Fin cfg0.N, win0_6.xsize (grid0.coords t) 0 = 512 ∧ win0_6.xsize (grid0.coords t) 1 = 1024 :=
  (by decide +kernel : ∀ t : Fin grid0.N, win0_6.xsize (grid0.coords t) 0 = 512 ∧ win0_6.xsize (grid0.coords t) 1 = 1024)

theorem flushed_dx (t : Fin cfg0.N) (hf : (cfg0.win 6).flush t = true) :
    (dats m 0 c).flushed 6 t = ((cfg0.win 6).blk t).view.read (Elt Ideal) (endDx (vdh m c) (vx m c) (vdr m c) (vg m c) (vsc m c)) := by
  show (cfg0.win 6).cut (grid0.coords t) ((dats m 0 c).after 6 t) = _
  rw [after0_6]
  funext j
  obtain ⟨r, x, rfl⟩ : ∃ (r : Fin 512) (x : Fin 1024), j = ix2 r x := ⟨j 0, j 1, eq_ix2 j⟩
  exact ((outs m c t.val (lt32 t)).1 r x).trans (read_out t _ r x).symm

theorem final_dx : (dats m 0 c).arrAt 6 cfg0.N = endDx (vdh m c) (vx m c) (vdr m c) (vg m c) (vsc m c) :=
  (dats m 0 c).arrAt_eq_of_cover 6 _ (flushed_dx m c) fun i => by
    have h0 : (i 0 : Nat) < 16384 := (i 0).isLt
    have h1 : (i 1 : Nat) < 1024 := (i 1).isLt
    refine ⟨pt ⟨(i 0 : Nat) / 512, by omega⟩, flush0_6 _, ?_⟩
    generalize ht : pt ⟨(i 0 : Nat) / 512, _⟩ = t
    have hv : t.val = (i 0 : Nat) / 512 := by rw [← ht]
    show i ∈ ((View.whole main_v5_0).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + win0_6.xsize (grid0.coords t) 0
                rw [(index_rows t).2.2.2.1, (xsize6 t).1]; omega
    | ⟨1, _⟩ => show win0_6.index t 1 * 1024 ≤ (i 1 : Nat) ∧ (i 1 : Nat) < win0_6.index t 1 * 1024 + win0_6.xsize (grid0.coords t) 1
                rw [(index_rows t).2.2.2.2, (xsize6 t).2]; omega

theorem last_s1 (t : Fin cfg0.N) (ht : t.val = 31) : (outsAt0 m c t.val t.isLt).2.1 = endS1 (vdh m c) := by
  funext j
  obtain ⟨z, x, rfl⟩ : ∃ (z : Fin 1) (x : Fin 1024), j = ix2 z x := ⟨j 0, j 1, eq_ix2 j⟩
  obtain rfl : z = 0 := Subsingleton.elim _ _
  refine ((outs m c t.val (lt32 t)).2.1 x).trans ?_
  rw [ht]
  exact sums_last (fun s => vdh m c s x)

theorem flushed_s1 (t : Fin cfg0.N) (hf : (cfg0.win 7).flush t = true) : (dats m 0 c).flushed 7 t = ((cfg0.win 7).blk t).view.read (Elt Ideal) (endS1 (vdh m c)) := by
  have h3 : t.val = 31 := by have := (flush0_7 t).mp hf; have := lt32 t; omega
  obtain rfl : t = t31 := Fin.ext h3
  show (cfg0.win 7).cut (grid0.coords t31) ((dats m 0 c).after 7 t31) = _
  rw [after0_7]
  rw [last_s1 m c t31 rfl]
  have hz : (fun a => win0_7.index t31 a * main_v5_1.ty.shape.size a) = fun _ => 0 := funext fun a => by fin_cases a <;> decide +kernel
  exact (Memref.read_access_unit_zero (Elt Ideal) main_v5_1 hz (fun a => by rw [congrFun hz a]; simp) (endS1 (vdh m c))).symm

theorem final_s1 : (dats m 0 c).arrAt 7 cfg0.N = endS1 (vdh m c) :=
  (dats m 0 c).arrAt_eq_of_cover 7 _ (flushed_s1 m c) fun i =>
    ⟨t31, (flush0_7 t31).mpr (by decide), by
      show i ∈ ((View.whole main_v5_1).slice (win0_7.rect t31)).set
      rw [View.set_slice_whole, Rect.mem_set_unit]
      intro a
      have h0 : (i 0 : Nat) < 1 := (i 0).isLt
      have h1 : (i 1 : Nat) < 1024 := (i 1).isLt
      match a with
      | ⟨0, _⟩ => show win0_7.index t31 0 * 1 ≤ (i 0 : Nat) ∧ (i 0 : Nat) < win0_7.index t31 0 * 1 + win0_7.xsize (grid0.coords t31) 0
                  rw [show win0_7.index t31 0 = 0 from by decide +kernel, show win0_7.xsize (grid0.coords t31) 0 = 1 from by decide +kernel]; omega
      | ⟨1, _⟩ => show win0_7.index t31 1 * 1024 ≤ (i 1 : Nat) ∧ (i 1 : Nat) < win0_7.index t31 1 * 1024 + win0_7.xsize (grid0.coords t31) 1
                  rw [show win0_7.index t31 1 = 0 from by decide +kernel, show win0_7.xsize (grid0.coords t31) 1 = 1024 from by decide +kernel]; omega⟩

theorem last_s2 (t : Fin cfg0.N) (ht : t.val = 31) : (outsAt0 m c t.val t.isLt).2.2 = endS2 (vdh m c) (vx m c) := by
  funext j
  obtain ⟨z, x, rfl⟩ : ∃ (z : Fin 1) (x : Fin 1024), j = ix2 z x := ⟨j 0, j 1, eq_ix2 j⟩
  obtain rfl : z = 0 := Subsingleton.elim _ _
  refine ((outs m c t.val (lt32 t)).2.2 x).trans ?_
  rw [ht]
  exact sums_last (fun s => vdh m c s x * Norm.nrm (vx m c s) x)

theorem flushed_s2 (t : Fin cfg0.N) (hf : (cfg0.win 8).flush t = true) : (dats m 0 c).flushed 8 t = ((cfg0.win 8).blk t).view.read (Elt Ideal) (endS2 (vdh m c) (vx m c)) := by
  have h3 : t.val = 31 := by have := (flush0_8 t).mp hf; have := lt32 t; omega
  obtain rfl : t = t31 := Fin.ext h3
  show (cfg0.win 8).cut (grid0.coords t31) ((dats m 0 c).after 8 t31) = _
  rw [after0_8]
  rw [last_s2 m c t31 rfl]
  have hz : (fun a => win0_8.index t31 a * main_v5_2.ty.shape.size a) = fun _ => 0 := funext fun a => by fin_cases a <;> decide +kernel
  exact (Memref.read_access_unit_zero (Elt Ideal) main_v5_2 hz (fun a => by rw [congrFun hz a]; simp) (endS2 (vdh m c) (vx m c))).symm

theorem final_s2 : (dats m 0 c).arrAt 8 cfg0.N = endS2 (vdh m c) (vx m c) :=
  (dats m 0 c).arrAt_eq_of_cover 8 _ (flushed_s2 m c) fun i =>
    ⟨t31, (flush0_8 t31).mpr (by decide), by
      show i ∈ ((View.whole main_v5_2).slice (win0_8.rect t31)).set
      rw [View.set_slice_whole, Rect.mem_set_unit]
      intro a
      have h0 : (i 0 : Nat) < 1 := (i 0).isLt
      have h1 : (i 1 : Nat) < 1024 := (i 1).isLt
      match a with
      | ⟨0, _⟩ => show win0_8.index t31 0 * 1 ≤ (i 0 : Nat) ∧ (i 0 : Nat) < win0_8.index t31 0 * 1 + win0_8.xsize (grid0.coords t31) 0
                  rw [show win0_8.index t31 0 = 0 from by decide +kernel, show win0_8.xsize (grid0.coords t31) 0 = 1 from by decide +kernel]; omega
      | ⟨1, _⟩ => show win0_8.index t31 1 * 1024 ≤ (i 1 : Nat) ∧ (i 1 : Nat) < win0_8.index t31 1 * 1024 + win0_8.xsize (grid0.coords t31) 1
                  rw [show win0_8.index t31 1 = 0 from by decide +kernel, show win0_8.xsize (grid0.coords t31) 1 = 1024 from by decide +kernel]; omega⟩

/-! ## The reference's results -/

theorem endS1_eq : endS1 (vdh m c) = Cert.NormRef0Ideal.Read.val_main_v25 (F := Ideal) (arg0 m c) (arg1 m c) := funext fun j => by
  obtain ⟨z, x, rfl⟩ : ∃ (z : Fin 1) (x : Fin 1024), j = ix2 z x := ⟨j 0, j 1, eq_ix2 j⟩
  obtain rfl : z = 0 := Subsingleton.elim _ _
  exact (Cert.NormRef0Ideal.Point.s1_at _ _ x).symm

theorem endS2_eq : endS2 (vdh m c) (vx m c) = Cert.NormRef0Ideal.Read.val_main_v60 (F := Ideal) (arg0 m c) (arg1 m c) (arg2 m c) := funext fun j => by
  obtain ⟨z, x, rfl⟩ : ∃ (z : Fin 1) (x : Fin 1024), j = ix2 z x := ⟨j 0, j 1, eq_ix2 j⟩
  obtain rfl : z = 0 := Subsingleton.elim _ _
  exact (Cert.NormRef0Ideal.Point.s2_at _ _ _ x).symm

theorem endDx_eq : endDx (vdh m c) (vx m c) (vdr m c) (vg m c) (vsc m c)
      = Cert.NormRef0Ideal.Read.val_main_v61 (F := Ideal) (arg0 m c) (arg1 m c) (arg2 m c) (arg3 m c) (arg4 m c) (arg5 m c) := funext fun j => by
  obtain ⟨s, d, rfl⟩ : ∃ (s : Fin 16384) (d : Fin 1024), j = ix2 s d := ⟨j 0, j 1, eq_ix2 j⟩
  refine Eq.trans ?_ (Cert.NormRef0Ideal.Point.dx_at _ _ _ _ _ _ s d).symm
  exact (Norm.dxRow_eq (vx m c s) (vdh m c s) (vdr m c s) (vg m c) (vsc m c) d).symm

end Cert.Norm0Ideal.Point

end
-- ==== Proof.Win.lean ====
/-
  What the two input-weight gradients share: `G` groups of `n` steps, group after group, each step adding the term of
  its block of rows; and the whole slabs an output window of theirs moves.
-/
module

public import proofs.«01_k».proof.Proof.Sums

@[expose] public section

noncomputable section

namespace Cert.Win

open scoped BigOperators

theorem pt_lt {G n : ℕ} (g : Fin G) (s : Fin n) : n * g.val + s.val < n * G :=
  Nat.lt_of_lt_of_le (by rw [Nat.mul_succ]; exact Nat.add_lt_add_left s.isLt _ : n * g.val + s.val < n * (g.val + 1)) (Nat.mul_le_mul_left n g.isLt)
theorem pt_div {G n : ℕ} (g : Fin G) (s : Fin n) : (n * g.val + s.val) / n = g.val := by
  rw [Nat.mul_add_div (Nat.lt_of_le_of_lt (Nat.zero_le _) s.isLt), Nat.div_eq_of_lt s.isLt, Nat.add_zero]
theorem pt_mod {G n : ℕ} (g : Fin G) (s : Fin n) : (n * g.val + s.val) % n = s.val := by
  rw [Nat.mul_add_mod, Nat.mod_eq_of_lt s.isLt]
theorem exists_pt {G n t : ℕ} (hn : 0 < n) (h : t < n * G) : ∃ (g : Fin G) (s : Fin n), t = n * g.val + s.val :=
  ⟨⟨t / n, Nat.div_lt_of_lt_mul h⟩, ⟨t % n, Nat.mod_lt t hn⟩, (Nat.div_add_mod t n).symm⟩

/-- What a group's last step leaves is its sum over all the rows. -/
theorem last {G n N b S : ℕ} (h : n * b = S) (o : (k : ℕ) → k < N → EReal) (f : Fin G → Fin S → EReal)
    (first : ∀ (g : Fin G) (s : Fin n) k hk, k = n * g.val + s.val → s.val = 0 → o k hk = ∑ r : Fin b, f g (Sums.row h s r))
    (next : ∀ (g : Fin G) (s : Fin n) k hk, k + 1 = n * g.val + s.val → s.val ≠ 0 →
      o (k + 1) hk = o k (Nat.lt_of_succ_lt hk) + ∑ r : Fin b, f g (Sums.row h s r))
    (g : Fin G) (s : Fin n) (hs : s.val + 1 = n) (hN : n * g.val + s.val < N) : o (n * g.val + s.val) hN = ∑ q, f g q := by
  rw [Sums.runs o (fun g s => ∑ r : Fin b, f g (Sums.row h s r)) first next g s.val s.isLt _ hN rfl, hs, Sums.part_all]
  exact Sums.sum_blocks h (f g)

/-- Slab `i 0` of the array has the place `i`. -/
theorem in_slab {K M : ℕ} {i st sz : Fin 3 → ℕ} (h1 : i 1 < K) (h2 : i 2 < M) (e : st 0 = i 0 ∧ st 1 = 0 ∧ st 2 = 0)
    (z : sz 0 = 1 ∧ sz 1 = K ∧ sz 2 = M) : ∀ a : Fin 3, st a * ![1, K, M] a ≤ i a ∧ i a < st a * ![1, K, M] a + sz a
  | ⟨0, _⟩ => by show st 0 * 1 ≤ i 0 ∧ i 0 < st 0 * 1 + sz 0; rw [e.1, z.1]; omega
  | ⟨1, _⟩ => by show st 1 * K ≤ i 1 ∧ i 1 < st 1 * K + sz 1; rw [e.2.1, z.2.1]; omega
  | ⟨2, _⟩ => by show st 2 * M ≤ i 2 ∧ i 2 < st 2 * M + sz 2; rw [e.2.2, z.2.2]; omega

end Cert.Win

end
-- ==== Proof.Win1.lean ====
/-
  Layer 1's input-weight gradient: the arrays the call's run ends with are the reference's results.
-/
module

public import proofs.«01_k».proof.Proof.Win
public import proofs.«01_k».proof.Proof.Slabs
public import proofs.«01_k».proof.Proof.Gen.Win1Ideal.Value
public import proofs.«01_k».proof.Proof.Gen.WinRef1Ideal.Read
public import Idealize.ShloMosaic.Lib.StableHlo.RunRead
public import Idealize.ShloMosaic.Lib.Claim

@[expose] public section

set_option maxRecDepth 16384

noncomputable section

namespace Cert.Win1Ideal.Point

open Idealize.ShloMosaic Idealize.ShloMosaic.TcCoe Idealize.SL.Sem Cert.Win1Ideal Cert.Win1Ideal.Gen
open Idealize.ShloMosaic.Pipeline (Dat)
open scoped BigOperators

theorem hz3 : (![0, 0, 0] : Fin 3 → Nat) = fun _ => 0 := funext fun a => by fin_cases a <;> rfl

/-! ## One step -/

theorem zero_at (a : Fin 1024) (b : Fin 1024) : k0_pay1 (F := Ideal) (ix3 0 a b) = 0 := by
  pointwise [k0_pay1]
theorem step_at (o : Vec Ideal S1x1024x1024 .f32) (x0 : Vec Ideal S4096x1024 .bf16) (x1 : Vec Ideal S4096x1024 .bf16) (a : Fin 1024) (b : Fin 1024) :
    k0_pay2 (F := Ideal) o x0 x1 (ix3 0 a b) = o (ix3 0 a b) + ∑ r, x0 (ix2 r a) * x1 (ix2 r b) := by
  pointwise [k0_pay2]
theorem wire_at (o : Vec Ideal S1x1024x1024 .f32) (a : Fin 1024) (b : Fin 1024) : k0_pay3 (F := Ideal) o (ix3 0 a b) = o (ix3 0 a b) := by
  pointwise [k0_pay3]

/-- Loads of whole blocks. -/
theorem ld_a (x : Vec Ideal S4096x1024 .bf16) : View.ld x (Rect.unit ![0, 0] ![4096, 1024] inb_S4096x1024_S4096x1024_0_0) = x := by
  funext j; idx_vars j; pointwise
theorem ld_o (x : Vec Ideal S1x1024x1024 .f32) : View.ld x (Rect.unit ![0, 0, 0] ![1, 1024, 1024] inb_S1x1024x1024_S1x1024x1024_0_0_0) = x := by
  funext j; idx_vars j; pointwise
  exact congrArg (fun a => x (ix3 a _ _)) (Subsingleton.elim _ _)

section
variable (c : Dev nD) (i : grid0.Coords) (a1 : Memref sig .tc .vmem S4096x1024 .bf16) (h1 : a1.IsWhole) (a2 : Memref sig .tc .vmem S4096x1024 .bf16) (h2 : a2.IsWhole)
  (a3 : Memref sig .tc .vmem S1x1024x1024 .f32) (h3 : a3.IsWhole) (a4 : Memref sig .tc .vmem S1x1024x1024 .bf16) (h4 : a4.IsWhole)
  (x0 : Vec Ideal S4096x1024 .bf16) (x1 : Vec Ideal S4096x1024 .bf16) (o : Vec Ideal S1x1024x1024 .f32)

theorem sum_first (hc0 : cond0_0 i) (hc1 : ¬cond0_1 i) : out0_A_2 c i a1 h1 a2 h2 a3 h3 a4 h4 hc0 hc1 x0 x1 = k0_pay2 (F := Ideal) (k0_pay1 (F := Ideal)) x0 x1 := by
  unfold out0_A_2
  rw [View.read_writes_eq_canon _ _ _ (cover0_A_2 c i a1 h1 a2 h2 a3 h3 a4 h4 hc0 hc1 x0 x1)]
  unfold kernelRun0_A
  dsimp only
  sl_unfold_words
  simp only [View.readAt_eq_ld, h1.read_unread, h2.read_unread]
  simp (disch := decide) only [↓ View.readCov_skip, ↓ View.readCov_cons_toLoadRect, ↓ View.readCov_fill]
  simp only [ld_a]
  exact View.canon_cons_unit_zero hz3 _ _ _

theorem sum_next (hc0 : ¬cond0_0 i) (hc1 : ¬cond0_1 i) : out0_B_2 c i a1 h1 a2 h2 a3 h3 a4 h4 hc0 hc1 x0 x1 o = k0_pay2 (F := Ideal) o x0 x1 := by
  unfold out0_B_2
  rw [View.read_writes_eq_canon _ _ _ (cover0_B_2 c i a1 h1 a2 h2 a3 h3 a4 h4 hc0 hc1 x0 x1 o)]
  unfold kernelRun0_B
  dsimp only
  sl_unfold_words
  simp only [View.readAt_eq_ld, h1.read_unread, h2.read_unread, h3.read_unread]
  simp only [ld_a, ld_o]
  exact View.canon_cons_unit_zero hz3 _ _ _

theorem sum_last (hc0 : ¬cond0_0 i) (hc1 : cond0_1 i) : out0_C_2 c i a1 h1 a2 h2 a3 h3 a4 h4 hc0 hc1 x0 x1 o = k0_pay2 (F := Ideal) o x0 x1 := by
  unfold out0_C_2
  rw [View.read_writes_eq_canon _ _ _ (cover0_C_2 c i a1 h1 a2 h2 a3 h3 a4 h4 hc0 hc1 x0 x1 o)]
  unfold kernelRun0_C
  dsimp only
  sl_unfold_words
  simp only [View.readAt_eq_ld, h1.read_unread, h2.read_unread, h3.read_unread]
  simp only [ld_a, ld_o]
  exact View.canon_cons_unit_zero hz3 _ _ _

theorem wire_last (hc0 : ¬cond0_0 i) (hc1 : cond0_1 i) : out0_C_3 c i a1 h1 a2 h2 a3 h3 a4 h4 hc0 hc1 x0 x1 o = k0_pay3 (F := Ideal) (k0_pay2 (F := Ideal) o x0 x1) := by
  unfold out0_C_3
  rw [View.read_writes_eq_canon _ _ _ (cover0_C_3 c i a1 h1 a2 h2 a3 h3 a4 h4 hc0 hc1 x0 x1 o)]
  unfold kernelRun0_C
  dsimp only
  sl_unfold_words
  simp only [View.readAt_eq_ld, h1.read_unread, h2.read_unread, h3.read_unread]
  simp (disch := decide) only [↓ View.readCov_skip, ↓ View.readCov_cons_toLoadRect, ↓ View.readCov_fill]
  simp only [ld_a, ld_o]
  exact View.canon_cons_unit_zero hz3 _ _ _
end

/-! ## The points' blocks -/

variable (m : (ℓ : Loc nD τ sig) → Buf (Elt Ideal) ℓ) (c : Dev nD)

theorem rows_eq : 4 * 4096 = 16384 := by norm_num
theorem lt_N (g : Fin 4) (s : Fin 4) : 4 * g.val + s.val < cfg0.N := Nat.lt_of_lt_of_eq (Win.pt_lt g s) N_0.symm
/-- Group `g`'s step `s`. -/
abbrev pt (g : Fin 4) (s : Fin 4) : Fin cfg0.N := ⟨4 * g.val + s.val, lt_N g s⟩
abbrev row (s : Fin 4) (r : Fin 4096) : Fin 16384 := Sums.row rows_eq s r

theorem index : ∀ t : Fin cfg0.N, (win0_0.index t 0 = t.val % 4 ∧ win0_0.index t 1 = 0) ∧ (win0_1.index t 0 = t.val % 4 ∧ win0_1.index t 1 = t.val / 4)
    ∧ (win0_2.index t 0 = t.val / 4 ∧ win0_2.index t 1 = 0 ∧ win0_2.index t 2 = 0) ∧ (win0_3.index t 0 = t.val / 4 ∧ win0_3.index t 1 = 0 ∧ win0_3.index t 2 = 0) :=
  (by decide +kernel : ∀ t : Fin grid0.N, (win0_0.index t 0 = t.val % 4 ∧ win0_0.index t 1 = 0) ∧ (win0_1.index t 0 = t.val % 4 ∧ win0_1.index t 1 = t.val / 4)
    ∧ (win0_2.index t 0 = t.val / 4 ∧ win0_2.index t 1 = 0 ∧ win0_2.index t 2 = 0) ∧ (win0_3.index t 0 = t.val / 4 ∧ win0_3.index t 1 = 0 ∧ win0_3.index t 2 = 0))
theorem pt_div (g : Fin 4) (s : Fin 4) : (pt g s).val / 4 = g.val := Win.pt_div g s
theorem pt_mod (g : Fin 4) (s : Fin 4) : (pt g s).val % 4 = s.val := Win.pt_mod g s
theorem exists_pt (t : Fin cfg0.N) : ∃ g s, t = pt g s := by
  obtain ⟨g, s, e⟩ := Win.exists_pt (G := 4) (n := 4) (by decide) (Nat.lt_of_lt_of_eq t.isLt N_0)
  exact ⟨g, s, Fin.ext e⟩

theorem read_h (g : Fin 4) (s : Fin 4) (A : Vec Ideal S16384x1024 .bf16) (r : Fin 4096) (a : Fin 1024) :
    (((cfg0.win 0).blk (pt g s)).view.read (Elt Ideal) A) (ix2 r a) = A (ix2 (row s r) a) := by
  rw [View.read_apply]
  refine congrArg A (funext fun x => Fin.ext ?_)
  match x with
  | ⟨0, _⟩ => show win0_0.index (pt g s) 0 * 4096 + 1 * r.val = 4096 * s.val + r.val; rw [(index _).1.1, pt_mod]; omega
  | ⟨1, _⟩ => show win0_0.index (pt g s) 1 * 1024 + 1 * a.val = a.val; rw [(index _).1.2]; omega

theorem read_dp (g : Fin 4) (s : Fin 4) (A : Vec Ideal S16384x4096 .bf16) (r : Fin 4096) (b : Fin 1024) :
    (((cfg0.win 1).blk (pt g s)).view.read (Elt Ideal) A) (ix2 r b) = A (ix2 (row s r) (Sums.col g b)) := by
  rw [View.read_apply]
  refine congrArg A (funext fun x => Fin.ext ?_)
  match x with
  | ⟨0, _⟩ => show win0_1.index (pt g s) 0 * 4096 + 1 * r.val = 4096 * s.val + r.val; rw [(index _).2.1.1, pt_mod]; omega
  | ⟨1, _⟩ => show win0_1.index (pt g s) 1 * 1024 + 1 * b.val = 1024 * g.val + b.val; rw [(index _).2.1.2, pt_div]; omega

theorem read_sum (g : Fin 4) (s : Fin 4) (A : Vec Ideal S4x1024x1024 .f32) (a : Fin 1024) (b : Fin 1024) :
    (((cfg0.win 2).blk (pt g s)).view.read (Elt Ideal) A) (ix3 0 a b) = A (ix3 g a b) := by
  rw [View.read_apply]
  refine congrArg A (funext fun x => Fin.ext ?_)
  match x with
  | ⟨0, _⟩ => show win0_2.index (pt g s) 0 * 1 + 1 * 0 = g.val; rw [(index _).2.2.1.1, pt_div]; omega
  | ⟨1, _⟩ => show win0_2.index (pt g s) 1 * 1024 + 1 * a.val = a.val; rw [(index _).2.2.1.2.1]; omega
  | ⟨2, _⟩ => show win0_2.index (pt g s) 2 * 1024 + 1 * b.val = b.val; rw [(index _).2.2.1.2.2]; omega

theorem read_wire (g : Fin 4) (s : Fin 4) (A : Vec Ideal S4x1024x1024 .bf16) (a : Fin 1024) (b : Fin 1024) :
    (((cfg0.win 3).blk (pt g s)).view.read (Elt Ideal) A) (ix3 0 a b) = A (ix3 g a b) := by
  rw [View.read_apply]
  refine congrArg A (funext fun x => Fin.ext ?_)
  match x with
  | ⟨0, _⟩ => show win0_3.index (pt g s) 0 * 1 + 1 * 0 = g.val; rw [(index _).2.2.2.1, pt_div]; omega
  | ⟨1, _⟩ => show win0_3.index (pt g s) 1 * 1024 + 1 * a.val = a.val; rw [(index _).2.2.2.2.1]; omega
  | ⟨2, _⟩ => show win0_3.index (pt g s) 2 * 1024 + 1 * b.val = b.val; rw [(index _).2.2.2.2.2]; omega

/-! ## What the run leaves -/

abbrev arg0 : FVec Ideal S16384x1024 .f32 := m ((c : Thread nD τ).loc main_arg0)
abbrev arg1 : FVec Ideal S16384x4096 .f32 := m ((c : Thread nD τ).loc main_arg1)

theorem v0_eq : V m c main_v0 = (truncf .bf16 (arg0 m c) bitsLt_bf16_f32 : FVec Ideal S16384x1024 .bf16) := by
  unfold_abbrev_sides
  after_reads_simp
theorem v1_eq : V m c main_v1 = (truncf .bf16 (arg1 m c) bitsLt_bf16_f32 : FVec Ideal S16384x4096 .bf16) := by
  unfold_abbrev_sides
  after_reads_simp

/-- A token's term of the gradient of the weight. -/
def dw (g : Fin 4) (a : Fin 1024) (b : Fin 1024) (s : Fin 16384) : EReal := arg0 m c (ix2 s a) * arg1 m c (ix2 s (Sums.col g b))

/-- A point's rows. -/
abbrev blkA (t : Fin cfg0.N) : Vec Ideal S4096x1024 .bf16 := iblk m c 0 t
abbrev blkB (t : Fin cfg0.N) : Vec Ideal S4096x1024 .bf16 := iblk m c 1 t

theorem rows_at (g : Fin 4) (s : Fin 4) (a : Fin 1024) (b : Fin 1024) :
    ∑ r, blkA m c (pt g s) (ix2 r a) * blkB m c (pt g s) (ix2 r b) = ∑ r, dw m c g a b (row s r) := by
  refine Finset.sum_congr rfl fun r _ => congrArg₂ (· * ·) ((read_h g s (V m c main_v0) r a).trans ?_) ((read_dp g s (V m c main_v1) r b).trans ?_)
  · rw [v0_eq]
    rfl
  · rw [v1_eq]
    rfl

/-- The sum at point `n`. -/
def sumAt (n : ℕ) (h : n < cfg0.N) : Vec Ideal S1x1024x1024 .f32 := (outsAt0 m c n h).1

theorem sumAt_first (t : Fin cfg0.N) (h0 : t.val % 4 = 0) : sumAt m c t.val t.isLt = k0_pay2 (F := Ideal) (k0_pay1 (F := Ideal)) (blkA m c t) (blkB m c t) := by
  have h1 : ¬t.val % 4 = 3 := by omega
  have e := congrArg Prod.fst (outsAt0_A m c t h0 h1)
  dsimp only at e
  exact e.trans (sum_first ..)

theorem sumAt_next (t : Fin cfg0.N) (h0 : ¬t.val % 4 = 0) : sumAt m c t.val t.isLt =
    k0_pay2 (F := Ideal) (sumAt m c (t.val - 1) (Nat.lt_of_le_of_lt (Nat.sub_le _ _) t.isLt)) (blkA m c t) (blkB m c t) := by
  by_cases h1 : t.val % 4 = 3
  · have e := congrArg Prod.fst (outsAt0_C m c t h0 h1)
    dsimp only at e
    exact e.trans (sum_last ..)
  · have e := congrArg Prod.fst (outsAt0_B m c t h0 h1)
    dsimp only at e
    exact e.trans (sum_next ..)

theorem sumAt_succ (t : Fin cfg0.N) (n : ℕ) (e : t.val = n + 1) (h : n + 1 < cfg0.N) (h0 : ¬t.val % 4 = 0) :
    sumAt m c (n + 1) h = k0_pay2 (F := Ideal) (sumAt m c n (Nat.lt_of_succ_lt h)) (blkA m c t) (blkB m c t) := by
  obtain rfl : t = ⟨n + 1, h⟩ := Fin.ext e
  exact sumAt_next m c ⟨n + 1, h⟩ h0

theorem wireAt (t : Fin cfg0.N) (h1 : t.val % 4 = 3) : (outsAt0 m c t.val t.isLt).2 = k0_pay3 (F := Ideal) (sumAt m c t.val t.isLt) := by
  have h0 : ¬t.val % 4 = 0 := by omega
  rw [sumAt_next m c t h0]
  have e := congrArg Prod.snd (outsAt0_C m c t h0 h1)
  dsimp only at e
  exact e.trans (wire_last ..)

/-- The last step of a group leaves the sum over all the tokens. -/
theorem sumAt_last (g : Fin 4) (s : Fin 4) (hs : s.val + 1 = 4) (a : Fin 1024) (b : Fin 1024) :
    sumAt m c (pt g s).val (pt g s).isLt (ix3 0 a b) = ∑ s, dw m c g a b s := by
  refine Win.last rows_eq (fun n h => sumAt m c n h (ix3 0 a b)) (fun g => dw m c g a b) (fun g s n h e h0 => ?_) (fun g s n h e h0 => ?_) g s hs (lt_N g s)
  · subst e
    refine (congrFun (sumAt_first m c (pt g s) (by rw [pt_mod, h0])) _).trans ((step_at _ _ _ a b).trans ?_)
    rw [zero_at, zero_add]
    exact rows_at m c g s a b
  · refine (congrFun (sumAt_succ m c (pt g s) n e.symm h (by rw [pt_mod]; exact h0)) _).trans ((step_at _ _ _ a b).trans ?_)
    exact congrArg (sumAt m c n (Nat.lt_of_succ_lt h) (ix3 0 a b) + ·) (rows_at m c g s a b)

/-- The gradient of the weight, chip by chip. -/
def endDw : Vec Ideal S4x1024x1024 .f32 := fun j => ∑ s, dw m c (j 0) (j 1) (j 2) s
/-- The copy of it for the exchange. -/
def endWire : Vec Ideal S4x1024x1024 .bf16 := fun j => ∑ s, dw m c (j 0) (j 1) (j 2) s

theorem xsize : ∀ t : Fin cfg0.N, (win0_2.xsize (grid0.coords t) 0 = 1 ∧ win0_2.xsize (grid0.coords t) 1 = 1024 ∧ win0_2.xsize (grid0.coords t) 2 = 1024)
    ∧ (win0_3.xsize (grid0.coords t) 0 = 1 ∧ win0_3.xsize (grid0.coords t) 1 = 1024 ∧ win0_3.xsize (grid0.coords t) 2 = 1024) :=
  (by decide +kernel : ∀ t : Fin grid0.N, (win0_2.xsize (grid0.coords t) 0 = 1 ∧ win0_2.xsize (grid0.coords t) 1 = 1024 ∧ win0_2.xsize (grid0.coords t) 2 = 1024)
    ∧ (win0_3.xsize (grid0.coords t) 0 = 1 ∧ win0_3.xsize (grid0.coords t) 1 = 1024 ∧ win0_3.xsize (grid0.coords t) 2 = 1024))

theorem flushed_dw (t : Fin cfg0.N) (hf : (cfg0.win 2).flush t = true) : (dats m 0 c).flushed 2 t = ((cfg0.win 2).blk t).view.read (Elt Ideal) (endDw m c) := by
  have h3 := (flush0_2 t).mp hf
  obtain ⟨g, s, rfl⟩ := exists_pt t
  rw [pt_mod] at h3
  show (cfg0.win 2).cut (grid0.coords (pt g s)) ((dats m 0 c).after 2 (pt g s)) = _
  rw [after0_2]
  funext j
  obtain ⟨z, a, b, rfl⟩ : ∃ (z : Fin 1) (a : Fin 1024) (b : Fin 1024), j = ix3 z a b := ⟨j 0, j 1, j 2, eq_ix3 j⟩
  obtain rfl : z = 0 := Subsingleton.elim _ _
  exact (sumAt_last m c g s (by omega) a b).trans (read_sum g s (endDw m c) a b).symm

theorem flushed_wire (t : Fin cfg0.N) (hf : (cfg0.win 3).flush t = true) : (dats m 0 c).flushed 3 t = ((cfg0.win 3).blk t).view.read (Elt Ideal) (endWire m c) := by
  have h3 := (flush0_3 t).mp hf
  obtain ⟨g, s, rfl⟩ := exists_pt t
  show (cfg0.win 3).cut (grid0.coords (pt g s)) ((dats m 0 c).after 3 (pt g s)) = _
  rw [after0_3, wireAt m c _ h3]
  rw [pt_mod] at h3
  funext j
  obtain ⟨z, a, b, rfl⟩ : ∃ (z : Fin 1) (a : Fin 1024) (b : Fin 1024), j = ix3 z a b := ⟨j 0, j 1, j 2, eq_ix3 j⟩
  obtain rfl : z = 0 := Subsingleton.elim _ _
  exact ((wire_at _ a b).trans (sumAt_last m c g s (by omega) a b)).trans (read_wire g s (endWire m c) a b).symm

theorem final_dw : (dats m 0 c).arrAt 2 cfg0.N = endDw m c :=
  (dats m 0 c).arrAt_eq_of_cover 2 _ (flushed_dw m c) fun i => by
    refine ⟨pt (i 0) 3, (flush0_2 _).mpr (pt_mod _ _), ?_⟩
    show i ∈ ((View.whole main_v2_0).slice (win0_2.rect (pt (i 0) 3))).set
    rw [View.set_slice_whole, Rect.mem_set_unit]
    exact Win.in_slab (i := fun a => (i a : Nat)) (i 1).isLt (i 2).isLt ⟨(index (pt (i 0) 3)).2.2.1.1.trans (pt_div _ _), (index (pt (i 0) 3)).2.2.1.2⟩ (xsize _).1

theorem final_wire : (dats m 0 c).arrAt 3 cfg0.N = endWire m c :=
  (dats m 0 c).arrAt_eq_of_cover 3 _ (flushed_wire m c) fun i => by
    refine ⟨pt (i 0) 3, (flush0_3 _).mpr (pt_mod _ _), ?_⟩
    show i ∈ ((View.whole main_v2_1).slice (win0_3.rect (pt (i 0) 3))).set
    rw [View.set_slice_whole, Rect.mem_set_unit]
    exact Win.in_slab (i := fun a => (i a : Nat)) (i 1).isLt (i 2).isLt ⟨(index (pt (i 0) 3)).2.2.2.1.trans (pt_div _ _), (index (pt (i 0) 3)).2.2.2.2⟩ (xsize _).2

/-! ## The reference's results -/

theorem reference_at (x0 : FVec Ideal S16384x1024 .f32) (x1 : FVec Ideal S16384x4096 .f32) (g : Fin 4) (a : Fin 1024) (b : Fin 1024) :
    Cert.WinRef1Ideal.Read.val_main_v5 (F := Ideal) x0 x1 (ix3 g a b) = ∑ s, x0 (ix2 s a) * x1 (ix2 s (Sums.col g b)) := by
  pointwise [Cert.WinRef1Ideal.Read.val_main_v5, Cert.WinRef1Ideal.Read.val_main_v4, Cert.WinRef1Ideal.Read.val_main_v3, Cert.WinRef1Ideal.Read.val_main_v2]
  refine Finset.sum_congr rfl fun s _ => (mul_comm _ _).trans (congrArg (fun q => x0 (ix2 s a) * x1 (ix2 s q)) (Fin.ext ?_))
  exact congrArg (· + b.val) (Nat.mul_comm _ _)

theorem endDw_eq : endDw m c = Cert.WinRef1Ideal.Read.val_main_v5 (F := Ideal) (arg0 m c) (arg1 m c) := funext fun j => by
  obtain ⟨g, a, b, rfl⟩ : ∃ (g : Fin 4) (a : Fin 1024) (b : Fin 1024), j = ix3 g a b := ⟨j 0, j 1, j 2, eq_ix3 j⟩
  exact (reference_at _ _ g a b).symm

theorem endWire_eq : endWire m c = Cert.WinRef1Ideal.Read.val_main_v6 (F := Ideal) (arg0 m c) (arg1 m c) := funext fun j => by
  obtain ⟨g, a, b, rfl⟩ : ∃ (g : Fin 4) (a : Fin 1024) (b : Fin 1024), j = ix3 g a b := ⟨j 0, j 1, j 2, eq_ix3 j⟩
  exact (reference_at _ _ g a b).symm

end Cert.Win1Ideal.Point

end
-- ==== Proof.Win0.lean ====
/-
  Layer 0's input-weight gradient: the arrays the call's run ends with are the reference's results.
-/
module

public import proofs.«01_k».proof.Proof.Win
public import proofs.«01_k».proof.Proof.Slabs
public import proofs.«01_k».proof.Proof.Gen.Win0Ideal.Value
public import proofs.«01_k».proof.Proof.Gen.WinRef0Ideal.Read
public import Idealize.ShloMosaic.Lib.StableHlo.RunRead
public import Idealize.ShloMosaic.Lib.Claim

@[expose] public section

set_option maxRecDepth 16384

noncomputable section

namespace Cert.Win0Ideal.Point

open Idealize.ShloMosaic Idealize.ShloMosaic.TcCoe Idealize.SL.Sem Cert.Win0Ideal Cert.Win0Ideal.Gen
open Idealize.ShloMosaic.Pipeline (Dat)
open scoped BigOperators

theorem hz3 : (![0, 0, 0] : Fin 3 → Nat) = fun _ => 0 := funext fun a => by fin_cases a <;> rfl

/-! ## One step -/

theorem zero_at (a : Fin 1024) (b : Fin 1536) : k0_pay1 (F := Ideal) (ix3 0 a b) = 0 := by
  pointwise [k0_pay1]
theorem step_at (o : Vec Ideal S1x1024x1536 .f32) (x0 : Vec Ideal S2048x1024 .bf16) (x1 : Vec Ideal S2048x1536 .bf16) (a : Fin 1024) (b : Fin 1536) :
    k0_pay2 (F := Ideal) o x0 x1 (ix3 0 a b) = o (ix3 0 a b) + ∑ r, x0 (ix2 r a) * x1 (ix2 r b) := by
  pointwise [k0_pay2]
theorem wire_at (o : Vec Ideal S1x1024x1536 .f32) (a : Fin 1024) (b : Fin 1536) : k0_pay3 (F := Ideal) o (ix3 0 a b) = o (ix3 0 a b) := by
  pointwise [k0_pay3]

/-- Loads of whole blocks. -/
theorem ld_a (x : Vec Ideal S2048x1024 .bf16) : View.ld x (Rect.unit ![0, 0] ![2048, 1024] inb_S2048x1024_S2048x1024_0_0) = x := by
  funext j; idx_vars j; pointwise
theorem ld_b (x : Vec Ideal S2048x1536 .bf16) : View.ld x (Rect.unit ![0, 0] ![2048, 1536] inb_S2048x1536_S2048x1536_0_0) = x := by
  funext j; idx_vars j; pointwise
theorem ld_o (x : Vec Ideal S1x1024x1536 .f32) : View.ld x (Rect.unit ![0, 0, 0] ![1, 1024, 1536] inb_S1x1024x1536_S1x1024x1536_0_0_0) = x := by
  funext j; idx_vars j; pointwise
  exact congrArg (fun a => x (ix3 a _ _)) (Subsingleton.elim _ _)

section
variable (c : Dev nD) (i : grid0.Coords) (a1 : Memref sig .tc .vmem S2048x1024 .bf16) (h1 : a1.IsWhole) (a2 : Memref sig .tc .vmem S2048x1536 .bf16) (h2 : a2.IsWhole)
  (a3 : Memref sig .tc .vmem S1x1024x1536 .f32) (h3 : a3.IsWhole) (a4 : Memref sig .tc .vmem S1x1024x1536 .bf16) (h4 : a4.IsWhole)
  (x0 : Vec Ideal S2048x1024 .bf16) (x1 : Vec Ideal S2048x1536 .bf16) (o : Vec Ideal S1x1024x1536 .f32)

theorem sum_first (hc0 : cond0_0 i) (hc1 : ¬cond0_1 i) : out0_A_2 c i a1 h1 a2 h2 a3 h3 a4 h4 hc0 hc1 x0 x1 = k0_pay2 (F := Ideal) (k0_pay1 (F := Ideal)) x0 x1 := by
  unfold out0_A_2
  rw [View.read_writes_eq_canon _ _ _ (cover0_A_2 c i a1 h1 a2 h2 a3 h3 a4 h4 hc0 hc1 x0 x1)]
  unfold kernelRun0_A
  dsimp only
  sl_unfold_words
  simp only [View.readAt_eq_ld, h1.read_unread, h2.read_unread]
  simp (disch := decide) only [↓ View.readCov_skip, ↓ View.readCov_cons_toLoadRect, ↓ View.readCov_fill]
  simp only [ld_a, ld_b]
  exact View.canon_cons_unit_zero hz3 _ _ _

theorem sum_next (hc0 : ¬cond0_0 i) (hc1 : ¬cond0_1 i) : out0_B_2 c i a1 h1 a2 h2 a3 h3 a4 h4 hc0 hc1 x0 x1 o = k0_pay2 (F := Ideal) o x0 x1 := by
  unfold out0_B_2
  rw [View.read_writes_eq_canon _ _ _ (cover0_B_2 c i a1 h1 a2 h2 a3 h3 a4 h4 hc0 hc1 x0 x1 o)]
  unfold kernelRun0_B
  dsimp only
  sl_unfold_words
  simp only [View.readAt_eq_ld, h1.read_unread, h2.read_unread, h3.read_unread]
  simp only [ld_a, ld_b, ld_o]
  exact View.canon_cons_unit_zero hz3 _ _ _

theorem sum_last (hc0 : ¬cond0_0 i) (hc1 : cond0_1 i) : out0_C_2 c i a1 h1 a2 h2 a3 h3 a4 h4 hc0 hc1 x0 x1 o = k0_pay2 (F := Ideal) o x0 x1 := by
  unfold out0_C_2
  rw [View.read_writes_eq_canon _ _ _ (cover0_C_2 c i a1 h1 a2 h2 a3 h3 a4 h4 hc0 hc1 x0 x1 o)]
  unfold kernelRun0_C
  dsimp only
  sl_unfold_words
  simp only [View.readAt_eq_ld, h1.read_unread, h2.read_unread, h3.read_unread]
  simp only [ld_a, ld_b, ld_o]
  exact View.canon_cons_unit_zero hz3 _ _ _

theorem wire_last (hc0 : ¬cond0_0 i) (hc1 : cond0_1 i) : out0_C_3 c i a1 h1 a2 h2 a3 h3 a4 h4 hc0 hc1 x0 x1 o = k0_pay3 (F := Ideal) (k0_pay2 (F := Ideal) o x0 x1) := by
  unfold out0_C_3
  rw [View.read_writes_eq_canon _ _ _ (cover0_C_3 c i a1 h1 a2 h2 a3 h3 a4 h4 hc0 hc1 x0 x1 o)]
  unfold kernelRun0_C
  dsimp only
  sl_unfold_words
  simp only [View.readAt_eq_ld, h1.read_unread, h2.read_unread, h3.read_unread]
  simp (disch := decide) only [↓ View.readCov_skip, ↓ View.readCov_cons_toLoadRect, ↓ View.readCov_fill]
  simp only [ld_a, ld_b, ld_o]
  exact View.canon_cons_unit_zero hz3 _ _ _
end

/-! ## The points' blocks -/

variable (m : (ℓ : Loc nD τ sig) → Buf (Elt Ideal) ℓ) (c : Dev nD)

theorem rows_eq : 8 * 2048 = 16384 := by norm_num
theorem lt_N (g : Fin 4) (s : Fin 8) : 8 * g.val + s.val < cfg0.N := Nat.lt_of_lt_of_eq (Win.pt_lt g s) N_0.symm
/-- Group `g`'s step `s`. -/
abbrev pt (g : Fin 4) (s : Fin 8) : Fin cfg0.N := ⟨8 * g.val + s.val, lt_N g s⟩
abbrev row (s : Fin 8) (r : Fin 2048) : Fin 16384 := Sums.row rows_eq s r

theorem index : ∀ t : Fin cfg0.N, (win0_0.index t 0 = t.val % 8 ∧ win0_0.index t 1 = 0) ∧ (win0_1.index t 0 = t.val % 8 ∧ win0_1.index t 1 = t.val / 8)
    ∧ (win0_2.index t 0 = t.val / 8 ∧ win0_2.index t 1 = 0 ∧ win0_2.index t 2 = 0) ∧ (win0_3.index t 0 = t.val / 8 ∧ win0_3.index t 1 = 0 ∧ win0_3.index t 2 = 0) :=
  (by decide +kernel : ∀ t : Fin grid0.N, (win0_0.index t 0 = t.val % 8 ∧ win0_0.index t 1 = 0) ∧ (win0_1.index t 0 = t.val % 8 ∧ win0_1.index t 1 = t.val / 8)
    ∧ (win0_2.index t 0 = t.val / 8 ∧ win0_2.index t 1 = 0 ∧ win0_2.index t 2 = 0) ∧ (win0_3.index t 0 = t.val / 8 ∧ win0_3.index t 1 = 0 ∧ win0_3.index t 2 = 0))
theorem pt_div (g : Fin 4) (s : Fin 8) : (pt g s).val / 8 = g.val := Win.pt_div g s
theorem pt_mod (g : Fin 4) (s : Fin 8) : (pt g s).val % 8 = s.val := Win.pt_mod g s
theorem exists_pt (t : Fin cfg0.N) : ∃ g s, t = pt g s := by
  obtain ⟨g, s, e⟩ := Win.exists_pt (G := 4) (n := 8) (by decide) (Nat.lt_of_lt_of_eq t.isLt N_0)
  exact ⟨g, s, Fin.ext e⟩

theorem read_h (g : Fin 4) (s : Fin 8) (A : Vec Ideal S16384x1024 .bf16) (r : Fin 2048) (a : Fin 1024) :
    (((cfg0.win 0).blk (pt g s)).view.read (Elt Ideal) A) (ix2 r a) = A (ix2 (row s r) a) := by
  rw [View.read_apply]
  refine congrArg A (funext fun x => Fin.ext ?_)
  match x with
  | ⟨0, _⟩ => show win0_0.index (pt g s) 0 * 2048 + 1 * r.val = 2048 * s.val + r.val; rw [(index _).1.1, pt_mod]; omega
  | ⟨1, _⟩ => show win0_0.index (pt g s) 1 * 1024 + 1 * a.val = a.val; rw [(index _).1.2]; omega

theorem read_dp (g : Fin 4) (s : Fin 8) (A : Vec Ideal S16384x6144 .bf16) (r : Fin 2048) (b : Fin 1536) :
    (((cfg0.win 1).blk (pt g s)).view.read (Elt Ideal) A) (ix2 r b) = A (ix2 (row s r) (Sums.col g b)) := by
  rw [View.read_apply]
  refine congrArg A (funext fun x => Fin.ext ?_)
  match x with
  | ⟨0, _⟩ => show win0_1.index (pt g s) 0 * 2048 + 1 * r.val = 2048 * s.val + r.val; rw [(index _).2.1.1, pt_mod]; omega
  | ⟨1, _⟩ => show win0_1.index (pt g s) 1 * 1536 + 1 * b.val = 1536 * g.val + b.val; rw [(index _).2.1.2, pt_div]; omega

theorem read_sum (g : Fin 4) (s : Fin 8) (A : Vec Ideal S4x1024x1536 .f32) (a : Fin 1024) (b : Fin 1536) :
    (((cfg0.win 2).blk (pt g s)).view.read (Elt Ideal) A) (ix3 0 a b) = A (ix3 g a b) := by
  rw [View.read_apply]
  refine congrArg A (funext fun x => Fin.ext ?_)
  match x with
  | ⟨0, _⟩ => show win0_2.index (pt g s) 0 * 1 + 1 * 0 = g.val; rw [(index _).2.2.1.1, pt_div]; omega
  | ⟨1, _⟩ => show win0_2.index (pt g s) 1 * 1024 + 1 * a.val = a.val; rw [(index _).2.2.1.2.1]; omega
  | ⟨2, _⟩ => show win0_2.index (pt g s) 2 * 1536 + 1 * b.val = b.val; rw [(index _).2.2.1.2.2]; omega

theorem read_wire (g : Fin 4) (s : Fin 8) (A : Vec Ideal S4x1024x1536 .bf16) (a : Fin 1024) (b : Fin 1536) :
    (((cfg0.win 3).blk (pt g s)).view.read (Elt Ideal) A) (ix3 0 a b) = A (ix3 g a b) := by
  rw [View.read_apply]
  refine congrArg A (funext fun x => Fin.ext ?_)
  match x with
  | ⟨0, _⟩ => show win0_3.index (pt g s) 0 * 1 + 1 * 0 = g.val; rw [(index _).2.2.2.1, pt_div]; omega
  | ⟨1, _⟩ => show win0_3.index (pt g s) 1 * 1024 + 1 * a.val = a.val; rw [(index _).2.2.2.2.1]; omega
  | ⟨2, _⟩ => show win0_3.index (pt g s) 2 * 1536 + 1 * b.val = b.val; rw [(index _).2.2.2.2.2]; omega

/-! ## What the run leaves -/

abbrev arg0 : FVec Ideal S16384x1024 .f32 := m ((c : Thread nD τ).loc main_arg0)
abbrev arg1 : FVec Ideal S16384x6144 .f32 := m ((c : Thread nD τ).loc main_arg1)

theorem v0_eq : V m c main_v0 = (truncf .bf16 (arg0 m c) bitsLt_bf16_f32 : FVec Ideal S16384x1024 .bf16) := by
  unfold_abbrev_sides
  after_reads_simp
theorem v1_eq : V m c main_v1 = (truncf .bf16 (arg1 m c) bitsLt_bf16_f32 : FVec Ideal S16384x6144 .bf16) := by
  unfold_abbrev_sides
  after_reads_simp

/-- A token's term of the gradient of the weight. -/
def dw (g : Fin 4) (a : Fin 1024) (b : Fin 1536) (s : Fin 16384) : EReal := arg0 m c (ix2 s a) * arg1 m c (ix2 s (Sums.col g b))

/-- A point's rows. -/
abbrev blkA (t : Fin cfg0.N) : Vec Ideal S2048x1024 .bf16 := iblk m c 0 t
abbrev blkB (t : Fin cfg0.N) : Vec Ideal S2048x1536 .bf16 := iblk m c 1 t

theorem rows_at (g : Fin 4) (s : Fin 8) (a : Fin 1024) (b : Fin 1536) :
    ∑ r, blkA m c (pt g s) (ix2 r a) * blkB m c (pt g s) (ix2 r b) = ∑ r, dw m c g a b (row s r) := by
  refine Finset.sum_congr rfl fun r _ => congrArg₂ (· * ·) ((read_h g s (V m c main_v0) r a).trans ?_) ((read_dp g s (V m c main_v1) r b).trans ?_)
  · rw [v0_eq]
    rfl
  · rw [v1_eq]
    rfl

/-- The sum at point `n`. -/
def sumAt (n : ℕ) (h : n < cfg0.N) : Vec Ideal S1x1024x1536 .f32 := (outsAt0 m c n h).1

theorem sumAt_first (t : Fin cfg0.N) (h0 : t.val % 8 = 0) : sumAt m c t.val t.isLt = k0_pay2 (F := Ideal) (k0_pay1 (F := Ideal)) (blkA m c t) (blkB m c t) := by
  have h1 : ¬t.val % 8 = 7 := by omega
  have e := congrArg Prod.fst (outsAt0_A m c t h0 h1)
  dsimp only at e
  exact e.trans (sum_first ..)

theorem sumAt_next (t : Fin cfg0.N) (h0 : ¬t.val % 8 = 0) : sumAt m c t.val t.isLt =
    k0_pay2 (F := Ideal) (sumAt m c (t.val - 1) (Nat.lt_of_le_of_lt (Nat.sub_le _ _) t.isLt)) (blkA m c t) (blkB m c t) := by
  by_cases h1 : t.val % 8 = 7
  · have e := congrArg Prod.fst (outsAt0_C m c t h0 h1)
    dsimp only at e
    exact e.trans (sum_last ..)
  · have e := congrArg Prod.fst (outsAt0_B m c t h0 h1)
    dsimp only at e
    exact e.trans (sum_next ..)

theorem sumAt_succ (t : Fin cfg0.N) (n : ℕ) (e : t.val = n + 1) (h : n + 1 < cfg0.N) (h0 : ¬t.val % 8 = 0) :
    sumAt m c (n + 1) h = k0_pay2 (F := Ideal) (sumAt m c n (Nat.lt_of_succ_lt h)) (blkA m c t) (blkB m c t) := by
  obtain rfl : t = ⟨n + 1, h⟩ := Fin.ext e
  exact sumAt_next m c ⟨n + 1, h⟩ h0

theorem wireAt (t : Fin cfg0.N) (h1 : t.val % 8 = 7) : (outsAt0 m c t.val t.isLt).2 = k0_pay3 (F := Ideal) (sumAt m c t.val t.isLt) := by
  have h0 : ¬t.val % 8 = 0 := by omega
  rw [sumAt_next m c t h0]
  have e := congrArg Prod.snd (outsAt0_C m c t h0 h1)
  dsimp only at e
  exact e.trans (wire_last ..)

/-- The last step of a group leaves the sum over all the tokens. -/
theorem sumAt_last (g : Fin 4) (s : Fin 8) (hs : s.val + 1 = 8) (a : Fin 1024) (b : Fin 1536) :
    sumAt m c (pt g s).val (pt g s).isLt (ix3 0 a b) = ∑ s, dw m c g a b s := by
  refine Win.last rows_eq (fun n h => sumAt m c n h (ix3 0 a b)) (fun g => dw m c g a b) (fun g s n h e h0 => ?_) (fun g s n h e h0 => ?_) g s hs (lt_N g s)
  · subst e
    refine (congrFun (sumAt_first m c (pt g s) (by rw [pt_mod, h0])) _).trans ((step_at _ _ _ a b).trans ?_)
    rw [zero_at, zero_add]
    exact rows_at m c g s a b
  · refine (congrFun (sumAt_succ m c (pt g s) n e.symm h (by rw [pt_mod]; exact h0)) _).trans ((step_at _ _ _ a b).trans ?_)
    exact congrArg (sumAt m c n (Nat.lt_of_succ_lt h) (ix3 0 a b) + ·) (rows_at m c g s a b)

/-- The gradient of the weight, chip by chip. -/
def endDw : Vec Ideal S4x1024x1536 .f32 := fun j => ∑ s, dw m c (j 0) (j 1) (j 2) s
/-- The copy of it for the exchange. -/
def endWire : Vec Ideal S4x1024x1536 .bf16 := fun j => ∑ s, dw m c (j 0) (j 1) (j 2) s

theorem xsize : ∀ t : Fin cfg0.N, (win0_2.xsize (grid0.coords t) 0 = 1 ∧ win0_2.xsize (grid0.coords t) 1 = 1024 ∧ win0_2.xsize (grid0.coords t) 2 = 1536)
    ∧ (win0_3.xsize (grid0.coords t) 0 = 1 ∧ win0_3.xsize (grid0.coords t) 1 = 1024 ∧ win0_3.xsize (grid0.coords t) 2 = 1536) :=
  (by decide +kernel : ∀ t : Fin grid0.N, (win0_2.xsize (grid0.coords t) 0 = 1 ∧ win0_2.xsize (grid0.coords t) 1 = 1024 ∧ win0_2.xsize (grid0.coords t) 2 = 1536)
    ∧ (win0_3.xsize (grid0.coords t) 0 = 1 ∧ win0_3.xsize (grid0.coords t) 1 = 1024 ∧ win0_3.xsize (grid0.coords t) 2 = 1536))

theorem flushed_dw (t : Fin cfg0.N) (hf : (cfg0.win 2).flush t = true) : (dats m 0 c).flushed 2 t = ((cfg0.win 2).blk t).view.read (Elt Ideal) (endDw m c) := by
  have h3 := (flush0_2 t).mp hf
  obtain ⟨g, s, rfl⟩ := exists_pt t
  rw [pt_mod] at h3
  show (cfg0.win 2).cut (grid0.coords (pt g s)) ((dats m 0 c).after 2 (pt g s)) = _
  rw [after0_2]
  funext j
  obtain ⟨z, a, b, rfl⟩ : ∃ (z : Fin 1) (a : Fin 1024) (b : Fin 1536), j = ix3 z a b := ⟨j 0, j 1, j 2, eq_ix3 j⟩
  obtain rfl : z = 0 := Subsingleton.elim _ _
  exact (sumAt_last m c g s (by omega) a b).trans (read_sum g s (endDw m c) a b).symm

theorem flushed_wire (t : Fin cfg0.N) (hf : (cfg0.win 3).flush t = true) : (dats m 0 c).flushed 3 t = ((cfg0.win 3).blk t).view.read (Elt Ideal) (endWire m c) := by
  have h3 := (flush0_3 t).mp hf
  obtain ⟨g, s, rfl⟩ := exists_pt t
  show (cfg0.win 3).cut (grid0.coords (pt g s)) ((dats m 0 c).after 3 (pt g s)) = _
  rw [after0_3, wireAt m c _ h3]
  rw [pt_mod] at h3
  funext j
  obtain ⟨z, a, b, rfl⟩ : ∃ (z : Fin 1) (a : Fin 1024) (b : Fin 1536), j = ix3 z a b := ⟨j 0, j 1, j 2, eq_ix3 j⟩
  obtain rfl : z = 0 := Subsingleton.elim _ _
  exact ((wire_at _ a b).trans (sumAt_last m c g s (by omega) a b)).trans (read_wire g s (endWire m c) a b).symm

theorem final_dw : (dats m 0 c).arrAt 2 cfg0.N = endDw m c :=
  (dats m 0 c).arrAt_eq_of_cover 2 _ (flushed_dw m c) fun i => by
    refine ⟨pt (i 0) 7, (flush0_2 _).mpr (pt_mod _ _), ?_⟩
    show i ∈ ((View.whole main_v2_0).slice (win0_2.rect (pt (i 0) 7))).set
    rw [View.set_slice_whole, Rect.mem_set_unit]
    exact Win.in_slab (i := fun a => (i a : Nat)) (i 1).isLt (i 2).isLt ⟨(index (pt (i 0) 7)).2.2.1.1.trans (pt_div _ _), (index (pt (i 0) 7)).2.2.1.2⟩ (xsize _).1

theorem final_wire : (dats m 0 c).arrAt 3 cfg0.N = endWire m c :=
  (dats m 0 c).arrAt_eq_of_cover 3 _ (flushed_wire m c) fun i => by
    refine ⟨pt (i 0) 7, (flush0_3 _).mpr (pt_mod _ _), ?_⟩
    show i ∈ ((View.whole main_v2_1).slice (win0_3.rect (pt (i 0) 7))).set
    rw [View.set_slice_whole, Rect.mem_set_unit]
    exact Win.in_slab (i := fun a => (i a : Nat)) (i 1).isLt (i 2).isLt ⟨(index (pt (i 0) 7)).2.2.2.1.trans (pt_div _ _), (index (pt (i 0) 7)).2.2.2.2⟩ (xsize _).2

/-! ## The reference's results -/

theorem reference_at (x0 : FVec Ideal S16384x1024 .f32) (x1 : FVec Ideal S16384x6144 .f32) (g : Fin 4) (a : Fin 1024) (b : Fin 1536) :
    Cert.WinRef0Ideal.Read.val_main_v5 (F := Ideal) x0 x1 (ix3 g a b) = ∑ s, x0 (ix2 s a) * x1 (ix2 s (Sums.col g b)) := by
  pointwise [Cert.WinRef0Ideal.Read.val_main_v5, Cert.WinRef0Ideal.Read.val_main_v4, Cert.WinRef0Ideal.Read.val_main_v3, Cert.WinRef0Ideal.Read.val_main_v2]
  refine Finset.sum_congr rfl fun s _ => (mul_comm _ _).trans (congrArg (fun q => x0 (ix2 s a) * x1 (ix2 s q)) (Fin.ext ?_))
  exact congrArg (· + b.val) (Nat.mul_comm _ _)

theorem endDw_eq : endDw m c = Cert.WinRef0Ideal.Read.val_main_v5 (F := Ideal) (arg0 m c) (arg1 m c) := funext fun j => by
  obtain ⟨g, a, b, rfl⟩ : ∃ (g : Fin 4) (a : Fin 1024) (b : Fin 1536), j = ix3 g a b := ⟨j 0, j 1, j 2, eq_ix3 j⟩
  exact (reference_at _ _ g a b).symm

theorem endWire_eq : endWire m c = Cert.WinRef0Ideal.Read.val_main_v6 (F := Ideal) (arg0 m c) (arg1 m c) := funext fun j => by
  obtain ⟨g, a, b, rfl⟩ : ∃ (g : Fin 4) (a : Fin 1024) (b : Fin 1536), j = ix3 g a b := ⟨j 0, j 1, j 2, eq_ix3 j⟩
  exact (reference_at _ _ g a b).symm

end Cert.Win0Ideal.Point

end
-- ==== Proof.Wo.lean ====
/-
  The last step of the output weight's gradient: the arrays the call's run ends with are the reference's results.
-/
module

public import proofs.«01_k».proof.Proof.Win
public import proofs.«01_k».proof.Proof.Slabs
public import proofs.«01_k».proof.Proof.Gen.WoIdeal.Value
public import proofs.«01_k».proof.Proof.Gen.WoRefIdeal.Read
public import Idealize.ShloMosaic.Lib.StableHlo.RunRead
public import Idealize.ShloMosaic.Lib.Claim

@[expose] public section

set_option maxRecDepth 16384

noncomputable section

namespace Cert.WoIdeal.Point

open Idealize.ShloMosaic Idealize.ShloMosaic.TcCoe Idealize.SL.Sem Cert.WoIdeal Cert.WoIdeal.Gen
open Idealize.ShloMosaic.Pipeline (Dat)
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-! ## One step -/

theorem dw_at (x0 : Vec Ideal S1x512x1024 .f32) (x2 : Vec Ideal S1x1024 .f32) (r : Fin 512) (x : Fin 1024) :
    k0_pay4 (F := Ideal) x0 x2 (ix3 0 r x) = x0 (ix3 0 r x) * x2 (ix2 0 x) := by
  pointwise [k0_pay4, k0_pay3, k0_pay2]
theorem wire_at (x0 : Vec Ideal S1x512x1024 .f32) (x2 : Vec Ideal S1x1024 .f32) (r : Fin 512) (x : Fin 1024) :
    k0_pay5 (F := Ideal) x0 x2 (ix3 0 r x) = x0 (ix3 0 r x) * x2 (ix2 0 x) := by
  pointwise [k0_pay5, k0_pay3, k0_pay2]
theorem zero_at (x : Fin 1024) : k0_pay1 (F := Ideal) (ix2 0 x) = 0 := by
  pointwise [k0_pay1]
theorem sum_at (x0 : Vec Ideal S1x512x1024 .f32) (o : Vec Ideal S1x1024 .f32) (x1 : Vec Ideal S1x512x1024 .bf16) (x : Fin 1024) :
    k0_pay6 (F := Ideal) x0 o x1 (ix2 0 x) = o (ix2 0 x) + ∑ r, x0 (ix3 0 r x) * x1 (ix3 0 r x) := by
  pointwise [k0_pay6, k0_pay2]

/-- Loads of whole blocks. -/
theorem ld_slab (x : Vec Ideal S1x512x1024 .f32) : View.ld x (Rect.unit ![0, 0, 0] ![1, 512, 1024] inb_S1x512x1024_S1x512x1024_0_0_0) = x := by
  funext j; idx_vars j; pointwise
  exact congrArg (fun a => x (ix3 a _ _)) (Subsingleton.elim _ _)
theorem ld_slab_w (x : Vec Ideal S1x512x1024 .bf16) : View.ld x (Rect.unit ![0, 0, 0] ![1, 512, 1024] inb_S1x512x1024_S1x512x1024_0_0_0) = x := by
  funext j; idx_vars j; pointwise
  exact congrArg (fun a => x (ix3 a _ _)) (Subsingleton.elim _ _)
theorem ld_vec (x : Vec Ideal S1x1024 .f32) : View.ld x (Rect.unit ![0, 0] ![1, 1024] inb_S1x1024_S1x1024_0_0) = x := by
  funext j; idx_vars j; pointwise
  exact congrArg (fun a => x (ix2 a _)) (Subsingleton.elim _ _)

section
variable (c : Dev nD) (i : grid0.Coords) (a1 : Memref sig .tc .vmem S1x512x1024 .f32) (h1 : a1.IsWhole) (a2 : Memref sig .tc .vmem S1x512x1024 .bf16) (h2 : a2.IsWhole)
  (a3 : Memref sig .tc .vmem S1x1024 .f32) (h3 : a3.IsWhole) (a4 : Memref sig .tc .vmem S1x512x1024 .f32) (h4 : a4.IsWhole)
  (a5 : Memref sig .tc .vmem S1x512x1024 .bf16) (h5 : a5.IsWhole) (a6 : Memref sig .tc .vmem S1x1024 .f32) (h6 : a6.IsWhole)
  (x0 : Vec Ideal S1x512x1024 .f32) (x1 : Vec Ideal S1x512x1024 .bf16) (x2 : Vec Ideal S1x1024 .f32) (o : Vec Ideal S1x1024 .f32)

theorem dw_first (hc0 : cond0_0 i) : out0_A_3 c i a1 h1 a2 h2 a3 h3 a4 h4 a5 h5 a6 h6 hc0 x0 x1 x2 = k0_pay4 (F := Ideal) x0 x2 := by
  unfold out0_A_3
  rw [View.read_writes_eq_canon _ _ _ (cover0_A_3 c i a1 h1 a2 h2 a3 h3 a4 h4 a5 h5 a6 h6 hc0 x0 x1 x2)]
  unfold kernelRun0_A
  dsimp only
  sl_unfold_words
  simp only [View.readAt_eq_ld, h1.read_unread, h3.read_unread, ld_slab, ld_vec]
  exact View.canon_cons_unit_zero hz3 _ _ _

theorem dw_next (hc0 : ¬cond0_0 i) : out0_B_3 c i a1 h1 a2 h2 a3 h3 a4 h4 a5 h5 a6 h6 hc0 x0 x1 x2 o = k0_pay4 (F := Ideal) x0 x2 := by
  unfold out0_B_3
  rw [View.read_writes_eq_canon _ _ _ (cover0_B_3 c i a1 h1 a2 h2 a3 h3 a4 h4 a5 h5 a6 h6 hc0 x0 x1 x2 o)]
  unfold kernelRun0_B
  dsimp only
  sl_unfold_words
  simp only [View.readAt_eq_ld, h1.read_unread, h3.read_unread, ld_slab, ld_vec]
  exact View.canon_cons_unit_zero hz3 _ _ _

theorem wire_first (hc0 : cond0_0 i) : out0_A_4 c i a1 h1 a2 h2 a3 h3 a4 h4 a5 h5 a6 h6 hc0 x0 x1 x2 = k0_pay5 (F := Ideal) x0 x2 := by
  unfold out0_A_4
  rw [View.read_writes_eq_canon _ _ _ (cover0_A_4 c i a1 h1 a2 h2 a3 h3 a4 h4 a5 h5 a6 h6 hc0 x0 x1 x2)]
  unfold kernelRun0_A
  dsimp only
  sl_unfold_words
  simp only [View.readAt_eq_ld, h1.read_unread, h3.read_unread, ld_slab, ld_vec]
  exact View.canon_cons_unit_zero hz3 _ _ _

theorem wire_next (hc0 : ¬cond0_0 i) : out0_B_4 c i a1 h1 a2 h2 a3 h3 a4 h4 a5 h5 a6 h6 hc0 x0 x1 x2 o = k0_pay5 (F := Ideal) x0 x2 := by
  unfold out0_B_4
  rw [View.read_writes_eq_canon _ _ _ (cover0_B_4 c i a1 h1 a2 h2 a3 h3 a4 h4 a5 h5 a6 h6 hc0 x0 x1 x2 o)]
  unfold kernelRun0_B
  dsimp only
  sl_unfold_words
  simp only [View.readAt_eq_ld, h1.read_unread, h3.read_unread, ld_slab, ld_vec]
  exact View.canon_cons_unit_zero hz3 _ _ _

theorem sum_first (hc0 : cond0_0 i) : out0_A_5 c i a1 h1 a2 h2 a3 h3 a4 h4 a5 h5 a6 h6 hc0 x0 x1 x2 = k0_pay6 (F := Ideal) x0 (k0_pay1 (F := Ideal)) x1 := by
  unfold out0_A_5
  rw [View.read_writes_eq_canon _ _ _ (cover0_A_5 c i a1 h1 a2 h2 a3 h3 a4 h4 a5 h5 a6 h6 hc0 x0 x1 x2)]
  unfold kernelRun0_A
  dsimp only
  sl_unfold_words
  simp only [View.readAt_eq_ld, h1.read_unread, h2.read_unread]
  simp (disch := decide) only [↓ View.readCov_skip, ↓ View.readCov_cons_toLoadRect, ↓ View.readCov_fill]
  simp only [ld_slab, ld_slab_w]
  exact View.canon_cons_unit_zero hz2 _ _ _

theorem sum_next (hc0 : ¬cond0_0 i) : out0_B_5 c i a1 h1 a2 h2 a3 h3 a4 h4 a5 h5 a6 h6 hc0 x0 x1 x2 o = k0_pay6 (F := Ideal) x0 o x1 := by
  unfold out0_B_5
  rw [View.read_writes_eq_canon _ _ _ (cover0_B_5 c i a1 h1 a2 h2 a3 h3 a4 h4 a5 h5 a6 h6 hc0 x0 x1 x2 o)]
  unfold kernelRun0_B
  dsimp only
  sl_unfold_words
  simp only [View.readAt_eq_ld, h1.read_unread, h2.read_unread, h6.read_unread]
  simp only [ld_slab, ld_slab_w, ld_vec]
  exact View.canon_cons_unit_zero hz2 _ _ _
end

/-! ## The points' blocks -/

variable (m : (ℓ : Loc nD τ sig) → Buf (Elt Ideal) ℓ) (c : Dev nD)

theorem rows_eq : 4 * 512 = 2048 := by norm_num
/-- Chip `g`'s step. -/
abbrev pt (g : Fin 4) : Fin cfg0.N := ⟨g.val, Nat.lt_of_lt_of_eq g.isLt N_0.symm⟩
theorem pt_val (g : Fin 4) : (pt g).val = g.val := rfl
theorem exists_pt (t : Fin cfg0.N) : ∃ g, t = pt g := ⟨⟨t.val, Nat.lt_of_lt_of_eq t.isLt N_0⟩, rfl⟩
theorem first_pt (g : Fin 4) (h : g.val = 0) : (pt g).val % 4 = 0 := by show g.val % 4 = 0; omega
theorem next_pt (g : Fin 4) (h : g.val ≠ 0) : ¬(pt g).val % 4 = 0 := by show ¬g.val % 4 = 0; omega

theorem index : ∀ t : Fin cfg0.N, (win0_0.index t 0 = t.val ∧ win0_0.index t 1 = 0 ∧ win0_0.index t 2 = 0) ∧ (win0_1.index t 0 = t.val ∧ win0_1.index t 1 = 0 ∧ win0_1.index t 2 = 0)
    ∧ (win0_3.index t 0 = t.val ∧ win0_3.index t 1 = 0 ∧ win0_3.index t 2 = 0) ∧ (win0_4.index t 0 = t.val ∧ win0_4.index t 1 = 0 ∧ win0_4.index t 2 = 0)
    ∧ (win0_2.index t 0 = 0 ∧ win0_2.index t 1 = 0) ∧ (win0_5.index t 0 = 0 ∧ win0_5.index t 1 = 0) :=
  (by decide +kernel : ∀ t : Fin grid0.N, (win0_0.index t 0 = t.val ∧ win0_0.index t 1 = 0 ∧ win0_0.index t 2 = 0) ∧ (win0_1.index t 0 = t.val ∧ win0_1.index t 1 = 0 ∧ win0_1.index t 2 = 0)
    ∧ (win0_3.index t 0 = t.val ∧ win0_3.index t 1 = 0 ∧ win0_3.index t 2 = 0) ∧ (win0_4.index t 0 = t.val ∧ win0_4.index t 1 = 0 ∧ win0_4.index t 2 = 0)
    ∧ (win0_2.index t 0 = 0 ∧ win0_2.index t 1 = 0) ∧ (win0_5.index t 0 = 0 ∧ win0_5.index t 1 = 0))

theorem read_mt (g : Fin 4) (A : Vec Ideal S4x512x1024 .f32) (r : Fin 512) (x : Fin 1024) :
    (((cfg0.win 0).blk (pt g)).view.read (Elt Ideal) A) (ix3 0 r x) = A (ix3 g r x) := by
  rw [View.read_apply]
  refine congrArg A (funext fun a => Fin.ext ?_)
  match a with
  | ⟨0, _⟩ => show win0_0.index (pt g) 0 * 1 + 1 * 0 = g.val; rw [(index _).1.1, pt_val]; omega
  | ⟨1, _⟩ => show win0_0.index (pt g) 1 * 512 + 1 * r.val = r.val; rw [(index _).1.2.1]; omega
  | ⟨2, _⟩ => show win0_0.index (pt g) 2 * 1024 + 1 * x.val = x.val; rw [(index _).1.2.2]; omega

theorem read_w (g : Fin 4) (A : Vec Ideal S4x512x1024 .bf16) (r : Fin 512) (x : Fin 1024) :
    (((cfg0.win 1).blk (pt g)).view.read (Elt Ideal) A) (ix3 0 r x) = A (ix3 g r x) := by
  rw [View.read_apply]
  refine congrArg A (funext fun a => Fin.ext ?_)
  match a with
  | ⟨0, _⟩ => show win0_1.index (pt g) 0 * 1 + 1 * 0 = g.val; rw [(index _).2.1.1, pt_val]; omega
  | ⟨1, _⟩ => show win0_1.index (pt g) 1 * 512 + 1 * r.val = r.val; rw [(index _).2.1.2.1]; omega
  | ⟨2, _⟩ => show win0_1.index (pt g) 2 * 1024 + 1 * x.val = x.val; rw [(index _).2.1.2.2]; omega

theorem read_gate (g : Fin 4) (A : Vec Ideal S1x1024 .f32) (x : Fin 1024) :
    (((cfg0.win 2).blk (pt g)).view.read (Elt Ideal) A) (ix2 0 x) = A (ix2 0 x) := by
  rw [View.read_apply]
  refine congrArg A (funext fun a => Fin.ext ?_)
  match a with
  | ⟨0, _⟩ => show win0_2.index (pt g) 0 * 1 + 1 * 0 = 0; rw [(index _).2.2.2.2.1.1]
  | ⟨1, _⟩ => show win0_2.index (pt g) 1 * 1024 + 1 * x.val = x.val; rw [(index _).2.2.2.2.1.2]; omega

theorem read_dw (g : Fin 4) (A : Vec Ideal S4x512x1024 .f32) (r : Fin 512) (x : Fin 1024) :
    (((cfg0.win 3).blk (pt g)).view.read (Elt Ideal) A) (ix3 0 r x) = A (ix3 g r x) := by
  rw [View.read_apply]
  refine congrArg A (funext fun a => Fin.ext ?_)
  match a with
  | ⟨0, _⟩ => show win0_3.index (pt g) 0 * 1 + 1 * 0 = g.val; rw [(index _).2.2.1.1, pt_val]; omega
  | ⟨1, _⟩ => show win0_3.index (pt g) 1 * 512 + 1 * r.val = r.val; rw [(index _).2.2.1.2.1]; omega
  | ⟨2, _⟩ => show win0_3.index (pt g) 2 * 1024 + 1 * x.val = x.val; rw [(index _).2.2.1.2.2]; omega

theorem read_wire (g : Fin 4) (A : Vec Ideal S4x512x1024 .bf16) (r : Fin 512) (x : Fin 1024) :
    (((cfg0.win 4).blk (pt g)).view.read (Elt Ideal) A) (ix3 0 r x) = A (ix3 g r x) := by
  rw [View.read_apply]
  refine congrArg A (funext fun a => Fin.ext ?_)
  match a with
  | ⟨0, _⟩ => show win0_4.index (pt g) 0 * 1 + 1 * 0 = g.val; rw [(index _).2.2.2.1.1, pt_val]; omega
  | ⟨1, _⟩ => show win0_4.index (pt g) 1 * 512 + 1 * r.val = r.val; rw [(index _).2.2.2.1.2.1]; omega
  | ⟨2, _⟩ => show win0_4.index (pt g) 2 * 1024 + 1 * x.val = x.val; rw [(index _).2.2.2.1.2.2]; omega

theorem read_sum (g : Fin 4) (A : Vec Ideal S1x1024 .f32) (x : Fin 1024) :
    (((cfg0.win 5).blk (pt g)).view.read (Elt Ideal) A) (ix2 0 x) = A (ix2 0 x) := by
  rw [View.read_apply]
  refine congrArg A (funext fun a => Fin.ext ?_)
  match a with
  | ⟨0, _⟩ => show win0_5.index (pt g) 0 * 1 + 1 * 0 = 0; rw [(index _).2.2.2.2.2.1]
  | ⟨1, _⟩ => show win0_5.index (pt g) 1 * 1024 + 1 * x.val = x.val; rw [(index _).2.2.2.2.2.2]; omega

/-! ## What the run leaves -/

abbrev arg0 : FVec Ideal S4x512x1024 .f32 := m ((c : Thread nD τ).loc main_arg0)
abbrev arg1 : FVec Ideal S2048x1024 .f32 := m ((c : Thread nD τ).loc main_arg1)
abbrev arg2 : FVec Ideal S1x1024 .f32 := m ((c : Thread nD τ).loc main_arg2)

theorem v1_eq : V m c main_v1 = shapeCast S4x512x1024 (truncf .bf16 (arg1 m c) bitsLt_bf16_f32 : FVec Ideal S2048x1024 .bf16) shapeCasts_S2048x1024_S4x512x1024 := by
  unfold_abbrev_sides
  after_reads_simp
  rfl
theorem a0_eq : V m c main_arg0 = arg0 m c := by
  unfold_abbrev_sides
  after_reads_simp
theorem a2_eq : V m c main_arg2 = arg2 m c := by
  unfold_abbrev_sides
  after_reads_simp

/-- Row `r` of chip `g`'s block. -/
abbrev row (g : Fin 4) (r : Fin 512) : Fin 2048 := Sums.row rows_eq g r

theorem row_eq (g : Fin 4) (r : Fin 512) (h : g.val * 512 + r.val < 2048) : (⟨g.val * 512 + r.val, h⟩ : Fin 2048) = row g r :=
  Fin.ext (congrArg (· + r.val) (Nat.mul_comm _ _))

theorem split_at (w : FVec Ideal S2048x1024 .f32) (g : Fin 4) (r : Fin 512) (x : Fin 1024) :
    shapeCast S4x512x1024 (truncf .bf16 w bitsLt_bf16_f32 : FVec Ideal S2048x1024 .bf16) shapeCasts_S2048x1024_S4x512x1024 (ix3 g r x) = w (ix2 (row g r) x) := by
  pointwise
  rw [row_eq]

/-- A point's blocks. -/
abbrev blkM (t : Fin cfg0.N) : Vec Ideal S1x512x1024 .f32 := iblk m c 0 t
abbrev blkW (t : Fin cfg0.N) : Vec Ideal S1x512x1024 .bf16 := iblk m c 1 t
abbrev blkG (t : Fin cfg0.N) : Vec Ideal S1x1024 .f32 := iblk m c 2 t

theorem blkM_at (g : Fin 4) (r : Fin 512) (x : Fin 1024) : blkM m c (pt g) (ix3 0 r x) = arg0 m c (ix3 g r x) := by
  refine (read_mt g (V m c main_arg0) r x).trans ?_
  rw [a0_eq]
theorem blkW_at (g : Fin 4) (r : Fin 512) (x : Fin 1024) : blkW m c (pt g) (ix3 0 r x) = arg1 m c (ix2 (row g r) x) := by
  refine (read_w g (V m c main_v1) r x).trans ?_
  rw [v1_eq]
  exact split_at _ g r x
theorem blkG_at (g : Fin 4) (x : Fin 1024) : blkG m c (pt g) (ix2 0 x) = arg2 m c (ix2 0 x) := by
  refine (read_gate g (V m c main_arg2) x).trans ?_
  rw [a2_eq]

/-- The gradient of the output weight at a place. -/
def dw (g : Fin 4) (r : Fin 512) (x : Fin 1024) : EReal := arg0 m c (ix3 g r x) * arg2 m c (ix2 0 x)
/-- A row's term of the gradient of the gate. -/
def dg (g : Fin 4) (r : Fin 512) (x : Fin 1024) : EReal := arg0 m c (ix3 g r x) * arg1 m c (ix2 (row g r) x)

theorem dwAt (g : Fin 4) : (outsAt0 m c (pt g).val (pt g).isLt).1 = k0_pay4 (F := Ideal) (blkM m c (pt g)) (blkG m c (pt g)) := by
  by_cases h : g.val = 0
  · have e := congrArg Prod.fst (outsAt0_A m c (pt g) (first_pt g h))
    dsimp only at e
    exact e.trans (dw_first ..)
  · have e := congrArg Prod.fst (outsAt0_B m c (pt g) (next_pt g h))
    dsimp only at e
    exact e.trans (dw_next ..)

theorem wireAt (g : Fin 4) : (outsAt0 m c (pt g).val (pt g).isLt).2.1 = k0_pay5 (F := Ideal) (blkM m c (pt g)) (blkG m c (pt g)) := by
  by_cases h : g.val = 0
  · have e := congrArg (fun q => q.2.1) (outsAt0_A m c (pt g) (first_pt g h))
    dsimp only at e
    exact e.trans (wire_first ..)
  · have e := congrArg (fun q => q.2.1) (outsAt0_B m c (pt g) (next_pt g h))
    dsimp only at e
    exact e.trans (wire_next ..)

/-- The gate's gradient as it stands after point `n`. -/
def sumAt (n : ℕ) (h : n < cfg0.N) : Vec Ideal S1x1024 .f32 := (outsAt0 m c n h).2.2

theorem rows_at (g : Fin 4) (x : Fin 1024) : ∑ r, blkM m c (pt g) (ix3 0 r x) * blkW m c (pt g) (ix3 0 r x) = ∑ r, dg m c g r x :=
  Finset.sum_congr rfl fun r _ => congrArg₂ (· * ·) (blkM_at m c g r x) (blkW_at m c g r x)

theorem sumAt_first (g : Fin 4) (h : g.val = 0) (x : Fin 1024) : sumAt m c (pt g).val (pt g).isLt (ix2 0 x) = ∑ r, dg m c g r x := by
  have e := congrArg (fun q => q.2.2) (outsAt0_A m c (pt g) (first_pt g h))
  dsimp only at e
  refine (congrFun (e.trans (sum_first ..)) _).trans ((sum_at _ _ _ x).trans ?_)
  rw [zero_at, zero_add]
  exact rows_at m c g x

theorem sumAt_next (g : Fin 4) (n : ℕ) (hn : n + 1 = g.val) (h : n + 1 < cfg0.N) (x : Fin 1024) :
    sumAt m c (n + 1) h (ix2 0 x) = sumAt m c n (Nat.lt_of_succ_lt h) (ix2 0 x) + ∑ r, dg m c g r x := by
  obtain ⟨k, hk⟩ := g
  obtain rfl : n + 1 = k := hn
  have e := congrArg (fun q => q.2.2) (outsAt0_B m c (pt ⟨n + 1, hk⟩) (next_pt _ (Nat.succ_ne_zero n)))
  dsimp only at e
  refine (congrFun (e.trans (sum_next ..)) _).trans ((sum_at _ _ _ x).trans ?_)
  exact congrArg (sumAt m c n (Nat.lt_of_succ_lt h) (ix2 0 x) + ·) (rows_at m c ⟨n + 1, hk⟩ x)

theorem sumAt_last (g : Fin 4) (hg : g.val = 3) (x : Fin 1024) : sumAt m c (pt g).val (pt g).isLt (ix2 0 x) = ∑ g, ∑ r, dg m c g r x := by
  have e := Sums.runs (G := 1) (ns := 4) (fun n h => sumAt m c n h (ix2 0 x)) (fun _ g => ∑ r, dg m c g r x)
    (fun _ g n h e h0 => by
      obtain rfl : n = (pt g).val := by rw [e]; show 4 * (_ : Fin 1).val + g.val = g.val; omega
      exact sumAt_first m c g h0 x)
    (fun _ g n h e _ => sumAt_next m c g n (by omega) h x) 0 3 (by decide) (pt g).val (pt g).isLt hg
  exact e.trans (Sums.part_all _)

/-- The gradient of the output weight, chip by chip. -/
def endDw : Vec Ideal S4x512x1024 .f32 := fun j => dw m c (j 0) (j 1) (j 2)
/-- The copy of it for the exchange. -/
def endWire : Vec Ideal S4x512x1024 .bf16 := fun j => dw m c (j 0) (j 1) (j 2)
/-- The gradient of the gate. -/
def endDg : Vec Ideal S1x1024 .f32 := fun j => ∑ g, ∑ r, dg m c g r (j 1)

theorem xsize : ∀ t : Fin cfg0.N, (win0_3.xsize (grid0.coords t) 0 = 1 ∧ win0_3.xsize (grid0.coords t) 1 = 512 ∧ win0_3.xsize (grid0.coords t) 2 = 1024)
    ∧ (win0_4.xsize (grid0.coords t) 0 = 1 ∧ win0_4.xsize (grid0.coords t) 1 = 512 ∧ win0_4.xsize (grid0.coords t) 2 = 1024)
    ∧ (win0_5.xsize (grid0.coords t) 0 = 1 ∧ win0_5.xsize (grid0.coords t) 1 = 1024) :=
  (by decide +kernel : ∀ t : Fin grid0.N, (win0_3.xsize (grid0.coords t) 0 = 1 ∧ win0_3.xsize (grid0.coords t) 1 = 512 ∧ win0_3.xsize (grid0.coords t) 2 = 1024)
    ∧ (win0_4.xsize (grid0.coords t) 0 = 1 ∧ win0_4.xsize (grid0.coords t) 1 = 512 ∧ win0_4.xsize (grid0.coords t) 2 = 1024)
    ∧ (win0_5.xsize (grid0.coords t) 0 = 1 ∧ win0_5.xsize (grid0.coords t) 1 = 1024))

theorem flushed_dw (t : Fin cfg0.N) (_ : (cfg0.win 3).flush t = true) : (dats m 0 c).flushed 3 t = ((cfg0.win 3).blk t).view.read (Elt Ideal) (endDw m c) := by
  obtain ⟨g, rfl⟩ := exists_pt t
  show (cfg0.win 3).cut (grid0.coords (pt g)) ((dats m 0 c).after 3 (pt g)) = _
  rw [after0_3, dwAt]
  funext j
  obtain ⟨z, r, x, rfl⟩ : ∃ (z : Fin 1) (r : Fin 512) (x : Fin 1024), j = ix3 z r x := ⟨j 0, j 1, j 2, eq_ix3 j⟩
  obtain rfl : z = 0 := Subsingleton.elim _ _
  exact ((dw_at _ _ r x).trans (congrArg₂ (· * ·) (blkM_at m c g r x) (blkG_at m c g x))).trans (read_dw g (endDw m c) r x).symm

theorem flushed_wire (t : Fin cfg0.N) (_ : (cfg0.win 4).flush t = true) : (dats m 0 c).flushed 4 t = ((cfg0.win 4).blk t).view.read (Elt Ideal) (endWire m c) := by
  obtain ⟨g, rfl⟩ := exists_pt t
  show (cfg0.win 4).cut (grid0.coords (pt g)) ((dats m 0 c).after 4 (pt g)) = _
  rw [after0_4, wireAt]
  funext j
  obtain ⟨z, r, x, rfl⟩ : ∃ (z : Fin 1) (r : Fin 512) (x : Fin 1024), j = ix3 z r x := ⟨j 0, j 1, j 2, eq_ix3 j⟩
  obtain rfl : z = 0 := Subsingleton.elim _ _
  exact ((wire_at _ _ r x).trans (congrArg₂ (· * ·) (blkM_at m c g r x) (blkG_at m c g x))).trans (read_wire g (endWire m c) r x).symm

theorem flushed_dg (t : Fin cfg0.N) (hf : (cfg0.win 5).flush t = true) : (dats m 0 c).flushed 5 t = ((cfg0.win 5).blk t).view.read (Elt Ideal) (endDg m c) := by
  have h3 := (flush0_5 t).mp hf
  obtain ⟨g, rfl⟩ := exists_pt t
  show (cfg0.win 5).cut (grid0.coords (pt g)) ((dats m 0 c).after 5 (pt g)) = _
  rw [after0_5]
  funext j
  obtain ⟨z, x, rfl⟩ : ∃ (z : Fin 1) (x : Fin 1024), j = ix2 z x := ⟨j 0, j 1, eq_ix2 j⟩
  obtain rfl : z = 0 := Subsingleton.elim _ _
  exact (sumAt_last m c g (by rw [pt_val] at h3; omega) x).trans (read_sum g (endDg m c) x).symm

theorem final_dw : (dats m 0 c).arrAt 3 cfg0.N = endDw m c :=
  (dats m 0 c).arrAt_eq_of_cover 3 _ (flushed_dw m c) fun i => by
    refine ⟨pt (i 0), flush0_3 _, ?_⟩
    show i ∈ ((View.whole main_v2_0).slice (win0_3.rect (pt (i 0)))).set
    rw [View.set_slice_whole, Rect.mem_set_unit]
    exact Win.in_slab (i := fun a => (i a : Nat)) (i 1).isLt (i 2).isLt (index (pt (i 0))).2.2.1 (xsize _).1

theorem final_wire : (dats m 0 c).arrAt 4 cfg0.N = endWire m c :=
  (dats m 0 c).arrAt_eq_of_cover 4 _ (flushed_wire m c) fun i => by
    refine ⟨pt (i 0), flush0_4 _, ?_⟩
    show i ∈ ((View.whole main_v2_1).slice (win0_4.rect (pt (i 0)))).set
    rw [View.set_slice_whole, Rect.mem_set_unit]
    exact Win.in_slab (i := fun a => (i a : Nat)) (i 1).isLt (i 2).isLt (index (pt (i 0))).2.2.2.1 (xsize _).2.1

theorem final_dg : (dats m 0 c).arrAt 5 cfg0.N = endDg m c :=
  (dats m 0 c).arrAt_eq_of_cover 5 _ (flushed_dg m c) fun i => by
    refine ⟨pt 3, (flush0_5 _).mpr (by rw [pt_val]; rfl), ?_⟩
    show i ∈ ((View.whole main_v2_2).slice (win0_5.rect (pt 3))).set
    rw [View.set_slice_whole, Rect.mem_set_unit]
    have h0 : (i 0 : Nat) < 1 := (i 0).isLt
    have h1 : (i 1 : Nat) < 1024 := (i 1).isLt
    intro a
    match a with
    | ⟨0, _⟩ => show win0_5.index (pt 3) 0 * 1 ≤ (i 0 : Nat) ∧ (i 0 : Nat) < win0_5.index (pt 3) 0 * 1 + win0_5.xsize (grid0.coords (pt 3)) 0
                rw [(index _).2.2.2.2.2.1, (xsize _).2.2.1]; omega
    | ⟨1, _⟩ => show win0_5.index (pt 3) 1 * 1024 ≤ (i 1 : Nat) ∧ (i 1 : Nat) < win0_5.index (pt 3) 1 * 1024 + win0_5.xsize (grid0.coords (pt 3)) 1
                rw [(index _).2.2.2.2.2.2, (xsize _).2.2.2]; omega

/-! ## The reference's results -/

theorem ref_dw_at (x0 : FVec Ideal S4x512x1024 .f32) (x2 : FVec Ideal S1x1024 .f32) (g : Fin 4) (r : Fin 512) (x : Fin 1024) :
    Cert.WoRefIdeal.Read.val_main_v8 (F := Ideal) x0 x2 (ix3 g r x) = x0 (ix3 g r x) * x2 (ix2 0 x) := by
  pointwise [Cert.WoRefIdeal.Read.val_main_v8, Cert.WoRefIdeal.Read.val_main_v4, Cert.WoRefIdeal.Read.val_main_v3, Cert.WoRefIdeal.Read.val_main_v2]
  exact mul_comm _ _

theorem ref_sum_at (x0 : FVec Ideal S4x512x1024 .f32) (x1 : FVec Ideal S2048x1024 .f32) (x : Fin 1024) :
    Cert.WoRefIdeal.Read.val_main_v7 (F := Ideal) x0 x1 (ix2 0 x) = ∑ g : Fin 4, ∑ r : Fin 512, x0 (ix3 g r x) * x1 (ix2 (row g r) x) := by
  pointwise [Cert.WoRefIdeal.Read.val_main_v7, Cert.WoRefIdeal.Read.val_main_v6, Cert.WoRefIdeal.Read.val_main_v5, Cert.WoRefIdeal.Read.val_main_v2, Cert.WoRefIdeal.Read.val_main_cst]
  rw [← Sums.sum_blocks rows_eq]
  refine Finset.sum_congr rfl fun g _ => Finset.sum_congr rfl fun r _ => congrArg (· * x1 (ix2 (row g r) x)) ?_
  have e : 512 * g.val + r.val = (row g r).val := rfl
  refine congrArg₂ (fun a b => x0 (ix3 a b x)) (Fin.ext ?_) (Fin.ext ?_)
  · show (512 * g.val + r.val) / 512 = g.val; omega
  · show (512 * g.val + r.val) % 512 = r.val; omega

theorem endDw_eq : endDw m c = Cert.WoRefIdeal.Read.val_main_v8 (F := Ideal) (arg0 m c) (arg2 m c) := funext fun j => by
  obtain ⟨g, r, x, rfl⟩ : ∃ (g : Fin 4) (r : Fin 512) (x : Fin 1024), j = ix3 g r x := ⟨j 0, j 1, j 2, eq_ix3 j⟩
  exact (ref_dw_at _ _ g r x).symm

theorem endWire_eq : endWire m c = Cert.WoRefIdeal.Read.val_main_v9 (F := Ideal) (arg0 m c) (arg2 m c) := funext fun j => by
  obtain ⟨g, r, x, rfl⟩ : ∃ (g : Fin 4) (r : Fin 512) (x : Fin 1024), j = ix3 g r x := ⟨j 0, j 1, j 2, eq_ix3 j⟩
  exact (ref_dw_at _ _ g r x).symm

theorem endDg_eq : endDg m c = Cert.WoRefIdeal.Read.val_main_v7 (F := Ideal) (arg0 m c) (arg1 m c) := funext fun j => by
  obtain ⟨z, x, rfl⟩ : ∃ (z : Fin 1) (x : Fin 1024), j = ix2 z x := ⟨j 0, j 1, eq_ix2 j⟩
  obtain rfl : z = 0 := Subsingleton.elim _ _
  exact (ref_sum_at _ _ x).symm

end Cert.WoIdeal.Point

end
-- ==== Proof.FwdForm.lean ====
/-
  Layer 1's forward pass with its gradient at the residual stream, entry by entry.
-/
module

public import proofs.«01_k».proof.Proof.Norm

@[expose] public section

noncomputable section

namespace Cert.Forward

open Idealize.ShloMosaic Cert.Mixer
open scoped BigOperators

/-- The value half of a product's columns. -/
def lo (c : Fin 2048) : Fin 4096 := ⟨c.val, by omega⟩
/-- The gate half of a product's columns. -/
def hi (c : Fin 2048) : Fin 4096 := ⟨2048 + c.val, by omega⟩
/-- A column's group. -/
def grp (c : Fin 2048) : Fin 4 := ⟨c.val / 512, by omega⟩
/-- A column's place in its group. -/
def lane (c : Fin 2048) : Fin 512 := ⟨c.val % 512, by omega⟩

theorem grp_col (k : Fin 4) (m : Fin 512) : grp (col k m) = k := Fin.ext (by simp only [grp, col]; omega)
theorem lane_col (k : Fin 4) (m : Fin 512) : lane (col k m) = m := Fin.ext (by simp only [lane, col]; omega)

variable {n : ℕ} (x tgt : Fin n → Fin 1024 → EReal) (g sc sh gate gf : Fin 1024 → EReal) (w : Fin 1024 → Fin 4096 → EReal)
  (p : Fin n → Fin 4096 → EReal) (wg : Fin 4 → Fin 512 → Fin 512 → EReal) (bg s : Fin 2048 → EReal) (wo : Fin 2048 → Fin 1024 → EReal)

/-- The modulated rows. -/
def h (t : Fin n) (d : Fin 1024) : EReal := Norm.nrm (x t) d * (g d * (1 + sc d)) + sh d
/-- The input product. -/
def proj (t : Fin n) (q : Fin 4096) : EReal := ∑ d, h x g sc sh t d * w d q
/-- The values, with 16 rows of zeros before the first. -/
def ext (t : ℕ) (c : Fin 2048) : EReal := if h : 16 ≤ t ∧ t < 16 + n then p ⟨t - 16, by omega⟩ (lo c) else 0
/-- A window's mean less the value itself. -/
def diff (t : Fin n) (c : Fin 2048) : EReal :=
  (∑ j ∈ Finset.range (window (grp c)), ext p (16 + t.val - j) c) * inv (t.val + 1) (grp c) - p t (lo c)
/-- The group mix. -/
def mixed (t : Fin n) (c : Fin 2048) : EReal := (∑ m, diff p t (col (grp c) m) * wg (grp c) m (lane c)) + bg c
/-- The gated mix. -/
def y (t : Fin n) (c : Fin 2048) : EReal := mixed p wg bg t c * s c * (p t (hi c) * sig (p t (hi c)))
/-- The residual stream behind the layer. -/
def x2 (t : Fin n) (d : Fin 1024) : EReal := x t d + gate d * ∑ c, y p wg bg s t c * wo c d

variable (r : Fin n → Fin 1024 → EReal)
/-- The prediction's error. -/
def err (t : Fin n) (d : Fin 1024) : EReal := Norm.nrm (r t) d * gf d - tgt t d
/-- The error over the width. -/
def derr (t : Fin n) (d : Fin 1024) : EReal := err tgt gf r t d * ((1 / 1024 : ℝ) : EReal)
/-- The residual's gradient. -/
def dx2 (t : Fin n) (d : Fin 1024) : EReal :=
  Norm.inv (r t) * (derr tgt gf r t d * gf d
    - Norm.nrm (r t) d * Ideal.div (∑ e, derr tgt gf r t e * gf e * Norm.nrm (r t) e) ((1024 : ℝ) : EReal))

end Cert.Forward
-- ==== Proof.FwdTile.lean ====
/-
  What one grid point of layer 1's forward call computes on a block of 256 tokens, row `r` of the block being token `ρ r`.
-/
module

public import proofs.«01_k».proof.Proof.FwdForm
public import proofs.«01_k».proof.Proof.NormTile
public import proofs.«01_k».proof.Proof.Chain
public import proofs.«01_k».proof.Proof.Gen.FwdIdeal.Skeleton

@[expose] public section

set_option maxRecDepth 16384

noncomputable section

namespace Cert.FwdIdeal.Point

open Idealize.ShloMosaic Idealize.ShloMosaic.TcCoe Idealize.SL.Sem Cert.FwdIdeal Cert.FwdIdeal.Gen Cert.Mixer Cert.Forward
open Cert.KernelIdeal.Point (double val_col groups_apply two_bits four_bits eight_bits sixteen_bits)
open scoped BigOperators

/-- Rows added to the rows one above. -/
def down1 (X : FVec Ideal S272x2048 .f32) : FVec Ideal S272x2048 .f32 := addf X (dynamicRotate 0 1#32 none X rotates_S272x2048_d0)

/-- Groups 1 to 3 of `down1`, added to the rows two above. -/
def down2 (X : FVec Ideal S272x2048 .f32) : FVec Ideal S272x1536 .f32 :=
  addf (extractStridedSlice S272x1536 ![0, 512] (down1 X) slices_S272x2048_o0_512_S272x1536)
    (dynamicRotate 0 2#32 none (extractStridedSlice S272x1536 ![0, 512] (down1 X) slices_S272x2048_o0_512_S272x1536) rotates_S272x1536_d0)

/-- Groups 2 and 3 of `down2`, added to the rows four above. -/
def down4 (X : FVec Ideal S272x2048 .f32) : FVec Ideal S272x1024 .f32 :=
  addf (extractStridedSlice S272x1024 ![0, 512] (down2 X) slices_S272x1536_o0_512_S272x1024)
    (dynamicRotate 0 4#32 none (extractStridedSlice S272x1024 ![0, 512] (down2 X) slices_S272x1536_o0_512_S272x1024) rotates_S272x1024_d0)

/-- Group 3 of `down4`, added to the rows eight above. -/
def down8 (X : FVec Ideal S272x2048 .f32) : FVec Ideal S272x512 .f32 :=
  addf (extractStridedSlice S272x512 ![0, 512] (down4 X) slices_S272x1024_o0_512_S272x512)
    (dynamicRotate 0 8#32 none (extractStridedSlice S272x512 ![0, 512] (down4 X) slices_S272x1024_o0_512_S272x512) rotates_S272x512_d0)

theorem down1_apply (X : FVec Ideal S272x2048 .f32) (r : Fin 272) (h : 1 ≤ r.val) (c : Fin 2048) :
    down1 X (ix2 r c) = X (ix2 r c) + X (ix2 ⟨r.val - 1, by omega⟩ c) := by
  pointwise [down1]
  congr 4
  omega

theorem down2_apply (X : FVec Ideal S272x2048 .f32) (r : Fin 272) (h : 2 ≤ r.val) (c : Fin 1536) :
    down2 X (ix2 r c) = down1 X (ix2 r ⟨512 + c.val, by omega⟩) + down1 X (ix2 ⟨r.val - 2, by omega⟩ ⟨512 + c.val, by omega⟩) := by
  pointwise [down2]
  congr 4
  omega

theorem down4_apply (X : FVec Ideal S272x2048 .f32) (r : Fin 272) (h : 4 ≤ r.val) (c : Fin 1024) :
    down4 X (ix2 r c) = down2 X (ix2 r ⟨512 + c.val, by omega⟩) + down2 X (ix2 ⟨r.val - 4, by omega⟩ ⟨512 + c.val, by omega⟩) := by
  pointwise [down4]
  congr 4
  omega

theorem down8_apply (X : FVec Ideal S272x2048 .f32) (r : Fin 272) (h : 8 ≤ r.val) (c : Fin 512) :
    down8 X (ix2 r c) = down4 X (ix2 r ⟨512 + c.val, by omega⟩) + down4 X (ix2 ⟨r.val - 8, by omega⟩ ⟨512 + c.val, by omega⟩) := by
  pointwise [down8]
  congr 4
  omega

/-- The sum over `2 w` rows from the sums over `w`, looking back. -/
theorem double_back (f : ℕ → EReal) (b w r : ℕ) (h : w ≤ r) :
    (∑ j ∈ Finset.range w, f (b + r - j)) + (∑ j ∈ Finset.range w, f (b + (r - w) - j)) = ∑ j ∈ Finset.range (w + w), f (b + r - j) := by
  rw [Finset.sum_range_add]
  exact congrArg _ (Finset.sum_congr rfl fun j _ => congrArg f (by omega))

section
variable (X : FVec Ideal S272x2048 .f32) (b : ℕ) (e : ℕ → Fin 2048 → EReal) (hX : ∀ (r : Fin 272) (c : Fin 2048), X (ix2 r c) = e (b + r.val) c)
include hX

theorem down1_sum (r : Fin 272) (h : 1 ≤ r.val) (c : Fin 2048) : down1 X (ix2 r c) = ∑ j ∈ Finset.range 2, e (b + r.val - j) c := by
  rw [down1_apply X r h c, hX, hX, Finset.sum_range_succ, Finset.sum_range_one]
  exact congrArg _ (congrArg (fun t => e t c) (by dsimp only; omega))

theorem down2_sum (r : Fin 272) (h : 3 ≤ r.val) (c : Fin 1536) :
    down2 X (ix2 r c) = ∑ j ∈ Finset.range 4, e (b + r.val - j) ⟨512 + c.val, by omega⟩ := by
  rw [down2_apply X r (by omega) c, down1_sum X b e hX r (by omega), down1_sum X b e hX _ (by dsimp only; omega)]
  exact double_back (fun t => e t ⟨512 + c.val, by omega⟩) b 2 r.val (by omega)

theorem down4_sum (r : Fin 272) (h : 7 ≤ r.val) (c : Fin 1024) :
    down4 X (ix2 r c) = ∑ j ∈ Finset.range 8, e (b + r.val - j) ⟨1024 + c.val, by omega⟩ := by
  rw [down4_apply X r (by omega) c, down2_sum X b e hX r (by omega), down2_sum X b e hX _ (by dsimp only; omega)]
  refine (double_back (fun t => e t ⟨512 + (512 + c.val), by omega⟩) b 4 r.val (by omega)).trans (Finset.sum_congr rfl fun j _ => congrArg _ (Fin.ext ?_))
  dsimp only; omega

theorem down8_sum (r : Fin 272) (h : 15 ≤ r.val) (c : Fin 512) :
    down8 X (ix2 r c) = ∑ j ∈ Finset.range 16, e (b + r.val - j) ⟨1536 + c.val, by omega⟩ := by
  rw [down8_apply X r (by omega) c, down4_sum X b e hX r (by omega), down4_sum X b e hX _ (by dsimp only; omega)]
  refine (double_back (fun t => e t ⟨1024 + (512 + c.val), by omega⟩) b 8 r.val (by omega)).trans (Finset.sum_congr rfl fun j _ => congrArg _ (Fin.ext ?_))
  dsimp only; omega

end

/-- A row's position in the sequence, from the point's number as the kernel computes it. -/
theorem position (i : Fin 65) (r : Fin 256) :
    (FloatOps.sitofp .f32 (IntOp.addi (IntOp.addi (Scalar.muli (Scalar.maxsi (Scalar.subi (BitVec.ofNat 32 i.val) 1#32) 0#32) 256#32) (BitVec.ofNat 32 r.val)) 1#32) : Ideal .f32)
      = (((256 * (i.val - 1) + r.val + 1 : ℕ) : ℝ) : EReal) := by
  have hr := r.isLt
  have hm : (Scalar.maxsi (Scalar.subi (BitVec.ofNat 32 i.val) 1#32) 0#32 : BitVec 32) = BitVec.ofNat 32 (i.val - 1) := by
    revert i; decide +kernel
  have hi := i.isLt
  have hb : (IntOp.addi (IntOp.addi (Scalar.muli (Scalar.maxsi (Scalar.subi (BitVec.ofNat 32 i.val) 1#32) 0#32) 256#32) (BitVec.ofNat 32 r.val)) 1#32 : BitVec 32)
      = BitVec.ofNat 32 (256 * (i.val - 1) + r.val + 1) := by
    rw [hm]
    apply BitVec.eq_of_toNat_eq
    simp only [IntOp.addi, Scalar.muli, IntOp.muli, BitVec.toNat_add, BitVec.toNat_mul, BitVec.toNat_ofNat]
    omega
  rw [hb]
  show ((((BitVec.ofNat 32 _).toInt : ℝ)) : EReal) = _
  rw [BitVec.toInt_eq_toNat_of_lt (by rw [BitVec.toNat_ofNat]; omega), BitVec.toNat_ofNat, Nat.mod_eq_of_lt (by omega)]
  rfl

theorem pay20_at (i : Fin 65) (r : Fin 256) : k0_pay20 (F := Ideal) (BitVec.ofNat 32 i.val) (ix2 r 0) = (((256 * (i.val - 1) + r.val + 1 : ℕ) : ℝ) : EReal) := by
  pointwise [k0_pay20]
  exact position i r

/-- Whether a point is not the first, as the kernel tests it. -/
theorem later (i : Fin 65) : (Scalar.cmpi .sgt (BitVec.ofNat 32 i.val) 0#32 : BitVec 1) = if i.val = 0 then 0#1 else 1#1 := by
  revert i; decide +kernel

theorem bits_width : Ideal.ofBits .f32 0x3A800000#32 = ((1 / 1024 : ℝ) : EReal) := by
  simp [Ideal.ofBits, Ideal.ieee, -EReal.coe_mul]
  norm_num

section
variable (v7 : Vec Ideal S256x1024 .f32) (v18 v19 v25 : Vec Ideal S1x1024 .f32) (r : Fin 256)

theorem h_at (d : Fin 1024) : k0_pay8 v7 v18 v19 v25 (ix2 r d)
    = h (fun r d => v7 (ix2 r d)) (fun d => v18 (ix2 0 d)) (fun d => v19 (ix2 0 d)) (fun d => v25 (ix2 0 d)) r d := by
  pointwise [k0_pay8, h, Norm.nrm, Norm.inv, Norm.msq, Norm.eps]
  rw [Norm1Ideal.Point.ofBits_1024]

end

/-- A window's mean less the value, from its sum as the block has it. -/
theorem diff_eq {n : ℕ} (p : Fin n → Fin 4096 → EReal) (t : Fin n) (b r w : ℕ) (ht : t.val = b + r) (k : Fin 4) (m : Fin 512) (c : Fin 2048)
    (hc : c.val = 512 * k.val + m.val) (hw : w = window k) :
    (∑ j ∈ Finset.range w, ext p (b + (16 + r) - j) c) * Mixer.inv (t.val + 1) k - p t (lo c) = diff p t (col k m) := by
  obtain rfl : c = col k m := Fin.ext hc
  unfold diff
  rw [grp_col, hw, ht, show 16 + (b + r) = b + (16 + r) by omega]

section
variable {n : ℕ} (p : Fin n → Fin 4096 → EReal) (ρ : Fin 256 → Fin n) (b : ℕ) (hρ : ∀ r, (ρ r).val = b + r.val)
  (v38 : Vec Ideal S256x2048 .bf16) (v40 : Vec Ideal S16x2048 .f32)
  (h38 : ∀ r c, v38 (ix2 r c) = p (ρ r) (lo c)) (h40 : ∀ (r : Fin 16) c, v40 (ix2 r c) = ext p (b + r.val) c)

/-- The block's values and the 16 rows before them. -/
abbrev rows : FVec Ideal S272x2048 .f32 :=
  concatenate S272x2048 0 [⟨S16x2048, v40⟩, ⟨S256x2048, k0_pay12 v38⟩] concatenates_S16x2048_S256x2048_S272x2048_d0

include hρ h38 h40 in
theorem rows_apply (e : Fin 272) (c : Fin 2048) : rows v38 v40 (ix2 e c) = ext p (b + e.val) c := by
  have he := e.isLt
  unfold rows
  pointwise [k0_pay12]
  split
  · rw [h40]
  · rename_i hl
    rw [h38]
    have hv := hρ ⟨e.val - 16, by omega⟩
    have hlt := (ρ ⟨e.val - 16, by omega⟩).isLt
    dsimp only at hv
    unfold ext
    rw [dif_pos (by omega)]
    exact congrArg (fun t => p t (lo c)) (Fin.ext (by dsimp only; omega))

/-- The groups' means less the values. -/
def diffs (i : Fin 65) : Fin 4 → FVec Ideal S256x512 .f32 :=
  ![k0_pay23 (k0_pay12 v38) (k0_pay14 v38 v40) (k0_pay21 (F := Ideal) (BitVec.ofNat 32 i.val)),
    k0_pay24 (k0_pay12 v38) (k0_pay16 v38 v40) (k0_pay22 (F := Ideal) (BitVec.ofNat 32 i.val)),
    k0_pay25 (k0_pay12 v38) (k0_pay18 v38 v40) (k0_pay20 (F := Ideal) (BitVec.ofNat 32 i.val)),
    k0_pay26 (k0_pay12 v38) (k0_pay19 v38 v40) (k0_pay20 (F := Ideal) (BitVec.ofNat 32 i.val))]

include hρ h38 h40 in
theorem diffs_apply (i : Fin 65) (hi : b = 256 * (i.val - 1)) (k : Fin 4) (r : Fin 256) (m : Fin 512) :
    diffs v38 v40 i k (ix2 r m) = diff p (ρ r) (col k m) := by
  have hm := m.isLt
  have hX := rows_apply p ρ b hρ v38 v40 h38 h40
  have hp : k0_pay20 (F := Ideal) (BitVec.ofNat 32 i.val) (ix2 r 0) = ((((ρ r).val + 1 : ℕ) : ℝ) : EReal) := by
    rw [pay20_at, hρ, hi]
  match k with
  | 0 =>
    show k0_pay23 _ (extractStridedSlice S272x512 ![0, 0] (down1 (rows v38 v40)) slices_S272x2048_o0_0_S272x512) _ (ix2 r m) = _
    pointwise [k0_pay23, k0_pay21, k0_pay12]
    rw [down1_sum _ b (ext p) hX _ (by dsimp only; omega), hp, two_bits, h38]
    exact diff_eq p (ρ r) b r.val 2 (hρ r) 0 m _ (by simp) rfl
  | 1 =>
    show k0_pay24 _ (extractStridedSlice S272x512 ![0, 0] (down2 (rows v38 v40)) slices_S272x1536_o0_0_S272x512) _ (ix2 r m) = _
    pointwise [k0_pay24, k0_pay22, k0_pay12]
    rw [down2_sum _ b (ext p) hX _ (by dsimp only; omega), hp, four_bits, h38]
    exact diff_eq p (ρ r) b r.val 4 (hρ r) 1 m _ (by simp) rfl
  | 2 =>
    show k0_pay25 _ (extractStridedSlice S272x512 ![0, 0] (down4 (rows v38 v40)) slices_S272x1024_o0_0_S272x512) _ (ix2 r m) = _
    pointwise [k0_pay25, k0_pay12]
    rw [down4_sum _ b (ext p) hX _ (by dsimp only; omega), hp, eight_bits, h38]
    exact diff_eq p (ρ r) b r.val 8 (hρ r) 2 m _ (by simp) rfl
  | 3 =>
    show k0_pay26 _ (down8 (rows v38 v40)) _ (ix2 r m) = _
    pointwise [k0_pay26, k0_pay12]
    rw [down8_sum _ b (ext p) hX _ (by dsimp only; omega), hp, sixteen_bits, h38]
    exact diff_eq p (ρ r) b r.val 16 (hρ r) 3 m _ (by simp) rfl

include hρ h38 h40 in
theorem pool_at (i : Fin 65) (hi : b = 256 * (i.val - 1)) (r : Fin 256) (c : Fin 2048) :
    k0_pay27 (k0_pay12 v38) (k0_pay14 v38 v40) (k0_pay16 v38 v40) (k0_pay18 v38 v40) (k0_pay19 v38 v40)
      (k0_pay20 (F := Ideal) (BitVec.ofNat 32 i.val)) (k0_pay21 (F := Ideal) (BitVec.ofNat 32 i.val)) (k0_pay22 (F := Ideal) (BitVec.ofNat 32 i.val)) (ix2 r c)
      = diff p (ρ r) c := by
  obtain ⟨k, m, rfl⟩ := exists_col c
  exact (groups_apply (diffs v38 v40 i) r k m).trans (diffs_apply p ρ b hρ v38 v40 h38 h40 i hi k r m)

end

section
variable {n : ℕ} (p : Fin n → Fin 4096 → EReal) (ρ : Fin 256 → Fin n) (wg : Fin 4 → Fin 512 → Fin 512 → EReal) (bg s : Fin 2048 → EReal)
  (d : Fin 4 → FVec Ideal S256x512 .f32) (w : Fin 4 → Vec Ideal S1x512x512 .bf16) (v129 v136 : Vec Ideal S1x2048 .f32)
  (hd : ∀ k r m, d k (ix2 r m) = diff p (ρ r) (col k m)) (hw : ∀ k m j, w k (ix3 0 m j) = wg k m j)
  (h129 : ∀ c, v129 (ix2 0 c) = bg c) (h136 : ∀ c, v136 (ix2 0 c) = s c)

/-- The groups' products. -/
def products : Fin 4 → FVec Ideal S256x512 .f32 := fun k =>
  matmul dot_S256x512_S512x512_S256x512_1_0_0_1_n_n none (truncf .bf16 (d k) bitsLt_bf16_f32 : FVec Ideal S256x512 .bf16)
    (shapeCast S512x512 (w k) shapeCasts_S1x512x512_S512x512 : FVec Ideal S512x512 .bf16) (constant S256x512 .f32 0x00000000#32)

include hd hw h129 in
theorem mixed_at (r : Fin 256) (c : Fin 2048) :
    k0_pay31 (d 1) (d 2) (d 3) (truncf .bf16 (d 0) bitsLt_bf16_f32 : FVec Ideal S256x512 .bf16) (w 0) (w 1) (w 2) (w 3) v129 (ix2 r c) = mixed p wg bg (ρ r) c := by
  obtain ⟨k, j, rfl⟩ := exists_col c
  have hb : (broadcastTo S256x2048 v129 broadcasts_S1x2048_S256x2048 : FVec Ideal S256x2048 .f32) (ix2 r (col k j)) = bg (col k j) := by
    pointwise
    rw [h129]
  have hp : products d w k (ix2 r j) = ∑ m, diff p (ρ r) (col k m) * wg k m j := by
    pointwise [products]
    simp only [hd, hw]
  refine (congrArg₂ (· + ·) ((groups_apply (products d w) r k j).trans hp) hb).trans ?_
  unfold mixed
  rw [grp_col, lane_col]

end

section
variable {n : ℕ} (x : Fin n → Fin 1024 → EReal) (p : Fin n → Fin 4096 → EReal) (ρ : Fin 256 → Fin n) (wg : Fin 4 → Fin 512 → Fin 512 → EReal)
  (bg s : Fin 2048 → EReal) (gate : Fin 1024 → EReal) (wo : Fin 2048 → Fin 1024 → EReal)
  (mx : FVec Ideal S256x2048 .f32) (v134 : Vec Ideal S256x2048 .bf16) (v136 : Vec Ideal S1x2048 .f32)
  (v158 : Vec Ideal S256x1024 .f32) (v159 : Vec Ideal S1x1024 .f32) (v160 : Vec Ideal S2048x1024 .bf16)
  (hm : ∀ r c, mx (ix2 r c) = mixed p wg bg (ρ r) c) (h134 : ∀ r c, v134 (ix2 r c) = p (ρ r) (hi c)) (h136 : ∀ c, v136 (ix2 0 c) = s c)
  (h158 : ∀ r d, v158 (ix2 r d) = x (ρ r) d) (h159 : ∀ d, v159 (ix2 0 d) = gate d) (h160 : ∀ c d, v160 (ix2 c d) = wo c d)

include hm h134 h136 in
theorem y_at (r : Fin 256) (c : Fin 2048) :
    k0_pay37 (k0_pay33 v134) (mulf mx (broadcastTo S256x2048 v136 broadcasts_S1x2048_S256x2048)) (k0_pay35 v134) k0_pay36 (ix2 r c) = y p wg bg s (ρ r) c := by
  pointwise [k0_pay37, k0_pay35, k0_pay36, k0_pay33]
  rw [hm, h134, h136]
  rfl

include hm h134 h136 h158 h159 h160 in
theorem x2_at (r : Fin 256) (d : Fin 1024) :
    k0_pay40 (k0_pay33 v134) (mulf mx (broadcastTo S256x2048 v136 broadcasts_S1x2048_S256x2048)) (k0_pay35 v134) k0_pay36 v158 v159 v160 (ix2 r d)
      = x2 x gate p wg bg s wo (ρ r) d := by
  pointwise [k0_pay40]
  simp only [y_at p ρ wg bg s mx v134 v136 hm h134 h136, h158, h159, h160]
  rfl

end

section
variable {n : ℕ} (tgt R : Fin n → Fin 1024 → EReal) (gf : Fin 1024 → EReal) (ρ : Fin 256 → Fin n)
  (v165 v187 : FVec Ideal S256x1024 .f32) (v184 v189 : Vec Ideal S1x1024 .f32)
  (h165 : ∀ r d, v165 (ix2 r d) = R (ρ r) d) (h184 : ∀ d, v184 (ix2 0 d) = gf d) (h187 : ∀ r d, v187 (ix2 r d) = tgt (ρ r) d)

include h165 in
theorem inv_at (r : Fin 256) : k0_pay44 (mulf v165 v165) (ix2 r 0) = Norm.inv (R (ρ r)) := by
  pointwise [k0_pay44]
  simp only [h165, Norm1Ideal.Point.ofBits_1024]
  rfl

include h165 in
theorem nrm_at (r : Fin 256) (d : Fin 1024) : k0_pay45 v165 (mulf v165 v165) (ix2 r d) = Norm.nrm (R (ρ r)) d := by
  pointwise [k0_pay45]
  rw [inv_at R ρ v165 h165, h165]
  rfl

include h165 h184 h187 in
theorem err_at (r : Fin 256) (d : Fin 1024) : k0_pay46 v165 (mulf v165 v165) v184 v187 (ix2 r d) = err tgt gf R (ρ r) d := by
  pointwise [k0_pay46]
  rw [nrm_at R ρ v165 h165, h184, h187]
  rfl

include h165 h184 h187 in
theorem derr_at (r : Fin 256) (d : Fin 1024) : k0_pay48 v165 (mulf v165 v165) v184 v187 (ix2 r d) = derr tgt gf R (ρ r) d := by
  pointwise [k0_pay48]
  rw [err_at tgt R gf ρ v165 v187 v184 h165 h184 h187, bits_width]
  rfl

include h165 h184 h187 in
theorem dx2_at (r : Fin 256) (d : Fin 1024) :
    k0_pay1 (k0_pay44 (mulf v165 v165)) (k0_pay45 v165 (mulf v165 v165)) (k0_pay48 v165 (mulf v165 v165) v184 v187) v184 (ix2 r d)
      = dx2 tgt gf R (ρ r) d := by
  pointwise [k0_pay1]
  simp only [inv_at R ρ v165 h165, nrm_at R ρ v165 h165, derr_at tgt R gf ρ v165 v187 v184 h165 h184 h187, h184, Norm1Ideal.Point.ofBits_1024]
  rfl

theorem loss_first (i : Fin 65) (hi : i.val = 0) (d : Fin 1024) : k0_pay47 (BitVec.ofNat 32 i.val) v165 (mulf v165 v165) v184 v187 v189 (ix2 0 d) = v189 (ix2 0 d) := by
  pointwise [k0_pay47]
  rw [later, if_pos hi]
  exact add_zero _

include h165 h184 h187 in
theorem loss_later (i : Fin 65) (hi : i.val ≠ 0) (d : Fin 1024) :
    k0_pay47 (BitVec.ofNat 32 i.val) v165 (mulf v165 v165) v184 v187 v189 (ix2 0 d) = v189 (ix2 0 d) + ∑ r, err tgt gf R (ρ r) d * err tgt gf R (ρ r) d := by
  pointwise [k0_pay47]
  simp only [err_at tgt R gf ρ v165 v187 v184 h165 h184 h187]
  rw [later, if_neg hi]
  rfl

theorem dgf_first (i : Fin 65) (hi : i.val = 0) (d : Fin 1024) : k0_pay49 (BitVec.ofNat 32 i.val) v165 (mulf v165 v165) v184 v187 v189 (ix2 0 d) = v189 (ix2 0 d) := by
  pointwise [k0_pay49]
  rw [later, if_pos hi]
  exact add_zero _

include h165 h184 h187 in
theorem dgf_later (i : Fin 65) (hi : i.val ≠ 0) (d : Fin 1024) :
    k0_pay49 (BitVec.ofNat 32 i.val) v165 (mulf v165 v165) v184 v187 v189 (ix2 0 d) = v189 (ix2 0 d) + ∑ r, derr tgt gf R (ρ r) d * Norm.nrm (R (ρ r)) d := by
  pointwise [k0_pay49]
  simp only [nrm_at R ρ v165 h165, derr_at tgt R gf ρ v165 v187 v184 h165 h184 h187]
  rw [later, if_neg hi]
  rfl

end

end Cert.FwdIdeal.Point
-- ==== Proof.FwdOuts.lean ====
/-
  What a point of the layer's forward pass leaves in its outputs and its two scratch buffers, over the formulas for the
  whole sequence.  A point works on two blocks of 256 rows: the one ahead, whose input product it forms, and the one
  behind, whose product the point before it left.
-/
module

public import proofs.«01_k».proof.Proof.Gen.FwdIdeal.Frame
public import proofs.«01_k».proof.Proof.FwdTile

@[expose] public section

set_option maxRecDepth 16384

noncomputable section

namespace Cert.Forward

open Idealize.ShloMosaic Cert.Mixer

/-- Row `r` of the block behind point `i`. -/
def behind (i : Fin 65) (r : Fin 256) : Fin 16384 := ⟨256 * (i.val - 1) + r.val, by omega⟩
/-- Row `r` of the block ahead. -/
def ahead (i : Fin 65) (r : Fin 256) : Fin 16384 := ⟨256 * min i.val 63 + r.val, by omega⟩

/-- The load of part of a matrix. -/
theorem ld_part {n m a b p q : ℕ} {e : EltTy} (o : Vec Ideal ⟨2, ![n, m]⟩ e) (inb) (r : Fin a) (c : Fin b) (hp : p + r.val < n) (hq : q + c.val < m) :
    View.ld o (Rect.unit (s := ⟨2, ![n, m]⟩) ![p, q] ![a, b] inb) (ix2 r c) = o (ix2 ⟨p + r.val, hp⟩ ⟨q + c.val, hq⟩) :=
  congrArg o (quarter_emb inb r c hp hq)

/-- The load of a whole matrix. -/
theorem ld_whole {n m : ℕ} {e : EltTy} (o : Vec Ideal ⟨2, ![n, m]⟩ e) (inb) (r : Fin n) (c : Fin m) :
    View.ld o (Rect.unit (s := ⟨2, ![n, m]⟩) ![0, 0] ![n, m] inb) (ix2 r c) = o (ix2 r c) :=
  (ld_part o inb r c (by omega) (by omega)).trans (congrArg₂ (fun a b => o (ix2 a b)) (Fin.ext (Nat.zero_add _)) (Fin.ext (Nat.zero_add _)))

/-- Column `m` of quarter `k` of a product. -/
def qcol (k : Fin 4) (m : Fin 1024) : Fin 4096 := ⟨1024 * k.val + m.val, by omega⟩

/-- Four quarters of columns written, whatever was written before them. -/
theorem canon_columns {n : ℕ} {e : EltTy} (G : Vec Ideal ⟨2, ![n, 4096]⟩ e) (w0 w1 w2 w3 : Vec Ideal ⟨2, ![n, 1024]⟩ e) (i0 i1 i2 i3)
    (L' : List (View.Piece (Elt Ideal) ⟨2, ![n, 4096]⟩ e))
    (h0 : ∀ r m, w0 (ix2 r m) = G (ix2 r (qcol 0 m))) (h1 : ∀ r m, w1 (ix2 r m) = G (ix2 r (qcol 1 m)))
    (h2 : ∀ r m, w2 (ix2 r m) = G (ix2 r (qcol 2 m))) (h3 : ∀ r m, w3 (ix2 r m) = G (ix2 r (qcol 3 m))) :
    View.canon ([⟨Rect.unit ![0, 3072] ![n, 1024] i3, w3⟩, ⟨Rect.unit ![0, 2048] ![n, 1024] i2, w2⟩,
      ⟨Rect.unit ![0, 1024] ![n, 1024] i1, w1⟩, ⟨Rect.unit ![0, 0] ![n, 1024] i0, w0⟩] ++ L') = G := by
  have emb : ∀ (k : Fin 4) (q : ℕ) (hq : q = 1024 * k.val) (inb) (r : Fin n) (m : Fin 1024),
      (Rect.unit (s := ⟨2, ![n, 4096]⟩) ![0, q] ![n, 1024] inb).emb (ix2 r m) = ix2 r (qcol k m) := by
    intro k q hq inb r m
    subst hq
    refine (quarter_emb inb r m (by omega) (by omega)).trans (congrArg₂ ix2 (Fin.ext (Nat.zero_add _)) rfl)
  have key : ∀ (k : Fin 4) (q : ℕ) (hq : q = 1024 * k.val) (inb) (w : Vec Ideal ⟨2, ![n, 1024]⟩ e), (∀ r m, w (ix2 r m) = G (ix2 r (qcol k m))) →
      ∀ x, w x = G ((Rect.unit (s := ⟨2, ![n, 4096]⟩) ![0, q] ![n, 1024] inb).emb x) := by
    intro k q hq inb w hw x
    obtain ⟨r, m, rfl⟩ : ∃ (r : Fin n) (m : Fin 1024), x = ix2 r m := ⟨x 0, x 1, eq_ix2 x⟩
    exact (hw r m).trans (congrArg G (emb k q hq inb r m).symm)
  funext y
  refine View.canon_append_of_piecesOf G L' [_, _, _, _] ⟨key 3 3072 rfl i3 w3 h3, key 2 2048 rfl i2 w2 h2, key 1 1024 rfl i1 w1 h1, key 0 0 rfl i0 w0 h0, trivial⟩ y ?_
  obtain ⟨r, q, rfl⟩ : ∃ (r : Fin n) (q : Fin 4096), y = ix2 r q := ⟨y 0, y 1, eq_ix2 y⟩
  obtain ⟨k, m, rfl⟩ : ∃ k m, q = qcol k m := ⟨⟨q.val / 1024, by omega⟩, ⟨q.val % 1024, by omega⟩, Fin.ext (by simp only [qcol]; omega)⟩
  have cov : ∀ (k : Fin 4) (q : ℕ) (hq : q = 1024 * k.val) (inb), ix2 r (qcol k m) ∈ (Rect.unit (s := ⟨2, ![n, 4096]⟩) ![0, q] ![n, 1024] inb).set := by
    intro k q hq inb
    rw [← emb k q hq inb]
    exact LoadRect.idx_mem _ _
  match k with
  | 0 => exact ⟨_, .tail _ (.tail _ (.tail _ (.head _))), cov 0 0 rfl i0⟩
  | 1 => exact ⟨_, .tail _ (.tail _ (.head _)), cov 1 1024 rfl i1⟩
  | 2 => exact ⟨_, .tail _ (.head _), cov 2 2048 rfl i2⟩
  | 3 => exact ⟨_, .head _, cov 3 3072 rfl i3⟩

end Cert.Forward

namespace Cert.FwdIdeal.Point

open Idealize.ShloMosaic Idealize.ShloMosaic.TcCoe Idealize.SL.Sem Cert.FwdIdeal Cert.FwdIdeal.Gen Cert.Mixer Cert.Forward
open scoped BigOperators

/-- The blocks of point `i` ahead hold these arrays' rows. -/
structure Ahead (i : Fin 65) (x0 : Vec Ideal S256x1024 .f32) (x3 x4 x5 : Vec Ideal S1x1024 .f32) (x6 : Vec Ideal S4x1024x1024 .bf16)
    (x : Fin 16384 → Fin 1024 → EReal) (g sc sh : Fin 1024 → EReal) (w : Fin 1024 → Fin 4096 → EReal) : Prop where
  x_eq : ∀ r d, x0 (ix2 r d) = x (ahead i r) d
  g_eq : ∀ d, x3 (ix2 0 d) = g d
  sc_eq : ∀ d, x4 (ix2 0 d) = sc d
  sh_eq : ∀ d, x5 (ix2 0 d) = sh d
  w_eq : ∀ k d m, x6 (ix3 k d m) = w d (qcol k m)

/-- The weights of the layer's second half, whole at every point. -/
structure Weights (x7 : Vec Ideal S1x1024 .f32) (x8 : Vec Ideal S4x512x512 .bf16) (x9 x10 : Vec Ideal S1x2048 .f32) (x11 : Vec Ideal S2048x1024 .bf16)
    (x12 : Vec Ideal S1x1024 .f32) (gate : Fin 1024 → EReal) (wg : Fin 4 → Fin 512 → Fin 512 → EReal) (bg s : Fin 2048 → EReal)
    (wo : Fin 2048 → Fin 1024 → EReal) (gf : Fin 1024 → EReal) : Prop where
  gate_eq : ∀ d, x7 (ix2 0 d) = gate d
  wg_eq : ∀ k a b, x8 (ix3 k a b) = wg k a b
  bg_eq : ∀ c, x9 (ix2 0 c) = bg c
  s_eq : ∀ c, x10 (ix2 0 c) = s c
  wo_eq : ∀ c d, x11 (ix2 c d) = wo c d
  gf_eq : ∀ d, x12 (ix2 0 d) = gf d

/-- The blocks of point `i` behind hold these arrays' rows; the scratch buffers, the product's rows and the 16 rows before them. -/
structure Behind (i : Fin 65) (x1 x2 : Vec Ideal S256x1024 .f32) (xs1 : Vec Ideal S256x4096 .bf16) (xs2 : Vec Ideal S16x2048 .f32)
    (x tgt : Fin 16384 → Fin 1024 → EReal) (p : Fin 16384 → Fin 4096 → EReal) : Prop where
  x_eq : ∀ r d, x1 (ix2 r d) = x (behind i r) d
  tgt_eq : ∀ r d, x2 (ix2 r d) = tgt (behind i r) d
  p_eq : ∀ r q, xs1 (ix2 r q) = p (behind i r) q
  prev_eq : ∀ r c, xs2 (ix2 r c) = ext p (256 * (i.val - 1) + r.val) c

/-! ## The block ahead -/

section
variable {i : Fin 65} {x0 : Vec Ideal S256x1024 .f32} {x3 x4 x5 : Vec Ideal S1x1024 .f32} {x6 : Vec Ideal S4x1024x1024 .bf16}
  {x : Fin 16384 → Fin 1024 → EReal} {g sc sh : Fin 1024 → EReal} {w : Fin 1024 → Fin 4096 → EReal} (H : Ahead i x0 x3 x4 x5 x6 x g sc sh w)

/-- The modulated rows as the point computes them. -/
abbrev modulated (x0 : Vec Ideal S256x1024 .f32) (x3 x4 x5 : Vec Ideal S1x1024 .f32) : FVec Ideal S256x1024 .bf16 :=
  k0_pay8 (View.ld x0 (Rect.unit ![0, 0] ![256, 1024] inb_S256x1024_S256x1024_0_0)) (View.ld x3 (Rect.unit ![0, 0] ![1, 1024] inb_S1x1024_S1x1024_0_0))
    (View.ld x4 (Rect.unit ![0, 0] ![1, 1024] inb_S1x1024_S1x1024_0_0)) (View.ld x5 (Rect.unit ![0, 0] ![1, 1024] inb_S1x1024_S1x1024_0_0))

include H in
theorem modulated_at (r : Fin 256) (d : Fin 1024) : modulated x0 x3 x4 x5 (ix2 r d) = h x g sc sh (ahead i r) d := by
  refine (h_at ..).trans ?_
  have e0 : ∀ r d, View.ld x0 (Rect.unit ![0, 0] ![256, 1024] inb_S256x1024_S256x1024_0_0) (ix2 r d) = x (ahead i r) d :=
    fun r d => (ld_whole x0 _ r d).trans (H.x_eq r d)
  have e3 : ∀ d, View.ld x3 (Rect.unit ![0, 0] ![1, 1024] inb_S1x1024_S1x1024_0_0) (ix2 0 d) = g d := fun d => (ld_whole x3 _ 0 d).trans (H.g_eq d)
  have e4 : ∀ d, View.ld x4 (Rect.unit ![0, 0] ![1, 1024] inb_S1x1024_S1x1024_0_0) (ix2 0 d) = sc d := fun d => (ld_whole x4 _ 0 d).trans (H.sc_eq d)
  have e5 : ∀ d, View.ld x5 (Rect.unit ![0, 0] ![1, 1024] inb_S1x1024_S1x1024_0_0) (ix2 0 d) = sh d := fun d => (ld_whole x5 _ 0 d).trans (H.sh_eq d)
  unfold h
  simp only [e0, e3, e4, e5]

theorem proj_at (v : FVec Ideal S256x1024 .bf16) (b : Vec Ideal S1x1024x1024 .bf16) (r : Fin 256) (m : Fin 1024) :
    k0_pay28 v b (ix2 r m) = ∑ d, v (ix2 r d) * b (ix3 0 d m) := by
  pointwise [k0_pay28]

include H in
/-- A quarter of the columns of the input product. -/
theorem quarter_at (k : Fin 4) (inb) (r : Fin 256) (m : Fin 1024) :
    k0_pay28 (modulated x0 x3 x4 x5) (View.ld x6 (Rect.unit ![k.val, 0, 0] ![1, 1024, 1024] inb)) (ix2 r m) = proj x g sc sh w (ahead i r) (qcol k m) := by
  refine (proj_at ..).trans (Finset.sum_congr rfl fun d _ => ?_)
  rw [modulated_at H, show View.ld x6 (Rect.unit ![k.val, 0, 0] ![1, 1024, 1024] inb) (ix3 0 d m) = w d (qcol k m) from
    (Norm.ld_slab x6 k inb d m).trans (H.w_eq k d m)]

theorem cast_at (v : FVec Ideal S256x1024 .bf16) (r : Fin 256) (m : Fin 1024) :
    (shapeCast S256x1024 v shapeCasts_S256x1024_S256x1024 : FVec Ideal S256x1024 .bf16) (ix2 r m) = v (ix2 r m) := by
  pointwise

end

/-! ## The block behind -/

section
variable {i : Fin 65} {x1 x2 : Vec Ideal S256x1024 .f32} {xs1 : Vec Ideal S256x4096 .bf16} {xs2 : Vec Ideal S16x2048 .f32}
  {x7 : Vec Ideal S1x1024 .f32} {x8 : Vec Ideal S4x512x512 .bf16} {x9 x10 : Vec Ideal S1x2048 .f32} {x11 : Vec Ideal S2048x1024 .bf16}
  {x12 : Vec Ideal S1x1024 .f32} {x tgt : Fin 16384 → Fin 1024 → EReal} {p : Fin 16384 → Fin 4096 → EReal} {gate : Fin 1024 → EReal}
  {wg : Fin 4 → Fin 512 → Fin 512 → EReal} {bg s : Fin 2048 → EReal} {wo : Fin 2048 → Fin 1024 → EReal} {gf : Fin 1024 → EReal}
  (B : Behind i x1 x2 xs1 xs2 x tgt p) (W : Weights x7 x8 x9 x10 x11 x12 gate wg bg s wo gf)

/-- The product the point before left. -/
abbrev product (xs1 : Vec Ideal S256x4096 .bf16) : Vec Ideal S256x4096 .bf16 :=
  k0_pay7 (View.ld xs1 (Rect.unit ![0, 0] ![256, 4096] inb_S256x4096_S256x4096_0_0))
abbrev values (xs1 : Vec Ideal S256x4096 .bf16) : Vec Ideal S256x2048 .bf16 :=
  View.ld (product xs1) (Rect.unit ![0, 0] ![256, 2048] inb_S256x4096_S256x2048_0_0)
abbrev gates (xs1 : Vec Ideal S256x4096 .bf16) : Vec Ideal S256x2048 .bf16 :=
  View.ld (product xs1) (Rect.unit ![0, 2048] ![256, 2048] inb_S256x4096_S256x2048_0_2048)
abbrev before (xs2 : Vec Ideal S16x2048 .f32) : Vec Ideal S16x2048 .f32 := View.ld xs2 (Rect.unit ![0, 0] ![16, 2048] inb_S16x2048_S16x2048_0_0)
/-- The groups' weights. -/
def slabs (x8 : Vec Ideal S4x512x512 .bf16) : Fin 4 → Vec Ideal S1x512x512 .bf16
  | 0 => View.ld x8 (Rect.unit ![0, 0, 0] ![1, 512, 512] inb_S4x512x512_S1x512x512_0_0_0)
  | 1 => View.ld x8 (Rect.unit ![1, 0, 0] ![1, 512, 512] inb_S4x512x512_S1x512x512_1_0_0)
  | 2 => View.ld x8 (Rect.unit ![2, 0, 0] ![1, 512, 512] inb_S4x512x512_S1x512x512_2_0_0)
  | 3 => View.ld x8 (Rect.unit ![3, 0, 0] ![1, 512, 512] inb_S4x512x512_S1x512x512_3_0_0)
abbrev wide (v : Vec Ideal S1x2048 .f32) : Vec Ideal S1x2048 .f32 := View.ld v (Rect.unit ![0, 0] ![1, 2048] inb_S1x2048_S1x2048_0_0)
abbrev narrow (v : Vec Ideal S1x1024 .f32) : Vec Ideal S1x1024 .f32 := View.ld v (Rect.unit ![0, 0] ![1, 1024] inb_S1x1024_S1x1024_0_0)
abbrev block (v : Vec Ideal S256x1024 .f32) : Vec Ideal S256x1024 .f32 := View.ld v (Rect.unit ![0, 0] ![256, 1024] inb_S256x1024_S256x1024_0_0)

theorem product_at (v : Vec Ideal S256x4096 .bf16) (r : Fin 256) (q : Fin 4096) : k0_pay7 v (ix2 r q) = v (ix2 r q) := by
  pointwise [k0_pay7]

/-- A part of the product's columns. -/
theorem part_at (xs1 : Vec Ideal S256x4096 .bf16) (q : ℕ) (inb) (r : Fin 256) (c : Fin 2048) (h : q + c.val < 4096) :
    View.ld (product xs1) (Rect.unit ![0, q] ![256, 2048] inb) (ix2 r c)
      = xs1 (ix2 r ⟨q + c.val, h⟩) := by
  refine (ld_part _ inb r c (by omega) h).trans ((product_at ..).trans ((ld_whole xs1 _ _ _).trans ?_))
  exact congrArg (fun a => xs1 (ix2 a _)) (Fin.ext (Nat.zero_add _))

include B

theorem values_at (r : Fin 256) (c : Fin 2048) : values xs1 (ix2 r c) = p (behind i r) (lo c) :=
  (part_at xs1 0 _ r c (by omega)).trans ((B.p_eq r _).trans (congrArg (p (behind i r)) (Fin.ext (Nat.zero_add c.val) : (⟨0 + c.val, _⟩ : Fin 4096) = lo c)))
theorem gates_at (r : Fin 256) (c : Fin 2048) : gates xs1 (ix2 r c) = p (behind i r) (hi c) :=
  (part_at xs1 2048 _ r c (by omega)).trans (B.p_eq r _)
theorem before_at (r : Fin 16) (c : Fin 2048) : before xs2 (ix2 r c) = ext p (256 * (i.val - 1) + r.val) c :=
  (ld_whole xs2 _ r c).trans (B.prev_eq r c)
theorem diffs_at (k : Fin 4) (r : Fin 256) (m : Fin 512) : diffs (values xs1) (before xs2) i k (ix2 r m) = diff p (behind i r) (col k m) :=
  diffs_apply p (behind i) (256 * (i.val - 1)) (fun _ => rfl) (values xs1) (before xs2) (values_at B) (before_at B) i rfl k r m

omit B in
include W in
theorem slabs_at (k : Fin 4) (m j : Fin 512) : slabs x8 k (ix3 0 m j) = wg k m j := by
  match k with
  | 0 => exact (Norm.ld_slab x8 0 _ m j).trans (W.wg_eq 0 m j)
  | 1 => exact (Norm.ld_slab x8 1 _ m j).trans (W.wg_eq 1 m j)
  | 2 => exact (Norm.ld_slab x8 2 _ m j).trans (W.wg_eq 2 m j)
  | 3 => exact (Norm.ld_slab x8 3 _ m j).trans (W.wg_eq 3 m j)

/-- The group mix as the point computes it. -/
def mix (i : Fin 65) (xs1 : Vec Ideal S256x4096 .bf16) (xs2 : Vec Ideal S16x2048 .f32) (x8 : Vec Ideal S4x512x512 .bf16) (x9 : Vec Ideal S1x2048 .f32) : FVec Ideal S256x2048 .f32 :=
  k0_pay31 (diffs (values xs1) (before xs2) i 1) (diffs (values xs1) (before xs2) i 2) (diffs (values xs1) (before xs2) i 3)
    (truncf .bf16 (diffs (values xs1) (before xs2) i 0) bitsLt_bf16_f32 : FVec Ideal S256x512 .bf16) (slabs x8 0) (slabs x8 1) (slabs x8 2) (slabs x8 3) (wide x9)

include W

theorem mix_at (r : Fin 256) (c : Fin 2048) : mix i xs1 xs2 x8 x9 (ix2 r c) = mixed p wg bg (behind i r) c :=
  mixed_at p (behind i) wg bg (diffs (values xs1) (before xs2) i) (slabs x8) (wide x9) (diffs_at B) (slabs_at W)
    (fun c => (ld_whole x9 _ 0 c).trans (W.bg_eq c)) r c

theorem gated_at (r : Fin 256) (c : Fin 2048) :
    k0_pay37 (k0_pay33 (gates xs1)) (mulf (mix i xs1 xs2 x8 x9) (broadcastTo S256x2048 (wide x10) broadcasts_S1x2048_S256x2048)) (k0_pay35 (gates xs1)) k0_pay36 (ix2 r c)
      = y p wg bg s (behind i r) c :=
  y_at p (behind i) wg bg s (mix i xs1 xs2 x8 x9) (gates xs1) (wide x10) (mix_at B W) (gates_at B) (fun c => (ld_whole x10 _ 0 c).trans (W.s_eq c)) r c

omit B W in
/-- The residual stream as the point computes it. -/
def res (i : Fin 65) (x1 : Vec Ideal S256x1024 .f32) (xs1 : Vec Ideal S256x4096 .bf16) (xs2 : Vec Ideal S16x2048 .f32) (x7 : Vec Ideal S1x1024 .f32)
    (x8 : Vec Ideal S4x512x512 .bf16) (x9 x10 : Vec Ideal S1x2048 .f32) (x11 : Vec Ideal S2048x1024 .bf16) : FVec Ideal S256x1024 .f32 :=
  k0_pay40 (k0_pay33 (gates xs1)) (mulf (mix i xs1 xs2 x8 x9) (broadcastTo S256x2048 (wide x10) broadcasts_S1x2048_S256x2048)) (k0_pay35 (gates xs1)) k0_pay36
    (block x1) (narrow x7) (View.ld x11 (Rect.unit ![0, 0] ![2048, 1024] inb_S2048x1024_S2048x1024_0_0))

theorem res_at (r : Fin 256) (d : Fin 1024) : res i x1 xs1 xs2 x7 x8 x9 x10 x11 (ix2 r d) = Forward.x2 x gate p wg bg s wo (behind i r) d :=
  x2_at x p (behind i) wg bg s gate wo (mix i xs1 xs2 x8 x9) (gates xs1) (wide x10) (block x1) (narrow x7) _ (mix_at B W) (gates_at B)
    (fun c => (ld_whole x10 _ 0 c).trans (W.s_eq c)) (fun r d => (ld_whole x1 _ r d).trans (B.x_eq r d)) (fun d => (ld_whole x7 _ 0 d).trans (W.gate_eq d))
    (fun c d => (ld_whole x11 _ c d).trans (W.wo_eq c d)) r d

omit W in
theorem target_at (r : Fin 256) (d : Fin 1024) : block x2 (ix2 r d) = tgt (behind i r) d := (ld_whole x2 _ r d).trans (B.tgt_eq r d)
omit B in
theorem gain_at (d : Fin 1024) : narrow x12 (ix2 0 d) = gf d := (ld_whole x12 _ 0 d).trans (W.gf_eq d)

end

/-! ## What the point leaves -/

/-- The last 16 rows of a block's values. -/
theorem tail_at (v : Vec Ideal S256x2048 .bf16) (r : Fin 16) (d : Fin 2048) :
    k0_pay2 (F := Ideal) (k0_pay12 v) (ix2 r d) = v (ix2 ⟨240 + r.val, by omega⟩ d) := by
  pointwise [k0_pay2, k0_pay12]
theorem none_at (r : Fin 256) (q : Fin 4096) : k0_pay6 (F := Ideal) (ix2 r q) = 0 := by
  pointwise [k0_pay6]

theorem hz2 : (![0, 0] : Fin 2 → Nat) = fun _ => 0 := by decide

section

variable (c : Dev nD) (i : grid0.Coords) (a1 : Memref sig .tc .vmem S256x1024 .f32) (h1 : a1.IsWhole) (a2 : Memref sig .tc .vmem S256x1024 .f32)
  (h2 : a2.IsWhole) (a3 : Memref sig .tc .vmem S256x1024 .f32) (h3 : a3.IsWhole) (a4 : Memref sig .tc .vmem S1x1024 .f32) (h4 : a4.IsWhole)
  (a5 : Memref sig .tc .vmem S1x1024 .f32) (h5 : a5.IsWhole) (a6 : Memref sig .tc .vmem S1x1024 .f32) (h6 : a6.IsWhole)
  (a7 : Memref sig .tc .vmem S4x1024x1024 .bf16) (h7 : a7.IsWhole) (a8 : Memref sig .tc .vmem S1x1024 .f32) (h8 : a8.IsWhole)
  (a9 : Memref sig .tc .vmem S4x512x512 .bf16) (h9 : a9.IsWhole) (a10 : Memref sig .tc .vmem S1x2048 .f32) (h10 : a10.IsWhole)
  (a11 : Memref sig .tc .vmem S1x2048 .f32) (h11 : a11.IsWhole) (a12 : Memref sig .tc .vmem S2048x1024 .bf16) (h12 : a12.IsWhole)
  (a13 : Memref sig .tc .vmem S1x1024 .f32) (h13 : a13.IsWhole) (a14 : Memref sig .tc .vmem S256x2048 .bf16) (h14 : a14.IsWhole)
  (a15 : Memref sig .tc .vmem S256x2048 .bf16) (h15 : a15.IsWhole) (a16 : Memref sig .tc .vmem S256x2048 .bf16) (h16 : a16.IsWhole)
  (a17 : Memref sig .tc .vmem S256x1024 .f32) (h17 : a17.IsWhole) (a18 : Memref sig .tc .vmem S1x1024 .f32) (h18 : a18.IsWhole)
  (a19 : Memref sig .tc .vmem S1x1024 .f32) (h19 : a19.IsWhole) (a20 : Memref sig .tc .vmem S256x1024 .bf16) (h20 : a20.IsWhole)
  (a21 : Memref sig .tc .vmem S256x4096 .bf16) (h21 : a21.IsWhole) (a22 : Memref sig .tc .vmem S256x4096 .bf16) (h22 : a22.IsWhole)
  (a23 : Memref sig .tc .vmem S256x4096 .bf16) (h23 : a23.IsWhole) (a24 : Memref sig .tc .vmem S16x2048 .f32) (h24 : a24.IsWhole)
  (x0 x1 x2 : Vec Ideal S256x1024 .f32) (x3 x4 x5 : Vec Ideal S1x1024 .f32) (x6 : Vec Ideal S4x1024x1024 .bf16) (x7 : Vec Ideal S1x1024 .f32)
  (x8 : Vec Ideal S4x512x512 .bf16) (x9 x10 : Vec Ideal S1x2048 .f32) (x11 : Vec Ideal S2048x1024 .bf16) (x12 xo17 xo18 : Vec Ideal S1x1024 .f32)
  (xs1 : Vec Ideal S256x4096 .bf16) (xs2 : Vec Ideal S16x2048 .f32)
  {x tgt : Fin 16384 → Fin 1024 → EReal} {g sc sh : Fin 1024 → EReal} {w : Fin 1024 → Fin 4096 → EReal} {p : Fin 16384 → Fin 4096 → EReal} {gate : Fin 1024 → EReal}
  {wg : Fin 4 → Fin 512 → Fin 512 → EReal} {bg s : Fin 2048 → EReal} {wo : Fin 2048 → Fin 1024 → EReal} {gf : Fin 1024 → EReal}

theorem h_first (hc : cond0_0 i) (H : Ahead (i 0) x0 x3 x4 x5 x6 x g sc sh w) :
    out0_A_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12
      = fun j => h x g sc sh (ahead (i 0) (j 0)) (j 1) := by
  unfold out0_A_19
  rw [View.read_writes_eq_canon _ _ _ (cover0_A_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread]
  refine (View.canon_cons_unit_zero hz2 _ _ _).trans (funext fun j => ?_)
  obtain ⟨r, d, rfl⟩ : ∃ (r : Fin 256) (d : Fin 1024), j = ix2 r d := ⟨j 0, j 1, eq_ix2 j⟩
  exact modulated_at H r d

theorem proj_first (hc : cond0_0 i) (H : Ahead (i 0) x0 x3 x4 x5 x6 x g sc sh w) :
    out0_A_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12
      = fun j => proj x g sc sh w (ahead (i 0) (j 0)) (j 1) := by
  unfold out0_A_20
  rw [View.read_writes_eq_canon _ _ _ (cover0_A_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread]
  refine canon_columns _ _ _ _ _ _ _ _ _ [] (fun r m => ?_) (fun r m => ?_) (fun r m => ?_) (fun r m => ?_)
  · exact quarter_at H 0 _ r m
  · exact quarter_at H 1 _ r m
  · exact quarter_at H 2 _ r m
  · exact quarter_at H 3 _ r m

theorem next_first (hc : cond0_0 i) (H : Ahead (i 0) x0 x3 x4 x5 x6 x g sc sh w) :
    sout0_A_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12
      = fun j => proj x g sc sh w (ahead (i 0) (j 0)) (j 1) := by
  unfold sout0_A_1
  rw [View.read_writes_eq_canon _ _ _ (scover0_A_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread]
  refine canon_columns _ _ _ _ _ _ _ _ _ _ (fun r m => ?_) (fun r m => ?_) (fun r m => ?_) (fun r m => ?_)
  · exact (cast_at ..).trans (quarter_at H 0 _ r m)
  · exact (cast_at ..).trans (quarter_at H 1 _ r m)
  · exact (cast_at ..).trans (quarter_at H 2 _ r m)
  · exact (cast_at ..).trans (quarter_at H 3 _ r m)

theorem loss_zero (hc : cond0_0 i) (h0 : (i 0).val = 0) :
    out0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12
      = fun _ => 0 := by
  unfold out0_A_17
  rw [View.read_writes_eq_canon _ _ _ (cover0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread]
  (simp (disch := decide) only [↓ View.readCov_skip, ↓ View.readCov_cons_toLoadRect, ↓ View.readCov_fill])
  refine (View.canon_cons_unit_zero hz2 _ _ _).trans (funext fun j => ?_)
  obtain ⟨r, d, rfl⟩ : ∃ (r : Fin 1) (d : Fin 1024), j = ix2 r d := ⟨j 0, j 1, eq_ix2 j⟩
  obtain rfl : r = 0 := Subsingleton.elim _ _
  refine (loss_first _ _ _ _ (i 0) h0 d).trans ?_
  pointwise [k0_pay4]

theorem dgf_zero (hc : cond0_0 i) (h0 : (i 0).val = 0) :
    out0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12
      = fun _ => 0 := by
  unfold out0_A_18
  rw [View.read_writes_eq_canon _ _ _ (cover0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread]
  (simp (disch := decide) only [↓ View.readCov_skip, ↓ View.readCov_cons_toLoadRect, ↓ View.readCov_fill])
  refine (View.canon_cons_unit_zero hz2 _ _ _).trans (funext fun j => ?_)
  obtain ⟨r, d, rfl⟩ : ∃ (r : Fin 1) (d : Fin 1024), j = ix2 r d := ⟨j 0, j 1, eq_ix2 j⟩
  obtain rfl : r = 0 := Subsingleton.elim _ _
  refine (dgf_first _ _ _ _ (i 0) h0 d).trans ?_
  pointwise [k0_pay5]

theorem prev_first (hc : cond0_0 i) :
    sout0_A_2 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12
      = fun _ => 0 := by
  unfold sout0_A_2
  rw [View.read_writes_eq_canon _ _ _ (scover0_A_2 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread]
  (simp (disch := decide) only [↓ View.readCov_skip, ↓ View.readCov_cons_toLoadRect, ↓ View.readCov_fill])
  refine (View.canon_cons_unit_zero hz2 _ _ _).trans (funext fun j => ?_)
  obtain ⟨r, d, rfl⟩ : ∃ (r : Fin 16) (d : Fin 2048), j = ix2 r d := ⟨j 0, j 1, eq_ix2 j⟩
  refine (tail_at _ r d).trans ((ld_part (n := 256) (m := 4096) (a := 256) (b := 2048) (p := 0) (q := 0) (e := .bf16) (k0_pay7 (F := Ideal) (k0_pay6 (F := Ideal))) _ ⟨240 + r.val, by omega⟩ d (by dsimp only; omega) (by omega)).trans ?_)
  exact (product_at ..).trans (none_at ..)

theorem pool_next (hc : ¬cond0_0 i) (B : Behind (i 0) x1 x2 xs1 xs2 x tgt p) :
    out0_B_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12 xo17 xo18 xs1 xs2
      = fun j => diff p (behind (i 0) (j 0)) (j 1) := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12 xo17 xo18 xs1 xs2)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread]
  (simp (disch := decide) only [↓ View.readCov_skip, ↓ View.readCov_cons_toLoadRect, ↓ View.readCov_fill])
  refine (View.canon_cons_unit_zero hz2 _ _ _).trans (funext fun j => ?_)
  obtain ⟨r, d, rfl⟩ : ∃ (r : Fin 256) (d : Fin 2048), j = ix2 r d := ⟨j 0, j 1, eq_ix2 j⟩
  exact pool_at p (behind (i 0)) (256 * ((i 0).val - 1)) (fun _ => rfl) (values xs1) (before xs2) (values_at B) (before_at B) (i 0) rfl r d

theorem mixed_next (hc : ¬cond0_0 i) (B : Behind (i 0) x1 x2 xs1 xs2 x tgt p) (W : Weights x7 x8 x9 x10 x11 x12 gate wg bg s wo gf) :
    out0_B_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12 xo17 xo18 xs1 xs2
      = fun j => mixed p wg bg (behind (i 0) (j 0)) (j 1) := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12 xo17 xo18 xs1 xs2)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread]
  (simp (disch := decide) only [↓ View.readCov_skip, ↓ View.readCov_cons_toLoadRect, ↓ View.readCov_fill])
  refine (View.canon_cons_unit_zero hz2 _ _ _).trans (funext fun j => ?_)
  obtain ⟨r, d, rfl⟩ : ∃ (r : Fin 256) (d : Fin 2048), j = ix2 r d := ⟨j 0, j 1, eq_ix2 j⟩
  exact mix_at B W r d

theorem y_next (hc : ¬cond0_0 i) (B : Behind (i 0) x1 x2 xs1 xs2 x tgt p) (W : Weights x7 x8 x9 x10 x11 x12 gate wg bg s wo gf) :
    out0_B_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12 xo17 xo18 xs1 xs2
      = fun j => y p wg bg s (behind (i 0) (j 0)) (j 1) := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12 xo17 xo18 xs1 xs2)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread]
  (simp (disch := decide) only [↓ View.readCov_skip, ↓ View.readCov_cons_toLoadRect, ↓ View.readCov_fill])
  refine (View.canon_cons_unit_zero hz2 _ _ _).trans (funext fun j => ?_)
  obtain ⟨r, d, rfl⟩ : ∃ (r : Fin 256) (d : Fin 2048), j = ix2 r d := ⟨j 0, j 1, eq_ix2 j⟩
  exact gated_at B W r d

theorem dx2_next (hc : ¬cond0_0 i) (B : Behind (i 0) x1 x2 xs1 xs2 x tgt p) (W : Weights x7 x8 x9 x10 x11 x12 gate wg bg s wo gf) :
    out0_B_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12 xo17 xo18 xs1 xs2
      = fun j => dx2 tgt gf (Forward.x2 x gate p wg bg s wo) (behind (i 0) (j 0)) (j 1) := by
  unfold out0_B_16
  rw [View.read_writes_eq_canon _ _ _ (cover0_B_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12 xo17 xo18 xs1 xs2)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread]
  (simp (disch := decide) only [↓ View.readCov_skip, ↓ View.readCov_cons_toLoadRect, ↓ View.readCov_fill])
  refine (View.canon_cons_unit_zero hz2 _ _ _).trans (funext fun j => ?_)
  obtain ⟨r, d, rfl⟩ : ∃ (r : Fin 256) (d : Fin 1024), j = ix2 r d := ⟨j 0, j 1, eq_ix2 j⟩
  exact dx2_at tgt (Forward.x2 x gate p wg bg s wo) gf (behind (i 0)) (res (i 0) x1 xs1 xs2 x7 x8 x9 x10 x11) (block x2) (narrow x12) (res_at B W) (gain_at W) (target_at B) r d

theorem loss_next (hc : ¬cond0_0 i) (h0 : (i 0).val ≠ 0) (B : Behind (i 0) x1 x2 xs1 xs2 x tgt p) (W : Weights x7 x8 x9 x10 x11 x12 gate wg bg s wo gf) :
    out0_B_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12 xo17 xo18 xs1 xs2
      = fun j => xo17 (ix2 0 (j 1)) + ∑ r, err tgt gf (Forward.x2 x gate p wg bg s wo) (behind (i 0) r) (j 1) * err tgt gf (Forward.x2 x gate p wg bg s wo) (behind (i 0) r) (j 1) := by
  unfold out0_B_17
  rw [View.read_writes_eq_canon _ _ _ (cover0_B_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12 xo17 xo18 xs1 xs2)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread]
  (simp (disch := decide) only [↓ View.readCov_skip, ↓ View.readCov_cons_toLoadRect, ↓ View.readCov_fill])
  refine (View.canon_cons_unit_zero hz2 _ _ _).trans (funext fun j => ?_)
  obtain ⟨r, d, rfl⟩ : ∃ (r : Fin 1) (d : Fin 1024), j = ix2 r d := ⟨j 0, j 1, eq_ix2 j⟩
  obtain rfl : r = 0 := Subsingleton.elim _ _
  exact (loss_later tgt (Forward.x2 x gate p wg bg s wo) gf (behind (i 0)) (res (i 0) x1 xs1 xs2 x7 x8 x9 x10 x11) (block x2) (narrow x12) (narrow xo17) (res_at B W) (gain_at W) (target_at B) (i 0) h0 d).trans (congrArg (· + _) (ld_whole xo17 _ 0 d))

theorem dgf_next (hc : ¬cond0_0 i) (h0 : (i 0).val ≠ 0) (B : Behind (i 0) x1 x2 xs1 xs2 x tgt p) (W : Weights x7 x8 x9 x10 x11 x12 gate wg bg s wo gf) :
    out0_B_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12 xo17 xo18 xs1 xs2
      = fun j => xo18 (ix2 0 (j 1)) + ∑ r, derr tgt gf (Forward.x2 x gate p wg bg s wo) (behind (i 0) r) (j 1) * Norm.nrm (Forward.x2 x gate p wg bg s wo (behind (i 0) r)) (j 1) := by
  unfold out0_B_18
  rw [View.read_writes_eq_canon _ _ _ (cover0_B_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12 xo17 xo18 xs1 xs2)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread]
  (simp (disch := decide) only [↓ View.readCov_skip, ↓ View.readCov_cons_toLoadRect, ↓ View.readCov_fill])
  refine (View.canon_cons_unit_zero hz2 _ _ _).trans (funext fun j => ?_)
  obtain ⟨r, d, rfl⟩ : ∃ (r : Fin 1) (d : Fin 1024), j = ix2 r d := ⟨j 0, j 1, eq_ix2 j⟩
  obtain rfl : r = 0 := Subsingleton.elim _ _
  exact (dgf_later tgt (Forward.x2 x gate p wg bg s wo) gf (behind (i 0)) (res (i 0) x1 xs1 xs2 x7 x8 x9 x10 x11) (block x2) (narrow x12) (narrow xo18) (res_at B W) (gain_at W) (target_at B) (i 0) h0 d).trans (congrArg (· + _) (ld_whole xo18 _ 0 d))

theorem h_next (hc : ¬cond0_0 i) (H : Ahead (i 0) x0 x3 x4 x5 x6 x g sc sh w) :
    out0_B_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12 xo17 xo18 xs1 xs2
      = fun j => h x g sc sh (ahead (i 0) (j 0)) (j 1) := by
  unfold out0_B_19
  rw [View.read_writes_eq_canon _ _ _ (cover0_B_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12 xo17 xo18 xs1 xs2)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread]
  refine (View.canon_cons_unit_zero hz2 _ _ _).trans (funext fun j => ?_)
  obtain ⟨r, d, rfl⟩ : ∃ (r : Fin 256) (d : Fin 1024), j = ix2 r d := ⟨j 0, j 1, eq_ix2 j⟩
  exact modulated_at H r d

theorem proj_next (hc : ¬cond0_0 i) (H : Ahead (i 0) x0 x3 x4 x5 x6 x g sc sh w) :
    out0_B_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12 xo17 xo18 xs1 xs2
      = fun j => proj x g sc sh w (ahead (i 0) (j 0)) (j 1) := by
  unfold out0_B_20
  rw [View.read_writes_eq_canon _ _ _ (cover0_B_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12 xo17 xo18 xs1 xs2)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread]
  refine canon_columns _ _ _ _ _ _ _ _ _ [] (fun r m => ?_) (fun r m => ?_) (fun r m => ?_) (fun r m => ?_)
  · exact quarter_at H 0 _ r m
  · exact quarter_at H 1 _ r m
  · exact quarter_at H 2 _ r m
  · exact quarter_at H 3 _ r m

theorem next_next (hc : ¬cond0_0 i) (H : Ahead (i 0) x0 x3 x4 x5 x6 x g sc sh w) :
    sout0_B_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12 xo17 xo18 xs1 xs2
      = fun j => proj x g sc sh w (ahead (i 0) (j 0)) (j 1) := by
  unfold sout0_B_1
  rw [View.read_writes_eq_canon _ _ _ (scover0_B_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12 xo17 xo18 xs1 xs2)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread]
  refine canon_columns _ _ _ _ _ _ _ _ _ _ (fun r m => ?_) (fun r m => ?_) (fun r m => ?_) (fun r m => ?_)
  · exact (cast_at ..).trans (quarter_at H 0 _ r m)
  · exact (cast_at ..).trans (quarter_at H 1 _ r m)
  · exact (cast_at ..).trans (quarter_at H 2 _ r m)
  · exact (cast_at ..).trans (quarter_at H 3 _ r m)

theorem prev_next (hc : ¬cond0_0 i) :
    sout0_B_2 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12 xo17 xo18 xs1 xs2
      = fun j => values xs1 (ix2 ⟨240 + (j 0).val, by have := (j 0).isLt; change (j 0).val < 16 at this; omega⟩ (j 1)) := by
  unfold sout0_B_2
  rw [View.read_writes_eq_canon _ _ _ (scover0_B_2 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc x0 x1 x2 x3 x4 x5 x6 x7 x8 x9 x10 x11 x12 xo17 xo18 xs1 xs2)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread]
  (simp (disch := decide) only [↓ View.readCov_skip, ↓ View.readCov_cons_toLoadRect, ↓ View.readCov_fill])
  refine (View.canon_cons_unit_zero hz2 _ _ _).trans (funext fun j => ?_)
  obtain ⟨r, d, rfl⟩ : ∃ (r : Fin 16) (d : Fin 2048), j = ix2 r d := ⟨j 0, j 1, eq_ix2 j⟩
  exact tail_at _ r d

end

end Cert.FwdIdeal.Point

end
-- ==== Proof.FwdBlocks.lean ====
/-
  The grid of the layer's forward pass: the blocks its windows hold at each point, over the call's arguments, and what the
  call leaves in its outputs and scratch buffers after each point.
-/
module

public import proofs.«01_k».proof.Proof.Gen.FwdIdeal.Value
public import proofs.«01_k».proof.Proof.FwdOuts
public import proofs.«01_k».proof.Proof.Sums
public import Idealize.ShloMosaic.Lib.StableHlo.RunRead

@[expose] public section

set_option maxRecDepth 16384

noncomputable section

namespace Cert.FwdIdeal.Point

open Idealize.ShloMosaic Idealize.ShloMosaic.TcCoe Idealize.SL.Sem Cert.FwdIdeal Cert.FwdIdeal.Gen Cert.Forward Cert.Mixer
open Idealize.ShloMosaic.Pipeline (Dat)
open scoped BigOperators

variable (m : (ℓ : Loc nD τ sig) → Buf (Elt Ideal) ℓ) (c : Dev nD)

/-! ## The windows' blocks -/

theorem rows_eq : 64 * 256 = 16384 := by norm_num

theorem coord : ∀ t : Fin cfg0.N, (grid0.coords t 0).val = t.val := (by decide +kernel : ∀ t : Fin grid0.N, (grid0.coords t 0).val = t.val)

theorem lt65 (t : Fin cfg0.N) : t.val < 65 := Nat.lt_of_lt_of_eq t.isLt N_0

/-- The windows that move ahead. -/
theorem index_ahead : ∀ t : Fin cfg0.N, (win0_0.index t 0 = min t.val 63 ∧ win0_0.index t 1 = 0) ∧ (win0_19.index t 0 = min t.val 63 ∧ win0_19.index t 1 = 0)
    ∧ (win0_20.index t 0 = min t.val 63 ∧ win0_20.index t 1 = 0) :=
  (by decide +kernel : ∀ t : Fin grid0.N, (win0_0.index t 0 = min t.val 63 ∧ win0_0.index t 1 = 0) ∧ (win0_19.index t 0 = min t.val 63 ∧ win0_19.index t 1 = 0)
    ∧ (win0_20.index t 0 = min t.val 63 ∧ win0_20.index t 1 = 0))

/-- The windows that move behind. -/
theorem index_behind : ∀ t : Fin cfg0.N, (win0_1.index t 0 = t.val - 1 ∧ win0_1.index t 1 = 0) ∧ (win0_2.index t 0 = t.val - 1 ∧ win0_2.index t 1 = 0)
    ∧ (win0_13.index t 0 = t.val - 1 ∧ win0_13.index t 1 = 0) ∧ (win0_14.index t 0 = t.val - 1 ∧ win0_14.index t 1 = 0)
    ∧ (win0_15.index t 0 = t.val - 1 ∧ win0_15.index t 1 = 0) ∧ (win0_16.index t 0 = t.val - 1 ∧ win0_16.index t 1 = 0) :=
  (by decide +kernel : ∀ t : Fin grid0.N, (win0_1.index t 0 = t.val - 1 ∧ win0_1.index t 1 = 0) ∧ (win0_2.index t 0 = t.val - 1 ∧ win0_2.index t 1 = 0)
    ∧ (win0_13.index t 0 = t.val - 1 ∧ win0_13.index t 1 = 0) ∧ (win0_14.index t 0 = t.val - 1 ∧ win0_14.index t 1 = 0)
    ∧ (win0_15.index t 0 = t.val - 1 ∧ win0_15.index t 1 = 0) ∧ (win0_16.index t 0 = t.val - 1 ∧ win0_16.index t 1 = 0))

/-- The windows that stay on the whole of their array. -/
theorem index_still : ∀ t : Fin cfg0.N, (∀ a, win0_3.index t a = 0) ∧ (∀ a, win0_4.index t a = 0) ∧ (∀ a, win0_5.index t a = 0) ∧ (∀ a, win0_6.index t a = 0)
    ∧ (∀ a, win0_7.index t a = 0) ∧ (∀ a, win0_8.index t a = 0) ∧ (∀ a, win0_9.index t a = 0) ∧ (∀ a, win0_10.index t a = 0) ∧ (∀ a, win0_11.index t a = 0)
    ∧ (∀ a, win0_12.index t a = 0) ∧ (∀ a, win0_17.index t a = 0) ∧ (∀ a, win0_18.index t a = 0) :=
  (by decide +kernel : ∀ t : Fin grid0.N, (∀ a, win0_3.index t a = 0) ∧ (∀ a, win0_4.index t a = 0) ∧ (∀ a, win0_5.index t a = 0) ∧ (∀ a, win0_6.index t a = 0)
    ∧ (∀ a, win0_7.index t a = 0) ∧ (∀ a, win0_8.index t a = 0) ∧ (∀ a, win0_9.index t a = 0) ∧ (∀ a, win0_10.index t a = 0) ∧ (∀ a, win0_11.index t a = 0)
    ∧ (∀ a, win0_12.index t a = 0) ∧ (∀ a, win0_17.index t a = 0) ∧ (∀ a, win0_18.index t a = 0))

theorem offset_zero {n : ℕ} {f : Fin n → ℕ} (s : Fin n → ℕ) (h : ∀ a, f a = 0) : (fun a => f a * s a) = fun _ => 0 :=
  funext fun a => by rw [h a]; exact Nat.zero_mul _

theorem read_3 (t : Fin cfg0.N) (A : Vec Ideal S1x1024 .f32) : ((cfg0.win 3).blk t).view.read (Elt Ideal) A = A :=
  Memref.read_access_unit_zero (Elt Ideal) main_arg1 (offset_zero main_arg1.ty.shape.size (index_still t).1) (fun a => by rw [congrFun (offset_zero main_arg1.ty.shape.size (index_still t).1) a]; simp) A
theorem read_4 (t : Fin cfg0.N) (A : Vec Ideal S1x1024 .f32) : ((cfg0.win 4).blk t).view.read (Elt Ideal) A = A :=
  Memref.read_access_unit_zero (Elt Ideal) main_arg2 (offset_zero main_arg2.ty.shape.size (index_still t).2.1) (fun a => by rw [congrFun (offset_zero main_arg2.ty.shape.size (index_still t).2.1) a]; simp) A
theorem read_5 (t : Fin cfg0.N) (A : Vec Ideal S1x1024 .f32) : ((cfg0.win 5).blk t).view.read (Elt Ideal) A = A :=
  Memref.read_access_unit_zero (Elt Ideal) main_arg3 (offset_zero main_arg3.ty.shape.size (index_still t).2.2.1) (fun a => by rw [congrFun (offset_zero main_arg3.ty.shape.size (index_still t).2.2.1) a]; simp) A
theorem read_6 (t : Fin cfg0.N) (A : Vec Ideal S4x1024x1024 .bf16) : ((cfg0.win 6).blk t).view.read (Elt Ideal) A = A :=
  Memref.read_access_unit_zero (Elt Ideal) main_v2 (offset_zero main_v2.ty.shape.size (index_still t).2.2.2.1) (fun a => by rw [congrFun (offset_zero main_v2.ty.shape.size (index_still t).2.2.2.1) a]; simp) A
theorem read_7 (t : Fin cfg0.N) (A : Vec Ideal S1x1024 .f32) : ((cfg0.win 7).blk t).view.read (Elt Ideal) A = A :=
  Memref.read_access_unit_zero (Elt Ideal) main_arg6 (offset_zero main_arg6.ty.shape.size (index_still t).2.2.2.2.1) (fun a => by rw [congrFun (offset_zero main_arg6.ty.shape.size (index_still t).2.2.2.2.1) a]; simp) A
theorem read_8 (t : Fin cfg0.N) (A : Vec Ideal S4x512x512 .bf16) : ((cfg0.win 8).blk t).view.read (Elt Ideal) A = A :=
  Memref.read_access_unit_zero (Elt Ideal) main_v3 (offset_zero main_v3.ty.shape.size (index_still t).2.2.2.2.2.1) (fun a => by rw [congrFun (offset_zero main_v3.ty.shape.size (index_still t).2.2.2.2.2.1) a]; simp) A
theorem read_9 (t : Fin cfg0.N) (A : Vec Ideal S1x2048 .f32) : ((cfg0.win 9).blk t).view.read (Elt Ideal) A = A :=
  Memref.read_access_unit_zero (Elt Ideal) main_arg8 (offset_zero main_arg8.ty.shape.size (index_still t).2.2.2.2.2.2.1) (fun a => by rw [congrFun (offset_zero main_arg8.ty.shape.size (index_still t).2.2.2.2.2.2.1) a]; simp) A
theorem read_10 (t : Fin cfg0.N) (A : Vec Ideal S1x2048 .f32) : ((cfg0.win 10).blk t).view.read (Elt Ideal) A = A :=
  Memref.read_access_unit_zero (Elt Ideal) main_arg9 (offset_zero main_arg9.ty.shape.size (index_still t).2.2.2.2.2.2.2.1) (fun a => by rw [congrFun (offset_zero main_arg9.ty.shape.size (index_still t).2.2.2.2.2.2.2.1) a]; simp) A
theorem read_11 (t : Fin cfg0.N) (A : Vec Ideal S2048x1024 .bf16) : ((cfg0.win 11).blk t).view.read (Elt Ideal) A = A :=
  Memref.read_access_unit_zero (Elt Ideal) main_v4 (offset_zero main_v4.ty.shape.size (index_still t).2.2.2.2.2.2.2.2.1) (fun a => by rw [congrFun (offset_zero main_v4.ty.shape.size (index_still t).2.2.2.2.2.2.2.2.1) a]; simp) A
theorem read_12 (t : Fin cfg0.N) (A : Vec Ideal S1x1024 .f32) : ((cfg0.win 12).blk t).view.read (Elt Ideal) A = A :=
  Memref.read_access_unit_zero (Elt Ideal) main_arg11 (offset_zero main_arg11.ty.shape.size (index_still t).2.2.2.2.2.2.2.2.2.1) (fun a => by rw [congrFun (offset_zero main_arg11.ty.shape.size (index_still t).2.2.2.2.2.2.2.2.2.1) a]; simp) A
theorem read_17 (t : Fin cfg0.N) (A : Vec Ideal S1x1024 .f32) : ((cfg0.win 17).blk t).view.read (Elt Ideal) A = A :=
  Memref.read_access_unit_zero (Elt Ideal) main_v5_4 (offset_zero main_v5_4.ty.shape.size (index_still t).2.2.2.2.2.2.2.2.2.2.1) (fun a => by rw [congrFun (offset_zero main_v5_4.ty.shape.size (index_still t).2.2.2.2.2.2.2.2.2.2.1) a]; simp) A
theorem read_18 (t : Fin cfg0.N) (A : Vec Ideal S1x1024 .f32) : ((cfg0.win 18).blk t).view.read (Elt Ideal) A = A :=
  Memref.read_access_unit_zero (Elt Ideal) main_v5_5 (offset_zero main_v5_5.ty.shape.size (index_still t).2.2.2.2.2.2.2.2.2.2.2) (fun a => by rw [congrFun (offset_zero main_v5_5.ty.shape.size (index_still t).2.2.2.2.2.2.2.2.2.2.2) a]; simp) A

/-- Where an entry of a block of rows lies. -/
theorem row_place {n w b : ℕ} {q : ℕ} {ix : Fin 2 → ℕ} {s : Fin n} (r : Fin b) (x : Fin w) (hi : ix 0 = q ∧ ix 1 = 0) (hs : s.val = b * q + r.val) :
    ix 0 * b + 1 * r.val = s.val ∧ ix 1 * w + 1 * x.val = x.val := by
  rw [hi.1, hi.2, hs, Nat.mul_comm q b]; omega

theorem ahead_val (t : Fin cfg0.N) (r : Fin 256) : (ahead (grid0.coords t 0) r).val = 256 * min t.val 63 + r.val := by
  show 256 * min (grid0.coords t 0).val 63 + r.val = _; rw [coord]
theorem behind_val (t : Fin cfg0.N) (r : Fin 256) : (behind (grid0.coords t 0) r).val = 256 * (t.val - 1) + r.val := by
  show 256 * ((grid0.coords t 0).val - 1) + r.val = _; rw [coord]

theorem read_0 (t : Fin cfg0.N) (A : Vec Ideal S16384x1024 .f32) (r : Fin 256) (x : Fin 1024) :
    (((cfg0.win 0).blk t).view.read (Elt Ideal) A) (ix2 r x) = A (ix2 (ahead (grid0.coords t 0) r) x) := by
  rw [View.read_apply]
  have h := row_place r x (index_ahead t).1 (ahead_val t r)
  exact congrArg A (funext fun a => Fin.ext (match a with | ⟨0, _⟩ => h.1 | ⟨1, _⟩ => h.2))
theorem read_19 (t : Fin cfg0.N) (A : Vec Ideal S16384x1024 .bf16) (r : Fin 256) (x : Fin 1024) :
    (((cfg0.win 19).blk t).view.read (Elt Ideal) A) (ix2 r x) = A (ix2 (ahead (grid0.coords t 0) r) x) := by
  rw [View.read_apply]
  have h := row_place r x (index_ahead t).2.1 (ahead_val t r)
  exact congrArg A (funext fun a => Fin.ext (match a with | ⟨0, _⟩ => h.1 | ⟨1, _⟩ => h.2))
theorem read_20 (t : Fin cfg0.N) (A : Vec Ideal S16384x4096 .bf16) (r : Fin 256) (x : Fin 4096) :
    (((cfg0.win 20).blk t).view.read (Elt Ideal) A) (ix2 r x) = A (ix2 (ahead (grid0.coords t 0) r) x) := by
  rw [View.read_apply]
  have h := row_place r x (index_ahead t).2.2 (ahead_val t r)
  exact congrArg A (funext fun a => Fin.ext (match a with | ⟨0, _⟩ => h.1 | ⟨1, _⟩ => h.2))
theorem read_1 (t : Fin cfg0.N) (A : Vec Ideal S16384x1024 .f32) (r : Fin 256) (x : Fin 1024) :
    (((cfg0.win 1).blk t).view.read (Elt Ideal) A) (ix2 r x) = A (ix2 (behind (grid0.coords t 0) r) x) := by
  rw [View.read_apply]
  have h := row_place r x (index_behind t).1 (behind_val t r)
  exact congrArg A (funext fun a => Fin.ext (match a with | ⟨0, _⟩ => h.1 | ⟨1, _⟩ => h.2))
theorem read_2 (t : Fin cfg0.N) (A : Vec Ideal S16384x1024 .f32) (r : Fin 256) (x : Fin 1024) :
    (((cfg0.win 2).blk t).view.read (Elt Ideal) A) (ix2 r x) = A (ix2 (behind (grid0.coords t 0) r) x) := by
  rw [View.read_apply]
  have h := row_place r x (index_behind t).2.1 (behind_val t r)
  exact congrArg A (funext fun a => Fin.ext (match a with | ⟨0, _⟩ => h.1 | ⟨1, _⟩ => h.2))
theorem read_13 (t : Fin cfg0.N) (A : Vec Ideal S16384x2048 .bf16) (r : Fin 256) (x : Fin 2048) :
    (((cfg0.win 13).blk t).view.read (Elt Ideal) A) (ix2 r x) = A (ix2 (behind (grid0.coords t 0) r) x) := by
  rw [View.read_apply]
  have h := row_place r x (index_behind t).2.2.1 (behind_val t r)
  exact congrArg A (funext fun a => Fin.ext (match a with | ⟨0, _⟩ => h.1 | ⟨1, _⟩ => h.2))
theorem read_14 (t : Fin cfg0.N) (A : Vec Ideal S16384x2048 .bf16) (r : Fin 256) (x : Fin 2048) :
    (((cfg0.win 14).blk t).view.read (Elt Ideal) A) (ix2 r x) = A (ix2 (behind (grid0.coords t 0) r) x) := by
  rw [View.read_apply]
  have h := row_place r x (index_behind t).2.2.2.1 (behind_val t r)
  exact congrArg A (funext fun a => Fin.ext (match a with | ⟨0, _⟩ => h.1 | ⟨1, _⟩ => h.2))
theorem read_15 (t : Fin cfg0.N) (A : Vec Ideal S16384x2048 .bf16) (r : Fin 256) (x : Fin 2048) :
    (((cfg0.win 15).blk t).view.read (Elt Ideal) A) (ix2 r x) = A (ix2 (behind (grid0.coords t 0) r) x) := by
  rw [View.read_apply]
  have h := row_place r x (index_behind t).2.2.2.2.1 (behind_val t r)
  exact congrArg A (funext fun a => Fin.ext (match a with | ⟨0, _⟩ => h.1 | ⟨1, _⟩ => h.2))
theorem read_16 (t : Fin cfg0.N) (A : Vec Ideal S16384x1024 .f32) (r : Fin 256) (x : Fin 1024) :
    (((cfg0.win 16).blk t).view.read (Elt Ideal) A) (ix2 r x) = A (ix2 (behind (grid0.coords t 0) r) x) := by
  rw [View.read_apply]
  have h := row_place r x (index_behind t).2.2.2.2.2 (behind_val t r)
  exact congrArg A (funext fun a => Fin.ext (match a with | ⟨0, _⟩ => h.1 | ⟨1, _⟩ => h.2))

/-! ## The arguments -/

abbrev arg0 : FVec Ideal S16384x1024 .f32 := m ((c : Thread nD τ).loc main_arg0)
abbrev arg1 : FVec Ideal S1x1024 .f32 := m ((c : Thread nD τ).loc main_arg1)
abbrev arg2 : FVec Ideal S1x1024 .f32 := m ((c : Thread nD τ).loc main_arg2)
abbrev arg3 : FVec Ideal S1x1024 .f32 := m ((c : Thread nD τ).loc main_arg3)
abbrev arg4 : FVec Ideal S1024x4096 .f32 := m ((c : Thread nD τ).loc main_arg4)
abbrev arg5 : FVec Ideal S16384x1024 .f32 := m ((c : Thread nD τ).loc main_arg5)
abbrev arg6 : FVec Ideal S1x1024 .f32 := m ((c : Thread nD τ).loc main_arg6)
abbrev arg7 : FVec Ideal S4x512x512 .f32 := m ((c : Thread nD τ).loc main_arg7)
abbrev arg8 : FVec Ideal S1x2048 .f32 := m ((c : Thread nD τ).loc main_arg8)
abbrev arg9 : FVec Ideal S1x2048 .f32 := m ((c : Thread nD τ).loc main_arg9)
abbrev arg10 : FVec Ideal S2048x1024 .f32 := m ((c : Thread nD τ).loc main_arg10)
abbrev arg11 : FVec Ideal S1x1024 .f32 := m ((c : Thread nD τ).loc main_arg11)

theorem v2_eq : V m c main_v2 = (truncf .bf16 (transpose S4x1024x1024 [1, 0, 2] (shapeCast S1024x4x1024 (arg4 m c) shapeCasts_S1024x4096_S1024x4x1024) transposes_S1024x4x1024_S4x1024x1024_1_0_2) bitsLt_bf16_f32 : FVec Ideal S4x1024x1024 .bf16) := by
  unfold_abbrev_sides
  after_reads_simp
  rfl
theorem v3_eq : V m c main_v3 = (truncf .bf16 (arg7 m c) bitsLt_bf16_f32 : FVec Ideal S4x512x512 .bf16) := by
  unfold_abbrev_sides
  after_reads_simp
theorem v4_eq : V m c main_v4 = (truncf .bf16 (arg10 m c) bitsLt_bf16_f32 : FVec Ideal S2048x1024 .bf16) := by
  unfold_abbrev_sides
  after_reads_simp

theorem w_at (k : Fin 4) (d : Fin 1024) (j : Fin 1024) : V m c main_v2 (ix3 k d j) = arg4 m c (ix2 d (qcol k j)) := by
  rw [v2_eq]
  pointwise
  exact congrArg (fun a => arg4 m c (ix2 d a)) (Fin.ext (congrArg (· + j.val) (Nat.mul_comm _ _)))

/-- The sequence, the target and the weights as functions. -/
abbrev vx (s : Fin 16384) (d : Fin 1024) : EReal := arg0 m c (ix2 s d)
abbrev vtgt (s : Fin 16384) (d : Fin 1024) : EReal := arg5 m c (ix2 s d)
abbrev vg (d : Fin 1024) : EReal := arg1 m c (ix2 0 d)
abbrev vsc (d : Fin 1024) : EReal := arg2 m c (ix2 0 d)
abbrev vsh (d : Fin 1024) : EReal := arg3 m c (ix2 0 d)
abbrev vw (d : Fin 1024) (q : Fin 4096) : EReal := arg4 m c (ix2 d q)
abbrev vgate (d : Fin 1024) : EReal := arg6 m c (ix2 0 d)
abbrev vwg (k : Fin 4) (a b : Fin 512) : EReal := arg7 m c (ix3 k a b)
abbrev vbg (q : Fin 2048) : EReal := arg8 m c (ix2 0 q)
abbrev vs (q : Fin 2048) : EReal := arg9 m c (ix2 0 q)
abbrev vwo (q : Fin 2048) (d : Fin 1024) : EReal := arg10 m c (ix2 q d)
abbrev vgf (d : Fin 1024) : EReal := arg11 m c (ix2 0 d)
/-- The modulated rows, their product and the residual stream behind the layer. -/
abbrev vh : Fin 16384 → Fin 1024 → EReal := Forward.h (vx m c) (vg m c) (vsc m c) (vsh m c)
abbrev vp : Fin 16384 → Fin 4096 → EReal := proj (vx m c) (vg m c) (vsc m c) (vsh m c) (vw m c)
abbrev vr : Fin 16384 → Fin 1024 → EReal := Forward.x2 (vx m c) (vgate m c) (vp m c) (vwg m c) (vbg m c) (vs m c) (vwo m c)
/-- A row's terms of the loss and of the final gain's gradient. -/
abbrev vsq (d : Fin 1024) (s : Fin 16384) : EReal := err (vtgt m c) (vgf m c) (vr m c) s d * err (vtgt m c) (vgf m c) (vr m c) s d
abbrev vdg (d : Fin 1024) (s : Fin 16384) : EReal := derr (vtgt m c) (vgf m c) (vr m c) s d * Norm.nrm (vr m c s) d

theorem blocks_ahead (t : Fin cfg0.N) : Ahead (grid0.coords t 0) (iblk m c 0 t) (iblk m c 3 t) (iblk m c 4 t) (iblk m c 5 t) (iblk m c 6 t)
    (vx m c) (vg m c) (vsc m c) (vsh m c) (vw m c) where
  x_eq r d := (read_0 t (V m c main_arg0) r d).trans (by rw [V_main_arg0])
  g_eq d := (congrFun (read_3 t (V m c main_arg1)) _).trans (by rw [V_main_arg1])
  sc_eq d := (congrFun (read_4 t (V m c main_arg2)) _).trans (by rw [V_main_arg2])
  sh_eq d := (congrFun (read_5 t (V m c main_arg3)) _).trans (by rw [V_main_arg3])
  w_eq k d j := (congrFun (read_6 t (V m c main_v2)) _).trans (w_at m c k d j)

theorem blocks_weights (t : Fin cfg0.N) : Weights (iblk m c 7 t) (iblk m c 8 t) (iblk m c 9 t) (iblk m c 10 t) (iblk m c 11 t) (iblk m c 12 t)
    (vgate m c) (vwg m c) (vbg m c) (vs m c) (vwo m c) (vgf m c) where
  gate_eq d := (congrFun (read_7 t (V m c main_arg6)) _).trans (by rw [V_main_arg6])
  wg_eq k a b := (congrFun (read_8 t (V m c main_v3)) _).trans (by rw [v3_eq]; rfl)
  bg_eq q := (congrFun (read_9 t (V m c main_arg8)) _).trans (by rw [V_main_arg8])
  s_eq q := (congrFun (read_10 t (V m c main_arg9)) _).trans (by rw [V_main_arg9])
  wo_eq q d := (congrFun (read_11 t (V m c main_v4)) _).trans (by rw [v4_eq]; rfl)
  gf_eq d := (congrFun (read_12 t (V m c main_arg11)) _).trans (by rw [V_main_arg11])

/-! ## Point after point -/

/-- What the call has in its buffers after point `t`. -/
structure Left (t : Fin cfg0.N) : Prop where
  pool : t.val ≠ 0 → (outsAt0 m c t.val t.isLt).1 = fun j => diff (vp m c) (behind (grid0.coords t 0) (j 0)) (j 1)
  mix : t.val ≠ 0 → (outsAt0 m c t.val t.isLt).2.1 = fun j => mixed (vp m c) (vwg m c) (vbg m c) (behind (grid0.coords t 0) (j 0)) (j 1)
  gated : t.val ≠ 0 → (outsAt0 m c t.val t.isLt).2.2.1 = fun j => y (vp m c) (vwg m c) (vbg m c) (vs m c) (behind (grid0.coords t 0) (j 0)) (j 1)
  dres : t.val ≠ 0 → (outsAt0 m c t.val t.isLt).2.2.2.1 = fun j => dx2 (vtgt m c) (vgf m c) (vr m c) (behind (grid0.coords t 0) (j 0)) (j 1)
  loss : (outsAt0 m c t.val t.isLt).2.2.2.2.1 = fun j => Sums.part (fun b => ∑ r, vsq m c (j 1) (Sums.row rows_eq b r)) t.val
  gain : (outsAt0 m c t.val t.isLt).2.2.2.2.2.1 = fun j => Sums.part (fun b => ∑ r, vdg m c (j 1) (Sums.row rows_eq b r)) t.val
  mod : (outsAt0 m c t.val t.isLt).2.2.2.2.2.2.1 = fun j => vh m c (ahead (grid0.coords t 0) (j 0)) (j 1)
  prod : (outsAt0 m c t.val t.isLt).2.2.2.2.2.2.2.1 = fun j => vp m c (ahead (grid0.coords t 0) (j 0)) (j 1)
  next : (outsAt0 m c t.val t.isLt).2.2.2.2.2.2.2.2.1 = fun j => vp m c (ahead (grid0.coords t 0) (j 0)) (j 1)
  prev : (outsAt0 m c t.val t.isLt).2.2.2.2.2.2.2.2.2 = fun j => ext (vp m c) (256 * t.val + (j 0).val) (j 1)

end Cert.FwdIdeal.Point

end
-- ==== Proof.FwdGrid.lean ====
/-
  Point after point of the forward pass: what the call has in its buffers after each.
-/
module

public import proofs.«01_k».proof.Proof.FwdBlocks

@[expose] public section

set_option maxRecDepth 16384

noncomputable section

namespace Cert.FwdIdeal.Point

open Idealize.ShloMosaic Idealize.ShloMosaic.TcCoe Idealize.SL.Sem Cert.FwdIdeal Cert.FwdIdeal.Gen Cert.Forward Cert.Mixer
open Idealize.ShloMosaic.Pipeline (Dat)
open scoped BigOperators

variable (m : (ℓ : Loc nD τ sig) → Buf (Elt Ideal) ℓ) (c : Dev nD)

theorem ext_zero (t : Fin cfg0.N) (h0 : t.val = 0) (r : Fin 16) (q : Fin 2048) : ext (vp m c) (256 * t.val + r.val) q = 0 :=
  dif_neg fun h => by have h := h.1; rw [h0] at h; omega
theorem ext_next (n : ℕ) (hn : n + 1 < cfg0.N) (r : Fin 16) (q : Fin 2048) :
    vp m c (behind (grid0.coords ⟨n + 1, hn⟩ 0) ⟨240 + r.val, by omega⟩) (lo q) = ext (vp m c) (256 * (n + 1) + r.val) q := by
  have hl : n + 1 < 65 := lt65 ⟨n + 1, hn⟩
  have h : 16 ≤ 256 * (n + 1) + r.val ∧ 256 * (n + 1) + r.val < 16 + 16384 := by omega
  rw [ext, dif_pos h]
  refine congrArg (fun s => vp m c s (lo q)) (Fin.ext ((behind_val _ _).trans ?_))
  show 256 * (n + 1 - 1) + (240 + r.val) = 256 * (n + 1) + r.val - 16
  omega

theorem left_first (t : Fin cfg0.N) (h0 : t.val = 0) : Left m c t := by
  have hz : t.val % 65 = 0 := by rw [h0]
  have hc : (grid0.coords t 0).val = 0 := (coord t).trans h0
  have E := outsAt0_A m c t hz
  have A := blocks_ahead m c t
  refine ⟨fun h => absurd h0 h, fun h => absurd h0 h, fun h => absurd h0 h, fun h => absurd h0 h, ?_, ?_, ?_, ?_, ?_, ?_⟩
  · have e := congrArg (fun q => q.2.2.2.2.1) E
    dsimp only at e
    refine (e.trans (loss_zero (h0 := hc) ..)).trans (funext fun j => ?_)
    rw [h0]
    exact (Finset.sum_range_zero _).symm
  · have e := congrArg (fun q => q.2.2.2.2.2.1) E
    dsimp only at e
    refine (e.trans (dgf_zero (h0 := hc) ..)).trans (funext fun j => ?_)
    rw [h0]
    exact (Finset.sum_range_zero _).symm
  · have e := congrArg (fun q => q.2.2.2.2.2.2.1) E
    dsimp only at e
    exact e.trans (h_first (H := A) ..)
  · have e := congrArg (fun q => q.2.2.2.2.2.2.2.1) E
    dsimp only at e
    exact e.trans (proj_first (H := A) ..)
  · have e := congrArg (fun q => q.2.2.2.2.2.2.2.2.1) E
    dsimp only at e
    exact e.trans (next_first (H := A) ..)
  · have e := congrArg (fun q => q.2.2.2.2.2.2.2.2.2) E
    dsimp only at e
    exact (e.trans (prev_first ..)).trans (funext fun j => (ext_zero m c t h0 (j 0) (j 1)).symm)

theorem behind_next (n : ℕ) (hn : n + 1 < cfg0.N) (hb : n < 64) (r : Fin 256) : behind (grid0.coords ⟨n + 1, hn⟩ 0) r = Sums.row rows_eq ⟨n, hb⟩ r :=
  Fin.ext (behind_val ⟨n + 1, hn⟩ r)

theorem blocks_behind (n : ℕ) (hn : n + 1 < cfg0.N) (L : Left m c ⟨n, Nat.lt_of_succ_lt hn⟩) :
    Behind (grid0.coords ⟨n + 1, hn⟩ 0) (iblk m c 1 ⟨n + 1, hn⟩) (iblk m c 2 ⟨n + 1, hn⟩) (outsAt0 m c n (Nat.lt_of_succ_lt hn)).2.2.2.2.2.2.2.2.1
      (outsAt0 m c n (Nat.lt_of_succ_lt hn)).2.2.2.2.2.2.2.2.2 (vx m c) (vtgt m c) (vp m c) where
  x_eq r d := (read_1 _ (V m c main_arg0) r d).trans (by rw [V_main_arg0])
  tgt_eq r d := (read_2 _ (V m c main_arg5) r d).trans (by rw [V_main_arg5])
  p_eq r q := (congrFun L.next _).trans (congrArg (fun s => vp m c s q) (Fin.ext ((ahead_val _ r).trans (Eq.trans (by
    have := lt65 ⟨n + 1, hn⟩
    show 256 * min n 63 + r.val = 256 * (n + 1 - 1) + r.val
    change n + 1 < 65 at this
    omega) (behind_val _ r).symm))))
  prev_eq r q := (congrFun L.prev _).trans (congrArg (fun s => ext (vp m c) (256 * s + r.val) q) (by rw [coord]; rfl))

theorem left_next (n : ℕ) (hn : n + 1 < cfg0.N) (L : Left m c ⟨n, Nat.lt_of_succ_lt hn⟩) : Left m c ⟨n + 1, hn⟩ := by
  have hl : n + 1 < 65 := lt65 ⟨n + 1, hn⟩
  have hb : n < 64 := by omega
  have hz : ¬(n + 1) % 65 = 0 := by omega
  have hc : (grid0.coords ⟨n + 1, hn⟩ 0).val ≠ 0 := by rw [coord]; exact Nat.succ_ne_zero n
  have E := outsAt0_B m c ⟨n + 1, hn⟩ hz
  have A := blocks_ahead m c ⟨n + 1, hn⟩
  have B := blocks_behind m c n hn L
  have W := blocks_weights m c ⟨n + 1, hn⟩
  refine ⟨fun _ => ?_, fun _ => ?_, fun _ => ?_, fun _ => ?_, ?_, ?_, ?_, ?_, ?_, ?_⟩
  · have e := congrArg (fun q => q.1) E
    dsimp only at e
    exact e.trans (pool_next (B := B) ..)
  · have e := congrArg (fun q => q.2.1) E
    dsimp only at e
    exact e.trans (mixed_next (B := B) (W := W) ..)
  · have e := congrArg (fun q => q.2.2.1) E
    dsimp only at e
    exact e.trans (y_next (B := B) (W := W) ..)
  · have e := congrArg (fun q => q.2.2.2.1) E
    dsimp only at e
    exact e.trans (dx2_next (B := B) (W := W) ..)
  · have e := congrArg (fun q => q.2.2.2.2.1) E
    dsimp only at e
    refine (e.trans (loss_next (h0 := hc) (B := B) (W := W) ..)).trans (funext fun j => Eq.trans ?_ (Sums.part_succ _ n hb).symm)
    exact congrArg₂ (· + ·) (congrFun L.loss (ix2 0 (j 1))) (Finset.sum_congr rfl fun r _ => congrArg (vsq m c (j 1)) (behind_next n hn hb r))
  · have e := congrArg (fun q => q.2.2.2.2.2.1) E
    dsimp only at e
    refine (e.trans (dgf_next (h0 := hc) (B := B) (W := W) ..)).trans (funext fun j => Eq.trans ?_ (Sums.part_succ _ n hb).symm)
    exact congrArg₂ (· + ·) (congrFun L.gain (ix2 0 (j 1))) (Finset.sum_congr rfl fun r _ => congrArg (vdg m c (j 1)) (behind_next n hn hb r))
  · have e := congrArg (fun q => q.2.2.2.2.2.2.1) E
    dsimp only at e
    exact e.trans (h_next (H := A) ..)
  · have e := congrArg (fun q => q.2.2.2.2.2.2.2.1) E
    dsimp only at e
    exact e.trans (proj_next (H := A) ..)
  · have e := congrArg (fun q => q.2.2.2.2.2.2.2.2.1) E
    dsimp only at e
    exact e.trans (next_next (H := A) ..)
  · have e := congrArg (fun q => q.2.2.2.2.2.2.2.2.2) E
    dsimp only at e
    exact (e.trans (prev_next ..)).trans (funext fun j => (values_at B ⟨240 + (j 0).val, _⟩ (j 1)).trans (ext_next m c n hn (j 0) (j 1)))

theorem left : ∀ (n : ℕ) (hn : n < cfg0.N), Left m c ⟨n, hn⟩
  | 0, hn => left_first m c ⟨0, hn⟩ rfl
  | n + 1, hn => left_next m c n hn (left n (Nat.lt_of_succ_lt hn))

theorem left_at (t : Fin cfg0.N) : Left m c t := left m c t.val t.isLt

end Cert.FwdIdeal.Point

end
-- ==== Proof.FwdEnd.lean ====
/-
  The eight arrays the forward pass's run ends with, over the formulas for the whole sequence.
-/
module

public import proofs.«01_k».proof.Proof.FwdGrid

@[expose] public section

set_option maxRecDepth 16384

noncomputable section

namespace Cert.FwdIdeal.Point

open Idealize.ShloMosaic Idealize.ShloMosaic.TcCoe Idealize.SL.Sem Cert.FwdIdeal Cert.FwdIdeal.Gen Cert.Forward Cert.Mixer
open Idealize.ShloMosaic.Pipeline (Dat)
open scoped BigOperators

variable (m : (ℓ : Loc nD τ sig) → Buf (Elt Ideal) ℓ) (c : Dev nD)

/-! ## The arrays the run ends with -/

def endPool : Vec Ideal S16384x2048 .bf16 := fun j => diff (vp m c) (j 0) (j 1)
def endMixed : Vec Ideal S16384x2048 .bf16 := fun j => mixed (vp m c) (vwg m c) (vbg m c) (j 0) (j 1)
def endY : Vec Ideal S16384x2048 .bf16 := fun j => y (vp m c) (vwg m c) (vbg m c) (vs m c) (j 0) (j 1)
def endDx2 : Vec Ideal S16384x1024 .f32 := fun j => dx2 (vtgt m c) (vgf m c) (vr m c) (j 0) (j 1)
def endLoss : Vec Ideal S1x1024 .f32 := fun j => ∑ s, vsq m c (j 1) s
def endGain : Vec Ideal S1x1024 .f32 := fun j => ∑ s, vdg m c (j 1) s
def endH : Vec Ideal S16384x1024 .bf16 := fun j => vh m c (j 0) (j 1)
def endProj : Vec Ideal S16384x4096 .bf16 := fun j => vp m c (j 0) (j 1)

/-- The points that write back: all but the first, and all but the last but one. -/
theorem flush_behind : ∀ t : Fin cfg0.N, ((cfg0.win 13).flush t = true ↔ t.val ≠ 0) ∧ ((cfg0.win 14).flush t = true ↔ t.val ≠ 0)
    ∧ ((cfg0.win 15).flush t = true ↔ t.val ≠ 0) ∧ ((cfg0.win 16).flush t = true ↔ t.val ≠ 0) :=
  (by decide +kernel : ∀ t : Fin grid0.N, (win0_13.flush t = true ↔ t.val ≠ 0) ∧ (win0_14.flush t = true ↔ t.val ≠ 0)
    ∧ (win0_15.flush t = true ↔ t.val ≠ 0) ∧ (win0_16.flush t = true ↔ t.val ≠ 0))
theorem flush_ahead : ∀ t : Fin cfg0.N, ((cfg0.win 19).flush t = true ↔ t.val ≠ 63) ∧ ((cfg0.win 20).flush t = true ↔ t.val ≠ 63) :=
  (by decide +kernel : ∀ t : Fin grid0.N, (win0_19.flush t = true ↔ t.val ≠ 63) ∧ (win0_20.flush t = true ↔ t.val ≠ 63))

theorem xsize : ∀ t : Fin cfg0.N, (win0_13.xsize (grid0.coords t) 0 = 256 ∧ win0_13.xsize (grid0.coords t) 1 = 2048)
    ∧ (win0_14.xsize (grid0.coords t) 0 = 256 ∧ win0_14.xsize (grid0.coords t) 1 = 2048) ∧ (win0_15.xsize (grid0.coords t) 0 = 256 ∧ win0_15.xsize (grid0.coords t) 1 = 2048)
    ∧ (win0_16.xsize (grid0.coords t) 0 = 256 ∧ win0_16.xsize (grid0.coords t) 1 = 1024) ∧ (win0_17.xsize (grid0.coords t) 0 = 1 ∧ win0_17.xsize (grid0.coords t) 1 = 1024)
    ∧ (win0_18.xsize (grid0.coords t) 0 = 1 ∧ win0_18.xsize (grid0.coords t) 1 = 1024) ∧ (win0_19.xsize (grid0.coords t) 0 = 256 ∧ win0_19.xsize (grid0.coords t) 1 = 1024)
    ∧ (win0_20.xsize (grid0.coords t) 0 = 256 ∧ win0_20.xsize (grid0.coords t) 1 = 4096) :=
  (by decide +kernel : ∀ t : Fin grid0.N, (win0_13.xsize (grid0.coords t) 0 = 256 ∧ win0_13.xsize (grid0.coords t) 1 = 2048)
    ∧ (win0_14.xsize (grid0.coords t) 0 = 256 ∧ win0_14.xsize (grid0.coords t) 1 = 2048) ∧ (win0_15.xsize (grid0.coords t) 0 = 256 ∧ win0_15.xsize (grid0.coords t) 1 = 2048)
    ∧ (win0_16.xsize (grid0.coords t) 0 = 256 ∧ win0_16.xsize (grid0.coords t) 1 = 1024) ∧ (win0_17.xsize (grid0.coords t) 0 = 1 ∧ win0_17.xsize (grid0.coords t) 1 = 1024)
    ∧ (win0_18.xsize (grid0.coords t) 0 = 1 ∧ win0_18.xsize (grid0.coords t) 1 = 1024) ∧ (win0_19.xsize (grid0.coords t) 0 = 256 ∧ win0_19.xsize (grid0.coords t) 1 = 1024)
    ∧ (win0_20.xsize (grid0.coords t) 0 = 256 ∧ win0_20.xsize (grid0.coords t) 1 = 4096))

/-- An entry lies in the block of rows its row falls in. -/
theorem in_rows {b w q : ℕ} {i st sz : Fin 2 → ℕ} (h1 : i 1 < w) (hq : b * q ≤ i 0 ∧ i 0 < b * q + b) (e : st 0 = q ∧ st 1 = 0) (z : sz 0 = b ∧ sz 1 = w) :
    ∀ a : Fin 2, st a * ![b, w] a ≤ i a ∧ i a < st a * ![b, w] a + sz a
  | ⟨0, _⟩ => by show st 0 * b ≤ i 0 ∧ i 0 < st 0 * b + sz 0; rw [e.1, z.1, Nat.mul_comm q b]; exact hq
  | ⟨1, _⟩ => by show st 1 * w ≤ i 1 ∧ i 1 < st 1 * w + sz 1; rw [e.2, z.2]; omega

/-- The point behind which a row lies. -/
def after (s : Fin 16384) : Fin cfg0.N := ⟨s.val / 256 + 1, Nat.lt_of_lt_of_eq (by omega : s.val / 256 + 1 < 65) N_0.symm⟩
/-- The point that writes back the block a row falls in. -/
def during (s : Fin 16384) : Fin cfg0.N := ⟨if s.val / 256 = 63 then 64 else s.val / 256, Nat.lt_of_lt_of_eq (by split <;> omega : (if s.val / 256 = 63 then 64 else s.val / 256) < 65) N_0.symm⟩
theorem after_ne (s : Fin 16384) : (after s).val ≠ 0 := Nat.succ_ne_zero _
theorem during_ne (s : Fin 16384) : (during s).val ≠ 63 := by
  show (if s.val / 256 = 63 then 64 else s.val / 256) ≠ 63
  split <;> omega
theorem after_rows (s : Fin 16384) : 256 * ((after s).val - 1) ≤ s.val ∧ s.val < 256 * ((after s).val - 1) + 256 := by
  show 256 * (s.val / 256 + 1 - 1) ≤ s.val ∧ s.val < 256 * (s.val / 256 + 1 - 1) + 256
  omega
theorem during_rows (s : Fin 16384) : 256 * min (during s).val 63 ≤ s.val ∧ s.val < 256 * min (during s).val 63 + 256 := by
  show 256 * min (if s.val / 256 = 63 then 64 else s.val / 256) 63 ≤ s.val ∧ s.val < 256 * min (if s.val / 256 = 63 then 64 else s.val / 256) 63 + 256
  split <;> omega

/-- The last point. -/
def last : Fin cfg0.N := ⟨64, by rw [show cfg0.N = 65 from N_0]; decide⟩
theorem eq_last (t : Fin cfg0.N) (h : t.val % 65 = 64) : t = last := Fin.ext (by have := lt65 t; show t.val = 64; omega)
theorem all_rows (f : Fin 16384 → EReal) : Sums.part (fun b => ∑ r, f (Sums.row rows_eq b r)) 64 = ∑ s, f s :=
  (Sums.part_all _).trans (Sums.sum_blocks rows_eq f)

theorem flushed_13 (t : Fin cfg0.N) (hf : (cfg0.win 13).flush t = true) : (dats m 0 c).flushed 13 t = ((cfg0.win 13).blk t).view.read (Elt Ideal) (endPool m c) := by
  show (cfg0.win 13).cut (grid0.coords t) ((dats m 0 c).after 13 t) = _
  rw [after0_13, (left_at m c t).pool (((flush_behind t).1).mp hf)]
  funext j
  obtain ⟨r, x, rfl⟩ : ∃ (r : Fin 256) (x : Fin 2048), j = ix2 r x := ⟨j 0, j 1, eq_ix2 j⟩
  exact (read_13 t (endPool m c) r x).symm
theorem final_13 : (dats m 0 c).arrAt 13 cfg0.N = endPool m c :=
  (dats m 0 c).arrAt_eq_of_cover 13 _ (flushed_13 m c) fun i => by
    refine ⟨after (i 0), ((flush_behind _).1).mpr (after_ne (i 0)), ?_⟩
    show i ∈ ((View.whole main_v5_0).slice (win0_13.rect (after (i 0)))).set
    rw [View.set_slice_whole, Rect.mem_set_unit]
    exact in_rows (i := fun a => (i a : Nat)) (i 1).isLt (after_rows (i 0)) (index_behind _).2.2.1 (xsize _).1

theorem flushed_14 (t : Fin cfg0.N) (hf : (cfg0.win 14).flush t = true) : (dats m 0 c).flushed 14 t = ((cfg0.win 14).blk t).view.read (Elt Ideal) (endMixed m c) := by
  show (cfg0.win 14).cut (grid0.coords t) ((dats m 0 c).after 14 t) = _
  rw [after0_14, (left_at m c t).mix (((flush_behind t).2.1).mp hf)]
  funext j
  obtain ⟨r, x, rfl⟩ : ∃ (r : Fin 256) (x : Fin 2048), j = ix2 r x := ⟨j 0, j 1, eq_ix2 j⟩
  exact (read_14 t (endMixed m c) r x).symm
theorem final_14 : (dats m 0 c).arrAt 14 cfg0.N = endMixed m c :=
  (dats m 0 c).arrAt_eq_of_cover 14 _ (flushed_14 m c) fun i => by
    refine ⟨after (i 0), ((flush_behind _).2.1).mpr (after_ne (i 0)), ?_⟩
    show i ∈ ((View.whole main_v5_1).slice (win0_14.rect (after (i 0)))).set
    rw [View.set_slice_whole, Rect.mem_set_unit]
    exact in_rows (i := fun a => (i a : Nat)) (i 1).isLt (after_rows (i 0)) (index_behind _).2.2.2.1 (xsize _).2.1

theorem flushed_15 (t : Fin cfg0.N) (hf : (cfg0.win 15).flush t = true) : (dats m 0 c).flushed 15 t = ((cfg0.win 15).blk t).view.read (Elt Ideal) (endY m c) := by
  show (cfg0.win 15).cut (grid0.coords t) ((dats m 0 c).after 15 t) = _
  rw [after0_15, (left_at m c t).gated (((flush_behind t).2.2.1).mp hf)]
  funext j
  obtain ⟨r, x, rfl⟩ : ∃ (r : Fin 256) (x : Fin 2048), j = ix2 r x := ⟨j 0, j 1, eq_ix2 j⟩
  exact (read_15 t (endY m c) r x).symm
theorem final_15 : (dats m 0 c).arrAt 15 cfg0.N = endY m c :=
  (dats m 0 c).arrAt_eq_of_cover 15 _ (flushed_15 m c) fun i => by
    refine ⟨after (i 0), ((flush_behind _).2.2.1).mpr (after_ne (i 0)), ?_⟩
    show i ∈ ((View.whole main_v5_2).slice (win0_15.rect (after (i 0)))).set
    rw [View.set_slice_whole, Rect.mem_set_unit]
    exact in_rows (i := fun a => (i a : Nat)) (i 1).isLt (after_rows (i 0)) (index_behind _).2.2.2.2.1 (xsize _).2.2.1

theorem flushed_16 (t : Fin cfg0.N) (hf : (cfg0.win 16).flush t = true) : (dats m 0 c).flushed 16 t = ((cfg0.win 16).blk t).view.read (Elt Ideal) (endDx2 m c) := by
  show (cfg0.win 16).cut (grid0.coords t) ((dats m 0 c).after 16 t) = _
  rw [after0_16, (left_at m c t).dres (((flush_behind t).2.2.2).mp hf)]
  funext j
  obtain ⟨r, x, rfl⟩ : ∃ (r : Fin 256) (x : Fin 1024), j = ix2 r x := ⟨j 0, j 1, eq_ix2 j⟩
  exact (read_16 t (endDx2 m c) r x).symm
theorem final_16 : (dats m 0 c).arrAt 16 cfg0.N = endDx2 m c :=
  (dats m 0 c).arrAt_eq_of_cover 16 _ (flushed_16 m c) fun i => by
    refine ⟨after (i 0), ((flush_behind _).2.2.2).mpr (after_ne (i 0)), ?_⟩
    show i ∈ ((View.whole main_v5_3).slice (win0_16.rect (after (i 0)))).set
    rw [View.set_slice_whole, Rect.mem_set_unit]
    exact in_rows (i := fun a => (i a : Nat)) (i 1).isLt (after_rows (i 0)) (index_behind _).2.2.2.2.2 (xsize _).2.2.2.1

theorem flushed_19 (t : Fin cfg0.N) (hf : (cfg0.win 19).flush t = true) : (dats m 0 c).flushed 19 t = ((cfg0.win 19).blk t).view.read (Elt Ideal) (endH m c) := by
  show (cfg0.win 19).cut (grid0.coords t) ((dats m 0 c).after 19 t) = _
  rw [after0_19, (left_at m c t).mod]
  funext j
  obtain ⟨r, x, rfl⟩ : ∃ (r : Fin 256) (x : Fin 1024), j = ix2 r x := ⟨j 0, j 1, eq_ix2 j⟩
  exact (read_19 t (endH m c) r x).symm
theorem final_19 : (dats m 0 c).arrAt 19 cfg0.N = endH m c :=
  (dats m 0 c).arrAt_eq_of_cover 19 _ (flushed_19 m c) fun i => by
    refine ⟨during (i 0), ((flush_ahead _).1).mpr (during_ne (i 0)), ?_⟩
    show i ∈ ((View.whole main_v5_6).slice (win0_19.rect (during (i 0)))).set
    rw [View.set_slice_whole, Rect.mem_set_unit]
    exact in_rows (i := fun a => (i a : Nat)) (i 1).isLt (during_rows (i 0)) (index_ahead _).2.1 (xsize _).2.2.2.2.2.2.1

theorem flushed_20 (t : Fin cfg0.N) (hf : (cfg0.win 20).flush t = true) : (dats m 0 c).flushed 20 t = ((cfg0.win 20).blk t).view.read (Elt Ideal) (endProj m c) := by
  show (cfg0.win 20).cut (grid0.coords t) ((dats m 0 c).after 20 t) = _
  rw [after0_20, (left_at m c t).prod]
  funext j
  obtain ⟨r, x, rfl⟩ : ∃ (r : Fin 256) (x : Fin 4096), j = ix2 r x := ⟨j 0, j 1, eq_ix2 j⟩
  exact (read_20 t (endProj m c) r x).symm
theorem final_20 : (dats m 0 c).arrAt 20 cfg0.N = endProj m c :=
  (dats m 0 c).arrAt_eq_of_cover 20 _ (flushed_20 m c) fun i => by
    refine ⟨during (i 0), ((flush_ahead _).2).mpr (during_ne (i 0)), ?_⟩
    show i ∈ ((View.whole main_v5_7).slice (win0_20.rect (during (i 0)))).set
    rw [View.set_slice_whole, Rect.mem_set_unit]
    exact in_rows (i := fun a => (i a : Nat)) (i 1).isLt (during_rows (i 0)) (index_ahead _).2.2 (xsize _).2.2.2.2.2.2.2

theorem flushed_17 (t : Fin cfg0.N) (hf : (cfg0.win 17).flush t = true) : (dats m 0 c).flushed 17 t = ((cfg0.win 17).blk t).view.read (Elt Ideal) (endLoss m c) := by
  obtain rfl := eq_last t ((flush0_17 t).mp hf)
  show (cfg0.win 17).cut (grid0.coords last) ((dats m 0 c).after 17 last) = _
  rw [after0_17, (left_at m c last).loss, read_17]
  exact funext fun j => all_rows _
theorem final_17 : (dats m 0 c).arrAt 17 cfg0.N = endLoss m c :=
  (dats m 0 c).arrAt_eq_of_cover 17 _ (flushed_17 m c) fun i => by
    refine ⟨last, (flush0_17 _).mpr rfl, ?_⟩
    show i ∈ ((View.whole main_v5_4).slice (win0_17.rect last)).set
    rw [View.set_slice_whole, Rect.mem_set_unit]
    have h0 : (i 0 : Nat) < 1 := (i 0).isLt
    exact in_rows (i := fun a => (i a : Nat)) (b := 1) (q := 0) (i 1).isLt ⟨Nat.zero_le _, h0⟩ ⟨(index_still last).2.2.2.2.2.2.2.2.2.2.1 0, (index_still last).2.2.2.2.2.2.2.2.2.2.1 1⟩ (xsize _).2.2.2.2.1

theorem flushed_18 (t : Fin cfg0.N) (hf : (cfg0.win 18).flush t = true) : (dats m 0 c).flushed 18 t = ((cfg0.win 18).blk t).view.read (Elt Ideal) (endGain m c) := by
  obtain rfl := eq_last t ((flush0_18 t).mp hf)
  show (cfg0.win 18).cut (grid0.coords last) ((dats m 0 c).after 18 last) = _
  rw [after0_18, (left_at m c last).gain, read_18]
  exact funext fun j => all_rows _
theorem final_18 : (dats m 0 c).arrAt 18 cfg0.N = endGain m c :=
  (dats m 0 c).arrAt_eq_of_cover 18 _ (flushed_18 m c) fun i => by
    refine ⟨last, (flush0_18 _).mpr rfl, ?_⟩
    show i ∈ ((View.whole main_v5_5).slice (win0_18.rect last)).set
    rw [View.set_slice_whole, Rect.mem_set_unit]
    have h0 : (i 0 : Nat) < 1 := (i 0).isLt
    exact in_rows (i := fun a => (i a : Nat)) (b := 1) (q := 0) (i 1).isLt ⟨Nat.zero_le _, h0⟩ ⟨(index_still last).2.2.2.2.2.2.2.2.2.2.2 0, (index_still last).2.2.2.2.2.2.2.2.2.2.2 1⟩ (xsize _).2.2.2.2.2.1

end Cert.FwdIdeal.Point

end
-- ==== Proof.FwdRef.lean ====
/-
  The forward call's reference at one entry of each result.
-/
module

public import proofs.«01_k».proof.Proof.FwdForm
public import proofs.«01_k».proof.Proof.NormRef
public import proofs.«01_k».proof.Proof.RefPool
public import proofs.«01_k».proof.Proof.Gen.FwdRefIdeal.Read

@[expose] public section

set_option maxRecDepth 16384

noncomputable section

namespace Cert.FwdRefIdeal.Point

open Idealize.ShloMosaic Cert.FwdRefIdeal Cert.FwdRefIdeal.Gen Cert.FwdRefIdeal.Read Cert.Mixer Cert.Forward
open Cert.NormRef1Ideal.Point (ofBits_half)
open Cert.Norm1Ideal.Point (ofBits_1024)
open scoped BigOperators

/-- A row's value in the padded sequence, as a sum over all rows. -/
theorem ext_eq {n : ℕ} (p : Fin n → Fin 4096 → EReal) (s : Fin n) (c : Fin 2048) (j : ℕ) :
    ext p (16 + s.val - j) c = ∑ t : Fin n, if t.val + j = s.val then p t (lo c) else 0 := by
  have hs := s.isLt
  by_cases hj : j ≤ s.val
  · rw [Finset.sum_eq_single (⟨s.val - j, by omega⟩ : Fin n)]
    · rw [if_pos (by dsimp only; omega)]
      unfold ext
      rw [dif_pos (by omega)]
      exact congrArg (fun t => p t (lo c)) (Fin.ext (by dsimp only; omega))
    · intro t _ ht
      exact if_neg fun h => ht (Fin.ext (by dsimp only; omega))
    · exact fun h => absurd (Finset.mem_univ _) h
  · unfold ext
    rw [dif_neg (by omega)]
    exact (Finset.sum_eq_zero fun t _ => if_neg (by omega)).symm

/-- The banded product is the sum over the window. -/
theorem band_sum {n : ℕ} (p : Fin n → Fin 4096 → EReal) (s : Fin n) (c : Fin 2048) (w : ℕ) :
    (∑ t : Fin n, (if t.val ≤ s.val ∧ s.val < t.val + w then (1 : EReal) else 0) * p t (lo c)) = ∑ j ∈ Finset.range w, ext p (16 + s.val - j) c := by
  simp only [ext_eq]
  rw [Finset.sum_comm]
  refine Finset.sum_congr rfl fun t _ => ?_
  by_cases ht : t.val ≤ s.val
  · have h : ∀ j, (t.val + j = s.val) = (s.val - t.val = j) := fun j => propext (by omega)
    simp only [h]
    rw [Finset.sum_ite_eq]
    by_cases hw : s.val < t.val + w
    · rw [if_pos ⟨ht, hw⟩, if_pos (Finset.mem_range.2 (by omega)), one_mul]
    · rw [if_neg (fun h => hw h.2), if_neg (fun h => hw (by have := Finset.mem_range.1 h; omega)), zero_mul]
  · rw [if_neg (fun h => ht h.1), zero_mul]
    exact (Finset.sum_eq_zero fun j _ => if_neg (by omega)).symm

theorem ofNat_toInt (a : ℕ) (h : a < 2 ^ 31) : (BitVec.ofNat 32 a).toInt = (a : ℤ) := by
  have : (BitVec.ofNat 32 a).toNat = a := by rw [BitVec.toNat_ofNat]; exact Nat.mod_eq_of_lt (by omega)
  rw [BitVec.toInt_eq_toNat_of_lt (by omega), this]

/-- The band, from the positions as the reference compares them. -/
theorem band (s t : Fin 16384) (w : ℕ) (hw : w ≤ 16) :
    (FloatOps.uitofp .f32 (IntOp.andi (IntOp.cmpi .sle (BitVec.ofNat 32 t.val) (BitVec.ofNat 32 s.val))
      (IntOp.cmpi .slt (IntOp.subi (BitVec.ofNat 32 s.val) (BitVec.ofNat 32 t.val)) (BitVec.ofNat 32 w))) : Ideal .f32)
      = if t.val ≤ s.val ∧ s.val < t.val + w then (1 : EReal) else 0 := by
  have hs := s.isLt
  have ht := t.isLt
  have h1 : (IntOp.cmpi .sle (BitVec.ofNat 32 t.val) (BitVec.ofNat 32 s.val) : BitVec 1) = if t.val ≤ s.val then 1#1 else 0#1 := by
    unfold IntOp.cmpi
    simp only [BitVec.sle_eq_decide, ofNat_toInt _ (show t.val < 2 ^ 31 by omega), ofNat_toInt _ (show s.val < 2 ^ 31 by omega), Nat.cast_le]
    split <;> simp [*]
  by_cases hle : t.val ≤ s.val
  · have hsub : (IntOp.subi (BitVec.ofNat 32 s.val) (BitVec.ofNat 32 t.val) : BitVec 32) = BitVec.ofNat 32 (s.val - t.val) := by
      apply BitVec.eq_of_toNat_eq
      simp only [IntOp.subi, BitVec.toNat_sub, BitVec.toNat_ofNat]
      omega
    have h2 : (IntOp.cmpi .slt (BitVec.ofNat 32 (s.val - t.val)) (BitVec.ofNat 32 w) : BitVec 1) = if s.val < t.val + w then 1#1 else 0#1 := by
      have e : ((s.val - t.val : ℕ) : ℤ) < (w : ℤ) ↔ s.val < t.val + w := by omega
      unfold IntOp.cmpi
      simp only [BitVec.slt_eq_decide, ofNat_toInt _ (show s.val - t.val < 2 ^ 31 by omega), ofNat_toInt _ (show w < 2 ^ 31 by omega), e]
      split <;> simp [*]
    rw [h1, hsub, h2, if_pos hle]
    by_cases hlt : s.val < t.val + w
    · rw [if_pos hlt, if_pos ⟨hle, hlt⟩]
      simp [IntOp.andi, FloatOps.uitofp]
    · rw [if_neg hlt, if_neg (fun h => hlt h.2)]
      simp [IntOp.andi, FloatOps.uitofp]
  · rw [h1, if_neg hle, if_neg (fun h => hle h.1)]
    simp [IntOp.andi, FloatOps.uitofp]

theorem one_bits : Ideal.ofBits .f32 0x3F800000#32 = 1 := by
  simp [Ideal.ofBits, Ideal.ieee, -EReal.coe_mul]
  norm_num

/-- A window's mean, from the band and the count as the reference has them. -/
theorem mean_of (p : Fin 16384 → Fin 4096 → EReal) (s : Fin 16384) (k : Fin 4) (w : ℕ) (hw : w = window k) (h16 : w ≤ 16)
    (v : Fin 16384 → EReal) (c : Fin 2048) (hv : ∀ t, v t = p t (lo c)) :
    Ideal.div (∑ t : Fin 16384, (FloatOps.uitofp .f32 (IntOp.andi (IntOp.cmpi .sle (BitVec.ofNat 32 t.val) (BitVec.ofNat 32 s.val))
        (IntOp.cmpi .slt (IntOp.subi (BitVec.ofNat 32 s.val) (BitVec.ofNat 32 t.val)) (BitVec.ofNat 32 w))) : Ideal .f32) * v t)
      (FloatOps.sitofp .f32 (IntOp.minsi (IntOp.addi 1#32 (BitVec.ofNat 32 s.val)) (BitVec.ofNat 32 w)) : Ideal .f32)
      = (∑ j ∈ Finset.range (window k), ext p (16 + s.val - j) c) * Mixer.inv (s.val + 1) k := by
  rw [← band_sum, ← div_count, ← hw]
  simp only [band s _ w h16, hv]
  refine congrArg (Ideal.div _) ?_
  show (((IntOp.minsi (IntOp.addi 1#32 (BitVec.ofNat 32 s.val)) (BitVec.ofNat 32 w)).toInt : ℝ) : EReal) = _
  rw [ReferenceIdeal.Mixer.count_word s.val w s.isLt h16]
  rfl

theorem zero_cst : constant (F := Ideal) S_ .f32 0x00000000#32 (Shape.Idx.first h_S_) = 0 := by
  simp [constant, Ideal.ofBits, Ideal.ieee]

variable (x0 x5 : FVec Ideal S16384x1024 .f32) (x1 x2 x3 x6 x11 : FVec Ideal S1x1024 .f32) (x4 : FVec Ideal S1024x4096 .f32)
  (x7 : FVec Ideal S4x512x512 .f32) (x8 x9 : FVec Ideal S1x2048 .f32) (x10 : FVec Ideal S2048x1024 .f32) (s : Fin 16384)

abbrev P : Fin 16384 → Fin 4096 → EReal :=
  proj (fun s d => x0 (ix2 s d)) (fun d => x1 (ix2 0 d)) (fun d => x2 (ix2 0 d)) (fun d => x3 (ix2 0 d)) (fun d q => x4 (ix2 d q))

theorem msq_at : val_main_v6 (F := Ideal) x0 (ix2 s 0) = Norm.msq (fun d => x0 (ix2 s d)) := by
  pointwise [val_main_v6, val_main_v5, val_main_v4, val_main_v3, val_main_v2, val_main_v1, val_main_v0]
  rw [show val_main_cst (F := Ideal) (Shape.Idx.first h_S_) = 0 from zero_cst, zero_add]
  exact congrArg (fun a => Ideal.div _ a + _) ofBits_1024

theorem one_at (d : Fin 1024) : val_main_v12 (F := Ideal) (ix2 0 d) = 1 := by
  pointwise [val_main_v12]
  simp [val_main_cst_2, constant, Ideal.ofBits, Ideal.ieee, -EReal.coe_mul]
  norm_num

theorem h_at (d : Fin 1024) : val_main_v17 (F := Ideal) x0 x1 x2 x3 (ix2 s d)
    = h (fun s d => x0 (ix2 s d)) (fun d => x1 (ix2 0 d)) (fun d => x2 (ix2 0 d)) (fun d => x3 (ix2 0 d)) s d := by
  unfold h Norm.nrm Norm.inv
  simp only [← msq_at x0 s]
  pointwise [val_main_v17, val_main_v16, val_main_v15, val_main_v14, val_main_v13, val_main_v11, val_main_v10, val_main_v9, val_main_v8, val_main_v7]
  rw [one_at, ← mul_assoc]
  done

theorem proj_at (q : Fin 4096) : val_main_v18 (F := Ideal) x0 x1 x2 x3 x4 (ix2 s q) = P x0 x1 x2 x3 x4 s q := by
  unfold P proj
  simp only [← h_at]
  pointwise [val_main_v18]

theorem lo_at (c : Fin 2048) : val_main_v19 (F := Ideal) x0 x1 x2 x3 x4 (ix2 s c) = P x0 x1 x2 x3 x4 s (lo c) := by
  rw [← proj_at]
  pointwise [val_main_v19]
  rfl

theorem hi_at (c : Fin 2048) : val_main_v20 (F := Ideal) x0 x1 x2 x3 x4 (ix2 s c) = P x0 x1 x2 x3 x4 s (hi c) := by
  rw [← proj_at]
  pointwise [val_main_v20]
  rfl

/-- The four windows' means. -/
def means : Fin 4 → FVec Ideal S16384x512 .f32 :=
  ![val_main_v46 (F := Ideal) x0 x1 x2 x3 x4, val_main_v72 (F := Ideal) x0 x1 x2 x3 x4, val_main_v98 (F := Ideal) x0 x1 x2 x3 x4, val_main_v124 (F := Ideal) x0 x1 x2 x3 x4]

theorem means_at (k : Fin 4) (m : Fin 512) : means x0 x1 x2 x3 x4 k (ix2 s m)
    = (∑ j ∈ Finset.range (window k), ext (P x0 x1 x2 x3 x4) (16 + s.val - j) (col k m)) * Mixer.inv (s.val + 1) k := by
  match k with
  | 0 =>
    show val_main_v46 (F := Ideal) x0 x1 x2 x3 x4 (ix2 s m) = _
    pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21]
    exact mean_of (P x0 x1 x2 x3 x4) s 0 2 rfl (by decide) _ (col 0 m)
      fun t => (lo_at x0 x1 x2 x3 x4 t _).trans (congrArg (fun c => P x0 x1 x2 x3 x4 t (lo c)) (Fin.ext (by simp [KernelIdeal.Point.val_col])))
  | 1 =>
    show val_main_v72 (F := Ideal) x0 x1 x2 x3 x4 (ix2 s m) = _
    pointwise [val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47]
    exact mean_of (P x0 x1 x2 x3 x4) s 1 4 rfl (by decide) _ (col 1 m)
      fun t => (lo_at x0 x1 x2 x3 x4 t _).trans (congrArg (fun c => P x0 x1 x2 x3 x4 t (lo c)) (Fin.ext (by simp [KernelIdeal.Point.val_col])))
  | 2 =>
    show val_main_v98 (F := Ideal) x0 x1 x2 x3 x4 (ix2 s m) = _
    pointwise [val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73]
    exact mean_of (P x0 x1 x2 x3 x4) s 2 8 rfl (by decide) _ (col 2 m)
      fun t => (lo_at x0 x1 x2 x3 x4 t _).trans (congrArg (fun c => P x0 x1 x2 x3 x4 t (lo c)) (Fin.ext (by simp [KernelIdeal.Point.val_col])))
  | 3 =>
    show val_main_v124 (F := Ideal) x0 x1 x2 x3 x4 (ix2 s m) = _
    pointwise [val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99]
    exact mean_of (P x0 x1 x2 x3 x4) s 3 16 rfl (by decide) _ (col 3 m)
      fun t => (lo_at x0 x1 x2 x3 x4 t _).trans (congrArg (fun c => P x0 x1 x2 x3 x4 t (lo c)) (Fin.ext (by simp [KernelIdeal.Point.val_col])))

/-- Four groups side by side, read at a column of group `k`. -/
theorem groups_at (p : Fin 4 → FVec Ideal S16384x512 .f32) (r : Fin 16384) (k : Fin 4) (m : Fin 512) :
    concatenate S16384x2048 1 [⟨S16384x512, p 0⟩, ⟨S16384x512, p 1⟩, ⟨S16384x512, p 2⟩, ⟨S16384x512, p 3⟩]
      concatenates_S16384x512_S16384x512_S16384x512_S16384x512_S16384x2048_d1 (ix2 r (col k m)) = p k (ix2 r m) := by
  have hm := m.isLt
  have hc := KernelIdeal.Point.val_col k m
  generalize col k m = c at hc
  pointwise
  match k with
  | 0 =>
    simp only [Fin.val_zero] at hc
    rw [dif_pos (by omega)]
    exact congrArg (fun x => p 0 (ix2 r x)) (Fin.ext (by dsimp only; omega))
  | 1 =>
    simp only [Fin.val_one] at hc
    rw [dif_neg (by omega), dif_pos (by omega)]
    exact congrArg (fun x => p 1 (ix2 r x)) (Fin.ext (by dsimp only; omega))
  | 2 =>
    simp only [Fin.val_two] at hc
    rw [dif_neg (by omega), dif_neg (by omega), dif_pos (by omega)]
    exact congrArg (fun x => p 2 (ix2 r x)) (Fin.ext (by dsimp only; omega))
  | 3 =>
    have h3 : (3 : Fin 4).val = 3 := rfl
    rw [h3] at hc
    rw [dif_neg (by omega), dif_neg (by omega), dif_neg (by omega)]
    exact congrArg (fun x => p 3 (ix2 r x)) (Fin.ext (by dsimp only; omega))

theorem diff_at (c : Fin 2048) : val_main_v126 (F := Ideal) x0 x1 x2 x3 x4 (ix2 s c) = diff (P x0 x1 x2 x3 x4) s c := by
  obtain ⟨k, m, rfl⟩ := exists_col c
  refine (congrArg₂ (· - ·) ((groups_at (means x0 x1 x2 x3 x4) s k m).trans (means_at x0 x1 x2 x3 x4 s k m)) (lo_at x0 x1 x2 x3 x4 s (col k m))).trans ?_
  unfold diff
  rw [grp_col]

/-- The groups' products. -/
def products : Fin 4 → FVec Ideal S16384x512 .f32 :=
  ![val_main_v130 (F := Ideal) x0 x1 x2 x3 x4 x7, val_main_v134 (F := Ideal) x0 x1 x2 x3 x4 x7, val_main_v138 (F := Ideal) x0 x1 x2 x3 x4 x7, val_main_v142 (F := Ideal) x0 x1 x2 x3 x4 x7]

theorem products_at (k : Fin 4) (j : Fin 512) : products x0 x1 x2 x3 x4 x7 k (ix2 s j) = ∑ m, diff (P x0 x1 x2 x3 x4) s (col k m) * x7 (ix3 k m j) := by
  simp only [← diff_at]
  match k with
  | 0 =>
    show val_main_v130 (F := Ideal) x0 x1 x2 x3 x4 x7 (ix2 s j) = _
    pointwise [val_main_v130, val_main_v129, val_main_v128, val_main_v127]
    exact Finset.sum_congr rfl fun m _ => congrArg (fun c => val_main_v126 (F := Ideal) x0 x1 x2 x3 x4 (ix2 s c) * _) (Fin.ext (by simp [KernelIdeal.Point.val_col]))
  | 1 =>
    show val_main_v134 (F := Ideal) x0 x1 x2 x3 x4 x7 (ix2 s j) = _
    pointwise [val_main_v134, val_main_v133, val_main_v132, val_main_v131]
    exact Finset.sum_congr rfl fun m _ => congrArg (fun c => val_main_v126 (F := Ideal) x0 x1 x2 x3 x4 (ix2 s c) * _) (Fin.ext (by simp [KernelIdeal.Point.val_col]))
  | 2 =>
    show val_main_v138 (F := Ideal) x0 x1 x2 x3 x4 x7 (ix2 s j) = _
    pointwise [val_main_v138, val_main_v137, val_main_v136, val_main_v135]
    exact Finset.sum_congr rfl fun m _ => congrArg (fun c => val_main_v126 (F := Ideal) x0 x1 x2 x3 x4 (ix2 s c) * _) (Fin.ext (by simp [KernelIdeal.Point.val_col]))
  | 3 =>
    show val_main_v142 (F := Ideal) x0 x1 x2 x3 x4 x7 (ix2 s j) = _
    pointwise [val_main_v142, val_main_v141, val_main_v140, val_main_v139]
    exact Finset.sum_congr rfl fun m _ => congrArg (fun c => val_main_v126 (F := Ideal) x0 x1 x2 x3 x4 (ix2 s c) * _) (Fin.ext (by simp [KernelIdeal.Point.val_col]))

theorem mixed_at (c : Fin 2048) : val_main_v145 (F := Ideal) x0 x1 x2 x3 x4 x7 x8 (ix2 s c)
    = mixed (P x0 x1 x2 x3 x4) (fun k m j => x7 (ix3 k m j)) (fun c => x8 (ix2 0 c)) s c := by
  obtain ⟨k, j, rfl⟩ := exists_col c
  have hb : val_main_v144 (F := Ideal) x8 (ix2 s (col k j)) = x8 (ix2 0 (col k j)) := by
    pointwise [val_main_v144]
  refine (congrArg₂ (· + ·) ((groups_at (products x0 x1 x2 x3 x4 x7) s k j).trans (products_at x0 x1 x2 x3 x4 x7 s k j)) hb).trans ?_
  unfold mixed
  rw [grp_col, lane_col]

theorem y_at (c : Fin 2048) : val_main_v149 (F := Ideal) x0 x1 x2 x3 x4 x7 x8 x9 (ix2 s c)
    = y (P x0 x1 x2 x3 x4) (fun k m j => x7 (ix3 k m j)) (fun c => x8 (ix2 0 c)) (fun c => x9 (ix2 0 c)) s c := by
  unfold y
  rw [← sigmoid_eq, ← mixed_at, ← hi_at]
  pointwise [val_main_v149, val_main_v148, val_main_v147, val_main_v146, val_main_call0_v5, val_main_call0_v4, val_main_call0_v3, val_main_call0_v2, val_main_call0_v1, val_main_call0_v0]
  exact congrArg (fun a => _ * _ * (_ * Ideal.div a (a + _))) one_bits

/-- The residual stream behind the layer. -/
abbrev R : Fin 16384 → Fin 1024 → EReal :=
  Forward.x2 (fun s d => x0 (ix2 s d)) (fun d => x6 (ix2 0 d)) (P x0 x1 x2 x3 x4) (fun k m j => x7 (ix3 k m j)) (fun c => x8 (ix2 0 c)) (fun c => x9 (ix2 0 c)) (fun c d => x10 (ix2 c d))

theorem x2_at (d : Fin 1024) : val_main_v153 (F := Ideal) x0 x1 x2 x3 x4 x6 x7 x8 x9 x10 (ix2 s d) = R x0 x1 x2 x3 x6 x4 x7 x8 x9 x10 s d := by
  unfold R Forward.x2
  simp only [← y_at]
  pointwise [val_main_v153, val_main_v152, val_main_v151, val_main_v150]

abbrev T : Fin 16384 → Fin 1024 → EReal := fun s d => x5 (ix2 s d)
abbrev G : Fin 1024 → EReal := fun d => x11 (ix2 0 d)

theorem msq2_at : val_main_v160 (F := Ideal) x0 x1 x2 x3 x4 x6 x7 x8 x9 x10 (ix2 s 0) = Norm.msq (R x0 x1 x2 x3 x6 x4 x7 x8 x9 x10 s) := by
  unfold Norm.msq
  simp only [← x2_at]
  pointwise [val_main_v160, val_main_v159, val_main_v158, val_main_v157, val_main_v156, val_main_v155, val_main_v154]
  rw [show val_main_cst_14 (F := Ideal) (Shape.Idx.first h_S_) = 0 from zero_cst, zero_add]
  exact congrArg (fun a => Ideal.div _ a + _) ofBits_1024

theorem inv2_at : val_main_v161 (F := Ideal) x0 x1 x2 x3 x4 x6 x7 x8 x9 x10 (ix2 s 0) = Norm.inv (R x0 x1 x2 x3 x6 x4 x7 x8 x9 x10 s) := by
  unfold Norm.inv
  rw [← msq2_at]
  pointwise [val_main_v161]

theorem nrm2_at (d : Fin 1024) : val_main_v166 (F := Ideal) x0 x1 x2 x3 x4 x6 x7 x8 x9 x10 (ix2 s d) = Norm.nrm (R x0 x1 x2 x3 x6 x4 x7 x8 x9 x10 s) d := by
  unfold Norm.nrm
  rw [← inv2_at, ← x2_at]
  pointwise [val_main_v166, val_main_v165]

theorem err_at (d : Fin 1024) : val_main_v169 (F := Ideal) x0 x1 x2 x3 x4 x5 x6 x7 x8 x9 x10 x11 (ix2 s d)
    = err (T x5) (G x11) (R x0 x1 x2 x3 x6 x4 x7 x8 x9 x10) s d := by
  unfold err
  rw [← nrm2_at]
  pointwise [val_main_v169, val_main_v168, val_main_v167]

theorem scaled (e : EReal) : Ideal.div (Ideal.ofBits .f32 0x3F000000#32 * Ideal.ofBits .f32 0x3F800000#32) (Ideal.ofBits .f32 0x44800000#32) * (Ideal.ofBits .f32 0x40000000#32 * e)
    = e * ((1 / 1024 : ℝ) : EReal) := by
  have h2 : Ideal.ofBits .f32 0x40000000#32 = ((2 : ℝ) : EReal) := by
    simp [Ideal.ofBits, Ideal.ieee, -EReal.coe_mul]
    norm_num
  have hd : Ideal.div ((1 / 2 : ℝ) : EReal) ((1024 : ℝ) : EReal) = ((1 / 2048 : ℝ) : EReal) := by
    rw [Ideal.div_coe (by norm_num), ← EReal.coe_mul]
    norm_num
  rw [half_bits, one_bits, mul_one, ofBits_1024, h2, hd, ← mul_assoc, ← EReal.coe_mul, mul_comm]
  norm_num

theorem derr_at (d : Fin 1024) : val_main_v183 (F := Ideal) x0 x1 x2 x3 x4 x5 x6 x7 x8 x9 x10 x11 (ix2 s d)
    = derr (T x5) (G x11) (R x0 x1 x2 x3 x6 x4 x7 x8 x9 x10) s d := by
  unfold derr
  rw [← err_at]
  pointwise [val_main_v183, val_main_v182, val_main_v181, val_main_v180, val_main_v179, val_main_v178, val_main_v172, val_main_v171]
  exact scaled _

theorem dgf_at (d : Fin 1024) : val_main_v186 (F := Ideal) x0 x1 x2 x3 x4 x5 x6 x7 x8 x9 x10 x11 (ix2 0 d)
    = ∑ s, derr (T x5) (G x11) (R x0 x1 x2 x3 x6 x4 x7 x8 x9 x10) s d * Norm.nrm (R x0 x1 x2 x3 x6 x4 x7 x8 x9 x10 s) d := by
  simp only [← derr_at, ← nrm2_at]
  pointwise [val_main_v186, val_main_v185, val_main_v184]
  rw [show val_main_cst_26 (F := Ideal) (Shape.Idx.first h_S_) = 0 from zero_cst, zero_add]
  exact Finset.sum_congr rfl fun s _ => mul_comm _ _

theorem squares_at (d : Fin 1024) : val_main_v218 (F := Ideal) x0 x1 x2 x3 x4 x5 x6 x7 x8 x9 x10 x11 (ix2 0 d)
    = ∑ s, err (T x5) (G x11) (R x0 x1 x2 x3 x6 x4 x7 x8 x9 x10) s d * err (T x5) (G x11) (R x0 x1 x2 x3 x6 x4 x7 x8 x9 x10) s d := by
  simp only [← err_at]
  pointwise [val_main_v218, val_main_v217, val_main_v216]
  rw [show val_main_cst_33 (F := Ideal) (Shape.Idx.first h_S_) = 0 from zero_cst, zero_add]
  rfl

theorem dn_at (d : Fin 1024) : val_main_v188 (F := Ideal) x0 x1 x2 x3 x4 x5 x6 x7 x8 x9 x10 x11 (ix2 s d)
    = Norm.dnr (derr (T x5) (G x11) (R x0 x1 x2 x3 x6 x4 x7 x8 x9 x10) s) (G x11) 0 d := by
  have h : Norm.dnr (derr (T x5) (G x11) (R x0 x1 x2 x3 x6 x4 x7 x8 x9 x10) s) (G x11) 0 d = derr (T x5) (G x11) (R x0 x1 x2 x3 x6 x4 x7 x8 x9 x10) s d * G x11 d := by
    simp only [Norm.dnr, Pi.zero_apply, add_zero, mul_one]
  rw [h, ← derr_at]
  pointwise [val_main_v188, val_main_v187]

theorem spread_at : val_main_v197 (F := Ideal) x0 x1 x2 x3 x4 x5 x6 x7 x8 x9 x10 x11 (ix1 s)
    = Norm.spread (R x0 x1 x2 x3 x6 x4 x7 x8 x9 x10 s) (derr (T x5) (G x11) (R x0 x1 x2 x3 x6 x4 x7 x8 x9 x10) s) (G x11) 0 := by
  unfold Norm.spread
  simp only [← dn_at, ← inv2_at, ← msq2_at, ← ofBits_half, ← ofBits_1024]
  simp only [← x2_at]
  pointwise [val_main_v197, val_main_v196, val_main_v195, val_main_v194, val_main_v191, val_main_v190, val_main_v189, val_main_v164, val_main_v163, val_main_v162]
  rw [show val_main_cst_29 (F := Ideal) (Shape.Idx.first h_S_) = 0 from zero_cst, zero_add, Fin.sum_univ_one, show val_main_cst_27 (F := Ideal) (Shape.Idx.first h_S_) = 0 from zero_cst, zero_add]
  rfl

theorem dx2_at (d : Fin 1024) : val_main_v202 (F := Ideal) x0 x1 x2 x3 x4 x5 x6 x7 x8 x9 x10 x11 (ix2 s d)
    = dx2 (T x5) (G x11) (R x0 x1 x2 x3 x6 x4 x7 x8 x9 x10) s d := by
  have h := Norm.dxRow_eq (R x0 x1 x2 x3 x6 x4 x7 x8 x9 x10 s) (derr (T x5) (G x11) (R x0 x1 x2 x3 x6 x4 x7 x8 x9 x10) s) 0 (G x11) 0 d
  have hk : Norm.dxRow (R x0 x1 x2 x3 x6 x4 x7 x8 x9 x10 s) (derr (T x5) (G x11) (R x0 x1 x2 x3 x6 x4 x7 x8 x9 x10) s) 0 (G x11) 0 d
      = dx2 (T x5) (G x11) (R x0 x1 x2 x3 x6 x4 x7 x8 x9 x10) s d := by
    unfold Norm.dxRow dx2
    simp only [Norm.dn, Pi.zero_apply, add_zero, zero_add, mul_one]
  rw [← hk, ← h, Pi.zero_apply, zero_add, ← dn_at, ← spread_at, ← inv2_at, ← x2_at]
  pointwise [val_main_v202, val_main_v201, val_main_v200, val_main_v199, val_main_v198, val_main_v193, val_main_v192]
  done

end Cert.FwdRefIdeal.Point
-- ==== Proof.Fwd.lean ====
/-
  Layer 1's forward pass: the arrays the call's run ends with are the reference's results.
-/
module

public import proofs.«01_k».proof.Proof.FwdEnd
public import proofs.«01_k».proof.Proof.FwdRef

@[expose] public section

set_option maxRecDepth 16384

noncomputable section

namespace Cert.FwdIdeal.Point

open Idealize.ShloMosaic Idealize.ShloMosaic.TcCoe Idealize.SL.Sem Cert.FwdIdeal Cert.FwdIdeal.Gen
open Cert.FwdRefIdeal.Read Cert.FwdRefIdeal.Point

variable (m : (ℓ : Loc nD τ sig) → Buf (Elt Ideal) ℓ) (c : Dev nD)

theorem endPool_eq : endPool m c = val_main_v219 (F := Ideal) (arg0 m c) (arg1 m c) (arg2 m c) (arg3 m c) (arg4 m c) := funext fun j => by
  obtain ⟨s, x, rfl⟩ : ∃ (s : Fin 16384) (x : Fin 2048), j = ix2 s x := ⟨j 0, j 1, eq_ix2 j⟩
  exact (Cert.FwdRefIdeal.Point.diff_at (arg0 m c) (arg1 m c) (arg2 m c) (arg3 m c) (arg4 m c) s x).symm

theorem endMixed_eq : endMixed m c = val_main_v220 (F := Ideal) (arg0 m c) (arg1 m c) (arg2 m c) (arg3 m c) (arg4 m c) (arg7 m c) (arg8 m c) := funext fun j => by
  obtain ⟨s, x, rfl⟩ : ∃ (s : Fin 16384) (x : Fin 2048), j = ix2 s x := ⟨j 0, j 1, eq_ix2 j⟩
  exact (Cert.FwdRefIdeal.Point.mixed_at (arg0 m c) (arg1 m c) (arg2 m c) (arg3 m c) (arg4 m c) (arg7 m c) (arg8 m c) s x).symm

theorem endY_eq : endY m c = val_main_v221 (F := Ideal) (arg0 m c) (arg1 m c) (arg2 m c) (arg3 m c) (arg4 m c) (arg7 m c) (arg8 m c) (arg9 m c) := funext fun j => by
  obtain ⟨s, x, rfl⟩ : ∃ (s : Fin 16384) (x : Fin 2048), j = ix2 s x := ⟨j 0, j 1, eq_ix2 j⟩
  exact (Cert.FwdRefIdeal.Point.y_at (arg0 m c) (arg1 m c) (arg2 m c) (arg3 m c) (arg4 m c) (arg7 m c) (arg8 m c) (arg9 m c) s x).symm

theorem endDx2_eq : endDx2 m c = val_main_v202 (F := Ideal) (arg0 m c) (arg1 m c) (arg2 m c) (arg3 m c) (arg4 m c) (arg5 m c) (arg6 m c) (arg7 m c) (arg8 m c) (arg9 m c) (arg10 m c) (arg11 m c) := funext fun j => by
  obtain ⟨s, x, rfl⟩ : ∃ (s : Fin 16384) (x : Fin 1024), j = ix2 s x := ⟨j 0, j 1, eq_ix2 j⟩
  exact (Cert.FwdRefIdeal.Point.dx2_at (arg0 m c) (arg5 m c) (arg1 m c) (arg2 m c) (arg3 m c) (arg6 m c) (arg11 m c) (arg4 m c) (arg7 m c) (arg8 m c) (arg9 m c) (arg10 m c) s x).symm

theorem endLoss_eq : endLoss m c = val_main_v218 (F := Ideal) (arg0 m c) (arg1 m c) (arg2 m c) (arg3 m c) (arg4 m c) (arg5 m c) (arg6 m c) (arg7 m c) (arg8 m c) (arg9 m c) (arg10 m c) (arg11 m c) := funext fun j => by
  obtain ⟨z, x, rfl⟩ : ∃ (z : Fin 1) (x : Fin 1024), j = ix2 z x := ⟨j 0, j 1, eq_ix2 j⟩
  obtain rfl : z = 0 := Subsingleton.elim _ _
  exact (Cert.FwdRefIdeal.Point.squares_at (arg0 m c) (arg5 m c) (arg1 m c) (arg2 m c) (arg3 m c) (arg6 m c) (arg11 m c) (arg4 m c) (arg7 m c) (arg8 m c) (arg9 m c) (arg10 m c) x).symm

theorem endGain_eq : endGain m c = val_main_v186 (F := Ideal) (arg0 m c) (arg1 m c) (arg2 m c) (arg3 m c) (arg4 m c) (arg5 m c) (arg6 m c) (arg7 m c) (arg8 m c) (arg9 m c) (arg10 m c) (arg11 m c) := funext fun j => by
  obtain ⟨z, x, rfl⟩ : ∃ (z : Fin 1) (x : Fin 1024), j = ix2 z x := ⟨j 0, j 1, eq_ix2 j⟩
  obtain rfl : z = 0 := Subsingleton.elim _ _
  exact (Cert.FwdRefIdeal.Point.dgf_at (arg0 m c) (arg5 m c) (arg1 m c) (arg2 m c) (arg3 m c) (arg6 m c) (arg11 m c) (arg4 m c) (arg7 m c) (arg8 m c) (arg9 m c) (arg10 m c) x).symm

theorem endH_eq : endH m c = val_main_v222 (F := Ideal) (arg0 m c) (arg1 m c) (arg2 m c) (arg3 m c) := funext fun j => by
  obtain ⟨s, x, rfl⟩ : ∃ (s : Fin 16384) (x : Fin 1024), j = ix2 s x := ⟨j 0, j 1, eq_ix2 j⟩
  exact (Cert.FwdRefIdeal.Point.h_at (arg0 m c) (arg1 m c) (arg2 m c) (arg3 m c) s x).symm

theorem endProj_eq : endProj m c = val_main_v223 (F := Ideal) (arg0 m c) (arg1 m c) (arg2 m c) (arg3 m c) (arg4 m c) := funext fun j => by
  obtain ⟨s, x, rfl⟩ : ∃ (s : Fin 16384) (x : Fin 4096), j = ix2 s x := ⟨j 0, j 1, eq_ix2 j⟩
  exact (Cert.FwdRefIdeal.Point.proj_at (arg0 m c) (arg1 m c) (arg2 m c) (arg3 m c) (arg4 m c) s x).symm

end Cert.FwdIdeal.Point

end
-- ==== Proof.lean ====
/-
  The claims: layer 1's forward pass with the loss's squared errors, the backward pass of the pooling mixer, of both layers'
  norms and input projections and of both input weights, and the last step of the output weight's.  Each of them runs, leaves
  its arguments, and returns what its reference returns (the pooling mixer's on real arguments).
-/
module

public import proofs.«01_k».proof.Defs
public import proofs.«01_k».proof.Proof.Gen.Kernel
public import proofs.«01_k».proof.Proof.Gen.Kernel.Frame
public import proofs.«01_k».proof.Proof.Ends
public import proofs.«01_k».proof.Proof.Gen.ReferenceIdeal.Run
public import proofs.«01_k».proof.Proof.Norm1
public import proofs.«01_k».proof.Proof.Gen.Norm1
public import proofs.«01_k».proof.Proof.Gen.Norm1.Frame
public import proofs.«01_k».proof.Proof.Gen.NormRef1Ideal.Run
public import proofs.«01_k».proof.Proof.Norm0
public import proofs.«01_k».proof.Proof.Gen.Norm0
public import proofs.«01_k».proof.Proof.Gen.Norm0.Frame
public import proofs.«01_k».proof.Proof.Gen.NormRef0Ideal.Run
public import proofs.«01_k».proof.Proof.Win1
public import proofs.«01_k».proof.Proof.Gen.Win1
public import proofs.«01_k».proof.Proof.Gen.Win1.Frame
public import proofs.«01_k».proof.Proof.Gen.WinRef1Ideal.Run
public import proofs.«01_k».proof.Proof.Win0
public import proofs.«01_k».proof.Proof.Gen.Win0
public import proofs.«01_k».proof.Proof.Gen.Win0.Frame
public import proofs.«01_k».proof.Proof.Gen.WinRef0Ideal.Run
public import proofs.«01_k».proof.Proof.Wo
public import proofs.«01_k».proof.Proof.Gen.Wo
public import proofs.«01_k».proof.Proof.Gen.Wo.Frame
public import proofs.«01_k».proof.Proof.Gen.WoRefIdeal.Run
public import proofs.«01_k».proof.Proof.Fwd
public import proofs.«01_k».proof.Proof.Gen.Fwd
public import proofs.«01_k».proof.Proof.Gen.Fwd.Frame
public import proofs.«01_k».proof.Proof.Gen.FwdRefIdeal.Run

@[expose] public section

set_option maxRecDepth 16384

noncomputable section

namespace Cert.Proof

open Idealize.ShloMosaic Idealize.SL.Sem

/-- The stated shape facts of the precondition. -/
theorem finite_facts : Cert.Pre_finite.Facts :=
  ⟨by decide, by decide, by decide, by decide, by decide, by decide⟩

attribute [local instance] Cert.Kernel.Gen.facts Cert.KernelIdeal.Gen.facts Cert.ReferenceIdeal.Gen.facts finite_facts
attribute [local instance] Cert.Norm1.Gen.facts Cert.Norm1Ideal.Gen.facts Cert.NormRef1Ideal.Gen.facts
  Cert.Norm0.Gen.facts Cert.Norm0Ideal.Gen.facts Cert.NormRef0Ideal.Gen.facts
  Cert.Win1.Gen.facts Cert.Win1Ideal.Gen.facts Cert.WinRef1Ideal.Gen.facts
  Cert.Win0.Gen.facts Cert.Win0Ideal.Gen.facts Cert.WinRef0Ideal.Gen.facts

theorem frame_kernel : Cert.quiescent_Kernel := fun m ρ _ => Cert.Kernel.Gen.frame m ρ

theorem frame_ideal : Cert.quiescent_KernelIdeal := fun m ρ _ => Cert.KernelIdeal.Gen.frame m ρ

theorem frame_ideal_finite : Cert.quiescent_KernelIdeal_pre_finite := fun m ρ _ => Cert.KernelIdeal.Gen.frame m ρ

theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

theorem frame_reference_finite : Cert.quiescent_ReferenceIdeal_pre_finite := fun m ρ _ => frame_reference m ρ trivial

theorem algebraic : Cert.algebraic_KernelIdeal_ReferenceIdeal_pre_finite := by
  intro m ρ m' ρ' hpre harg
  refine ⟨fun c => Cert.ReferenceIdeal.Read.val_main_v190 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), fun c => Cert.ReferenceIdeal.Read.val_main_v191 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), fun c => Cert.ReferenceIdeal.Read.val_main_v141 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), fun c => Cert.ReferenceIdeal.Read.val_main_v105 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)), fun c => Cert.ReferenceIdeal.Read.val_main_v109 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.Point.run m ρ)
    obtain ⟨p0, p1, p2, p3, p4, p5, p6⟩ := hpre c
    obtain ⟨e0, e1, e2, e3, e4, args⟩ := h c
    refine ⟨e0.trans (Cert.KernelIdeal.Point.endProj_eq m c ?_ ?_ ?_ ?_ ?_ ?_ ?_), e1.trans (Cert.KernelIdeal.Point.endMt_eq m c),
      e2.trans (Cert.KernelIdeal.Point.endDw_eq m c), e3.trans (Cert.KernelIdeal.Point.endDs_eq m c),
      e4.trans (Cert.KernelIdeal.Point.endDb_eq m c), args⟩
    · exact Cert.KernelIdeal.Point.real_of_finite _ _ p0
    · exact Cert.KernelIdeal.Point.real_of_finite _ _ p1
    · exact Cert.KernelIdeal.Point.real_of_finite _ _ p2
    · exact Cert.KernelIdeal.Point.real_of_finite _ _ p3
    · exact Cert.KernelIdeal.Point.real_of_finite _ _ p4
    · exact Cert.KernelIdeal.Point.real_of_finite _ _ p5
    · exact Cert.KernelIdeal.Point.real_of_finite _ _ p6
  · refine (θ_run Cert.ReferenceIdeal.defs _ _).mono (fun r h c => ?_) (Cert.ReferenceIdeal.Value.run (F := Ideal) m' ρ')
    obtain ⟨a0, a1, a2, a3, a4, a5, a6⟩ := harg c
    obtain ⟨e0, e1, e2, e3, e4, args⟩ := h c
    beta_reduce
    rw [← a0, ← a1, ← a2, ← a3, ← a4, ← a5, ← a6]
    exact ⟨e0.trans (Cert.ReferenceIdeal.Read.val_main_v190_eq (StableHlo.launchContents m' c)), e1.trans (Cert.ReferenceIdeal.Read.val_main_v191_eq (StableHlo.launchContents m' c)), e2.trans (Cert.ReferenceIdeal.Read.val_main_v141_eq (StableHlo.launchContents m' c)), e3.trans (Cert.ReferenceIdeal.Read.val_main_v105_eq (StableHlo.launchContents m' c)), e4.trans (Cert.ReferenceIdeal.Read.val_main_v109_eq (StableHlo.launchContents m' c)), args⟩

/-! ## Layer 1's norm and input projection -/

theorem frame_norm1 : Cert.quiescent_Norm1 := fun m ρ _ => Cert.Norm1.Gen.frame m ρ
theorem frame_norm1_ideal : Cert.quiescent_Norm1Ideal := fun m ρ _ => Cert.Norm1Ideal.Gen.frame m ρ
theorem frame_norm1_reference : Cert.quiescent_NormRef1Ideal := fun m ρ _ =>
  (θ_run Cert.NormRef1Ideal.defs _ _).mono (fun r h => ⟨fun c => (h c).2.2.2, sem_eq_zero_of_no_sems (by decide) r.2⟩)
    (Cert.NormRef1Ideal.Value.run (F := Ideal) m ρ)

section
open Cert.Norm1Ideal.Point Cert.NormRef1Ideal.Read

theorem algebraic_norm1 : Cert.algebraic_Norm1Ideal_NormRef1Ideal := by
  intro m ρ m' ρ' _ harg
  refine ⟨fun c => val_main_v61 (F := Ideal) (arg0 m c) (arg1 m c) (arg2 m c) (arg3 m c) (arg4 m c) (arg5 m c),
    fun c => val_main_v25 (F := Ideal) (arg0 m c) (arg1 m c), fun c => val_main_v60 (F := Ideal) (arg0 m c) (arg1 m c) (arg2 m c), ?_, ?_⟩
  · refine (θ_run Cert.Norm1Ideal.defs _ _).mono (fun r h c => ?_) (Cert.Norm1Ideal.Value.run_blocks (F := Ideal) m ρ)
    obtain ⟨e0, e1, e2, args⟩ := h c
    exact ⟨(e0.trans (final_dx m c)).trans (endDx_eq m c), (e1.trans (final_s1 m c)).trans (endS1_eq m c),
      (e2.trans (final_s2 m c)).trans (endS2_eq m c), args⟩
  · refine (θ_run Cert.NormRef1Ideal.defs _ _).mono (fun r h c => ?_) (Cert.NormRef1Ideal.Value.run (F := Ideal) m' ρ')
    obtain ⟨a0, a1, a2, a3, a4, a5⟩ := harg c
    obtain ⟨e0, e1, e2, args⟩ := h c
    beta_reduce
    unfold arg0 arg1 arg2 arg3 arg4 arg5
    rw [← a0, ← a1, ← a2, ← a3, ← a4, ← a5]
    exact ⟨e0.trans (val_main_v61_eq m' c), e1.trans (val_main_v25_eq _ _), e2.trans (val_main_v60_eq _ _ _), args⟩
end

/-! ## Layer 0's norm and input projection -/

theorem frame_norm0 : Cert.quiescent_Norm0 := fun m ρ _ => Cert.Norm0.Gen.frame m ρ
theorem frame_norm0_ideal : Cert.quiescent_Norm0Ideal := fun m ρ _ => Cert.Norm0Ideal.Gen.frame m ρ
theorem frame_norm0_reference : Cert.quiescent_NormRef0Ideal := fun m ρ _ =>
  (θ_run Cert.NormRef0Ideal.defs _ _).mono (fun r h => ⟨fun c => (h c).2.2.2, sem_eq_zero_of_no_sems (by decide) r.2⟩)
    (Cert.NormRef0Ideal.Value.run (F := Ideal) m ρ)

section
open Cert.Norm0Ideal.Point Cert.NormRef0Ideal.Read

theorem algebraic_norm0 : Cert.algebraic_Norm0Ideal_NormRef0Ideal := by
  intro m ρ m' ρ' _ harg
  refine ⟨fun c => val_main_v61 (F := Ideal) (arg0 m c) (arg1 m c) (arg2 m c) (arg3 m c) (arg4 m c) (arg5 m c),
    fun c => val_main_v25 (F := Ideal) (arg0 m c) (arg1 m c), fun c => val_main_v60 (F := Ideal) (arg0 m c) (arg1 m c) (arg2 m c), ?_, ?_⟩
  · refine (θ_run Cert.Norm0Ideal.defs _ _).mono (fun r h c => ?_) (Cert.Norm0Ideal.Value.run_blocks (F := Ideal) m ρ)
    obtain ⟨e0, e1, e2, args⟩ := h c
    exact ⟨(e0.trans (final_dx m c)).trans (endDx_eq m c), (e1.trans (final_s1 m c)).trans (endS1_eq m c),
      (e2.trans (final_s2 m c)).trans (endS2_eq m c), args⟩
  · refine (θ_run Cert.NormRef0Ideal.defs _ _).mono (fun r h c => ?_) (Cert.NormRef0Ideal.Value.run (F := Ideal) m' ρ')
    obtain ⟨a0, a1, a2, a3, a4, a5, _⟩ := harg c
    obtain ⟨e0, e1, e2, args⟩ := h c
    beta_reduce
    unfold arg0 arg1 arg2 arg3 arg4 arg5
    rw [← a0, ← a1, ← a2, ← a3, ← a4, ← a5]
    exact ⟨e0.trans (val_main_v61_eq m' c), e1.trans (val_main_v25_eq _ _), e2.trans (val_main_v60_eq _ _ _), args⟩
end

/-! ## Layer 1's input weight -/

theorem frame_win1 : Cert.quiescent_Win1 := fun m ρ _ => Cert.Win1.Gen.frame m ρ
theorem frame_win1_ideal : Cert.quiescent_Win1Ideal := fun m ρ _ => Cert.Win1Ideal.Gen.frame m ρ
theorem frame_win1_reference : Cert.quiescent_WinRef1Ideal := fun m ρ _ =>
  (θ_run Cert.WinRef1Ideal.defs _ _).mono (fun r h => ⟨fun c => (h c).2.2, sem_eq_zero_of_no_sems (by decide) r.2⟩)
    (Cert.WinRef1Ideal.Value.run (F := Ideal) m ρ)

section
open Cert.Win1Ideal.Point Cert.WinRef1Ideal.Read

theorem algebraic_win1 : Cert.algebraic_Win1Ideal_WinRef1Ideal := by
  intro m ρ m' ρ' _ harg
  refine ⟨fun c => val_main_v5 (F := Ideal) (arg0 m c) (arg1 m c), fun c => val_main_v6 (F := Ideal) (arg0 m c) (arg1 m c), ?_, ?_⟩
  · refine (θ_run Cert.Win1Ideal.defs _ _).mono (fun r h c => ?_) (Cert.Win1Ideal.Value.run_blocks (F := Ideal) m ρ)
    obtain ⟨e0, e1, args⟩ := h c
    exact ⟨(e0.trans (final_dw m c)).trans (endDw_eq m c), (e1.trans (final_wire m c)).trans (endWire_eq m c), args⟩
  · refine (θ_run Cert.WinRef1Ideal.defs _ _).mono (fun r h c => ?_) (Cert.WinRef1Ideal.Value.run (F := Ideal) m' ρ')
    obtain ⟨a0, a1⟩ := harg c
    obtain ⟨e0, e1, args⟩ := h c
    beta_reduce
    unfold arg0 arg1
    rw [← a0, ← a1]
    exact ⟨e0.trans (val_main_v5_eq _ _), e1.trans (val_main_v6_eq _ _), args⟩
end

/-! ## Layer 0's input weight -/

theorem frame_win0 : Cert.quiescent_Win0 := fun m ρ _ => Cert.Win0.Gen.frame m ρ
theorem frame_win0_ideal : Cert.quiescent_Win0Ideal := fun m ρ _ => Cert.Win0Ideal.Gen.frame m ρ
theorem frame_win0_reference : Cert.quiescent_WinRef0Ideal := fun m ρ _ =>
  (θ_run Cert.WinRef0Ideal.defs _ _).mono (fun r h => ⟨fun c => (h c).2.2, sem_eq_zero_of_no_sems (by decide) r.2⟩)
    (Cert.WinRef0Ideal.Value.run (F := Ideal) m ρ)

section
open Cert.Win0Ideal.Point Cert.WinRef0Ideal.Read

theorem algebraic_win0 : Cert.algebraic_Win0Ideal_WinRef0Ideal := by
  intro m ρ m' ρ' _ harg
  refine ⟨fun c => val_main_v5 (F := Ideal) (arg0 m c) (arg1 m c), fun c => val_main_v6 (F := Ideal) (arg0 m c) (arg1 m c), ?_, ?_⟩
  · refine (θ_run Cert.Win0Ideal.defs _ _).mono (fun r h c => ?_) (Cert.Win0Ideal.Value.run_blocks (F := Ideal) m ρ)
    obtain ⟨e0, e1, args⟩ := h c
    exact ⟨(e0.trans (final_dw m c)).trans (endDw_eq m c), (e1.trans (final_wire m c)).trans (endWire_eq m c), args⟩
  · refine (θ_run Cert.WinRef0Ideal.defs _ _).mono (fun r h c => ?_) (Cert.WinRef0Ideal.Value.run (F := Ideal) m' ρ')
    obtain ⟨a0, a1, _⟩ := harg c
    obtain ⟨e0, e1, args⟩ := h c
    beta_reduce
    unfold arg0 arg1
    rw [← a0, ← a1]
    exact ⟨e0.trans (val_main_v5_eq _ _), e1.trans (val_main_v6_eq _ _), args⟩
end

/-! ## The output weight -/

theorem frame_wo : Cert.quiescent_Wo := fun m ρ _ => Cert.Wo.Gen.frame m ρ
theorem frame_wo_ideal : Cert.quiescent_WoIdeal := fun m ρ _ => Cert.WoIdeal.Gen.frame m ρ
theorem frame_wo_reference : Cert.quiescent_WoRefIdeal := fun m ρ _ =>
  (θ_run Cert.WoRefIdeal.defs _ _).mono (fun r h => ⟨fun c => (h c).2.2.2, sem_eq_zero_of_no_sems (by decide) r.2⟩)
    (Cert.WoRefIdeal.Value.run (F := Ideal) m ρ)

section
open Cert.WoIdeal.Point Cert.WoRefIdeal.Read

theorem algebraic_wo : Cert.algebraic_WoIdeal_WoRefIdeal := by
  intro m ρ m' ρ' _ harg
  refine ⟨fun c => val_main_v8 (F := Ideal) (arg0 m c) (arg2 m c), fun c => val_main_v9 (F := Ideal) (arg0 m c) (arg2 m c),
    fun c => val_main_v7 (F := Ideal) (arg0 m c) (arg1 m c), ?_, ?_⟩
  · refine (θ_run Cert.WoIdeal.defs _ _).mono (fun r h c => ?_) (Cert.WoIdeal.Value.run_blocks (F := Ideal) m ρ)
    obtain ⟨e0, e1, e2, args⟩ := h c
    exact ⟨(e0.trans (final_dw m c)).trans (endDw_eq m c), (e1.trans (final_wire m c)).trans (endWire_eq m c),
      (e2.trans (final_dg m c)).trans (endDg_eq m c), args⟩
  · refine (θ_run Cert.WoRefIdeal.defs _ _).mono (fun r h c => ?_) (Cert.WoRefIdeal.Value.run (F := Ideal) m' ρ')
    obtain ⟨a0, a1, a2⟩ := harg c
    obtain ⟨e0, e1, e2, args⟩ := h c
    beta_reduce
    unfold arg0 arg1 arg2
    rw [← a0, ← a1, ← a2]
    exact ⟨e0.trans (val_main_v8_eq _ _), e1.trans (val_main_v9_eq _ _), e2.trans (val_main_v7_eq _ _), args⟩
end

/-! ## The forward pass of layer 1 -/

theorem frame_fwd : Cert.quiescent_Fwd := fun m ρ _ => Cert.Fwd.Gen.frame m ρ
theorem frame_fwd_ideal : Cert.quiescent_FwdIdeal := fun m ρ _ => Cert.FwdIdeal.Gen.frame m ρ
theorem frame_fwd_reference : Cert.quiescent_FwdRefIdeal := fun m ρ _ =>
  (θ_run Cert.FwdRefIdeal.defs _ _).mono (fun r h => ⟨fun c => (h c).2.2.2.2.2.2.2.2, sem_eq_zero_of_no_sems (by decide) r.2⟩)
    (Cert.FwdRefIdeal.Value.run (F := Ideal) m ρ)

section
open Cert.FwdIdeal.Point Cert.FwdRefIdeal.Read

theorem algebraic_fwd : Cert.algebraic_FwdIdeal_FwdRefIdeal := by
  intro m ρ m' ρ' _ harg
  refine ⟨fun c => val_main_v219 (F := Ideal) (arg0 m c) (arg1 m c) (arg2 m c) (arg3 m c) (arg4 m c),
    fun c => val_main_v220 (F := Ideal) (arg0 m c) (arg1 m c) (arg2 m c) (arg3 m c) (arg4 m c) (arg7 m c) (arg8 m c),
    fun c => val_main_v221 (F := Ideal) (arg0 m c) (arg1 m c) (arg2 m c) (arg3 m c) (arg4 m c) (arg7 m c) (arg8 m c) (arg9 m c),
    fun c => val_main_v202 (F := Ideal) (arg0 m c) (arg1 m c) (arg2 m c) (arg3 m c) (arg4 m c) (arg5 m c) (arg6 m c) (arg7 m c) (arg8 m c) (arg9 m c) (arg10 m c) (arg11 m c),
    fun c => val_main_v218 (F := Ideal) (arg0 m c) (arg1 m c) (arg2 m c) (arg3 m c) (arg4 m c) (arg5 m c) (arg6 m c) (arg7 m c) (arg8 m c) (arg9 m c) (arg10 m c) (arg11 m c),
    fun c => val_main_v186 (F := Ideal) (arg0 m c) (arg1 m c) (arg2 m c) (arg3 m c) (arg4 m c) (arg5 m c) (arg6 m c) (arg7 m c) (arg8 m c) (arg9 m c) (arg10 m c) (arg11 m c),
    fun c => val_main_v222 (F := Ideal) (arg0 m c) (arg1 m c) (arg2 m c) (arg3 m c),
    fun c => val_main_v223 (F := Ideal) (arg0 m c) (arg1 m c) (arg2 m c) (arg3 m c) (arg4 m c), ?_, ?_⟩
  · refine (θ_run Cert.FwdIdeal.defs _ _).mono (fun r h c => ?_) (Cert.FwdIdeal.Value.run_blocks (F := Ideal) m ρ)
    obtain ⟨e0, e1, e2, e3, e4, e5, e6, e7, args⟩ := h c
    exact ⟨(e0.trans (final_13 m c)).trans (endPool_eq m c),
      (e1.trans (final_14 m c)).trans (endMixed_eq m c),
      (e2.trans (final_15 m c)).trans (endY_eq m c),
      (e3.trans (final_16 m c)).trans (endDx2_eq m c),
      (e4.trans (final_17 m c)).trans (endLoss_eq m c),
      (e5.trans (final_18 m c)).trans (endGain_eq m c),
      (e6.trans (final_19 m c)).trans (endH_eq m c),
      (e7.trans (final_20 m c)).trans (endProj_eq m c), args⟩
  · refine (θ_run Cert.FwdRefIdeal.defs _ _).mono (fun r h c => ?_) (Cert.FwdRefIdeal.Value.run (F := Ideal) m' ρ')
    obtain ⟨a0, a1, a2, a3, a4, a5, a6, a7, a8, a9, a10, a11⟩ := harg c
    obtain ⟨e0, e1, e2, e3, e4, e5, e6, e7, args⟩ := h c
    beta_reduce
    unfold arg0 arg1 arg2 arg3 arg4 arg5 arg6 arg7 arg8 arg9 arg10 arg11
    rw [← a0, ← a1, ← a2, ← a3, ← a4, ← a5, ← a6, ← a7, ← a8, ← a9, ← a10, ← a11]
    exact ⟨e0.trans (val_main_v219_eq _),
      e1.trans (val_main_v220_eq _),
      e2.trans (val_main_v221_eq _),
      e3.trans (val_main_v202_eq _),
      e4.trans (val_main_v218_eq _),
      e5.trans (val_main_v186_eq _),
      e6.trans (val_main_v222_eq _),
      e7.trans (val_main_v223_eq _), args⟩
end

theorem claim : Cert.Claim := ⟨Cert.Kernel.Gen.facts, Cert.KernelIdeal.Gen.facts, Cert.ReferenceIdeal.Gen.facts,
  Cert.Norm1.Gen.facts, Cert.Norm1Ideal.Gen.facts, Cert.NormRef1Ideal.Gen.facts, Cert.Norm0.Gen.facts, Cert.Norm0Ideal.Gen.facts, Cert.NormRef0Ideal.Gen.facts,
  Cert.Win1.Gen.facts, Cert.Win1Ideal.Gen.facts, Cert.WinRef1Ideal.Gen.facts, Cert.Win0.Gen.facts, Cert.Win0Ideal.Gen.facts, Cert.WinRef0Ideal.Gen.facts,
  Cert.Wo.Gen.facts, Cert.WoIdeal.Gen.facts, Cert.WoRefIdeal.Gen.facts,
  Cert.Fwd.Gen.facts, Cert.FwdIdeal.Gen.facts, Cert.FwdRefIdeal.Gen.facts,
  finite_facts,
  frame_kernel, frame_ideal, frame_ideal_finite, frame_reference, frame_reference_finite,
  frame_norm1, frame_norm1_ideal, frame_norm1_reference,
  frame_norm0, frame_norm0_ideal, frame_norm0_reference,
  frame_win1, frame_win1_ideal, frame_win1_reference, frame_win0, frame_win0_ideal, frame_win0_reference,
  frame_wo, frame_wo_ideal, frame_wo_reference,
  frame_fwd, frame_fwd_ideal, frame_fwd_reference,
  trivial, algebraic, trivial, algebraic_norm1, trivial, algebraic_norm0, trivial, algebraic_win1, trivial, algebraic_win0, trivial, algebraic_wo, trivial, algebraic_fwd⟩

end Cert.Proof

end
